-- ==== Defs.lean ====
def Pre_Kernel [hPre_pages_ok : Cert.Pre_pages_ok.Facts] (m : (ℓ : Loc Cert.Kernel.nD Cert.Kernel.τ Cert.Kernel.sig) → Buf (Elt Bits) ℓ) : Prop :=
  ∀ c : Dev Cert.Kernel.nD,
    (Cert.Pre_pages_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_pages_ok : Cert.Pre_pages_ok.Facts] (m : (ℓ : Loc Cert.KernelIdeal.nD Cert.KernelIdeal.τ Cert.KernelIdeal.sig) → Buf (Elt Ideal) ℓ) : Prop :=
  ∀ c : Dev Cert.KernelIdeal.nD,
    (Cert.Pre_pages_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_prompt_ok [hPre_prompt_ok : Cert.Pre_prompt_ok.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_prompt_ok.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).1 = (fun _ => 1#1)
    ∧ (Cert.Pre_prompt_ok.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.1 = (fun _ => 1#1)
    ∧ (Cert.Pre_prompt_ok.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_prompt_ok [hPre_prompt_ok : Cert.Pre_prompt_ok.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_prompt_ok.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).1 = (fun _ => 1#1)
    ∧ (Cert.Pre_prompt_ok.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.1 = (fun _ => 1#1)
    ∧ (Cert.Pre_prompt_ok.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.2 = (fun _ => 1#1)

def quiescent_Kernel [hKernel : Cert.Kernel.Facts] [hPre_pages_ok : Cert.Pre_pages_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_pages_ok : Cert.Pre_pages_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_prompt_ok [hKernel6Ideal : Cert.Kernel6Ideal.Facts] [hPre_prompt_ok : Cert.Pre_prompt_ok.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_prompt_ok m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_prompt_ok [hReference6Ideal : Cert.Reference6Ideal.Facts] [hPre_prompt_ok : Cert.Pre_prompt_ok.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_prompt_ok m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "log2e" .f32 0x3FB8AA3B#32 (((Real.log 2)⁻¹ : ℝ) : EReal)

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v71) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15))

def preserves_Kernel3_Kernel3Ideal : Prop :=
  IdealRules.named_const.Statement Cert.Kernel3Ideal.κ "q_scale" .f32 0xBE38AA3B#32 ((-(8⁻¹ * (Real.log 2)⁻¹) : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v19_0)) (v1 : (c : Dev Cert.Kernel3Ideal.nD) → Buf (Elt Ideal) ((c.tc : Thread Cert.Kernel3Ideal.nD Cert.Kernel3Ideal.τ).loc Cert.Kernel3Ideal.main_v19_1)) (v2 : (c : Dev Cert.Kernel3Ideal.nD) → Buf (Elt Ideal) ((c.tc : Thread Cert.Kernel3Ideal.nD Cert.Kernel3Ideal.τ).loc Cert.Kernel3Ideal.main_v19_2)) (v3 : (c : Dev Cert.Kernel3Ideal.nD) → Buf (Elt Ideal) ((c.tc : Thread Cert.Kernel3Ideal.nD Cert.Kernel3Ideal.τ).loc Cert.Kernel3Ideal.main_v19_3)) (v4 : (c : Dev Cert.Kernel3Ideal.nD) → Buf (Elt Ideal) ((c.tc : Thread Cert.Kernel3Ideal.nD Cert.Kernel3Ideal.τ).loc Cert.Kernel3Ideal.main_v19_4)) (v5 : (c : Dev Cert.Kernel3Ideal.nD) → Buf (Elt Ideal) ((c.tc : Thread Cert.Kernel3Ideal.nD Cert.Kernel3Ideal.τ).loc Cert.Kernel3Ideal.main_v19_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19_0) = v0 c
          ∧ r.2.mem ((c.tc : Thread Cert.Kernel3Ideal.nD Cert.Kernel3Ideal.τ).loc Cert.Kernel3Ideal.main_v19_1) = v1 c
          ∧ r.2.mem ((c.tc : Thread Cert.Kernel3Ideal.nD Cert.Kernel3Ideal.τ).loc Cert.Kernel3Ideal.main_v19_2) = v2 c
          ∧ r.2.mem ((c.tc : Thread Cert.Kernel3Ideal.nD Cert.Kernel3Ideal.τ).loc Cert.Kernel3Ideal.main_v19_3) = v3 c
          ∧ r.2.mem ((c.tc : Thread Cert.Kernel3Ideal.nD Cert.Kernel3Ideal.τ).loc Cert.Kernel3Ideal.main_v19_4) = v4 c
          ∧ r.2.mem ((c.tc : Thread Cert.Kernel3Ideal.nD Cert.Kernel3Ideal.τ).loc Cert.Kernel3Ideal.main_v19_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v56) = v0 c
          ∧ r.2.mem ((c.tc : Thread Cert.Reference3Ideal.nD Cert.Reference3Ideal.τ).loc Cert.Reference3Ideal.main_v49) = v1 c
          ∧ r.2.mem ((c.tc : Thread Cert.Reference3Ideal.nD Cert.Reference3Ideal.τ).loc Cert.Reference3Ideal.main_v16) = v2 c
          ∧ r.2.mem ((c.tc : Thread Cert.Reference3Ideal.nD Cert.Reference3Ideal.τ).loc Cert.Reference3Ideal.main_v17) = v3 c
          ∧ r.2.mem ((c.tc : Thread Cert.Reference3Ideal.nD Cert.Reference3Ideal.τ).loc Cert.Reference3Ideal.main_v63) = v4 c
          ∧ r.2.mem ((c.tc : Thread Cert.Reference3Ideal.nD Cert.Reference3Ideal.τ).loc Cert.Reference3Ideal.main_v70) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  IdealRules.named_const.Statement Cert.Kernel4Ideal.κ "q_scale" .f32 0xBE38AA3B#32 ((-(8⁻¹ * (Real.log 2)⁻¹) : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v22_0)) (v1 : (c : Dev Cert.Kernel4Ideal.nD) → Buf (Elt Ideal) ((c.tc : Thread Cert.Kernel4Ideal.nD Cert.Kernel4Ideal.τ).loc Cert.Kernel4Ideal.main_v22_1)) (v2 : (c : Dev Cert.Kernel4Ideal.nD) → Buf (Elt Ideal) ((c.tc : Thread Cert.Kernel4Ideal.nD Cert.Kernel4Ideal.τ).loc Cert.Kernel4Ideal.main_v22_2)) (v3 : (c : Dev Cert.Kernel4Ideal.nD) → Buf (Elt Ideal) ((c.tc : Thread Cert.Kernel4Ideal.nD Cert.Kernel4Ideal.τ).loc Cert.Kernel4Ideal.main_v22_3)) (v4 : (c : Dev Cert.Kernel4Ideal.nD) → Buf (Elt Ideal) ((c.tc : Thread Cert.Kernel4Ideal.nD Cert.Kernel4Ideal.τ).loc Cert.Kernel4Ideal.main_v22_4)) (v5 : (c : Dev Cert.Kernel4Ideal.nD) → Buf (Elt Ideal) ((c.tc : Thread Cert.Kernel4Ideal.nD Cert.Kernel4Ideal.τ).loc Cert.Kernel4Ideal.main_v22_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v22_0) = v0 c
          ∧ r.2.mem ((c.tc : Thread Cert.Kernel4Ideal.nD Cert.Kernel4Ideal.τ).loc Cert.Kernel4Ideal.main_v22_1) = v1 c
          ∧ r.2.mem ((c.tc : Thread Cert.Kernel4Ideal.nD Cert.Kernel4Ideal.τ).loc Cert.Kernel4Ideal.main_v22_2) = v2 c
          ∧ r.2.mem ((c.tc : Thread Cert.Kernel4Ideal.nD Cert.Kernel4Ideal.τ).loc Cert.Kernel4Ideal.main_v22_3) = v3 c
          ∧ r.2.mem ((c.tc : Thread Cert.Kernel4Ideal.nD Cert.Kernel4Ideal.τ).loc Cert.Kernel4Ideal.main_v22_4) = v4 c
          ∧ r.2.mem ((c.tc : Thread Cert.Kernel4Ideal.nD Cert.Kernel4Ideal.τ).loc Cert.Kernel4Ideal.main_v22_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v56) = v0 c
          ∧ r.2.mem ((c.tc : Thread Cert.Reference4Ideal.nD Cert.Reference4Ideal.τ).loc Cert.Reference4Ideal.main_v63) = v1 c
          ∧ r.2.mem ((c.tc : Thread Cert.Reference4Ideal.nD Cert.Reference4Ideal.τ).loc Cert.Reference4Ideal.main_v70) = v2 c
          ∧ r.2.mem ((c.tc : Thread Cert.Reference4Ideal.nD Cert.Reference4Ideal.τ).loc Cert.Reference4Ideal.main_v17) = v3 c
          ∧ r.2.mem ((c.tc : Thread Cert.Reference4Ideal.nD Cert.Reference4Ideal.τ).loc Cert.Reference4Ideal.main_v77) = v4 c
          ∧ r.2.mem ((c.tc : Thread Cert.Reference4Ideal.nD Cert.Reference4Ideal.τ).loc Cert.Reference4Ideal.main_v84) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)) →
    ∃ (v0 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v71) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15))

def preserves_Kernel6_Kernel6Ideal : Prop :=
  IdealRules.named_const.Statement Cert.Kernel6Ideal.κ "neg_log2e" .f32 0xBFB8AA3B#32 ((-((Real.log 2)⁻¹) : ℝ) : EReal)
  ∧ IdealRules.named_const.Statement Cert.Kernel6Ideal.κ "log2e" .f32 0x3FB8AA3B#32 (((Real.log 2)⁻¹ : ℝ) : EReal)

def algebraic_Kernel6Ideal_Reference6Ideal_pre_prompt_ok [hKernel6Ideal : Cert.Kernel6Ideal.Facts] [hReference6Ideal : Cert.Reference6Ideal.Facts] [hPre_prompt_ok : Cert.Pre_prompt_ok.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_prompt_ok m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v34) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_pages_ok : Cert.Pre_pages_ok.Facts) (hPre_inputs_ok : Cert.Pre_inputs_ok.Facts) (hPre_prompt_ok : Cert.Pre_prompt_ok.Facts),
    quiescent_Kernel (hKernel := hKernel) (hPre_pages_ok := hPre_pages_ok)
    ∧ quiescent_KernelIdeal (hKernelIdeal := hKernelIdeal) (hPre_pages_ok := hPre_pages_ok)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_prompt_ok (hKernel6Ideal := hKernel6Ideal) (hPre_prompt_ok := hPre_prompt_ok)
    ∧ quiescent_Reference6Ideal (hReference6Ideal := hReference6Ideal)
    ∧ quiescent_Reference6Ideal_pre_prompt_ok (hReference6Ideal := hReference6Ideal) (hPre_prompt_ok := hPre_prompt_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_prompt_ok (hKernel6Ideal := hKernel6Ideal) (hReference6Ideal := hReference6Ideal) (hPre_prompt_ok := hPre_prompt_ok)
-- ==== Pre_inputs_ok.lean ====
abbrev S1024x512 : Shape := ⟨2, ![1024, 512]⟩
abbrev S2x2560x128x8x64 : Shape := ⟨5, ![2, 2560, 128, 8, 64]⟩
abbrev S128x16 : Shape := ⟨2, ![128, 16]⟩
abbrev S8 : Shape := ⟨1, ![8]⟩
abbrev S_ : Shape := ⟨0, ![]⟩

class Facts : Prop where
  bcast_S_S128x16 : S_.BroadcastsInDim S128x16 (![] : Fin 0 → Fin S128x16.rank)
  bcast_S_S1024x512 : S_.BroadcastsInDim S1024x512 (![] : Fin 0 → Fin S1024x512.rank)
  bcast_S_S2x2560x128x8x64 : S_.BroadcastsInDim S2x2560x128x8x64 (![] : Fin 0 → Fin S2x2560x128x8x64.rank)

variable [Facts]

def fn {F : FTy → Type} [FloatOps F] (main_arg0 : FVec F S1024x512 .f32) (main_arg1 : FVec F S1024x512 .f32) (main_arg2 : FVec F S1024x512 .f32) (main_arg3 : FVec F S2x2560x128x8x64 .f32) (main_arg4 : FVec F S2x2560x128x8x64 .f32) (main_arg5 : IVec S128x16 32) (main_arg6 : FVec F S8 .f32) : IVec S128x16 1 × IVec S1024x512 1 × IVec S1024x512 1 × IVec S2x2560x128x8x64 1 :=
  let main_c : IVec S_ 32 := constantI S_ 32 0#32
  let main_v0 : IVec S128x16 32 := broadcastInDim S128x16 ![] bcast_S_S128x16 main_c
  let main_v1 : IVec S128x16 1 := cmpi .sge main_arg5 main_v0
  let main_c_0 : IVec S_ 32 := constantI S_ 32 2560#32
  let main_v2 : IVec S128x16 32 := broadcastInDim S128x16 ![] bcast_S_S128x16 main_c_0
  let main_v3 : IVec S128x16 1 := cmpi .slt main_arg5 main_v2
  let main_v4 : IVec S128x16 1 := andi main_v1 main_v3
  let main_v5 : FVec F S1024x512 .f32 := Host.absf main_arg0
  let main_cst : FVec F S_ .f32 := constant S_ .f32 0x7F800000#32
  let main_v6 : FVec F S1024x512 .f32 := broadcastInDim S1024x512 ![] bcast_S_S1024x512 main_cst
  let main_v7 : IVec S1024x512 1 := cmpf .olt main_v5 main_v6
  let main_v8 : FVec F S1024x512 .f32 := Host.absf main_arg1
  let main_cst_1 : FVec F S_ .f32 := constant S_ .f32 0x7F800000#32
  let main_v9 : FVec F S1024x512 .f32 := broadcastInDim S1024x512 ![] bcast_S_S1024x512 main_cst_1
  let main_v10 : IVec S1024x512 1 := cmpf .olt main_v8 main_v9
  let main_v11 : FVec F S2x2560x128x8x64 .f32 := Host.absf main_arg3
  let main_cst_2 : FVec F S_ .f32 := constant S_ .f32 0x7F800000#32
  let main_v12 : FVec F S2x2560x128x8x64 .f32 := broadcastInDim S2x2560x128x8x64 ![] bcast_S_S2x2560x128x8x64 main_cst_2
  let main_v13 : IVec S2x2560x128x8x64 1 := cmpf .olt main_v11 main_v12
  (main_v4, main_v7, main_v10, main_v13)
-- ==== Pre_pages_ok.lean ====
abbrev S1024x512 : Shape := ⟨2, ![1024, 512]⟩
abbrev S2x2560x128x8x64 : Shape := ⟨5, ![2, 2560, 128, 8, 64]⟩
abbrev S128x16 : Shape := ⟨2, ![128, 16]⟩
abbrev S8 : Shape := ⟨1, ![8]⟩
abbrev S_ : Shape := ⟨0, ![]⟩

class Facts : Prop where
  bcast_S_S128x16 : S_.BroadcastsInDim S128x16 (![] : Fin 0 → Fin S128x16.rank)

variable [Facts]

def fn {F : FTy → Type} [FloatOps F] (main_arg0 : FVec F S1024x512 .f32) (main_arg1 : FVec F S1024x512 .f32) (main_arg2 : FVec F S1024x512 .f32) (main_arg3 : FVec F S2x2560x128x8x64 .f32) (main_arg4 : FVec F S2x2560x128x8x64 .f32) (main_arg5 : IVec S128x16 32) (main_arg6 : FVec F S8 .f32) : IVec S128x16 1 :=
  let main_c : IVec S_ 32 := constantI S_ 32 0#32
  let main_v0 : IVec S128x16 32 := broadcastInDim S128x16 ![] bcast_S_S128x16 main_c
  let main_v1 : IVec S128x16 1 := cmpi .sge main_arg5 main_v0
  let main_c_0 : IVec S_ 32 := constantI S_ 32 2560#32
  let main_v2 : IVec S128x16 32 := broadcastInDim S128x16 ![] bcast_S_S128x16 main_c_0
  let main_v3 : IVec S128x16 1 := cmpi .slt main_arg5 main_v2
  let main_v4 : IVec S128x16 1 := andi main_v1 main_v3
  main_v4
-- ==== Pre_prompt_ok.lean ====
abbrev S16384x512 : Shape := ⟨2, ![16384, 512]⟩
abbrev S2x4x512x4096 : Shape := ⟨4, ![2, 4, 512, 4096]⟩
abbrev S8 : Shape := ⟨1, ![8]⟩
abbrev S_ : Shape := ⟨0, ![]⟩

class Facts : Prop where
  bcast_S_S16384x512 : S_.BroadcastsInDim S16384x512 (![] : Fin 0 → Fin S16384x512.rank)
  bcast_S_S2x4x512x4096 : S_.BroadcastsInDim S2x4x512x4096 (![] : Fin 0 → Fin S2x4x512x4096.rank)
  bcast_S_S8 : S_.BroadcastsInDim S8 (![] : Fin 0 → Fin S8.rank)

variable [Facts]

def fn {F : FTy → Type} [FloatOps F] (main_arg0 : FVec F S16384x512 .f32) (main_arg1 : FVec F S2x4x512x4096 .f32) (main_arg2 : FVec F S2x4x512x4096 .f32) (main_arg3 : FVec F S8 .f32) : IVec S16384x512 1 × IVec S2x4x512x4096 1 × IVec S8 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S2x4x512x4096 .f32 := Host.absf main_arg1
  let main_cst_0 : FVec F S_ .f32 := constant S_ .f32 0x7F800000#32
  let main_v4 : FVec F S2x4x512x4096 .f32 := broadcastInDim S2x4x512x4096 ![] bcast_S_S2x4x512x4096 main_cst_0
  let main_v5 : IVec S2x4x512x4096 1 := cmpf .olt main_v3 main_v4
  let main_v6 : FVec F S8 .f32 := Host.absf main_arg3
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  (main_v2, main_v5, main_v8)
-- ==== Kernel.lean ====
abbrev S1024x512 : Shape := ⟨2, ![1024, 512]⟩
abbrev S2x2560x128x8x64 : Shape := ⟨5, ![2, 2560, 128, 8, 64]⟩
abbrev S128x16 : Shape := ⟨2, ![128, 16]⟩
abbrev S8 : Shape := ⟨1, ![8]⟩
abbrev S2x2560x8x64x128 : Shape := ⟨5, ![2, 2560, 8, 64, 128]⟩
abbrev S2x2560x512x128 : Shape := ⟨4, ![2, 2560, 512, 128]⟩
abbrev S8x8 : Shape := ⟨2, ![8, 8]⟩
abbrev S64 : Shape := ⟨1, ![64]⟩
abbrev S64x1 : Shape := ⟨2, ![64, 1]⟩
abbrev S_ : Shape := ⟨0, ![]⟩
abbrev S512 : Shape := ⟨1, ![512]⟩
abbrev S1x512 : Shape := ⟨2, ![1, 512]⟩
abbrev S64x512 : Shape := ⟨2, ![64, 512]⟩
abbrev S128 : Shape := ⟨1, ![128]⟩
abbrev S1x128 : Shape := ⟨2, ![1, 128]⟩
abbrev S64x128 : Shape := ⟨2, ![64, 128]⟩
abbrev S128x8x512 : Shape := ⟨3, ![128, 8, 512]⟩
abbrev S1x8x512 : Shape := ⟨3, ![1, 8, 512]⟩
abbrev S8x512 : Shape := ⟨2, ![8, 512]⟩
abbrev S1x1x512x128 : Shape := ⟨4, ![1, 1, 512, 128]⟩
abbrev S1x1 : Shape := ⟨2, ![1, 1]⟩
abbrev S120x512 : Shape := ⟨2, ![120, 512]⟩
abbrev S128x512 : Shape := ⟨2, ![128, 512]⟩
abbrev S256x128 : Shape := ⟨2, ![256, 128]⟩
abbrev S64x256 : Shape := ⟨2, ![64, 256]⟩
abbrev S512x128 : Shape := ⟨2, ![512, 128]⟩
abbrev S512x2048 : Shape := ⟨2, ![512, 2048]⟩
abbrev S64x2048 : Shape := ⟨2, ![64, 2048]⟩
abbrev S512x512 : Shape := ⟨2, ![512, 512]⟩
abbrev S512x256 : Shape := ⟨2, ![512, 256]⟩

abbrev nBuf : Space → Nat
  | .hbm => 98
  | .vmem => 75
  | .smem => 1
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S2x2560x128x8x64, .f32⟩
  | .hbm, ⟨4, _⟩ => ⟨S2x2560x128x8x64, .f32⟩
  | .hbm, ⟨5, _⟩ => ⟨S8, .f32⟩
  | .hbm, ⟨6, _⟩ => ⟨S2x2560x8x64x128, .f32⟩
  | .hbm, ⟨7, _⟩ => ⟨S2x2560x512x128, .f32⟩
  | .hbm, ⟨8, _⟩ => ⟨S2x2560x8x64x128, .f32⟩
  | .hbm, ⟨9, _⟩ => ⟨S2x2560x512x128, .f32⟩
  | .hbm, ⟨10, _⟩ => ⟨S8x8, .f32⟩
  | .hbm, ⟨11, _⟩ => ⟨S64, .f32⟩
  | .hbm, ⟨12, _⟩ => ⟨S64x1, .f32⟩
  | .hbm, ⟨13, _⟩ => ⟨S_, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S_, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .bf16⟩
  | .hbm, ⟨22, _⟩ => ⟨S64, .i32⟩
  | .hbm, ⟨23, _⟩ => ⟨S64x1, .i32⟩
  | .hbm, ⟨24, _⟩ => ⟨S_, .i32⟩
  | .hbm, ⟨25, _⟩ => ⟨S_, .i32⟩
  | .hbm, ⟨26, _⟩ => ⟨S64x1, .i32⟩
  | .hbm, ⟨27, _⟩ => ⟨S64x1, .i32⟩
  | .hbm, ⟨28, _⟩ => ⟨S64x1, .i32⟩
  | .hbm, ⟨29, _⟩ => ⟨S_, .i32⟩
  | .hbm, ⟨30, _⟩ => ⟨S64x1, .i32⟩
  | .hbm, ⟨31, _⟩ => ⟨S64x1, .i1⟩
  | .hbm, ⟨32, _⟩ => ⟨S64x1, .i32⟩
  | .hbm, ⟨33, _⟩ => ⟨S64x1, .i32⟩
  | .hbm, ⟨34, _⟩ => ⟨S_, .i32⟩
  | .hbm, ⟨35, _⟩ => ⟨S64x1, .i32⟩
  | .hbm, ⟨36, _⟩ => ⟨S64x1, .i1⟩
  | .hbm, ⟨37, _⟩ => ⟨S64x1, .i1⟩
  | .hbm, ⟨38, _⟩ => ⟨S_, .i32⟩
  | .hbm, ⟨39, _⟩ => ⟨S64x1, .i32⟩
  | .hbm, ⟨40, _⟩ => ⟨S64x1, .i32⟩
  | .hbm, ⟨41, _⟩ => ⟨S64x1, .i32⟩
  | .hbm, ⟨42, _⟩ => ⟨S64, .i32⟩
  | .hbm, ⟨43, _⟩ => ⟨S64x1, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S64x1, .i32⟩
  | .hbm, ⟨51, _⟩ => ⟨S64x1, .i32⟩
  | .hbm, ⟨52, _⟩ => ⟨S_, .i32⟩
  | .hbm, ⟨53, _⟩ => ⟨S64x1, .i32⟩
  | .hbm, ⟨54, _⟩ => ⟨S64x1, .i1⟩
  | .hbm, ⟨55, _⟩ => ⟨S_, .i32⟩
  | .hbm, ⟨56, _⟩ => ⟨S64x1, .i32⟩
  | .hbm, ⟨57, _⟩ => ⟨S64x1, .i1⟩
  | .hbm, ⟨58, _⟩ => ⟨S_, .i32⟩
  | .hbm, ⟨59, _⟩ => ⟨S_, .i1⟩
  | .hbm, ⟨60, _⟩ => ⟨S64x1, .i1⟩
  | .hbm, ⟨61, _⟩ => ⟨S64x1, .i1⟩
  | .hbm, ⟨62, _⟩ => ⟨S64x1, .i1⟩
  | .hbm, ⟨63, _⟩ => ⟨S64x1, .i32⟩
  | .hbm, ⟨64, _⟩ => ⟨S64x1, .i32⟩
  | .hbm, ⟨65, _⟩ => ⟨S64x1, .i32⟩
  | .hbm, ⟨66, _⟩ => ⟨S512, .i32⟩
  | .hbm, ⟨67, _⟩ => ⟨S1x512, .i32⟩
  | .hbm, ⟨68, _⟩ => ⟨S_, .i32⟩
  | .hbm, ⟨69, _⟩ => ⟨S_, .i32⟩
  | .hbm, ⟨70, _⟩ => ⟨S1x512, .i32⟩
  | .hbm, ⟨71, _⟩ => ⟨S1x512, .i32⟩
  | .hbm, ⟨72, _⟩ => ⟨S1x512, .i32⟩
  | .hbm, ⟨73, _⟩ => ⟨S_, .i32⟩
  | .hbm, ⟨74, _⟩ => ⟨S1x512, .i32⟩
  | .hbm, ⟨75, _⟩ => ⟨S1x512, .i1⟩
  | .hbm, ⟨76, _⟩ => ⟨S1x512, .i32⟩
  | .hbm, ⟨77, _⟩ => ⟨S1x512, .i32⟩
  | .hbm, ⟨78, _⟩ => ⟨S_, .i32⟩
  | .hbm, ⟨79, _⟩ => ⟨S1x512, .i32⟩
  | .hbm, ⟨80, _⟩ => ⟨S1x512, .i1⟩
  | .hbm, ⟨81, _⟩ => ⟨S1x512, .i1⟩
  | .hbm, ⟨82, _⟩ => ⟨S_, .i32⟩
  | .hbm, ⟨83, _⟩ => ⟨S1x512, .i32⟩
  | .hbm, ⟨84, _⟩ => ⟨S1x512, .i32⟩
  | .hbm, ⟨85, _⟩ => ⟨S1x512, .i32⟩
  | .hbm, ⟨86, _⟩ => ⟨S64x512, .i32⟩
  | .hbm, ⟨87, _⟩ => ⟨S64x512, .i32⟩
  | .hbm, ⟨88, _⟩ => ⟨S64x512, .i1⟩
  | .hbm, ⟨89, _⟩ => ⟨S64x512, .f32⟩
  | .hbm, ⟨90, _⟩ => ⟨S128, .i32⟩
  | .hbm, ⟨91, _⟩ => ⟨S1x128, .i32⟩
  | .hbm, ⟨92, _⟩ => ⟨S64x128, .i32⟩
  | .hbm, ⟨93, _⟩ => ⟨S64x128, .i32⟩
  | .hbm, ⟨94, _⟩ => ⟨S64x128, .i1⟩
  | .hbm, ⟨95, _⟩ => ⟨S64x128, .f32⟩
  | .hbm, ⟨96, _⟩ => ⟨S128x8x512, .bf16⟩
  | .hbm, ⟨97, _⟩ => ⟨S128x8x512, .bf16⟩
  | .local _ .vmem, ⟨0, _⟩ => ⟨S64x1, .f32⟩
  | .local _ .vmem, ⟨1, _⟩ => ⟨S64x512, .f32⟩
  | .local _ .vmem, ⟨2, _⟩ => ⟨S64x128, .f32⟩
  | .local _ .vmem, ⟨3, _⟩ => ⟨S1x8x512, .bf16⟩
  | .local _ .vmem, ⟨4, _⟩ => ⟨S1x8x512, .bf16⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S1x1x512x128, .f32⟩
  | .local _ .vmem, ⟨10, _⟩ => ⟨S1x1x512x128, .f32⟩
  | .local _ .vmem, ⟨11, _⟩ => ⟨S1x1x512x128, .f32⟩
  | .local _ .vmem, ⟨12, _⟩ => ⟨S1x1x512x128, .f32⟩
  | .local _ .vmem, ⟨13, _⟩ => ⟨S1x1x512x128, .f32⟩
  | .local _ .vmem, ⟨14, _⟩ => ⟨S1x1x512x128, .f32⟩
  | .local _ .vmem, ⟨15, _⟩ => ⟨S1x1x512x128, .f32⟩
  | .local _ .vmem, ⟨16, _⟩ => ⟨S1x1x512x128, .f32⟩
  | .local _ .vmem, ⟨17, _⟩ => ⟨S1x1x512x128, .f32⟩
  | .local _ .vmem, ⟨18, _⟩ => ⟨S1x1x512x128, .f32⟩
  | .local _ .vmem, ⟨19, _⟩ => ⟨S1x1x512x128, .f32⟩
  | .local _ .vmem, ⟨20, _⟩ => ⟨S1x1x512x128, .f32⟩
  | .local _ .vmem, ⟨21, _⟩ => ⟨S1x1x512x128, .f32⟩
  | .local _ .vmem, ⟨22, _⟩ => ⟨S1x1x512x128, .f32⟩
  | .local _ .vmem, ⟨23, _⟩ => ⟨S1x1x512x128, .f32⟩
  | .local _ .vmem, ⟨24, _⟩ => ⟨S1x1x512x128, .f32⟩
  | .local _ .vmem, ⟨25, _⟩ => ⟨S1x1x512x128, .f32⟩
  | .local _ .vmem, ⟨26, _⟩ => ⟨S1x1x512x128, .f32⟩
  | .local _ .vmem, ⟨27, _⟩ => ⟨S1x1x512x128, .f32⟩
  | .local _ .vmem, ⟨28, _⟩ => ⟨S1x1x512x128, .f32⟩
  | .local _ .vmem, ⟨29, _⟩ => ⟨S1x1x512x128, .f32⟩
  | .local _ .vmem, ⟨30, _⟩ => ⟨S1x1x512x128, .f32⟩
  | .local _ .vmem, ⟨31, _⟩ => ⟨S1x1x512x128, .f32⟩
  | .local _ .vmem, ⟨32, _⟩ => ⟨S1x1x512x128, .f32⟩
  | .local _ .vmem, ⟨33, _⟩ => ⟨S1x1x512x128, .f32⟩
  | .local _ .vmem, ⟨34, _⟩ => ⟨S1x1x512x128, .f32⟩
  | .local _ .vmem, ⟨35, _⟩ => ⟨S1x1x512x128, .f32⟩
  | .local _ .vmem, ⟨36, _⟩ => ⟨S1x1x512x128, .f32⟩
  | .local _ .vmem, ⟨37, _⟩ => ⟨S1x1x512x128, .f32⟩
  | .local _ .vmem, ⟨38, _⟩ => ⟨S1x1x512x128, .f32⟩
  | .local _ .vmem, ⟨39, _⟩ => ⟨S1x1x512x128, .f32⟩
  | .local _ .vmem, ⟨40, _⟩ => ⟨S1x1x512x128, .f32⟩
  | .local _ .vmem, ⟨41, _⟩ => ⟨S1x1x512x128, .f32⟩
  | .local _ .vmem, ⟨42, _⟩ => ⟨S1x1x512x128, .f32⟩
  | .local _ .vmem, ⟨43, _⟩ => ⟨S1x1x512x128, .f32⟩
  | .local _ .vmem, ⟨44, _⟩ => ⟨S1x1x512x128, .f32⟩
  | .local _ .vmem, ⟨45, _⟩ => ⟨S1x1x512x128, .f32⟩
  | .local _ .vmem, ⟨46, _⟩ => ⟨S1x1x512x128, .f32⟩
  | .local _ .vmem, ⟨47, _⟩ => ⟨S1x1x512x128, .f32⟩
  | .local _ .vmem, ⟨48, _⟩ => ⟨S1x1x512x128, .f32⟩
  | .local _ .vmem, ⟨49, _⟩ => ⟨S1x1x512x128, .f32⟩
  | .local _ .vmem, ⟨50, _⟩ => ⟨S1x1x512x128, .f32⟩
  | .local _ .vmem, ⟨51, _⟩ => ⟨S1x1x512x128, .f32⟩
  | .local _ .vmem, ⟨52, _⟩ => ⟨S1x1x512x128, .f32⟩
  | .local _ .vmem, ⟨53, _⟩ => ⟨S1x1x512x128, .f32⟩
  | .local _ .vmem, ⟨54, _⟩ => ⟨S1x1x512x128, .f32⟩
  | .local _ .vmem, ⟨55, _⟩ => ⟨S1x1x512x128, .f32⟩
  | .local _ .vmem, ⟨56, _⟩ => ⟨S1x1x512x128, .f32⟩
  | .local _ .vmem, ⟨57, _⟩ => ⟨S1x1x512x128, .f32⟩
  | .local _ .vmem, ⟨58, _⟩ => ⟨S1x1x512x128, .f32⟩
  | .local _ .vmem, ⟨59, _⟩ => ⟨S1x1x512x128, .f32⟩
  | .local _ .vmem, ⟨60, _⟩ => ⟨S1x1x512x128, .f32⟩
  | .local _ .vmem, ⟨61, _⟩ => ⟨S1x1x512x128, .f32⟩
  | .local _ .vmem, ⟨62, _⟩ => ⟨S1x1x512x128, .f32⟩
  | .local _ .vmem, ⟨63, _⟩ => ⟨S1x1x512x128, .f32⟩
  | .local _ .vmem, ⟨64, _⟩ => ⟨S1x1x512x128, .f32⟩
  | .local _ .vmem, ⟨65, _⟩ => ⟨S1x1x512x128, .f32⟩
  | .local _ .vmem, ⟨66, _⟩ => ⟨S1x1x512x128, .f32⟩
  | .local _ .vmem, ⟨67, _⟩ => ⟨S1x1x512x128, .f32⟩
  | .local _ .vmem, ⟨68, _⟩ => ⟨S1x1x512x128, .f32⟩
  | .local _ .vmem, ⟨69, _⟩ => ⟨S1x1x512x128, .f32⟩
  | .local _ .vmem, ⟨70, _⟩ => ⟨S1x1x512x128, .f32⟩
  | .local _ .vmem, ⟨71, _⟩ => ⟨S1x1x512x128, .f32⟩
  | .local _ .vmem, ⟨72, _⟩ => ⟨S1x1x512x128, .f32⟩
  | .local _ .vmem, ⟨73, _⟩ => ⟨S1x8x512, .bf16⟩
  | .local _ .vmem, ⟨74, _⟩ => ⟨S1x8x512, .bf16⟩
  | .local _ .smem, ⟨0, _⟩ => ⟨S128x16, .i32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_1 : Ref sig .tc := ⟨.hbm, 44, rfl⟩
abbrev main_call1_v0 : Ref sig .tc := ⟨.hbm, 45, rfl⟩
abbrev main_call1_c : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_1 : Ref sig .tc := ⟨.hbm, 52, rfl⟩
abbrev main_call1_v5 : Ref sig .tc := ⟨.hbm, 53, rfl⟩
abbrev main_call1_v6 : Ref sig .tc := ⟨.hbm, 54, rfl⟩
abbrev main_call1_c_2 : Ref sig .tc := ⟨.hbm, 55, rfl⟩
abbrev main_call1_v7 : Ref sig .tc := ⟨.hbm, 56, rfl⟩
abbrev main_call1_v8 : Ref sig .tc := ⟨.hbm, 57, rfl⟩
abbrev main_call1_c_3 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_c_2 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_c : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_0 : Ref sig .tc := ⟨.hbm, 82, rfl⟩
abbrev main_call2_v12 : Ref sig .tc := ⟨.hbm, 83, rfl⟩
abbrev main_call2_v13 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_arg5 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_stg21_0 : Ref sig .tc := ⟨.vmem, 39, rfl⟩
abbrev cc0_stg21_1 : Ref sig .tc := ⟨.vmem, 40, rfl⟩
abbrev cc0_stg22_0 : Ref sig .tc := ⟨.vmem, 41, rfl⟩
abbrev cc0_stg22_1 : Ref sig .tc := ⟨.vmem, 42, rfl⟩
abbrev cc0_stg23_0 : Ref sig .tc := ⟨.vmem, 43, rfl⟩
abbrev cc0_stg23_1 : Ref sig .tc := ⟨.vmem, 44, rfl⟩
abbrev cc0_stg24_0 : Ref sig .tc := ⟨.vmem, 45, rfl⟩
abbrev cc0_stg24_1 : Ref sig .tc := ⟨.vmem, 46, rfl⟩
abbrev cc0_stg25_0 : Ref sig .tc := ⟨.vmem, 47, rfl⟩
abbrev cc0_stg25_1 : Ref sig .tc := ⟨.vmem, 48, rfl⟩
abbrev cc0_stg26_0 : Ref sig .tc := ⟨.vmem, 49, rfl⟩
abbrev cc0_stg26_1 : Ref sig .tc := ⟨.vmem, 50, rfl⟩
abbrev cc0_stg27_0 : Ref sig .tc := ⟨.vmem, 51, rfl⟩
abbrev cc0_stg27_1 : Ref sig .tc := ⟨.vmem, 52, rfl⟩
abbrev cc0_stg28_0 : Ref sig .tc := ⟨.vmem, 53, rfl⟩
abbrev cc0_stg28_1 : Ref sig .tc := ⟨.vmem, 54, rfl⟩
abbrev cc0_stg29_0 : Ref sig .tc := ⟨.vmem, 55, rfl⟩
abbrev cc0_stg29_1 : Ref sig .tc := ⟨.vmem, 56, rfl⟩
abbrev cc0_stg30_0 : Ref sig .tc := ⟨.vmem, 57, rfl⟩
abbrev cc0_stg30_1 : Ref sig .tc := ⟨.vmem, 58, rfl⟩
abbrev cc0_stg31_0 : Ref sig .tc := ⟨.vmem, 59, rfl⟩
abbrev cc0_stg31_1 : Ref sig .tc := ⟨.vmem, 60, rfl⟩
abbrev cc0_stg32_0 : Ref sig .tc := ⟨.vmem, 61, rfl⟩
abbrev cc0_stg32_1 : Ref sig .tc := ⟨.vmem, 62, rfl⟩
abbrev cc0_stg33_0 : Ref sig .tc := ⟨.vmem, 63, rfl⟩
abbrev cc0_stg33_1 : Ref sig .tc := ⟨.vmem, 64, rfl⟩
abbrev cc0_stg34_0 : Ref sig .tc := ⟨.vmem, 65, rfl⟩
abbrev cc0_stg34_1 : Ref sig .tc := ⟨.vmem, 66, rfl⟩
abbrev cc0_stg35_0 : Ref sig .tc := ⟨.vmem, 67, rfl⟩
abbrev cc0_stg35_1 : Ref sig .tc := ⟨.vmem, 68, rfl⟩
abbrev cc0_stg36_0 : Ref sig .tc := ⟨.vmem, 69, rfl⟩
abbrev cc0_stg36_1 : Ref sig .tc := ⟨.vmem, 70, rfl⟩
abbrev cc0_stg37_0 : Ref sig .tc := ⟨.vmem, 71, rfl⟩
abbrev cc0_stg37_1 : Ref sig .tc := ⟨.vmem, 72, rfl⟩
abbrev cc0_stg38_0 : Ref sig .tc := ⟨.vmem, 73, rfl⟩
abbrev cc0_stg38_1 : Ref sig .tc := ⟨.vmem, 74, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38
abbrev cc0_sem21_0 : DmaSem sig := 39
abbrev cc0_sem21_1 : DmaSem sig := 40
abbrev cc0_sem22_0 : DmaSem sig := 41
abbrev cc0_sem22_1 : DmaSem sig := 42
abbrev cc0_sem23_0 : DmaSem sig := 43
abbrev cc0_sem23_1 : DmaSem sig := 44
abbrev cc0_sem24_0 : DmaSem sig := 45
abbrev cc0_sem24_1 : DmaSem sig := 46
abbrev cc0_sem25_0 : DmaSem sig := 47
abbrev cc0_sem25_1 : DmaSem sig := 48
abbrev cc0_sem26_0 : DmaSem sig := 49
abbrev cc0_sem26_1 : DmaSem sig := 50
abbrev cc0_sem27_0 : DmaSem sig := 51
abbrev cc0_sem27_1 : DmaSem sig := 52
abbrev cc0_sem28_0 : DmaSem sig := 53
abbrev cc0_sem28_1 : DmaSem sig := 54
abbrev cc0_sem29_0 : DmaSem sig := 55
abbrev cc0_sem29_1 : DmaSem sig := 56
abbrev cc0_sem30_0 : DmaSem sig := 57
abbrev cc0_sem30_1 : DmaSem sig := 58
abbrev cc0_sem31_0 : DmaSem sig := 59
abbrev cc0_sem31_1 : DmaSem sig := 60
abbrev cc0_sem32_0 : DmaSem sig := 61
abbrev cc0_sem32_1 : DmaSem sig := 62
abbrev cc0_sem33_0 : DmaSem sig := 63
abbrev cc0_sem33_1 : DmaSem sig := 64
abbrev cc0_sem34_0 : DmaSem sig := 65
abbrev cc0_sem34_1 : DmaSem sig := 66
abbrev cc0_sem35_0 : DmaSem sig := 67
abbrev cc0_sem35_1 : DmaSem sig := 68
abbrev cc0_sem36_0 : DmaSem sig := 69
abbrev cc0_sem36_1 : DmaSem sig := 70
abbrev cc0_sem37_0 : DmaSem sig := 71
abbrev cc0_sem37_1 : DmaSem sig := 72
abbrev cc0_sem38_0 : DmaSem sig := 73
abbrev cc0_sem38_1 : DmaSem sig := 74

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v0 : Index := Scalar.indexCast arg0
  let c1 : Index := 1#32
  ![v0.toNat, 1]
def k0_off3 (i : grid0.Coords) : Fin 2 → Nat :=
  let arg0 : BitVec 32 := BitVec.ofNat 32 (i 0).val
  let v0 : Index := Scalar.indexCast arg0
  let c2 : Index := 2#32
  ![v0.toNat, 2]
def k0_off4 (i : grid0.Coords) : Fin 2 → Nat :=
  let arg0 : BitVec 32 := BitVec.ofNat 32 (i 0).val
  let v0 : Index := Scalar.indexCast arg0
  let c3 : Index := 3#32
  ![v0.toNat, 3]
def k0_off5 (i : grid0.Coords) : Fin 2 → Nat :=
  let arg0 : BitVec 32 := BitVec.ofNat 32 (i 0).val
  let v0 : Index := Scalar.indexCast arg0
  let c4 : Index := 4#32
  ![v0.toNat, 4]
def k0_off6 (i : grid0.Coords) : Fin 2 → Nat :=
  let arg0 : BitVec 32 := BitVec.ofNat 32 (i 0).val
  let v0 : Index := Scalar.indexCast arg0
  let c5 : Index := 5#32
  ![v0.toNat, 5]
def k0_off7 (i : grid0.Coords) : Fin 2 → Nat :=
  let arg0 : BitVec 32 := BitVec.ofNat 32 (i 0).val
  let v0 : Index := Scalar.indexCast arg0
  let c6 : Index := 6#32
  ![v0.toNat, 6]
def k0_off8 (i : grid0.Coords) : Fin 2 → Nat :=
  let arg0 : BitVec 32 := BitVec.ofNat 32 (i 0).val
  let v0 : Index := Scalar.indexCast arg0
  let c7 : Index := 7#32
  ![v0.toNat, 7]
def k0_off9 (i : grid0.Coords) : Fin 2 → Nat :=
  let arg0 : BitVec 32 := BitVec.ofNat 32 (i 0).val
  let v0 : Index := Scalar.indexCast arg0
  let c8 : Index := 8#32
  ![v0.toNat, 8]
def k0_off10 (i : grid0.Coords) : Fin 2 → Nat :=
  let arg0 : BitVec 32 := BitVec.ofNat 32 (i 0).val
  let v0 : Index := Scalar.indexCast arg0
  let c9 : Index := 9#32
  ![v0.toNat, 9]
def k0_off11 (i : grid0.Coords) : Fin 2 → Nat :=
  let arg0 : BitVec 32 := BitVec.ofNat 32 (i 0).val
  let v0 : Index := Scalar.indexCast arg0
  let c10 : Index := 10#32
  ![v0.toNat, 10]
def k0_off12 (i : grid0.Coords) : Fin 2 → Nat :=
  let arg0 : BitVec 32 := BitVec.ofNat 32 (i 0).val
  let v0 : Index := Scalar.indexCast arg0
  let c11 : Index := 11#32
  ![v0.toNat, 11]
def k0_off13 (i : grid0.Coords) : Fin 2 → Nat :=
  let arg0 : BitVec 32 := BitVec.ofNat 32 (i 0).val
  let v0 : Index := Scalar.indexCast arg0
  let c12 : Index := 12#32
  ![v0.toNat, 12]
def k0_off14 (i : grid0.Coords) : Fin 2 → Nat :=
  let arg0 : BitVec 32 := BitVec.ofNat 32 (i 0).val
  let v0 : Index := Scalar.indexCast arg0
  let c13 : Index := 13#32
  ![v0.toNat, 13]
def k0_off15 (i : grid0.Coords) : Fin 2 → Nat :=
  let arg0 : BitVec 32 := BitVec.ofNat 32 (i 0).val
  let v0 : Index := Scalar.indexCast arg0
  let c14 : Index := 14#32
  ![v0.toNat, 14]
def k0_off16 (i : grid0.Coords) : Fin 2 → Nat :=
  let arg0 : BitVec 32 := BitVec.ofNat 32 (i 0).val
  let v0 : Index := Scalar.indexCast arg0
  let c15 : Index := 15#32
  ![v0.toNat, 15]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (k0_off1_inb : ∀ i : grid0.Coords, ∀ a, (k0_off1 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c0 : Index := 0#32
  let v1 : BitVec 32 := pf.at 0 (Rect.unit (s := S128x16) ![v0.toNat, 0] S1x1.size (k0_off1_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_7 (k0_off2_inb : ∀ i : grid0.Coords, ∀ a, (k0_off2 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c1 : Index := 1#32
  let v1 : BitVec 32 := pf.at 0 (Rect.unit (s := S128x16) ![v0.toNat, 1] S1x1.size (k0_off2_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_8 (k0_off3_inb : ∀ i : grid0.Coords, ∀ a, (k0_off3 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c2 : Index := 2#32
  let v1 : BitVec 32 := pf.at 0 (Rect.unit (s := S128x16) ![v0.toNat, 2] S1x1.size (k0_off3_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_9 (k0_off4_inb : ∀ i : grid0.Coords, ∀ a, (k0_off4 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c3 : Index := 3#32
  let v1 : BitVec 32 := pf.at 0 (Rect.unit (s := S128x16) ![v0.toNat, 3] S1x1.size (k0_off4_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_10 (k0_off5_inb : ∀ i : grid0.Coords, ∀ a, (k0_off5 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c4 : Index := 4#32
  let v1 : BitVec 32 := pf.at 0 (Rect.unit (s := S128x16) ![v0.toNat, 4] S1x1.size (k0_off5_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_11 (k0_off6_inb : ∀ i : grid0.Coords, ∀ a, (k0_off6 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c5 : Index := 5#32
  let v1 : BitVec 32 := pf.at 0 (Rect.unit (s := S128x16) ![v0.toNat, 5] S1x1.size (k0_off6_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_12 (k0_off7_inb : ∀ i : grid0.Coords, ∀ a, (k0_off7 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c6 : Index := 6#32
  let v1 : BitVec 32 := pf.at 0 (Rect.unit (s := S128x16) ![v0.toNat, 6] S1x1.size (k0_off7_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_13 (k0_off8_inb : ∀ i : grid0.Coords, ∀ a, (k0_off8 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c7 : Index := 7#32
  let v1 : BitVec 32 := pf.at 0 (Rect.unit (s := S128x16) ![v0.toNat, 7] S1x1.size (k0_off8_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_14 (k0_off9_inb : ∀ i : grid0.Coords, ∀ a, (k0_off9 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c8 : Index := 8#32
  let v1 : BitVec 32 := pf.at 0 (Rect.unit (s := S128x16) ![v0.toNat, 8] S1x1.size (k0_off9_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_15 (k0_off10_inb : ∀ i : grid0.Coords, ∀ a, (k0_off10 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c9 : Index := 9#32
  let v1 : BitVec 32 := pf.at 0 (Rect.unit (s := S128x16) ![v0.toNat, 9] S1x1.size (k0_off10_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_16 (k0_off11_inb : ∀ i : grid0.Coords, ∀ a, (k0_off11 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c10 : Index := 10#32
  let v1 : BitVec 32 := pf.at 0 (Rect.unit (s := S128x16) ![v0.toNat, 10] S1x1.size (k0_off11_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_17 (k0_off12_inb : ∀ i : grid0.Coords, ∀ a, (k0_off12 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c11 : Index := 11#32
  let v1 : BitVec 32 := pf.at 0 (Rect.unit (s := S128x16) ![v0.toNat, 11] S1x1.size (k0_off12_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_18 (k0_off13_inb : ∀ i : grid0.Coords, ∀ a, (k0_off13 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c12 : Index := 12#32
  let v1 : BitVec 32 := pf.at 0 (Rect.unit (s := S128x16) ![v0.toNat, 12] S1x1.size (k0_off13_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_19 (k0_off14_inb : ∀ i : grid0.Coords, ∀ a, (k0_off14 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c13 : Index := 13#32
  let v1 : BitVec 32 := pf.at 0 (Rect.unit (s := S128x16) ![v0.toNat, 13] S1x1.size (k0_off14_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_20 (k0_off15_inb : ∀ i : grid0.Coords, ∀ a, (k0_off15 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c14 : Index := 14#32
  let v1 : BitVec 32 := pf.at 0 (Rect.unit (s := S128x16) ![v0.toNat, 14] S1x1.size (k0_off15_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_21 (k0_off16_inb : ∀ i : grid0.Coords, ∀ a, (k0_off16 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c15 : Index := 15#32
  let v1 : BitVec 32 := pf.at 0 (Rect.unit (s := S128x16) ![v0.toNat, 15] S1x1.size (k0_off16_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_22 (k0_off1_inb : ∀ i : grid0.Coords, ∀ a, (k0_off1 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c0 : Index := 0#32
  let v1 : BitVec 32 := pf.at 0 (Rect.unit (s := S128x16) ![v0.toNat, 0] S1x1.size (k0_off1_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_23 (k0_off2_inb : ∀ i : grid0.Coords, ∀ a, (k0_off2 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c1 : Index := 1#32
  let v1 : BitVec 32 := pf.at 0 (Rect.unit (s := S128x16) ![v0.toNat, 1] S1x1.size (k0_off2_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_24 (k0_off3_inb : ∀ i : grid0.Coords, ∀ a, (k0_off3 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c2 : Index := 2#32
  let v1 : BitVec 32 := pf.at 0 (Rect.unit (s := S128x16) ![v0.toNat, 2] S1x1.size (k0_off3_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_25 (k0_off4_inb : ∀ i : grid0.Coords, ∀ a, (k0_off4 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c3 : Index := 3#32
  let v1 : BitVec 32 := pf.at 0 (Rect.unit (s := S128x16) ![v0.toNat, 3] S1x1.size (k0_off4_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_26 (k0_off5_inb : ∀ i : grid0.Coords, ∀ a, (k0_off5 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c4 : Index := 4#32
  let v1 : BitVec 32 := pf.at 0 (Rect.unit (s := S128x16) ![v0.toNat, 4] S1x1.size (k0_off5_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_27 (k0_off6_inb : ∀ i : grid0.Coords, ∀ a, (k0_off6 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c5 : Index := 5#32
  let v1 : BitVec 32 := pf.at 0 (Rect.unit (s := S128x16) ![v0.toNat, 5] S1x1.size (k0_off6_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_28 (k0_off7_inb : ∀ i : grid0.Coords, ∀ a, (k0_off7 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c6 : Index := 6#32
  let v1 : BitVec 32 := pf.at 0 (Rect.unit (s := S128x16) ![v0.toNat, 6] S1x1.size (k0_off7_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_29 (k0_off8_inb : ∀ i : grid0.Coords, ∀ a, (k0_off8 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c7 : Index := 7#32
  let v1 : BitVec 32 := pf.at 0 (Rect.unit (s := S128x16) ![v0.toNat, 7] S1x1.size (k0_off8_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_30 (k0_off9_inb : ∀ i : grid0.Coords, ∀ a, (k0_off9 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c8 : Index := 8#32
  let v1 : BitVec 32 := pf.at 0 (Rect.unit (s := S128x16) ![v0.toNat, 8] S1x1.size (k0_off9_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_31 (k0_off10_inb : ∀ i : grid0.Coords, ∀ a, (k0_off10 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c9 : Index := 9#32
  let v1 : BitVec 32 := pf.at 0 (Rect.unit (s := S128x16) ![v0.toNat, 9] S1x1.size (k0_off10_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_32 (k0_off11_inb : ∀ i : grid0.Coords, ∀ a, (k0_off11 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c10 : Index := 10#32
  let v1 : BitVec 32 := pf.at 0 (Rect.unit (s := S128x16) ![v0.toNat, 10] S1x1.size (k0_off11_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_33 (k0_off12_inb : ∀ i : grid0.Coords, ∀ a, (k0_off12 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c11 : Index := 11#32
  let v1 : BitVec 32 := pf.at 0 (Rect.unit (s := S128x16) ![v0.toNat, 11] S1x1.size (k0_off12_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_34 (k0_off13_inb : ∀ i : grid0.Coords, ∀ a, (k0_off13 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c12 : Index := 12#32
  let v1 : BitVec 32 := pf.at 0 (Rect.unit (s := S128x16) ![v0.toNat, 12] S1x1.size (k0_off13_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_35 (k0_off14_inb : ∀ i : grid0.Coords, ∀ a, (k0_off14 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c13 : Index := 13#32
  let v1 : BitVec 32 := pf.at 0 (Rect.unit (s := S128x16) ![v0.toNat, 13] S1x1.size (k0_off14_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_36 (k0_off15_inb : ∀ i : grid0.Coords, ∀ a, (k0_off15 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c14 : Index := 14#32
  let v1 : BitVec 32 := pf.at 0 (Rect.unit (s := S128x16) ![v0.toNat, 14] S1x1.size (k0_off15_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_37 (k0_off16_inb : ∀ i : grid0.Coords, ∀ a, (k0_off16 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c15 : Index := 15#32
  let v1 : BitVec 32 := pf.at 0 (Rect.unit (s := S128x16) ![v0.toNat, 15] S1x1.size (k0_off16_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_38 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S64x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1x512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x1x512x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x1x512x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x1x512x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x1x512x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x1x512x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x1x512x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x1x512x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x1x512x128 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x1x512x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1x1x512x128 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S1x1x512x128 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S1x1x512x128 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S1x1x512x128 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S1x1x512x128 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S1x1x512x128 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S1x1x512x128 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

abbrev stage0_37 : Fin 2 → Memref sig .tc .vmem S1x1x512x128 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

abbrev stage0_38 : Fin 2 → Memref sig .tc .vmem S1x8x512 .bf16 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true]
-- ==== KernelIdeal.lean ====
variable {F : FTy → Type} [FloatOps F] [Named F]
def κ : String → Option EReal := fun
  | "log2e" => some (((Real.log 2)⁻¹ : ℝ) : EReal)
  | "neg_log2e" => some ((-((Real.log 2)⁻¹) : ℝ) : EReal)
  | _ => none
-- ==== ReferenceIdeal.lean ====
abbrev S1024x512 : Shape := ⟨2, ![1024, 512]⟩
abbrev S2x2560x128x8x64 : Shape := ⟨5, ![2, 2560, 128, 8, 64]⟩
abbrev S128x16 : Shape := ⟨2, ![128, 16]⟩
abbrev S8 : Shape := ⟨1, ![8]⟩
abbrev S1x2560x128x8x64 : Shape := ⟨5, ![1, 2560, 128, 8, 64]⟩
abbrev S2560x128x8x64 : Shape := ⟨4, ![2560, 128, 8, 64]⟩
abbrev S_ : Shape := ⟨0, ![]⟩
abbrev S128x16x1 : Shape := ⟨3, ![128, 16, 1]⟩
abbrev S128x16x128x8x64 : Shape := ⟨5, ![128, 16, 128, 8, 64]⟩
abbrev S128x2048x8x64 : Shape := ⟨4, ![128, 2048, 8, 64]⟩
abbrev S128x8x8x64 : Shape := ⟨4, ![128, 8, 8, 64]⟩
abbrev S128x2056x8x64 : Shape := ⟨4, ![128, 2056, 8, 64]⟩
abbrev S128x8x8x2056 : Shape := ⟨4, ![128, 8, 8, 2056]⟩
abbrev S1x8x1x1 : Shape := ⟨4, ![1, 8, 1, 1]⟩
abbrev S2056 : Shape := ⟨1, ![2056]⟩
abbrev S1x2056 : Shape := ⟨2, ![1, 2056]⟩
abbrev S8x1 : Shape := ⟨2, ![8, 1]⟩
abbrev S8x2056 : Shape := ⟨2, ![8, 2056]⟩
abbrev S128x8x64x8 : Shape := ⟨4, ![128, 8, 64, 8]⟩
abbrev S128x8x512 : Shape := ⟨3, ![128, 8, 512]⟩

abbrev nBuf : Space → Nat
  | .hbm => 106
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S2x2560x128x8x64, .f32⟩
  | .hbm, ⟨4, _⟩ => ⟨S2x2560x128x8x64, .f32⟩
  | .hbm, ⟨5, _⟩ => ⟨S128x16, .i32⟩
  | .hbm, ⟨6, _⟩ => ⟨S8, .f32⟩
  | .hbm, ⟨7, _⟩ => ⟨S1x2560x128x8x64, .f32⟩
  | .hbm, ⟨8, _⟩ => ⟨S2560x128x8x64, .f32⟩
  | .hbm, ⟨9, _⟩ => ⟨S_, .i32⟩
  | .hbm, ⟨10, _⟩ => ⟨S128x16, .i32⟩
  | .hbm, ⟨11, _⟩ => ⟨S128x16, .i1⟩
  | .hbm, ⟨12, _⟩ => ⟨S_, .i32⟩
  | .hbm, ⟨13, _⟩ => ⟨S128x16, .i32⟩
  | .hbm, ⟨14, _⟩ => ⟨S128x16, .i32⟩
  | .hbm, ⟨15, _⟩ => ⟨S128x16, .i32⟩
  | .hbm, ⟨16, _⟩ => ⟨S128x16x1, .i32⟩
  | .hbm, ⟨17, _⟩ => ⟨S128x16x128x8x64, .f32⟩
  | .hbm, ⟨18, _⟩ => ⟨S128x2048x8x64, .f32⟩
  | .hbm, ⟨19, _⟩ => ⟨S1x2560x128x8x64, .f32⟩
  | .hbm, ⟨20, _⟩ => ⟨S2560x128x8x64, .f32⟩
  | .hbm, ⟨21, _⟩ => ⟨S_, .i32⟩
  | .hbm, ⟨22, _⟩ => ⟨S128x16, .i32⟩
  | .hbm, ⟨23, _⟩ => ⟨S128x16, .i1⟩
  | .hbm, ⟨24, _⟩ => ⟨S_, .i32⟩
  | .hbm, ⟨25, _⟩ => ⟨S128x16, .i32⟩
  | .hbm, ⟨26, _⟩ => ⟨S128x16, .i32⟩
  | .hbm, ⟨27, _⟩ => ⟨S128x16, .i32⟩
  | .hbm, ⟨28, _⟩ => ⟨S128x16x1, .i32⟩
  | .hbm, ⟨29, _⟩ => ⟨S128x16x128x8x64, .f32⟩
  | .hbm, ⟨30, _⟩ => ⟨S128x2048x8x64, .f32⟩
  | .hbm, ⟨31, _⟩ => ⟨S128x8x8x64, .f32⟩
  | .hbm, ⟨32, _⟩ => ⟨S128x2056x8x64, .f32⟩
  | .hbm, ⟨33, _⟩ => ⟨S128x8x8x64, .f32⟩
  | .hbm, ⟨34, _⟩ => ⟨S128x2056x8x64, .f32⟩
  | .hbm, ⟨35, _⟩ => ⟨S8, .i32⟩
  | .hbm, ⟨36, _⟩ => ⟨S_, .i32⟩
  | .hbm, ⟨37, _⟩ => ⟨S8, .i32⟩
  | .hbm, ⟨38, _⟩ => ⟨S8, .i32⟩
  | .hbm, ⟨39, _⟩ => ⟨S128x8x8x64, .f32⟩
  | .hbm, ⟨40, _⟩ => ⟨S128x8x8x2056, .f32⟩
  | .hbm, ⟨41, _⟩ => ⟨S_, .f32⟩
  | .hbm, ⟨42, _⟩ => ⟨S128x8x8x2056, .f32⟩
  | .hbm, ⟨43, _⟩ => ⟨S128x8x8x2056, .f32⟩
  | .hbm, ⟨44, _⟩ => ⟨S1x8x1x1, .f32⟩
  | .hbm, ⟨45, _⟩ => ⟨S128x8x8x2056, .f32⟩
  | .hbm, ⟨46, _⟩ => ⟨S128x8x8x2056, .f32⟩
  | .hbm, ⟨47, _⟩ => ⟨S2056, .i32⟩
  | .hbm, ⟨48, _⟩ => ⟨S1x2056, .i32⟩
  | .hbm, ⟨49, _⟩ => ⟨S8x1, .i32⟩
  | .hbm, ⟨50, _⟩ => ⟨S8x2056, .i32⟩
  | .hbm, ⟨51, _⟩ => ⟨S8x2056, .i32⟩
  | .hbm, ⟨52, _⟩ => ⟨S8x2056, .i1⟩
  | .hbm, ⟨53, _⟩ => ⟨S128x8x8x2056, .f32⟩
  | .hbm, ⟨54, _⟩ => ⟨S128x8x8x2056, .f32⟩
  | .hbm, ⟨55, _⟩ => ⟨S_, .f32⟩
  | .hbm, ⟨56, _⟩ => ⟨S128x8x8x2056, .f32⟩
  | .hbm, ⟨57, _⟩ => ⟨S128x8x8x2056, .f32⟩
  | .hbm, ⟨58, _⟩ => ⟨S128x8x8x2056, .f32⟩
  | .hbm, ⟨59, _⟩ => ⟨S128x8x8x2056, .f32⟩
  | .hbm, ⟨60, _⟩ => ⟨S128x8x8x2056, .i1⟩
  | .hbm, ⟨61, _⟩ => ⟨S128x8x8x2056, .f32⟩
  | .hbm, ⟨62, _⟩ => ⟨S128x8x8x2056, .f32⟩
  | .hbm, ⟨63, _⟩ => ⟨S128x8x8x2056, .f32⟩
  | .hbm, ⟨64, _⟩ => ⟨S128x8x8x2056, .f32⟩
  | .hbm, ⟨65, _⟩ => ⟨S128x8x8x2056, .f32⟩
  | .hbm, ⟨66, _⟩ => ⟨S128x8x8x2056, .f32⟩
  | .hbm, ⟨67, _⟩ => ⟨S128x8x8x2056, .f32⟩
  | .hbm, ⟨68, _⟩ => ⟨S128x8x8x2056, .f32⟩
  | .hbm, ⟨69, _⟩ => ⟨S128x8x8x2056, .f32⟩
  | .hbm, ⟨70, _⟩ => ⟨S_, .f32⟩
  | .hbm, ⟨71, _⟩ => ⟨S_, .f32⟩
  | .hbm, ⟨72, _⟩ => ⟨S128x8x8x2056, .i1⟩
  | .hbm, ⟨73, _⟩ => ⟨S128x8x8x2056, .f32⟩
  | .hbm, ⟨74, _⟩ => ⟨S128x8x8x2056, .f32⟩
  | .hbm, ⟨75, _⟩ => ⟨S_, .f32⟩
  | .hbm, ⟨76, _⟩ => ⟨S_, .f32⟩
  | .hbm, ⟨77, _⟩ => ⟨S128x8x8x2056, .f32⟩
  | .hbm, ⟨78, _⟩ => ⟨S128x8x8x2056, .f32⟩
  | .hbm, ⟨79, _⟩ => ⟨S128x8x8x2056, .f32⟩
  | .hbm, ⟨80, _⟩ => ⟨S_, .f32⟩
  | .hbm, ⟨81, _⟩ => ⟨S128x8x8x2056, .f32⟩
  | .hbm, ⟨82, _⟩ => ⟨S128x8x8x2056, .f32⟩
  | .hbm, ⟨83, _⟩ => ⟨S128x8x8x2056, .f32⟩
  | .hbm, ⟨84, _⟩ => ⟨S128x8x8x2056, .f32⟩
  | .hbm, ⟨85, _⟩ => ⟨S128x8x8x2056, .i1⟩
  | .hbm, ⟨86, _⟩ => ⟨S128x8x8x2056, .f32⟩
  | .hbm, ⟨87, _⟩ => ⟨S128x8x8x2056, .f32⟩
  | .hbm, ⟨88, _⟩ => ⟨S128x8x8x2056, .f32⟩
  | .hbm, ⟨89, _⟩ => ⟨S128x8x8x2056, .f32⟩
  | .hbm, ⟨90, _⟩ => ⟨S128x8x8x2056, .f32⟩
  | .hbm, ⟨91, _⟩ => ⟨S128x8x8x2056, .f32⟩
  | .hbm, ⟨92, _⟩ => ⟨S128x8x8x2056, .f32⟩
  | .hbm, ⟨93, _⟩ => ⟨S128x8x8x2056, .f32⟩
  | .hbm, ⟨94, _⟩ => ⟨S128x8x8x2056, .f32⟩
  | .hbm, ⟨95, _⟩ => ⟨S128x8x8x2056, .f32⟩
  | .hbm, ⟨96, _⟩ => ⟨S128x8x8x2056, .f32⟩
  | .hbm, ⟨97, _⟩ => ⟨S_, .f32⟩
  | .hbm, ⟨98, _⟩ => ⟨S_, .f32⟩
  | .hbm, ⟨99, _⟩ => ⟨S128x8x8x2056, .i1⟩
  | .hbm, ⟨100, _⟩ => ⟨S128x8x8x2056, .f32⟩
  | .hbm, ⟨101, _⟩ => ⟨S128x8x8x2056, .f32⟩
  | .hbm, ⟨102, _⟩ => ⟨S128x8x64x8, .f32⟩
  | .hbm, ⟨103, _⟩ => ⟨S128x8x8x64, .f32⟩
  | .hbm, ⟨104, _⟩ => ⟨S128x8x512, .f32⟩
  | .hbm, ⟨105, _⟩ => ⟨S128x8x512, .bf16⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_call0_v0 : Ref sig .tc := ⟨.hbm, 54, rfl⟩
abbrev main_call0_call0_cst : Ref sig .tc := ⟨.hbm, 55, rfl⟩
abbrev main_call0_call0_v0 : Ref sig .tc := ⟨.hbm, 56, rfl⟩
abbrev main_call0_call0_v1 : Ref sig .tc := ⟨.hbm, 57, rfl⟩
abbrev main_call0_call0_v2 : Ref sig .tc := ⟨.hbm, 58, rfl⟩
abbrev main_call0_call0_v3 : Ref sig .tc := ⟨.hbm, 59, rfl⟩
abbrev main_call0_call0_v4 : Ref sig .tc := ⟨.hbm, 60, rfl⟩
abbrev main_call0_call0_v5 : Ref sig .tc := ⟨.hbm, 61, rfl⟩
abbrev main_call0_call0_v6 : Ref sig .tc := ⟨.hbm, 62, rfl⟩
abbrev main_call0_call0_v7 : Ref sig .tc := ⟨.hbm, 63, rfl⟩
abbrev main_call0_call0_v8 : Ref sig .tc := ⟨.hbm, 64, rfl⟩
abbrev main_call0_call0_v9 : Ref sig .tc := ⟨.hbm, 65, rfl⟩
abbrev main_call0_call0_v10 : Ref sig .tc := ⟨.hbm, 66, rfl⟩
abbrev main_call0_call0_v11 : Ref sig .tc := ⟨.hbm, 67, rfl⟩
abbrev main_call0_v1 : Ref sig .tc := ⟨.hbm, 68, rfl⟩
abbrev main_v41 : Ref sig .tc := ⟨.hbm, 69, rfl⟩
abbrev main_cst_4 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v42 : Ref sig .tc := ⟨.hbm, 74, rfl⟩
abbrev main_call2_cst : Ref sig .tc := ⟨.hbm, 75, rfl⟩
abbrev main_call2_v0 : Ref sig .tc := ⟨.hbm, 76, rfl⟩
abbrev main_v43 : Ref sig .tc := ⟨.hbm, 77, rfl⟩
abbrev main_v44 : Ref sig .tc := ⟨.hbm, 78, rfl⟩
abbrev main_call3_v0 : Ref sig .tc := ⟨.hbm, 79, rfl⟩
abbrev main_call3_call0_cst : Ref sig .tc := ⟨.hbm, 80, rfl⟩
abbrev main_call3_call0_v0 : Ref sig .tc := ⟨.hbm, 81, rfl⟩
abbrev main_call3_call0_v1 : Ref sig .tc := ⟨.hbm, 82, rfl⟩
abbrev main_call3_call0_v2 : Ref sig .tc := ⟨.hbm, 83, rfl⟩
abbrev main_call3_call0_v3 : Ref sig .tc := ⟨.hbm, 84, rfl⟩
abbrev main_call3_call0_v4 : Ref sig .tc := ⟨.hbm, 85, rfl⟩
abbrev main_call3_call0_v5 : Ref sig .tc := ⟨.hbm, 86, rfl⟩
abbrev main_call3_call0_v6 : Ref sig .tc := ⟨.hbm, 87, rfl⟩
abbrev main_call3_call0_v7 : Ref sig .tc := ⟨.hbm, 88, rfl⟩
abbrev main_call3_call0_v8 : Ref sig .tc := ⟨.hbm, 89, rfl⟩
abbrev main_call3_call0_v9 : Ref sig .tc := ⟨.hbm, 90, rfl⟩
abbrev main_call3_call0_v10 : Ref sig .tc := ⟨.hbm, 91, rfl⟩
abbrev main_call3_call0_v11 : Ref sig .tc := ⟨.hbm, 92, rfl⟩
abbrev main_call3_v1 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_cst_5 : Ref sig .tc := ⟨.hbm, 97, rfl⟩
abbrev main_call4_v0 : Ref sig .tc := ⟨.hbm, 98, rfl⟩
abbrev main_call4_v1 : Ref sig .tc := ⟨.hbm, 99, rfl⟩
abbrev main_call4_v2 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩

abbrev nD : Nat := 1
abbrev τ : Topo := Topo.v7x

variable {F : FTy → Type} [FloatOps F]
-- ==== Kernel2.lean ====
abbrev S16384x1024 : Shape := ⟨2, ![16384, 1024]⟩
abbrev S16384x512 : Shape := ⟨2, ![16384, 512]⟩
abbrev S16384x256 : Shape := ⟨2, ![16384, 256]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S1x1024 : Shape := ⟨2, ![1, 1024]⟩
abbrev S256x512 : Shape := ⟨2, ![256, 512]⟩
abbrev S256x256 : Shape := ⟨2, ![256, 256]⟩
abbrev S256 : Shape := ⟨1, ![256]⟩
abbrev S256x1 : Shape := ⟨2, ![256, 1]⟩

abbrev nBuf : Space → Nat
  | .hbm => 27
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .f32⟩
  | .hbm, ⟨3, _⟩ => ⟨S16384x1024, .bf16⟩
  | .hbm, ⟨4, _⟩ => ⟨S16384x1024, .bf16⟩
  | .hbm, ⟨5, _⟩ => ⟨S16384x256, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024x4096, .f32⟩
  | .hbm, ⟨12, _⟩ => ⟨S4096x1024, .f32⟩
  | .hbm, ⟨13, _⟩ => ⟨S1024, .f32⟩
  | .hbm, ⟨14, _⟩ => ⟨S256x1024, .f32⟩
  | .hbm, ⟨15, _⟩ => ⟨S1024x1024, .f32⟩
  | .hbm, ⟨16, _⟩ => ⟨S512x1024, .bf16⟩
  | .hbm, ⟨17, _⟩ => ⟨S512x1024, .bf16⟩
  | .hbm, ⟨18, _⟩ => ⟨S512x1024, .bf16⟩
  | .hbm, ⟨19, _⟩ => ⟨S1024x1024, .bf16⟩
  | .hbm, ⟨20, _⟩ => ⟨S1024x4096, .bf16⟩
  | .hbm, ⟨21, _⟩ => ⟨S4096x1024, .bf16⟩
  | .hbm, ⟨22, _⟩ => ⟨S256x1024, .bf16⟩
  | .hbm, ⟨23, _⟩ => ⟨S1024x1024, .bf16⟩
  | .hbm, ⟨24, _⟩ => ⟨S1x1024, .f32⟩
  | .hbm, ⟨25, _⟩ => ⟨S1x1024, .f32⟩
  | .hbm, ⟨26, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .f32⟩
  | .local _ .vmem, ⟨5, _⟩ => ⟨S256x512, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x256, .f32⟩
  | .local _ .vmem, ⟨11, _⟩ => ⟨S256x256, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1x1024, .f32⟩
  | .local _ .vmem, ⟨17, _⟩ => ⟨S1024x4096, .bf16⟩
  | .local _ .vmem, ⟨18, _⟩ => ⟨S4096x1024, .bf16⟩
  | .local _ .vmem, ⟨19, _⟩ => ⟨S1x1024, .f32⟩
  | .local _ .vmem, ⟨20, _⟩ => ⟨S256x1024, .bf16⟩
  | .local _ .vmem, ⟨21, _⟩ => ⟨S1024x1024, .bf16⟩
  | .local _ .vmem, ⟨22, _⟩ => ⟨S256x1024, .f32⟩
  | .local _ .vmem, ⟨23, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Kernel2Ideal.lean ====
abbrev S16384x1024 : Shape := ⟨2, ![16384, 1024]⟩
abbrev S16384x512 : Shape := ⟨2, ![16384, 512]⟩
abbrev S16384x256 : Shape := ⟨2, ![16384, 256]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S1x1024 : Shape := ⟨2, ![1, 1024]⟩
abbrev S256x512 : Shape := ⟨2, ![256, 512]⟩
abbrev S256x256 : Shape := ⟨2, ![256, 256]⟩
abbrev S256 : Shape := ⟨1, ![256]⟩
abbrev S256x1 : Shape := ⟨2, ![256, 1]⟩

abbrev nBuf : Space → Nat
  | .hbm => 27
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .f32⟩
  | .hbm, ⟨3, _⟩ => ⟨S16384x1024, .bf16⟩
  | .hbm, ⟨4, _⟩ => ⟨S16384x1024, .bf16⟩
  | .hbm, ⟨5, _⟩ => ⟨S16384x256, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024x4096, .f32⟩
  | .hbm, ⟨12, _⟩ => ⟨S4096x1024, .f32⟩
  | .hbm, ⟨13, _⟩ => ⟨S1024, .f32⟩
  | .hbm, ⟨14, _⟩ => ⟨S256x1024, .f32⟩
  | .hbm, ⟨15, _⟩ => ⟨S1024x1024, .f32⟩
  | .hbm, ⟨16, _⟩ => ⟨S512x1024, .bf16⟩
  | .hbm, ⟨17, _⟩ => ⟨S512x1024, .bf16⟩
  | .hbm, ⟨18, _⟩ => ⟨S512x1024, .bf16⟩
  | .hbm, ⟨19, _⟩ => ⟨S1024x1024, .bf16⟩
  | .hbm, ⟨20, _⟩ => ⟨S1024x4096, .bf16⟩
  | .hbm, ⟨21, _⟩ => ⟨S4096x1024, .bf16⟩
  | .hbm, ⟨22, _⟩ => ⟨S256x1024, .bf16⟩
  | .hbm, ⟨23, _⟩ => ⟨S1024x1024, .bf16⟩
  | .hbm, ⟨24, _⟩ => ⟨S1x1024, .f32⟩
  | .hbm, ⟨25, _⟩ => ⟨S1x1024, .f32⟩
  | .hbm, ⟨26, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .f32⟩
  | .local _ .vmem, ⟨5, _⟩ => ⟨S256x512, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x256, .f32⟩
  | .local _ .vmem, ⟨11, _⟩ => ⟨S256x256, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1x1024, .f32⟩
  | .local _ .vmem, ⟨17, _⟩ => ⟨S1024x4096, .bf16⟩
  | .local _ .vmem, ⟨18, _⟩ => ⟨S4096x1024, .bf16⟩
  | .local _ .vmem, ⟨19, _⟩ => ⟨S1x1024, .f32⟩
  | .local _ .vmem, ⟨20, _⟩ => ⟨S256x1024, .bf16⟩
  | .local _ .vmem, ⟨21, _⟩ => ⟨S1024x1024, .bf16⟩
  | .local _ .vmem, ⟨22, _⟩ => ⟨S256x1024, .f32⟩
  | .local _ .vmem, ⟨23, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference2Ideal.lean ====
abbrev S16384x1024 : Shape := ⟨2, ![16384, 1024]⟩
abbrev S16384x512 : Shape := ⟨2, ![16384, 512]⟩
abbrev S16384x256 : Shape := ⟨2, ![16384, 256]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 104
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .f32⟩
  | .hbm, ⟨3, _⟩ => ⟨S16384x1024, .bf16⟩
  | .hbm, ⟨4, _⟩ => ⟨S16384x1024, .bf16⟩
  | .hbm, ⟨5, _⟩ => ⟨S16384x256, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024x4096, .f32⟩
  | .hbm, ⟨12, _⟩ => ⟨S4096x1024, .f32⟩
  | .hbm, ⟨13, _⟩ => ⟨S1024, .f32⟩
  | .hbm, ⟨14, _⟩ => ⟨S256x1024, .f32⟩
  | .hbm, ⟨15, _⟩ => ⟨S1024x1024, .f32⟩
  | .hbm, ⟨16, _⟩ => ⟨S16384x512, .f32⟩
  | .hbm, ⟨17, _⟩ => ⟨S16384x1024, .f32⟩
  | .hbm, ⟨18, _⟩ => ⟨S16384x512, .f32⟩
  | .hbm, ⟨19, _⟩ => ⟨S16384x512, .f32⟩
  | .hbm, ⟨20, _⟩ => ⟨S_, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S_, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S_, .f32⟩
  | .hbm, ⟨29, _⟩ => ⟨S16384x512, .f32⟩
  | .hbm, ⟨30, _⟩ => ⟨S16384x512, .f32⟩
  | .hbm, ⟨31, _⟩ => ⟨S_, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S16384x1, .f32⟩
  | .hbm, ⟨64, _⟩ => ⟨S16384x1024, .f32⟩
  | .hbm, ⟨65, _⟩ => ⟨S16384x1024, .f32⟩
  | .hbm, ⟨66, _⟩ => ⟨S1x1024, .f32⟩
  | .hbm, ⟨67, _⟩ => ⟨S16384x1024, .f32⟩
  | .hbm, ⟨68, _⟩ => ⟨S16384x1024, .f32⟩
  | .hbm, ⟨69, _⟩ => ⟨S16384x4096, .f32⟩
  | .hbm, ⟨70, _⟩ => ⟨S_, .f32⟩
  | .hbm, ⟨71, _⟩ => ⟨S16384x4096, .f32⟩
  | .hbm, ⟨72, _⟩ => ⟨S16384x4096, .f32⟩
  | .hbm, ⟨73, _⟩ => ⟨S16384x4096, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S_, .f32⟩
  | .hbm, ⟨78, _⟩ => ⟨S16384, .f32⟩
  | .hbm, ⟨79, _⟩ => ⟨S16384x1, .f32⟩
  | .hbm, ⟨80, _⟩ => ⟨S_, .f32⟩
  | .hbm, ⟨81, _⟩ => ⟨S16384x1, .f32⟩
  | .hbm, ⟨82, _⟩ => ⟨S16384x1, .f32⟩
  | .hbm, ⟨83, _⟩ => ⟨S_, .f32⟩
  | .hbm, ⟨84, _⟩ => ⟨S16384x1, .f32⟩
  | .hbm, ⟨85, _⟩ => ⟨S16384x1, .f32⟩
  | .hbm, ⟨86, _⟩ => ⟨S16384x1, .f32⟩
  | .hbm, ⟨87, _⟩ => ⟨S16384x1024, .f32⟩
  | .hbm, ⟨88, _⟩ => ⟨S16384x1024, .f32⟩
  | .hbm, ⟨89, _⟩ => ⟨S1x1024, .f32⟩
  | .hbm, ⟨90, _⟩ => ⟨S16384x1024, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S16384x1024, .f32⟩
  | .hbm, ⟨95, _⟩ => ⟨S16384x1024, .f32⟩
  | .hbm, ⟨96, _⟩ => ⟨S_, .f32⟩
  | .hbm, ⟨97, _⟩ => ⟨S16384x1024, .f32⟩
  | .hbm, ⟨98, _⟩ => ⟨S16384x1024, .f32⟩
  | .hbm, ⟨99, _⟩ => ⟨S_, .f32⟩
  | .hbm, ⟨100, _⟩ => ⟨S16384x1024, .f32⟩
  | .hbm, ⟨101, _⟩ => ⟨S16384x1024, .f32⟩
  | .hbm, ⟨102, _⟩ => ⟨S16384x1024, .f32⟩
  | .hbm, ⟨103, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_v20 : Ref sig .tc := ⟨.hbm, 41, rfl⟩
abbrev main_cst_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call0_cst : Ref sig .tc := ⟨.hbm, 70, rfl⟩
abbrev main_call0_v0 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_8 : Ref sig .tc := ⟨.hbm, 77, rfl⟩
abbrev main_v50 : Ref sig .tc := ⟨.hbm, 78, rfl⟩
abbrev main_v51 : Ref sig .tc := ⟨.hbm, 79, rfl⟩
abbrev main_cst_9 : Ref sig .tc := ⟨.hbm, 80, rfl⟩
abbrev main_v52 : Ref sig .tc := ⟨.hbm, 81, rfl⟩
abbrev main_v53 : Ref sig .tc := ⟨.hbm, 82, rfl⟩
abbrev main_cst_10 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_11 : Ref sig .tc := ⟨.hbm, 96, rfl⟩
abbrev main_v66 : Ref sig .tc := ⟨.hbm, 97, rfl⟩
abbrev main_v67 : Ref sig .tc := ⟨.hbm, 98, rfl⟩
abbrev main_cst_12 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩

abbrev nD : Nat := 1
abbrev τ : Topo := Topo.v7x

variable {F : FTy → Type} [FloatOps F]
-- ==== Kernel3.lean ====
abbrev S1024x1024 : Shape := ⟨2, ![1024, 1024]⟩
abbrev S1024 : Shape := ⟨1, ![1024]⟩
abbrev S1024x4096 : Shape := ⟨2, ![1024, 4096]⟩
abbrev S64 : Shape := ⟨1, ![64]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S1x64 : Shape := ⟨2, ![1, 64]⟩
abbrev S8x64 : Shape := ⟨2, ![8, 64]⟩
abbrev S1x1024 : Shape := ⟨2, ![1, 1024]⟩
abbrev S1024x512 : Shape := ⟨2, ![1024, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 51
  | .vmem => 19
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x4096, .f32⟩
  | .hbm, ⟨3, _⟩ => ⟨S64, .f32⟩
  | .hbm, ⟨4, _⟩ => ⟨S64, .f32⟩
  | .hbm, ⟨5, _⟩ => ⟨S512, .i32⟩
  | .hbm, ⟨6, _⟩ => ⟨S_, .i32⟩
  | .hbm, ⟨7, _⟩ => ⟨S_, .i32⟩
  | .hbm, ⟨8, _⟩ => ⟨S512, .i32⟩
  | .hbm, ⟨9, _⟩ => ⟨S512, .i32⟩
  | .hbm, ⟨10, _⟩ => ⟨S512, .i32⟩
  | .hbm, ⟨11, _⟩ => ⟨S_, .i32⟩
  | .hbm, ⟨12, _⟩ => ⟨S512, .i32⟩
  | .hbm, ⟨13, _⟩ => ⟨S512, .i1⟩
  | .hbm, ⟨14, _⟩ => ⟨S512, .i32⟩
  | .hbm, ⟨15, _⟩ => ⟨S512, .i32⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S512, .i1⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512, .i32⟩
  | .hbm, ⟨24, _⟩ => ⟨S512x1, .i32⟩
  | .hbm, ⟨25, _⟩ => ⟨S1x512, .i32⟩
  | .hbm, ⟨26, _⟩ => ⟨S512x512, .i32⟩
  | .hbm, ⟨27, _⟩ => ⟨S512x512, .i32⟩
  | .hbm, ⟨28, _⟩ => ⟨S512x512, .i1⟩
  | .hbm, ⟨29, _⟩ => ⟨S_, .f32⟩
  | .hbm, ⟨30, _⟩ => ⟨S_, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S512x512, .bf16⟩
  | .hbm, ⟨35, _⟩ => ⟨S1024x4096, .bf16⟩
  | .hbm, ⟨36, _⟩ => ⟨S1x64, .f32⟩
  | .hbm, ⟨37, _⟩ => ⟨S8x64, .f32⟩
  | .hbm, ⟨38, _⟩ => ⟨S512, .f32⟩
  | .hbm, ⟨39, _⟩ => ⟨S1x512, .f32⟩
  | .hbm, ⟨40, _⟩ => ⟨S1x64, .f32⟩
  | .hbm, ⟨41, _⟩ => ⟨S8x64, .f32⟩
  | .hbm, ⟨42, _⟩ => ⟨S512, .f32⟩
  | .hbm, ⟨43, _⟩ => ⟨S1x512, .f32⟩
  | .hbm, ⟨44, _⟩ => ⟨S1x1024, .f32⟩
  | .hbm, ⟨45, _⟩ => ⟨S1024x512, .bf16⟩
  | .hbm, ⟨46, _⟩ => ⟨S1024x512, .f32⟩
  | .hbm, ⟨47, _⟩ => ⟨S1024x512, .f32⟩
  | .hbm, ⟨48, _⟩ => ⟨S1024x512, .f32⟩
  | .hbm, ⟨49, _⟩ => ⟨S1024x1024, .bf16⟩
  | .hbm, ⟨50, _⟩ => ⟨S1024x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4096, .bf16⟩
  | .local _ .vmem, ⟨4, _⟩ => ⟨S512x512, .bf16⟩
  | .local _ .vmem, ⟨5, _⟩ => ⟨S1x512, .f32⟩
  | .local _ .vmem, ⟨6, _⟩ => ⟨S1x512, .f32⟩
  | .local _ .vmem, ⟨7, _⟩ => ⟨S256x512, .bf16⟩
  | .local _ .vmem, ⟨8, _⟩ => ⟨S256x512, .bf16⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19_0 : Ref sig .tc := ⟨.hbm, 45, rfl⟩
abbrev main_v19_1 : Ref sig .tc := ⟨.hbm, 46, rfl⟩
abbrev main_v19_2 : Ref sig .tc := ⟨.hbm, 47, rfl⟩
abbrev main_v19_3 : Ref sig .tc := ⟨.hbm, 48, rfl⟩
abbrev main_v19_4 : Ref sig .tc := ⟨.hbm, 49, rfl⟩
abbrev main_v19_5 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel3Ideal.lean ====
variable {F : FTy → Type} [FloatOps F] [Named F]
def κ : String → Option EReal := fun
  | "q_scale" => some ((-(8⁻¹ * (Real.log 2)⁻¹) : ℝ) : EReal)
  | _ => none
-- ==== Reference3Ideal.lean ====
abbrev S1024x1024 : Shape := ⟨2, ![1024, 1024]⟩
abbrev S1024 : Shape := ⟨1, ![1024]⟩
abbrev S1024x4096 : Shape := ⟨2, ![1024, 4096]⟩
abbrev S64 : Shape := ⟨1, ![64]⟩
abbrev S_ : Shape := ⟨0, ![]⟩
abbrev S1024x1 : Shape := ⟨2, ![1024, 1]⟩
abbrev S1x1024 : Shape := ⟨2, ![1, 1024]⟩
abbrev S1024x512 : Shape := ⟨2, ![1024, 512]⟩
abbrev S1024x8x64 : Shape := ⟨3, ![1024, 8, 64]⟩
abbrev S1024x8 : Shape := ⟨2, ![1024, 8]⟩
abbrev S1024x8x1 : Shape := ⟨3, ![1024, 8, 1]⟩
abbrev S1x1x64 : Shape := ⟨3, ![1, 1, 64]⟩

abbrev nBuf : Space → Nat
  | .hbm => 91
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x4096, .f32⟩
  | .hbm, ⟨3, _⟩ => ⟨S64, .f32⟩
  | .hbm, ⟨4, _⟩ => ⟨S64, .f32⟩
  | .hbm, ⟨5, _⟩ => ⟨S1024x1024, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S_, .f32⟩
  | .hbm, ⟨13, _⟩ => ⟨S1024x1, .f32⟩
  | .hbm, ⟨14, _⟩ => ⟨S1024x1, .f32⟩
  | .hbm, ⟨15, _⟩ => ⟨S1024x1, .f32⟩
  | .hbm, ⟨16, _⟩ => ⟨S1024x1024, .f32⟩
  | .hbm, ⟨17, _⟩ => ⟨S1024x1024, .f32⟩
  | .hbm, ⟨18, _⟩ => ⟨S1x1024, .f32⟩
  | .hbm, ⟨19, _⟩ => ⟨S1024x1024, .f32⟩
  | .hbm, ⟨20, _⟩ => ⟨S1024x1024, .f32⟩
  | .hbm, ⟨21, _⟩ => ⟨S1024x4096, .f32⟩
  | .hbm, ⟨22, _⟩ => ⟨S1024x512, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S1024x1024, .f32⟩
  | .hbm, ⟨27, _⟩ => ⟨S1024x1024, .f32⟩
  | .hbm, ⟨28, _⟩ => ⟨S1024x8x64, .f32⟩
  | .hbm, ⟨29, _⟩ => ⟨S1024x8x64, .f32⟩
  | .hbm, ⟨30, _⟩ => ⟨S_, .f32⟩
  | .hbm, ⟨31, _⟩ => ⟨S1024x8, .f32⟩
  | .hbm, ⟨32, _⟩ => ⟨S1024x8x1, .f32⟩
  | .hbm, ⟨33, _⟩ => ⟨S_, .f32⟩
  | .hbm, ⟨34, _⟩ => ⟨S1024x8x1, .f32⟩
  | .hbm, ⟨35, _⟩ => ⟨S1024x8x1, .f32⟩
  | .hbm, ⟨36, _⟩ => ⟨S_, .f32⟩
  | .hbm, ⟨37, _⟩ => ⟨S1024x8x1, .f32⟩
  | .hbm, ⟨38, _⟩ => ⟨S1024x8x1, .f32⟩
  | .hbm, ⟨39, _⟩ => ⟨S1024x8x1, .f32⟩
  | .hbm, ⟨40, _⟩ => ⟨S1024x8x64, .f32⟩
  | .hbm, ⟨41, _⟩ => ⟨S1024x8x64, .f32⟩
  | .hbm, ⟨42, _⟩ => ⟨S1x1x64, .f32⟩
  | .hbm, ⟨43, _⟩ => ⟨S1024x8x64, .f32⟩
  | .hbm, ⟨44, _⟩ => ⟨S1024x8x64, .f32⟩
  | .hbm, ⟨45, _⟩ => ⟨S1024x512, .f32⟩
  | .hbm, ⟨46, _⟩ => ⟨S1024x8x64, .f32⟩
  | .hbm, ⟨47, _⟩ => ⟨S1024x8x64, .f32⟩
  | .hbm, ⟨48, _⟩ => ⟨S_, .f32⟩
  | .hbm, ⟨49, _⟩ => ⟨S1024x8, .f32⟩
  | .hbm, ⟨50, _⟩ => ⟨S1024x8x1, .f32⟩
  | .hbm, ⟨51, _⟩ => ⟨S_, .f32⟩
  | .hbm, ⟨52, _⟩ => ⟨S1024x8x1, .f32⟩
  | .hbm, ⟨53, _⟩ => ⟨S1024x8x1, .f32⟩
  | .hbm, ⟨54, _⟩ => ⟨S_, .f32⟩
  | .hbm, ⟨55, _⟩ => ⟨S1024x8x1, .f32⟩
  | .hbm, ⟨56, _⟩ => ⟨S1024x8x1, .f32⟩
  | .hbm, ⟨57, _⟩ => ⟨S1024x8x1, .f32⟩
  | .hbm, ⟨58, _⟩ => ⟨S1024x8x64, .f32⟩
  | .hbm, ⟨59, _⟩ => ⟨S1024x8x64, .f32⟩
  | .hbm, ⟨60, _⟩ => ⟨S1x1x64, .f32⟩
  | .hbm, ⟨61, _⟩ => ⟨S1024x8x64, .f32⟩
  | .hbm, ⟨62, _⟩ => ⟨S1024x8x64, .f32⟩
  | .hbm, ⟨63, _⟩ => ⟨S1024x512, .f32⟩
  | .hbm, ⟨64, _⟩ => ⟨S_, .f32⟩
  | .hbm, ⟨65, _⟩ => ⟨S1024x512, .f32⟩
  | .hbm, ⟨66, _⟩ => ⟨S1024x512, .f32⟩
  | .hbm, ⟨67, _⟩ => ⟨S1024x512, .f32⟩
  | .hbm, ⟨68, _⟩ => ⟨S_, .f32⟩
  | .hbm, ⟨69, _⟩ => ⟨S_, .f32⟩
  | .hbm, ⟨70, _⟩ => ⟨S1024x512, .f32⟩
  | .hbm, ⟨71, _⟩ => ⟨S1024x512, .f32⟩
  | .hbm, ⟨72, _⟩ => ⟨S1024x512, .bf16⟩
  | .hbm, ⟨73, _⟩ => ⟨S1024x1024, .f32⟩
  | .hbm, ⟨74, _⟩ => ⟨S1024x1024, .f32⟩
  | .hbm, ⟨75, _⟩ => ⟨S_, .f32⟩
  | .hbm, ⟨76, _⟩ => ⟨S1024x1024, .f32⟩
  | .hbm, ⟨77, _⟩ => ⟨S1024x1024, .f32⟩
  | .hbm, ⟨78, _⟩ => ⟨S_, .f32⟩
  | .hbm, ⟨79, _⟩ => ⟨S1024x1024, .f32⟩
  | .hbm, ⟨80, _⟩ => ⟨S1024x1024, .f32⟩
  | .hbm, ⟨81, _⟩ => ⟨S1024x1024, .bf16⟩
  | .hbm, ⟨82, _⟩ => ⟨S1024x1024, .f32⟩
  | .hbm, ⟨83, _⟩ => ⟨S1024x1024, .f32⟩
  | .hbm, ⟨84, _⟩ => ⟨S_, .f32⟩
  | .hbm, ⟨85, _⟩ => ⟨S1024x1024, .f32⟩
  | .hbm, ⟨86, _⟩ => ⟨S1024x1024, .f32⟩
  | .hbm, ⟨87, _⟩ => ⟨S_, .f32⟩
  | .hbm, ⟨88, _⟩ => ⟨S1024x1024, .f32⟩
  | .hbm, ⟨89, _⟩ => ⟨S1024x1024, .f32⟩
  | .hbm, ⟨90, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_9 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_10 : Ref sig .tc := ⟨.hbm, 75, rfl⟩
abbrev main_v59 : Ref sig .tc := ⟨.hbm, 76, rfl⟩
abbrev main_v60 : Ref sig .tc := ⟨.hbm, 77, rfl⟩
abbrev main_cst_11 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_12 : Ref sig .tc := ⟨.hbm, 84, rfl⟩
abbrev main_v66 : Ref sig .tc := ⟨.hbm, 85, rfl⟩
abbrev main_v67 : Ref sig .tc := ⟨.hbm, 86, rfl⟩
abbrev main_cst_13 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x4096 : Shape := ⟨2, ![1024, 4096]⟩
abbrev S64 : Shape := ⟨1, ![64]⟩
abbrev S2x4x512x4096 : Shape := ⟨4, ![2, 4, 512, 4096]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S1024x1024 : Shape := ⟨2, ![1024, 1024]⟩
abbrev S1x64 : Shape := ⟨2, ![1, 64]⟩
abbrev S8x64 : Shape := ⟨2, ![8, 64]⟩
abbrev S1x1024 : Shape := ⟨2, ![1, 1024]⟩
abbrev S16384x512 : Shape := ⟨2, ![16384, 512]⟩
abbrev S256x1024 : Shape := ⟨2, ![256, 1024]⟩
abbrev S256x512 : Shape := ⟨2, ![256, 512]⟩
abbrev S1x1x512x256 : Shape := ⟨4, ![1, 1, 512, 256]⟩
abbrev S256 : Shape := ⟨1, ![256]⟩
abbrev S256x1 : Shape := ⟨2, ![256, 1]⟩
abbrev S256x256 : Shape := ⟨2, ![256, 256]⟩
abbrev S1024x256 : Shape := ⟨2, ![1024, 256]⟩
abbrev S512x256 : Shape := ⟨2, ![512, 256]⟩
abbrev S1024x512 : Shape := ⟨2, ![1024, 512]⟩

abbrev nBuf : Space → Nat
  | .hbm => 56
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S64, .f32⟩
  | .hbm, ⟨4, _⟩ => ⟨S64, .f32⟩
  | .hbm, ⟨5, _⟩ => ⟨S2x4x512x4096, .f32⟩
  | .hbm, ⟨6, _⟩ => ⟨S2x4x512x4096, .f32⟩
  | .hbm, ⟨7, _⟩ => ⟨S512, .i32⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S1x512, .i32⟩
  | .hbm, ⟨28, _⟩ => ⟨S512x512, .i32⟩
  | .hbm, ⟨29, _⟩ => ⟨S512x512, .i32⟩
  | .hbm, ⟨30, _⟩ => ⟨S512x512, .i1⟩
  | .hbm, ⟨31, _⟩ => ⟨S_, .f32⟩
  | .hbm, ⟨32, _⟩ => ⟨S_, .f32⟩
  | .hbm, ⟨33, _⟩ => ⟨S512x512, .f32⟩
  | .hbm, ⟨34, _⟩ => ⟨S512x512, .f32⟩
  | .hbm, ⟨35, _⟩ => ⟨S512x512, .f32⟩
  | .hbm, ⟨36, _⟩ => ⟨S512x512, .bf16⟩
  | .hbm, ⟨37, _⟩ => ⟨S1024x4096, .bf16⟩
  | .hbm, ⟨38, _⟩ => ⟨S1024x1024, .bf16⟩
  | .hbm, ⟨39, _⟩ => ⟨S1024x1024, .bf16⟩
  | .hbm, ⟨40, _⟩ => ⟨S1x64, .f32⟩
  | .hbm, ⟨41, _⟩ => ⟨S8x64, .f32⟩
  | .hbm, ⟨42, _⟩ => ⟨S512, .f32⟩
  | .hbm, ⟨43, _⟩ => ⟨S1x512, .f32⟩
  | .hbm, ⟨44, _⟩ => ⟨S1x64, .f32⟩
  | .hbm, ⟨45, _⟩ => ⟨S8x64, .f32⟩
  | .hbm, ⟨46, _⟩ => ⟨S512, .f32⟩
  | .hbm, ⟨47, _⟩ => ⟨S1x512, .f32⟩
  | .hbm, ⟨48, _⟩ => ⟨S1x1024, .f32⟩
  | .hbm, ⟨49, _⟩ => ⟨S512x1, .f32⟩
  | .hbm, ⟨50, _⟩ => ⟨S16384x512, .bf16⟩
  | .hbm, ⟨51, _⟩ => ⟨S2x4x512x4096, .f32⟩
  | .hbm, ⟨52, _⟩ => ⟨S2x4x512x4096, .f32⟩
  | .hbm, ⟨53, _⟩ => ⟨S16384x512, .f32⟩
  | .hbm, ⟨54, _⟩ => ⟨S16384x1024, .bf16⟩
  | .hbm, ⟨55, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4096, .bf16⟩
  | .local _ .vmem, ⟨4, _⟩ => ⟨S512x512, .bf16⟩
  | .local _ .vmem, ⟨5, _⟩ => ⟨S1x512, .f32⟩
  | .local _ .vmem, ⟨6, _⟩ => ⟨S512x1, .f32⟩
  | .local _ .vmem, ⟨7, _⟩ => ⟨S1024x1024, .bf16⟩
  | .local _ .vmem, ⟨8, _⟩ => ⟨S256x512, .bf16⟩
  | .local _ .vmem, ⟨9, _⟩ => ⟨S256x512, .bf16⟩
  | .local _ .vmem, ⟨10, _⟩ => ⟨S1x1x512x256, .f32⟩
  | .local _ .vmem, ⟨11, _⟩ => ⟨S1x1x512x256, .f32⟩
  | .local _ .vmem, ⟨12, _⟩ => ⟨S1x1x512x256, .f32⟩
  | .local _ .vmem, ⟨13, _⟩ => ⟨S1x1x512x256, .f32⟩
  | .local _ .vmem, ⟨14, _⟩ => ⟨S256x512, .f32⟩
  | .local _ .vmem, ⟨15, _⟩ => ⟨S256x512, .f32⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22_0 : Ref sig .tc := ⟨.hbm, 50, rfl⟩
abbrev main_v22_1 : Ref sig .tc := ⟨.hbm, 51, rfl⟩
abbrev main_v22_2 : Ref sig .tc := ⟨.hbm, 52, rfl⟩
abbrev main_v22_3 : Ref sig .tc := ⟨.hbm, 53, rfl⟩
abbrev main_v22_4 : Ref sig .tc := ⟨.hbm, 54, rfl⟩
abbrev main_v22_5 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![c1_i32_10.toNat, v16.toNat, c0_i32_11.toNat, v26.toNat]

def cc0_transform_11 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![c1_i32_10.toNat, v16.toNat, c0_i32_11.toNat, v26.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel4Ideal.lean ====
variable {F : FTy → Type} [FloatOps F] [Named F]
def κ : String → Option EReal := fun
  | "q_scale" => some ((-(8⁻¹ * (Real.log 2)⁻¹) : ℝ) : EReal)
  | _ => none
-- ==== Reference4Ideal.lean ====
abbrev S16384x1024 : Shape := ⟨2, ![16384, 1024]⟩
abbrev S1024 : Shape := ⟨1, ![1024]⟩
abbrev S1024x4096 : Shape := ⟨2, ![1024, 4096]⟩
abbrev S64 : Shape := ⟨1, ![64]⟩
abbrev S2x4x512x4096 : Shape := ⟨4, ![2, 4, 512, 4096]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩
abbrev S16384x512 : Shape := ⟨2, ![16384, 512]⟩
abbrev S16384x8x64 : Shape := ⟨3, ![16384, 8, 64]⟩
abbrev S16384x8 : Shape := ⟨2, ![16384, 8]⟩
abbrev S16384x8x1 : Shape := ⟨3, ![16384, 8, 1]⟩
abbrev S1x1x64 : Shape := ⟨3, ![1, 1, 64]⟩
abbrev S4x4096x8x64 : Shape := ⟨4, ![4, 4096, 8, 64]⟩
abbrev S4x4096x8 : Shape := ⟨3, ![4, 4096, 8]⟩
abbrev S4x4096x8x1 : Shape := ⟨4, ![4, 4096, 8, 1]⟩
abbrev S1x1x1x64 : Shape := ⟨4, ![1, 1, 1, 64]⟩
abbrev S1x4x512x4096 : Shape := ⟨4, ![1, 4, 512, 4096]⟩
abbrev S4x512x4096 : Shape := ⟨3, ![4, 512, 4096]⟩
abbrev S4x4096x512 : Shape := ⟨3, ![4, 4096, 512]⟩

abbrev nBuf : Space → Nat
  | .hbm => 107
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S64, .f32⟩
  | .hbm, ⟨4, _⟩ => ⟨S64, .f32⟩
  | .hbm, ⟨5, _⟩ => ⟨S2x4x512x4096, .f32⟩
  | .hbm, ⟨6, _⟩ => ⟨S2x4x512x4096, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x4096, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x1024, .f32⟩
  | .hbm, ⟨29, _⟩ => ⟨S16384x1024, .f32⟩
  | .hbm, ⟨30, _⟩ => ⟨S16384x8x64, .f32⟩
  | .hbm, ⟨31, _⟩ => ⟨S16384x8x64, .f32⟩
  | .hbm, ⟨32, _⟩ => ⟨S_, .f32⟩
  | .hbm, ⟨33, _⟩ => ⟨S16384x8, .f32⟩
  | .hbm, ⟨34, _⟩ => ⟨S16384x8x1, .f32⟩
  | .hbm, ⟨35, _⟩ => ⟨S_, .f32⟩
  | .hbm, ⟨36, _⟩ => ⟨S16384x8x1, .f32⟩
  | .hbm, ⟨37, _⟩ => ⟨S16384x8x1, .f32⟩
  | .hbm, ⟨38, _⟩ => ⟨S_, .f32⟩
  | .hbm, ⟨39, _⟩ => ⟨S16384x8x1, .f32⟩
  | .hbm, ⟨40, _⟩ => ⟨S16384x8x1, .f32⟩
  | .hbm, ⟨41, _⟩ => ⟨S16384x8x1, .f32⟩
  | .hbm, ⟨42, _⟩ => ⟨S16384x8x64, .f32⟩
  | .hbm, ⟨43, _⟩ => ⟨S16384x8x64, .f32⟩
  | .hbm, ⟨44, _⟩ => ⟨S1x1x64, .f32⟩
  | .hbm, ⟨45, _⟩ => ⟨S16384x8x64, .f32⟩
  | .hbm, ⟨46, _⟩ => ⟨S16384x8x64, .f32⟩
  | .hbm, ⟨47, _⟩ => ⟨S16384x512, .f32⟩
  | .hbm, ⟨48, _⟩ => ⟨S4x4096x8x64, .f32⟩
  | .hbm, ⟨49, _⟩ => ⟨S4x4096x8x64, .f32⟩
  | .hbm, ⟨50, _⟩ => ⟨S_, .f32⟩
  | .hbm, ⟨51, _⟩ => ⟨S4x4096x8, .f32⟩
  | .hbm, ⟨52, _⟩ => ⟨S4x4096x8x1, .f32⟩
  | .hbm, ⟨53, _⟩ => ⟨S_, .f32⟩
  | .hbm, ⟨54, _⟩ => ⟨S4x4096x8x1, .f32⟩
  | .hbm, ⟨55, _⟩ => ⟨S4x4096x8x1, .f32⟩
  | .hbm, ⟨56, _⟩ => ⟨S_, .f32⟩
  | .hbm, ⟨57, _⟩ => ⟨S4x4096x8x1, .f32⟩
  | .hbm, ⟨58, _⟩ => ⟨S4x4096x8x1, .f32⟩
  | .hbm, ⟨59, _⟩ => ⟨S4x4096x8x1, .f32⟩
  | .hbm, ⟨60, _⟩ => ⟨S4x4096x8x64, .f32⟩
  | .hbm, ⟨61, _⟩ => ⟨S4x4096x8x64, .f32⟩
  | .hbm, ⟨62, _⟩ => ⟨S1x1x1x64, .f32⟩
  | .hbm, ⟨63, _⟩ => ⟨S4x4096x8x64, .f32⟩
  | .hbm, ⟨64, _⟩ => ⟨S4x4096x8x64, .f32⟩
  | .hbm, ⟨65, _⟩ => ⟨S4x4096x8x64, .f32⟩
  | .hbm, ⟨66, _⟩ => ⟨S_, .f32⟩
  | .hbm, ⟨67, _⟩ => ⟨S16384x512, .f32⟩
  | .hbm, ⟨68, _⟩ => ⟨S16384x512, .f32⟩
  | .hbm, ⟨69, _⟩ => ⟨S16384x512, .f32⟩
  | .hbm, ⟨70, _⟩ => ⟨S_, .f32⟩
  | .hbm, ⟨71, _⟩ => ⟨S_, .f32⟩
  | .hbm, ⟨72, _⟩ => ⟨S16384x512, .f32⟩
  | .hbm, ⟨73, _⟩ => ⟨S16384x512, .f32⟩
  | .hbm, ⟨74, _⟩ => ⟨S16384x512, .bf16⟩
  | .hbm, ⟨75, _⟩ => ⟨S1x4x512x4096, .f32⟩
  | .hbm, ⟨76, _⟩ => ⟨S4x512x4096, .f32⟩
  | .hbm, ⟨77, _⟩ => ⟨S4x4096x512, .f32⟩
  | .hbm, ⟨78, _⟩ => ⟨S4x512x4096, .f32⟩
  | .hbm, ⟨79, _⟩ => ⟨S1x4x512x4096, .f32⟩
  | .hbm, ⟨80, _⟩ => ⟨S1x4x512x4096, .f32⟩
  | .hbm, ⟨81, _⟩ => ⟨S2x4x512x4096, .f32⟩
  | .hbm, ⟨82, _⟩ => ⟨S1x4x512x4096, .f32⟩
  | .hbm, ⟨83, _⟩ => ⟨S4x512x4096, .f32⟩
  | .hbm, ⟨84, _⟩ => ⟨S4x4096x512, .f32⟩
  | .hbm, ⟨85, _⟩ => ⟨S4x512x4096, .f32⟩
  | .hbm, ⟨86, _⟩ => ⟨S1x4x512x4096, .f32⟩
  | .hbm, ⟨87, _⟩ => ⟨S1x4x512x4096, .f32⟩
  | .hbm, ⟨88, _⟩ => ⟨S2x4x512x4096, .f32⟩
  | .hbm, ⟨89, _⟩ => ⟨S16384x1024, .f32⟩
  | .hbm, ⟨90, _⟩ => ⟨S16384x1024, .f32⟩
  | .hbm, ⟨91, _⟩ => ⟨S_, .f32⟩
  | .hbm, ⟨92, _⟩ => ⟨S16384x1024, .f32⟩
  | .hbm, ⟨93, _⟩ => ⟨S16384x1024, .f32⟩
  | .hbm, ⟨94, _⟩ => ⟨S_, .f32⟩
  | .hbm, ⟨95, _⟩ => ⟨S16384x1024, .f32⟩
  | .hbm, ⟨96, _⟩ => ⟨S16384x1024, .f32⟩
  | .hbm, ⟨97, _⟩ => ⟨S16384x1024, .bf16⟩
  | .hbm, ⟨98, _⟩ => ⟨S16384x1024, .f32⟩
  | .hbm, ⟨99, _⟩ => ⟨S16384x1024, .f32⟩
  | .hbm, ⟨100, _⟩ => ⟨S_, .f32⟩
  | .hbm, ⟨101, _⟩ => ⟨S16384x1024, .f32⟩
  | .hbm, ⟨102, _⟩ => ⟨S16384x1024, .f32⟩
  | .hbm, ⟨103, _⟩ => ⟨S_, .f32⟩
  | .hbm, ⟨104, _⟩ => ⟨S16384x1024, .f32⟩
  | .hbm, ⟨105, _⟩ => ⟨S16384x1024, .f32⟩
  | .hbm, ⟨106, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_10 : Ref sig .tc := ⟨.hbm, 91, rfl⟩
abbrev main_v73 : Ref sig .tc := ⟨.hbm, 92, rfl⟩
abbrev main_v74 : Ref sig .tc := ⟨.hbm, 93, rfl⟩
abbrev main_cst_11 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_12 : Ref sig .tc := ⟨.hbm, 100, rfl⟩
abbrev main_v80 : Ref sig .tc := ⟨.hbm, 101, rfl⟩
abbrev main_v81 : Ref sig .tc := ⟨.hbm, 102, rfl⟩
abbrev main_cst_13 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩

abbrev nD : Nat := 1
abbrev τ : Topo := Topo.v7x

variable {F : FTy → Type} [FloatOps F]
-- ==== Kernel5.lean ====
abbrev S1024x1024 : Shape := ⟨2, ![1024, 1024]⟩
abbrev S1024x512 : Shape := ⟨2, ![1024, 512]⟩
abbrev S1024x256 : Shape := ⟨2, ![1024, 256]⟩
abbrev S512x1024 : Shape := ⟨2, ![512, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S1x1024 : Shape := ⟨2, ![1, 1024]⟩
abbrev S256x512 : Shape := ⟨2, ![256, 512]⟩
abbrev S256x256 : Shape := ⟨2, ![256, 256]⟩
abbrev S256 : Shape := ⟨1, ![256]⟩
abbrev S256x1 : Shape := ⟨2, ![256, 1]⟩

abbrev nBuf : Space → Nat
  | .hbm => 27
  | .vmem => 24
  | .smem => 0
  | _ => 0

abbrev bufTy : (tb : Table) → Fin (tcTables nBuf tb) → BufTy
  | .hbm, ⟨0, _⟩ => ⟨S1024x1024, .f32⟩
  | .hbm, ⟨1, _⟩ => ⟨S1024x512, .bf16⟩
  | .hbm, ⟨2, _⟩ => ⟨S1024x512, .f32⟩
  | .hbm, ⟨3, _⟩ => ⟨S1024x1024, .bf16⟩
  | .hbm, ⟨4, _⟩ => ⟨S1024x1024, .bf16⟩
  | .hbm, ⟨5, _⟩ => ⟨S1024x256, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024x4096, .f32⟩
  | .hbm, ⟨12, _⟩ => ⟨S4096x1024, .f32⟩
  | .hbm, ⟨13, _⟩ => ⟨S1024, .f32⟩
  | .hbm, ⟨14, _⟩ => ⟨S256x1024, .f32⟩
  | .hbm, ⟨15, _⟩ => ⟨S1024x1024, .f32⟩
  | .hbm, ⟨16, _⟩ => ⟨S512x1024, .bf16⟩
  | .hbm, ⟨17, _⟩ => ⟨S512x1024, .bf16⟩
  | .hbm, ⟨18, _⟩ => ⟨S512x1024, .bf16⟩
  | .hbm, ⟨19, _⟩ => ⟨S1024x1024, .bf16⟩
  | .hbm, ⟨20, _⟩ => ⟨S1024x4096, .bf16⟩
  | .hbm, ⟨21, _⟩ => ⟨S4096x1024, .bf16⟩
  | .hbm, ⟨22, _⟩ => ⟨S256x1024, .bf16⟩
  | .hbm, ⟨23, _⟩ => ⟨S1024x1024, .bf16⟩
  | .hbm, ⟨24, _⟩ => ⟨S1x1024, .f32⟩
  | .hbm, ⟨25, _⟩ => ⟨S1x1024, .f32⟩
  | .hbm, ⟨26, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .f32⟩
  | .local _ .vmem, ⟨5, _⟩ => ⟨S256x512, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x256, .f32⟩
  | .local _ .vmem, ⟨11, _⟩ => ⟨S256x256, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1x1024, .f32⟩
  | .local _ .vmem, ⟨17, _⟩ => ⟨S1024x4096, .bf16⟩
  | .local _ .vmem, ⟨18, _⟩ => ⟨S4096x1024, .bf16⟩
  | .local _ .vmem, ⟨19, _⟩ => ⟨S1x1024, .f32⟩
  | .local _ .vmem, ⟨20, _⟩ => ⟨S256x1024, .bf16⟩
  | .local _ .vmem, ⟨21, _⟩ => ⟨S1024x1024, .bf16⟩
  | .local _ .vmem, ⟨22, _⟩ => ⟨S256x1024, .f32⟩
  | .local _ .vmem, ⟨23, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference5Ideal.lean ====
abbrev S1024x1024 : Shape := ⟨2, ![1024, 1024]⟩
abbrev S1024x512 : Shape := ⟨2, ![1024, 512]⟩
abbrev S1024x256 : Shape := ⟨2, ![1024, 256]⟩
abbrev S512x1024 : Shape := ⟨2, ![512, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S_ : Shape := ⟨0, ![]⟩
abbrev S1024x1 : Shape := ⟨2, ![1024, 1]⟩
abbrev S1x1024 : Shape := ⟨2, ![1, 1024]⟩

abbrev nBuf : Space → Nat
  | .hbm => 104
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x512, .bf16⟩
  | .hbm, ⟨2, _⟩ => ⟨S1024x512, .f32⟩
  | .hbm, ⟨3, _⟩ => ⟨S1024x1024, .bf16⟩
  | .hbm, ⟨4, _⟩ => ⟨S1024x1024, .bf16⟩
  | .hbm, ⟨5, _⟩ => ⟨S1024x256, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024x4096, .f32⟩
  | .hbm, ⟨12, _⟩ => ⟨S4096x1024, .f32⟩
  | .hbm, ⟨13, _⟩ => ⟨S1024, .f32⟩
  | .hbm, ⟨14, _⟩ => ⟨S256x1024, .f32⟩
  | .hbm, ⟨15, _⟩ => ⟨S1024x1024, .f32⟩
  | .hbm, ⟨16, _⟩ => ⟨S1024x512, .f32⟩
  | .hbm, ⟨17, _⟩ => ⟨S1024x1024, .f32⟩
  | .hbm, ⟨18, _⟩ => ⟨S1024x512, .f32⟩
  | .hbm, ⟨19, _⟩ => ⟨S1024x512, .f32⟩
  | .hbm, ⟨20, _⟩ => ⟨S_, .f32⟩
  | .hbm, ⟨21, _⟩ => ⟨S1024x512, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S_, .f32⟩
  | .hbm, ⟨32, _⟩ => ⟨S1024x512, .f32⟩
  | .hbm, ⟨33, _⟩ => ⟨S1024x512, .f32⟩
  | .hbm, ⟨34, _⟩ => ⟨S1024x512, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S1024x1024, .f32⟩
  | .hbm, ⟨39, _⟩ => ⟨S_, .f32⟩
  | .hbm, ⟨40, _⟩ => ⟨S1024x1024, .f32⟩
  | .hbm, ⟨41, _⟩ => ⟨S1024x1024, .f32⟩
  | .hbm, ⟨42, _⟩ => ⟨S_, .f32⟩
  | .hbm, ⟨43, _⟩ => ⟨S1024x1024, .f32⟩
  | .hbm, ⟨44, _⟩ => ⟨S1024x1024, .f32⟩
  | .hbm, ⟨45, _⟩ => ⟨S1024x1024, .f32⟩
  | .hbm, ⟨46, _⟩ => ⟨S1024x1024, .f32⟩
  | .hbm, ⟨47, _⟩ => ⟨S1024x1024, .f32⟩
  | .hbm, ⟨48, _⟩ => ⟨S1024x1024, .f32⟩
  | .hbm, ⟨49, _⟩ => ⟨S1024x1024, .f32⟩
  | .hbm, ⟨50, _⟩ => ⟨S1024x1024, .f32⟩
  | .hbm, ⟨51, _⟩ => ⟨S1024x1024, .f32⟩
  | .hbm, ⟨52, _⟩ => ⟨S1024x1024, .f32⟩
  | .hbm, ⟨53, _⟩ => ⟨S1024x1024, .f32⟩
  | .hbm, ⟨54, _⟩ => ⟨S_, .f32⟩
  | .hbm, ⟨55, _⟩ => ⟨S1024, .f32⟩
  | .hbm, ⟨56, _⟩ => ⟨S1024x1, .f32⟩
  | .hbm, ⟨57, _⟩ => ⟨S_, .f32⟩
  | .hbm, ⟨58, _⟩ => ⟨S1024x1, .f32⟩
  | .hbm, ⟨59, _⟩ => ⟨S1024x1, .f32⟩
  | .hbm, ⟨60, _⟩ => ⟨S_, .f32⟩
  | .hbm, ⟨61, _⟩ => ⟨S1024x1, .f32⟩
  | .hbm, ⟨62, _⟩ => ⟨S1024x1, .f32⟩
  | .hbm, ⟨63, _⟩ => ⟨S1024x1, .f32⟩
  | .hbm, ⟨64, _⟩ => ⟨S1024x1024, .f32⟩
  | .hbm, ⟨65, _⟩ => ⟨S1024x1024, .f32⟩
  | .hbm, ⟨66, _⟩ => ⟨S1x1024, .f32⟩
  | .hbm, ⟨67, _⟩ => ⟨S1024x1024, .f32⟩
  | .hbm, ⟨68, _⟩ => ⟨S1024x1024, .f32⟩
  | .hbm, ⟨69, _⟩ => ⟨S1024x4096, .f32⟩
  | .hbm, ⟨70, _⟩ => ⟨S_, .f32⟩
  | .hbm, ⟨71, _⟩ => ⟨S1024x4096, .f32⟩
  | .hbm, ⟨72, _⟩ => ⟨S1024x4096, .f32⟩
  | .hbm, ⟨73, _⟩ => ⟨S1024x4096, .f32⟩
  | .hbm, ⟨74, _⟩ => ⟨S1024x1024, .f32⟩
  | .hbm, ⟨75, _⟩ => ⟨S1024x1024, .f32⟩
  | .hbm, ⟨76, _⟩ => ⟨S1024x1024, .f32⟩
  | .hbm, ⟨77, _⟩ => ⟨S_, .f32⟩
  | .hbm, ⟨78, _⟩ => ⟨S1024, .f32⟩
  | .hbm, ⟨79, _⟩ => ⟨S1024x1, .f32⟩
  | .hbm, ⟨80, _⟩ => ⟨S_, .f32⟩
  | .hbm, ⟨81, _⟩ => ⟨S1024x1, .f32⟩
  | .hbm, ⟨82, _⟩ => ⟨S1024x1, .f32⟩
  | .hbm, ⟨83, _⟩ => ⟨S_, .f32⟩
  | .hbm, ⟨84, _⟩ => ⟨S1024x1, .f32⟩
  | .hbm, ⟨85, _⟩ => ⟨S1024x1, .f32⟩
  | .hbm, ⟨86, _⟩ => ⟨S1024x1, .f32⟩
  | .hbm, ⟨87, _⟩ => ⟨S1024x1024, .f32⟩
  | .hbm, ⟨88, _⟩ => ⟨S1024x1024, .f32⟩
  | .hbm, ⟨89, _⟩ => ⟨S1x1024, .f32⟩
  | .hbm, ⟨90, _⟩ => ⟨S1024x1024, .f32⟩
  | .hbm, ⟨91, _⟩ => ⟨S1024x1024, .f32⟩
  | .hbm, ⟨92, _⟩ => ⟨S1024x1024, .f32⟩
  | .hbm, ⟨93, _⟩ => ⟨S1024x1024, .f32⟩
  | .hbm, ⟨94, _⟩ => ⟨S1024x1024, .f32⟩
  | .hbm, ⟨95, _⟩ => ⟨S1024x1024, .f32⟩
  | .hbm, ⟨96, _⟩ => ⟨S_, .f32⟩
  | .hbm, ⟨97, _⟩ => ⟨S1024x1024, .f32⟩
  | .hbm, ⟨98, _⟩ => ⟨S1024x1024, .f32⟩
  | .hbm, ⟨99, _⟩ => ⟨S_, .f32⟩
  | .hbm, ⟨100, _⟩ => ⟨S1024x1024, .f32⟩
  | .hbm, ⟨101, _⟩ => ⟨S1024x1024, .f32⟩
  | .hbm, ⟨102, _⟩ => ⟨S1024x1024, .f32⟩
  | .hbm, ⟨103, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_v20 : Ref sig .tc := ⟨.hbm, 41, rfl⟩
abbrev main_cst_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call0_cst : Ref sig .tc := ⟨.hbm, 70, rfl⟩
abbrev main_call0_v0 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_8 : Ref sig .tc := ⟨.hbm, 77, rfl⟩
abbrev main_v50 : Ref sig .tc := ⟨.hbm, 78, rfl⟩
abbrev main_v51 : Ref sig .tc := ⟨.hbm, 79, rfl⟩
abbrev main_cst_9 : Ref sig .tc := ⟨.hbm, 80, rfl⟩
abbrev main_v52 : Ref sig .tc := ⟨.hbm, 81, rfl⟩
abbrev main_v53 : Ref sig .tc := ⟨.hbm, 82, rfl⟩
abbrev main_cst_10 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_11 : Ref sig .tc := ⟨.hbm, 96, rfl⟩
abbrev main_v66 : Ref sig .tc := ⟨.hbm, 97, rfl⟩
abbrev main_v67 : Ref sig .tc := ⟨.hbm, 98, rfl⟩
abbrev main_cst_12 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩

abbrev nD : Nat := 1
abbrev τ : Topo := Topo.v7x

variable {F : FTy → Type} [FloatOps F]
-- ==== Kernel6.lean ====
abbrev S16384x512 : Shape := ⟨2, ![16384, 512]⟩
abbrev S2x4x512x4096 : Shape := ⟨4, ![2, 4, 512, 4096]⟩
abbrev S8 : Shape := ⟨1, ![8]⟩
abbrev S_ : Shape := ⟨0, ![]⟩
abbrev S512x128 : Shape := ⟨2, ![512, 128]⟩
abbrev S1x1x128x4096 : Shape := ⟨4, ![1, 1, 128, 4096]⟩
abbrev S16x256x256 : Shape := ⟨3, ![16, 256, 256]⟩
abbrev S16x128x256 : Shape := ⟨3, ![16, 128, 256]⟩
abbrev S1024x1 : Shape := ⟨2, ![1024, 1]⟩
abbrev S1x128 : Shape := ⟨2, ![1, 128]⟩
abbrev S128x256 : Shape := ⟨2, ![128, 256]⟩
abbrev S1x1x128x256 : Shape := ⟨4, ![1, 1, 128, 256]⟩
abbrev S256x256 : Shape := ⟨2, ![256, 256]⟩
abbrev S1x256x256 : Shape := ⟨3, ![1, 256, 256]⟩
abbrev S1x128x256 : Shape := ⟨3, ![1, 128, 256]⟩
abbrev S1024x128 : Shape := ⟨2, ![1024, 128]⟩
abbrev S1 : Shape := ⟨1, ![1]⟩
abbrev S1024x256 : Shape := ⟨2, ![1024, 256]⟩
abbrev S512x256 : Shape := ⟨2, ![512, 256]⟩
abbrev S512x1 : Shape := ⟨2, ![512, 1]⟩
abbrev S256x128 : Shape := ⟨2, ![256, 128]⟩
abbrev S256x1 : Shape := ⟨2, ![256, 1]⟩

abbrev nBuf : Space → Nat
  | .hbm => 14
  | .vmem => 12
  | .smem => 1
  | _ => 0

abbrev bufTy : (tb : Table) → Fin (tcTables nBuf tb) → BufTy
  | .hbm, ⟨0, _⟩ => ⟨S16384x512, .f32⟩
  | .hbm, ⟨1, _⟩ => ⟨S2x4x512x4096, .f32⟩
  | .hbm, ⟨2, _⟩ => ⟨S2x4x512x4096, .f32⟩
  | .hbm, ⟨3, _⟩ => ⟨S8, .f32⟩
  | .hbm, ⟨4, _⟩ => ⟨S_, .f32⟩
  | .hbm, ⟨5, _⟩ => ⟨S16384x512, .f32⟩
  | .hbm, ⟨6, _⟩ => ⟨S16384x512, .f32⟩
  | .hbm, ⟨7, _⟩ => ⟨S16384x512, .f32⟩
  | .hbm, ⟨8, _⟩ => ⟨S_, .f32⟩
  | .hbm, ⟨9, _⟩ => ⟨S_, .f32⟩
  | .hbm, ⟨10, _⟩ => ⟨S16384x512, .f32⟩
  | .hbm, ⟨11, _⟩ => ⟨S16384x512, .f32⟩
  | .hbm, ⟨12, _⟩ => ⟨S16384x512, .bf16⟩
  | .hbm, ⟨13, _⟩ => ⟨S16384x512, .bf16⟩
  | .local _ .vmem, ⟨0, _⟩ => ⟨S512x128, .bf16⟩
  | .local _ .vmem, ⟨1, _⟩ => ⟨S512x128, .bf16⟩
  | .local _ .vmem, ⟨2, _⟩ => ⟨S1x1x128x4096, .f32⟩
  | .local _ .vmem, ⟨3, _⟩ => ⟨S1x1x128x4096, .f32⟩
  | .local _ .vmem, ⟨4, _⟩ => ⟨S1x1x128x4096, .f32⟩
  | .local _ .vmem, ⟨5, _⟩ => ⟨S1x1x128x4096, .f32⟩
  | .local _ .vmem, ⟨6, _⟩ => ⟨S512x128, .bf16⟩
  | .local _ .vmem, ⟨7, _⟩ => ⟨S512x128, .bf16⟩
  | .local _ .vmem, ⟨8, _⟩ => ⟨S16x256x256, .bf16⟩
  | .local _ .vmem, ⟨9, _⟩ => ⟨S16x128x256, .bf16⟩
  | .local _ .vmem, ⟨10, _⟩ => ⟨S512x128, .f32⟩
  | .local _ .vmem, ⟨11, _⟩ => ⟨S1024x1, .f32⟩
  | .local _ .smem, ⟨0, _⟩ => ⟨S8, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 4, 8], ![false, false, false]⟩

def k0_off1 (i : grid0.Coords) (c0_i32_4 : BitVec 32) : Fin 1 → Nat :=
  let c2_i32 : BitVec 32 := 2#32
  let arg1 : BitVec 32 := BitVec.ofNat 32 (i 1).val
  let v19 : BitVec 32 := Scalar.muli c2_i32 arg1
  let v20 : BitVec 32 := Scalar.addi v19 c0_i32_4
  let v21 : Index := Scalar.indexCast v20
  ![v21.toNat]
def k0_cond2 (i : grid0.Coords) : BitVec 1 :=
  let arg2 : BitVec 32 := BitVec.ofNat 32 (i 2).val
  let c1_i32_21 : BitVec 32 := 1#32
  let v92 : BitVec 32 := Scalar.andi arg2 c1_i32_21
  let c1_i32_22 : BitVec 32 := 1#32
  let v93 : BitVec 1 := Scalar.cmpi .eq v92 c1_i32_22
  let v94 : BitVec 32 := Scalar.extui v93
  let c0_i32_23 : BitVec 32 := 0#32
  let v95 : BitVec 1 := Scalar.cmpi .ne v94 c0_i32_23
  v95

def k0_off2 (i : grid0.Coords) : Fin 3 → Nat :=
  let c2_i32_16 : BitVec 32 := 2#32
  let arg2 : BitVec 32 := BitVec.ofNat 32 (i 2).val
  let v75 : BitVec 32 := Scalar.muli c2_i32_16 arg2
  let c1_i32_17 : BitVec 32 := 1#32
  let v76 : BitVec 32 := Scalar.addi v75 c1_i32_17
  let v110 : Index := Scalar.indexCast v76
  let c0_36 : Index := 0#32
  let c0_37 : Index := 0#32
  ![v110.toNat, 0, 0]
def k0_off3 (i : grid0.Coords) : Fin 3 → Nat :=
  let c2_i32_16 : BitVec 32 := 2#32
  let arg2 : BitVec 32 := BitVec.ofNat 32 (i 2).val
  let v75 : BitVec 32 := Scalar.muli c2_i32_16 arg2
  let c1_i32_17 : BitVec 32 := 1#32
  let v76 : BitVec 32 := Scalar.addi v75 c1_i32_17
  let v140 : Index := Scalar.indexCast v76
  let c0_45 : Index := 0#32
  let c0_46 : Index := 0#32
  ![v140.toNat, 0, 0]
def k0_off4 (i : grid0.Coords) : Fin 3 → Nat :=
  let c2_i32_16 : BitVec 32 := 2#32
  let arg2 : BitVec 32 := BitVec.ofNat 32 (i 2).val
  let v75 : BitVec 32 := Scalar.muli c2_i32_16 arg2
  let c1_i32_17 : BitVec 32 := 1#32
  let v76 : BitVec 32 := Scalar.addi v75 c1_i32_17
  let c1_i32_48 : BitVec 32 := 1#32
  let v149 : BitVec 32 := Scalar.subi v76 c1_i32_48
  let v150 : Index := Scalar.indexCast v149
  let c0_49 : Index := 0#32
  let c0_50 : Index := 0#32
  ![v150.toNat, 0, 0]
def k0_off5 (i : grid0.Coords) : Fin 3 → Nat :=
  let c2_i32_16 : BitVec 32 := 2#32
  let arg2 : BitVec 32 := BitVec.ofNat 32 (i 2).val
  let v75 : BitVec 32 := Scalar.muli c2_i32_16 arg2
  let c1_i32_17 : BitVec 32 := 1#32
  let v76 : BitVec 32 := Scalar.addi v75 c1_i32_17
  let c1_i32_48 : BitVec 32 := 1#32
  let v149 : BitVec 32 := Scalar.subi v76 c1_i32_48
  let v176 : Index := Scalar.indexCast v149
  let c0_56 : Index := 0#32
  let c0_57 : Index := 0#32
  ![v176.toNat, 0, 0]
def k0_off6 (i : grid0.Coords) (c0_i32_73 : BitVec 32) : Fin 3 → Nat :=
  let c2_i32_16 : BitVec 32 := 2#32
  let arg2 : BitVec 32 := BitVec.ofNat 32 (i 2).val
  let v75 : BitVec 32 := Scalar.muli c2_i32_16 arg2
  let c1_i32_17 : BitVec 32 := 1#32
  let v76 : BitVec 32 := Scalar.addi v75 c1_i32_17
  let c2_i32_72 : BitVec 32 := 2#32
  let v232 : BitVec 32 := Scalar.subi v76 c2_i32_72
  let v233 : BitVec 32 := Scalar.subi v232 c0_i32_73
  let v234 : Index := Scalar.indexCast v233
  let c0_74 : Index := 0#32
  let c0_75 : Index := 0#32
  ![v234.toNat, 0, 0]
def k0_off7 (i : grid0.Coords) (c0_i32_73 : BitVec 32) : Fin 3 → Nat :=
  let c2_i32_16 : BitVec 32 := 2#32
  let arg2 : BitVec 32 := BitVec.ofNat 32 (i 2).val
  let v75 : BitVec 32 := Scalar.muli c2_i32_16 arg2
  let c1_i32_17 : BitVec 32 := 1#32
  let v76 : BitVec 32 := Scalar.addi v75 c1_i32_17
  let c2_i32_72 : BitVec 32 := 2#32
  let v232 : BitVec 32 := Scalar.subi v76 c2_i32_72
  let v233 : BitVec 32 := Scalar.subi v232 c0_i32_73
  let v260 : Index := Scalar.indexCast v233
  let c0_81 : Index := 0#32
  let c0_82 : Index := 0#32
  ![v260.toNat, 0, 0]
def k0_cond3 (i : grid0.Coords) : BitVec 1 :=
  let arg2 : BitVec 32 := BitVec.ofNat 32 (i 2).val
  let c1_i32_21 : BitVec 32 := 1#32
  let v92 : BitVec 32 := Scalar.andi arg2 c1_i32_21
  let c0_i32_24 : BitVec 32 := 0#32
  let v96 : BitVec 1 := Scalar.cmpi .eq v92 c0_i32_24
  let v97 : BitVec 32 := Scalar.extui v96
  let c0_i32_25 : BitVec 32 := 0#32
  let v98 : BitVec 1 := Scalar.cmpi .ne v97 c0_i32_25
  v98

def k0_off8 (i : grid0.Coords) : Fin 3 → Nat :=
  let c2_i32_16 : BitVec 32 := 2#32
  let arg2 : BitVec 32 := BitVec.ofNat 32 (i 2).val
  let v75 : BitVec 32 := Scalar.muli c2_i32_16 arg2
  let c1_i32_17 : BitVec 32 := 1#32
  let v76 : BitVec 32 := Scalar.addi v75 c1_i32_17
  let v110 : Index := Scalar.indexCast v76
  let c0_36 : Index := 0#32
  let c0_37 : Index := 0#32
  ![v110.toNat, 0, 0]
def k0_off9 (i : grid0.Coords) : Fin 3 → Nat :=
  let c2_i32_16 : BitVec 32 := 2#32
  let arg2 : BitVec 32 := BitVec.ofNat 32 (i 2).val
  let v75 : BitVec 32 := Scalar.muli c2_i32_16 arg2
  let c1_i32_17 : BitVec 32 := 1#32
  let v76 : BitVec 32 := Scalar.addi v75 c1_i32_17
  let v140 : Index := Scalar.indexCast v76
  let c0_45 : Index := 0#32
  let c0_46 : Index := 0#32
  ![v140.toNat, 0, 0]
def k0_off10 (i : grid0.Coords) : Fin 3 → Nat :=
  let c2_i32_16 : BitVec 32 := 2#32
  let arg2 : BitVec 32 := BitVec.ofNat 32 (i 2).val
  let v75 : BitVec 32 := Scalar.muli c2_i32_16 arg2
  let c1_i32_17 : BitVec 32 := 1#32
  let v76 : BitVec 32 := Scalar.addi v75 c1_i32_17
  let c1_i32_48 : BitVec 32 := 1#32
  let v149 : BitVec 32 := Scalar.subi v76 c1_i32_48
  let v150 : Index := Scalar.indexCast v149
  let c0_49 : Index := 0#32
  let c0_50 : Index := 0#32
  ![v150.toNat, 0, 0]
def k0_off11 (i : grid0.Coords) : Fin 3 → Nat :=
  let c2_i32_16 : BitVec 32 := 2#32
  let arg2 : BitVec 32 := BitVec.ofNat 32 (i 2).val
  let v75 : BitVec 32 := Scalar.muli c2_i32_16 arg2
  let c1_i32_17 : BitVec 32 := 1#32
  let v76 : BitVec 32 := Scalar.addi v75 c1_i32_17
  let c1_i32_48 : BitVec 32 := 1#32
  let v149 : BitVec 32 := Scalar.subi v76 c1_i32_48
  let v176 : Index := Scalar.indexCast v149
  let c0_56 : Index := 0#32
  let c0_57 : Index := 0#32
  ![v176.toNat, 0, 0]
@[reducible] def k0_t1_loop (i : grid0.Coords) : Scf.Loop 32 :=
  let c0_i32_27 : BitVec 32 := 0#32
  let arg2 : BitVec 32 := BitVec.ofNat 32 (i 2).val
  let c1_i32_26 : BitVec 32 := 1#32
  let v99 : BitVec 32 := Scalar.shrui arg2 c1_i32_26
  let v100 : BitVec 32 := Scalar.subi v99 c0_i32_27
  let c1_i32_29 : BitVec 32 := 1#32
  let v102 : BitVec 32 := Scalar.divsi v100 c1_i32_29
  let v103 : BitVec 32 := Scalar.muli v102 c1_i32_29
  let v104 : BitVec 32 := Scalar.addi c0_i32_27 v103
  let c1_i32_30 : BitVec 32 := 1#32
  ⟨c0_i32_27, v104, c1_i32_30⟩
def k0_off12 (i : grid0.Coords) (k0_t1 : Fin (k0_t1_loop i).trips) (c0_i32_40 : BitVec 32) : Fin 3 → Nat :=
  let c2_i32_16 : BitVec 32 := 2#32
  let arg2 : BitVec 32 := BitVec.ofNat 32 (i 2).val
  let v75 : BitVec 32 := Scalar.muli c2_i32_16 arg2
  let c1_i32_17 : BitVec 32 := 1#32
  let v76 : BitVec 32 := Scalar.addi v75 c1_i32_17
  let c2_i32_36 : BitVec 32 := 2#32
  let v110 : BitVec 32 := Scalar.subi v76 c2_i32_36
  let c2_i32_37 : BitVec 32 := 2#32
  let c1_i32_21 : BitVec 32 := 1#32
  let v92 : BitVec 32 := Scalar.andi arg2 c1_i32_21
  let v111 : BitVec 32 := Scalar.muli c2_i32_37 v92
  let v112 : BitVec 32 := Scalar.subi v110 v111
  let c4_i32 : BitVec 32 := 4#32
  let c0_i32_27 : BitVec 32 := 0#32
  let c1_i32_30 : BitVec 32 := 1#32
  let arg12 : BitVec 32 := Scf.iv c0_i32_27 c1_i32_30 k0_t1
  let v113 : BitVec 32 := Scalar.muli c4_i32 arg12
  let v114 : BitVec 32 := Scalar.subi v112 v113
  let v116 : BitVec 32 := Scalar.subi v114 c0_i32_40
  let v117 : Index := Scalar.indexCast v116
  let c0_41 : Index := 0#32
  let c0_42 : Index := 0#32
  ![v117.toNat, 0, 0]
def k0_off13 (i : grid0.Coords) (k0_t1 : Fin (k0_t1_loop i).trips) (c0_i32_40 : BitVec 32) : Fin 3 → Nat :=
  let c2_i32_16 : BitVec 32 := 2#32
  let arg2 : BitVec 32 := BitVec.ofNat 32 (i 2).val
  let v75 : BitVec 32 := Scalar.muli c2_i32_16 arg2
  let c1_i32_17 : BitVec 32 := 1#32
  let v76 : BitVec 32 := Scalar.addi v75 c1_i32_17
  let c2_i32_36 : BitVec 32 := 2#32
  let v110 : BitVec 32 := Scalar.subi v76 c2_i32_36
  let c2_i32_37 : BitVec 32 := 2#32
  let c1_i32_21 : BitVec 32 := 1#32
  let v92 : BitVec 32 := Scalar.andi arg2 c1_i32_21
  let v111 : BitVec 32 := Scalar.muli c2_i32_37 v92
  let v112 : BitVec 32 := Scalar.subi v110 v111
  let c4_i32 : BitVec 32 := 4#32
  let c0_i32_27 : BitVec 32 := 0#32
  let c1_i32_30 : BitVec 32 := 1#32
  let arg12 : BitVec 32 := Scf.iv c0_i32_27 c1_i32_30 k0_t1
  let v113 : BitVec 32 := Scalar.muli c4_i32 arg12
  let v114 : BitVec 32 := Scalar.subi v112 v113
  let v116 : BitVec 32 := Scalar.subi v114 c0_i32_40
  let v143 : Index := Scalar.indexCast v116
  let c0_48 : Index := 0#32
  let c0_49 : Index := 0#32
  ![v143.toNat, 0, 0]
@[reducible] def k0_t2_loop (i : grid0.Coords) : Scf.Loop 32 :=
  let c0_i32_27 : BitVec 32 := 0#32
  let arg2 : BitVec 32 := BitVec.ofNat 32 (i 2).val
  let c1_i32_26 : BitVec 32 := 1#32
  let v99 : BitVec 32 := Scalar.shrui arg2 c1_i32_26
  let v100 : BitVec 32 := Scalar.subi v99 c0_i32_27
  let c1_i32_29 : BitVec 32 := 1#32
  let v102 : BitVec 32 := Scalar.divsi v100 c1_i32_29
  let v103 : BitVec 32 := Scalar.muli v102 c1_i32_29
  let v104 : BitVec 32 := Scalar.addi c0_i32_27 v103
  let v101 : BitVec 32 := Scalar.addi c0_i32_27 v100
  let c1_i32_31 : BitVec 32 := 1#32
  ⟨v104, v101, c1_i32_31⟩
def k0_off14 (i : grid0.Coords) (k0_t2 : Fin (k0_t2_loop i).trips) (c0_i32_40 : BitVec 32) : Fin 3 → Nat :=
  let c2_i32_16 : BitVec 32 := 2#32
  let arg2 : BitVec 32 := BitVec.ofNat 32 (i 2).val
  let v75 : BitVec 32 := Scalar.muli c2_i32_16 arg2
  let c1_i32_17 : BitVec 32 := 1#32
  let v76 : BitVec 32 := Scalar.addi v75 c1_i32_17
  let c2_i32_36 : BitVec 32 := 2#32
  let v110 : BitVec 32 := Scalar.subi v76 c2_i32_36
  let c2_i32_37 : BitVec 32 := 2#32
  let c1_i32_21 : BitVec 32 := 1#32
  let v92 : BitVec 32 := Scalar.andi arg2 c1_i32_21
  let v111 : BitVec 32 := Scalar.muli c2_i32_37 v92
  let v112 : BitVec 32 := Scalar.subi v110 v111
  let c4_i32 : BitVec 32 := 4#32
  let c0_i32_27 : BitVec 32 := 0#32
  let c1_i32_26 : BitVec 32 := 1#32
  let v99 : BitVec 32 := Scalar.shrui arg2 c1_i32_26
  let v100 : BitVec 32 := Scalar.subi v99 c0_i32_27
  let c1_i32_29 : BitVec 32 := 1#32
  let v102 : BitVec 32 := Scalar.divsi v100 c1_i32_29
  let v103 : BitVec 32 := Scalar.muli v102 c1_i32_29
  let v104 : BitVec 32 := Scalar.addi c0_i32_27 v103
  let c1_i32_31 : BitVec 32 := 1#32
  let arg12 : BitVec 32 := Scf.iv v104 c1_i32_31 k0_t2
  let v113 : BitVec 32 := Scalar.muli c4_i32 arg12
  let v114 : BitVec 32 := Scalar.subi v112 v113
  let v116 : BitVec 32 := Scalar.subi v114 c0_i32_40
  let v117 : Index := Scalar.indexCast v116
  let c0_41 : Index := 0#32
  let c0_42 : Index := 0#32
  ![v117.toNat, 0, 0]
def k0_off15 (i : grid0.Coords) (k0_t2 : Fin (k0_t2_loop i).trips) (c0_i32_40 : BitVec 32) : Fin 3 → Nat :=
  let c2_i32_16 : BitVec 32 := 2#32
  let arg2 : BitVec 32 := BitVec.ofNat 32 (i 2).val
  let v75 : BitVec 32 := Scalar.muli c2_i32_16 arg2
  let c1_i32_17 : BitVec 32 := 1#32
  let v76 : BitVec 32 := Scalar.addi v75 c1_i32_17
  let c2_i32_36 : BitVec 32 := 2#32
  let v110 : BitVec 32 := Scalar.subi v76 c2_i32_36
  let c2_i32_37 : BitVec 32 := 2#32
  let c1_i32_21 : BitVec 32 := 1#32
  let v92 : BitVec 32 := Scalar.andi arg2 c1_i32_21
  let v111 : BitVec 32 := Scalar.muli c2_i32_37 v92
  let v112 : BitVec 32 := Scalar.subi v110 v111
  let c4_i32 : BitVec 32 := 4#32
  let c0_i32_27 : BitVec 32 := 0#32
  let c1_i32_26 : BitVec 32 := 1#32
  let v99 : BitVec 32 := Scalar.shrui arg2 c1_i32_26
  let v100 : BitVec 32 := Scalar.subi v99 c0_i32_27
  let c1_i32_29 : BitVec 32 := 1#32
  let v102 : BitVec 32 := Scalar.divsi v100 c1_i32_29
  let v103 : BitVec 32 := Scalar.muli v102 c1_i32_29
  let v104 : BitVec 32 := Scalar.addi c0_i32_27 v103
  let c1_i32_31 : BitVec 32 := 1#32
  let arg12 : BitVec 32 := Scf.iv v104 c1_i32_31 k0_t2
  let v113 : BitVec 32 := Scalar.muli c4_i32 arg12
  let v114 : BitVec 32 := Scalar.subi v112 v113
  let v116 : BitVec 32 := Scalar.subi v114 c0_i32_40
  let v143 : Index := Scalar.indexCast v116
  let c0_48 : Index := 0#32
  let c0_49 : Index := 0#32
  ![v143.toNat, 0, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Kernel6Ideal.lean ====
variable {F : FTy → Type} [FloatOps F] [Named F]
def κ : String → Option EReal := fun
  | "log2e" => some (((Real.log 2)⁻¹ : ℝ) : EReal)
  | "neg_log2e" => some ((-((Real.log 2)⁻¹) : ℝ) : EReal)
  | _ => none
-- ==== Reference6Ideal.lean ====
abbrev S16384x512 : Shape := ⟨2, ![16384, 512]⟩
abbrev S2x4x512x4096 : Shape := ⟨4, ![2, 4, 512, 4096]⟩
abbrev S8 : Shape := ⟨1, ![8]⟩
abbrev S4096 : Shape := ⟨1, ![4096]⟩
abbrev S4x4096x8x64 : Shape := ⟨4, ![4, 4096, 8, 64]⟩
abbrev S1x4x512x4096 : Shape := ⟨4, ![1, 4, 512, 4096]⟩
abbrev S4x512x4096 : Shape := ⟨3, ![4, 512, 4096]⟩
abbrev S4x8x64x4096 : Shape := ⟨4, ![4, 8, 64, 4096]⟩
abbrev S4x8x4096x4096 : Shape := ⟨4, ![4, 8, 4096, 4096]⟩
abbrev S_ : Shape := ⟨0, ![]⟩
abbrev S1x8x1x1 : Shape := ⟨4, ![1, 8, 1, 1]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 80
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S2x4x512x4096, .f32⟩
  | .hbm, ⟨2, _⟩ => ⟨S2x4x512x4096, .f32⟩
  | .hbm, ⟨3, _⟩ => ⟨S8, .f32⟩
  | .hbm, ⟨4, _⟩ => ⟨S4096, .i32⟩
  | .hbm, ⟨5, _⟩ => ⟨S4x4096x8x64, .f32⟩
  | .hbm, ⟨6, _⟩ => ⟨S1x4x512x4096, .f32⟩
  | .hbm, ⟨7, _⟩ => ⟨S4x512x4096, .f32⟩
  | .hbm, ⟨8, _⟩ => ⟨S4x8x64x4096, .f32⟩
  | .hbm, ⟨9, _⟩ => ⟨S4x4096x8x64, .f32⟩
  | .hbm, ⟨10, _⟩ => ⟨S1x4x512x4096, .f32⟩
  | .hbm, ⟨11, _⟩ => ⟨S4x512x4096, .f32⟩
  | .hbm, ⟨12, _⟩ => ⟨S4x8x64x4096, .f32⟩
  | .hbm, ⟨13, _⟩ => ⟨S4x4096x8x64, .f32⟩
  | .hbm, ⟨14, _⟩ => ⟨S4x8x4096x4096, .f32⟩
  | .hbm, ⟨15, _⟩ => ⟨S_, .f32⟩
  | .hbm, ⟨16, _⟩ => ⟨S4x8x4096x4096, .f32⟩
  | .hbm, ⟨17, _⟩ => ⟨S4x8x4096x4096, .f32⟩
  | .hbm, ⟨18, _⟩ => ⟨S1x8x1x1, .f32⟩
  | .hbm, ⟨19, _⟩ => ⟨S4x8x4096x4096, .f32⟩
  | .hbm, ⟨20, _⟩ => ⟨S4x8x4096x4096, .f32⟩
  | .hbm, ⟨21, _⟩ => ⟨S4096, .i32⟩
  | .hbm, ⟨22, _⟩ => ⟨S1x4096, .i32⟩
  | .hbm, ⟨23, _⟩ => ⟨S4096x1, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S4x8x4096x4096, .f32⟩
  | .hbm, ⟨28, _⟩ => ⟨S4x8x4096x4096, .f32⟩
  | .hbm, ⟨29, _⟩ => ⟨S_, .f32⟩
  | .hbm, ⟨30, _⟩ => ⟨S4x8x4096x4096, .f32⟩
  | .hbm, ⟨31, _⟩ => ⟨S4x8x4096x4096, .f32⟩
  | .hbm, ⟨32, _⟩ => ⟨S4x8x4096x4096, .f32⟩
  | .hbm, ⟨33, _⟩ => ⟨S4x8x4096x4096, .f32⟩
  | .hbm, ⟨34, _⟩ => ⟨S4x8x4096x4096, .i1⟩
  | .hbm, ⟨35, _⟩ => ⟨S4x8x4096x4096, .f32⟩
  | .hbm, ⟨36, _⟩ => ⟨S4x8x4096x4096, .f32⟩
  | .hbm, ⟨37, _⟩ => ⟨S4x8x4096x4096, .f32⟩
  | .hbm, ⟨38, _⟩ => ⟨S4x8x4096x4096, .f32⟩
  | .hbm, ⟨39, _⟩ => ⟨S4x8x4096x4096, .f32⟩
  | .hbm, ⟨40, _⟩ => ⟨S4x8x4096x4096, .f32⟩
  | .hbm, ⟨41, _⟩ => ⟨S4x8x4096x4096, .f32⟩
  | .hbm, ⟨42, _⟩ => ⟨S4x8x4096x4096, .f32⟩
  | .hbm, ⟨43, _⟩ => ⟨S4x8x4096x4096, .f32⟩
  | .hbm, ⟨44, _⟩ => ⟨S_, .f32⟩
  | .hbm, ⟨45, _⟩ => ⟨S_, .f32⟩
  | .hbm, ⟨46, _⟩ => ⟨S4x8x4096x4096, .i1⟩
  | .hbm, ⟨47, _⟩ => ⟨S4x8x4096x4096, .f32⟩
  | .hbm, ⟨48, _⟩ => ⟨S4x8x4096x4096, .f32⟩
  | .hbm, ⟨49, _⟩ => ⟨S_, .f32⟩
  | .hbm, ⟨50, _⟩ => ⟨S_, .f32⟩
  | .hbm, ⟨51, _⟩ => ⟨S4x8x4096x4096, .f32⟩
  | .hbm, ⟨52, _⟩ => ⟨S4x8x4096x4096, .f32⟩
  | .hbm, ⟨53, _⟩ => ⟨S4x8x4096x4096, .f32⟩
  | .hbm, ⟨54, _⟩ => ⟨S_, .f32⟩
  | .hbm, ⟨55, _⟩ => ⟨S4x8x4096x4096, .f32⟩
  | .hbm, ⟨56, _⟩ => ⟨S4x8x4096x4096, .f32⟩
  | .hbm, ⟨57, _⟩ => ⟨S4x8x4096x4096, .f32⟩
  | .hbm, ⟨58, _⟩ => ⟨S4x8x4096x4096, .f32⟩
  | .hbm, ⟨59, _⟩ => ⟨S4x8x4096x4096, .i1⟩
  | .hbm, ⟨60, _⟩ => ⟨S4x8x4096x4096, .f32⟩
  | .hbm, ⟨61, _⟩ => ⟨S4x8x4096x4096, .f32⟩
  | .hbm, ⟨62, _⟩ => ⟨S4x8x4096x4096, .f32⟩
  | .hbm, ⟨63, _⟩ => ⟨S4x8x4096x4096, .f32⟩
  | .hbm, ⟨64, _⟩ => ⟨S4x8x4096x4096, .f32⟩
  | .hbm, ⟨65, _⟩ => ⟨S4x8x4096x4096, .f32⟩
  | .hbm, ⟨66, _⟩ => ⟨S4x8x4096x4096, .f32⟩
  | .hbm, ⟨67, _⟩ => ⟨S4x8x4096x4096, .f32⟩
  | .hbm, ⟨68, _⟩ => ⟨S4x8x4096x4096, .f32⟩
  | .hbm, ⟨69, _⟩ => ⟨S4x8x4096x4096, .f32⟩
  | .hbm, ⟨70, _⟩ => ⟨S4x8x4096x4096, .f32⟩
  | .hbm, ⟨71, _⟩ => ⟨S_, .f32⟩
  | .hbm, ⟨72, _⟩ => ⟨S_, .f32⟩
  | .hbm, ⟨73, _⟩ => ⟨S4x8x4096x4096, .i1⟩
  | .hbm, ⟨74, _⟩ => ⟨S4x8x4096x4096, .f32⟩
  | .hbm, ⟨75, _⟩ => ⟨S4x8x4096x4096, .f32⟩
  | .hbm, ⟨76, _⟩ => ⟨S4x8x64x4096, .f32⟩
  | .hbm, ⟨77, _⟩ => ⟨S4x4096x8x64, .f32⟩
  | .hbm, ⟨78, _⟩ => ⟨S16384x512, .f32⟩
  | .hbm, ⟨79, _⟩ => ⟨S16384x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v23 : Ref sig .tc := ⟨.hbm, 43, rfl⟩
abbrev main_cst_0 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v24 : Ref sig .tc := ⟨.hbm, 48, rfl⟩
abbrev main_call2_cst : Ref sig .tc := ⟨.hbm, 49, rfl⟩
abbrev main_call2_v0 : Ref sig .tc := ⟨.hbm, 50, rfl⟩
abbrev main_v25 : Ref sig .tc := ⟨.hbm, 51, rfl⟩
abbrev main_v26 : Ref sig .tc := ⟨.hbm, 52, rfl⟩
abbrev main_call3_v0 : Ref sig .tc := ⟨.hbm, 53, rfl⟩
abbrev main_call3_call0_cst : Ref sig .tc := ⟨.hbm, 54, rfl⟩
abbrev main_call3_call0_v0 : Ref sig .tc := ⟨.hbm, 55, rfl⟩
abbrev main_call3_call0_v1 : Ref sig .tc := ⟨.hbm, 56, rfl⟩
abbrev main_call3_call0_v2 : Ref sig .tc := ⟨.hbm, 57, rfl⟩
abbrev main_call3_call0_v3 : Ref sig .tc := ⟨.hbm, 58, rfl⟩
abbrev main_call3_call0_v4 : Ref sig .tc := ⟨.hbm, 59, rfl⟩
abbrev main_call3_call0_v5 : Ref sig .tc := ⟨.hbm, 60, rfl⟩
abbrev main_call3_call0_v6 : Ref sig .tc := ⟨.hbm, 61, rfl⟩
abbrev main_call3_call0_v7 : Ref sig .tc := ⟨.hbm, 62, rfl⟩
abbrev main_call3_call0_v8 : Ref sig .tc := ⟨.hbm, 63, rfl⟩
abbrev main_call3_call0_v9 : Ref sig .tc := ⟨.hbm, 64, rfl⟩
abbrev main_call3_call0_v10 : Ref sig .tc := ⟨.hbm, 65, rfl⟩
abbrev main_call3_call0_v11 : Ref sig .tc := ⟨.hbm, 66, rfl⟩
abbrev main_call3_v1 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_cst_1 : Ref sig .tc := ⟨.hbm, 71, rfl⟩
abbrev main_call4_v0 : Ref sig .tc := ⟨.hbm, 72, rfl⟩
abbrev main_call4_v1 : Ref sig .tc := ⟨.hbm, 73, rfl⟩
abbrev main_call4_v2 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩

abbrev nD : Nat := 1
abbrev τ : Topo := Topo.v7x

variable {F : FTy → Type} [FloatOps F]
-- ==== Proof.SampleIdealRun.lean ====
/- The sample attention's body run whole: what its one store leaves in the output's staging buffer, with the proof.
   The launch set-up follows the generated one; the run's proof term needs a larger budget. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 16000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S64x1 .f32) (harg2 : arg2.IsWhole) (arg3 : Memref sig .tc .vmem S64x512 .f32) (harg3 : arg3.IsWhole) (arg4 : Memref sig .tc .vmem S64x128 .f32) (harg4 : arg4.IsWhole) (arg5 : Memref sig .tc .vmem S1x8x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1x1x512x128 .f32) (harg8 : arg8.IsWhole) (arg9 : Memref sig .tc .vmem S1x1x512x128 .f32) (harg9 : arg9.IsWhole) (arg10 : Memref sig .tc .vmem S1x1x512x128 .f32) (harg10 : arg10.IsWhole) (arg11 : Memref sig .tc .vmem S1x1x512x128 .f32) (harg11 : arg11.IsWhole) (arg12 : Memref sig .tc .vmem S1x1x512x128 .f32) (harg12 : arg12.IsWhole) (arg13 : Memref sig .tc .vmem S1x1x512x128 .f32) (harg13 : arg13.IsWhole) (arg14 : Memref sig .tc .vmem S1x1x512x128 .f32) (harg14 : arg14.IsWhole) (arg15 : Memref sig .tc .vmem S1x1x512x128 .f32) (harg15 : arg15.IsWhole) (arg16 : Memref sig .tc .vmem S1x1x512x128 .f32) (harg16 : arg16.IsWhole) (arg17 : Memref sig .tc .vmem S1x1x512x128 .f32) (harg17 : arg17.IsWhole) (arg18 : Memref sig .tc .vmem S1x1x512x128 .f32) (harg18 : arg18.IsWhole) (arg19 : Memref sig .tc .vmem S1x1x512x128 .f32) (harg19 : arg19.IsWhole) (arg20 : Memref sig .tc .vmem S1x1x512x128 .f32) (harg20 : arg20.IsWhole) (arg21 : Memref sig .tc .vmem S1x1x512x128 .f32) (harg21 : arg21.IsWhole) (arg22 : Memref sig .tc .vmem S1x1x512x128 .f32) (harg22 : arg22.IsWhole) (arg23 : Memref sig .tc .vmem S1x1x512x128 .f32) (harg23 : arg23.IsWhole) (arg24 : Memref sig .tc .vmem S1x1x512x128 .f32) (harg24 : arg24.IsWhole) (arg25 : Memref sig .tc .vmem S1x1x512x128 .f32) (harg25 : arg25.IsWhole) (arg26 : Memref sig .tc .vmem S1x1x512x128 .f32) (harg26 : arg26.IsWhole) (arg27 : Memref sig .tc .vmem S1x1x512x128 .f32) (harg27 : arg27.IsWhole) (arg28 : Memref sig .tc .vmem S1x1x512x128 .f32) (harg28 : arg28.IsWhole) (arg29 : Memref sig .tc .vmem S1x1x512x128 .f32) (harg29 : arg29.IsWhole) (arg30 : Memref sig .tc .vmem S1x1x512x128 .f32) (harg30 : arg30.IsWhole) (arg31 : Memref sig .tc .vmem S1x1x512x128 .f32) (harg31 : arg31.IsWhole) (arg32 : Memref sig .tc .vmem S1x1x512x128 .f32) (harg32 : arg32.IsWhole) (arg33 : Memref sig .tc .vmem S1x1x512x128 .f32) (harg33 : arg33.IsWhole) (arg34 : Memref sig .tc .vmem S1x1x512x128 .f32) (harg34 : arg34.IsWhole) (arg35 : Memref sig .tc .vmem S1x1x512x128 .f32) (harg35 : arg35.IsWhole) (arg36 : Memref sig .tc .vmem S1x1x512x128 .f32) (harg36 : arg36.IsWhole) (arg37 : Memref sig .tc .vmem S1x1x512x128 .f32) (harg37 : arg37.IsWhole) (arg38 : Memref sig .tc .vmem S1x1x512x128 .f32) (harg38 : arg38.IsWhole) (arg39 : Memref sig .tc .vmem S1x1x512x128 .f32) (harg39 : arg39.IsWhole) (arg40 : Memref sig .tc .vmem S1x8x512 .bf16) (harg40 : arg40.IsWhole)
    (x0 : Vec F S64x1 .f32) (x1 : Vec F S64x512 .f32) (x2 : Vec F S64x128 .f32) (x3 : Vec F S1x8x512 .bf16) (x4 : Vec F S8x512 .f32) (x5 : Vec F S8x512 .f32) (x6 : Vec F S1x1x512x128 .f32) (x7 : Vec F S1x1x512x128 .f32) (x8 : Vec F S1x1x512x128 .f32) (x9 : Vec F S1x1x512x128 .f32) (x10 : Vec F S1x1x512x128 .f32) (x11 : Vec F S1x1x512x128 .f32) (x12 : Vec F S1x1x512x128 .f32) (x13 : Vec F S1x1x512x128 .f32) (x14 : Vec F S1x1x512x128 .f32) (x15 : Vec F S1x1x512x128 .f32) (x16 : Vec F S1x1x512x128 .f32) (x17 : Vec F S1x1x512x128 .f32) (x18 : Vec F S1x1x512x128 .f32) (x19 : Vec F S1x1x512x128 .f32) (x20 : Vec F S1x1x512x128 .f32) (x21 : Vec F S1x1x512x128 .f32) (x22 : Vec F S1x1x512x128 .f32) (x23 : Vec F S1x1x512x128 .f32) (x24 : Vec F S1x1x512x128 .f32) (x25 : Vec F S1x1x512x128 .f32) (x26 : Vec F S1x1x512x128 .f32) (x27 : Vec F S1x1x512x128 .f32) (x28 : Vec F S1x1x512x128 .f32) (x29 : Vec F S1x1x512x128 .f32) (x30 : Vec F S1x1x512x128 .f32) (x31 : Vec F S1x1x512x128 .f32) (x32 : Vec F S1x1x512x128 .f32) (x33 : Vec F S1x1x512x128 .f32) (x34 : Vec F S1x1x512x128 .f32) (x35 : Vec F S1x1x512x128 .f32) (x36 : Vec F S1x1x512x128 .f32) (x37 : Vec F S1x1x512x128 .f32) (xt0 : TbBuf0 (F := F) c tbM0_0) :
    { L38 : List (View.Piece (Elt F) S1x8x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ owns (c : Thread nD τ) arg33 fullShare x31 ∗ owns (c : Thread nD τ) arg34 fullShare x32 ∗ owns (c : Thread nD τ) arg35 fullShare x33 ∗ owns (c : Thread nD τ) arg36 fullShare x34 ∗ owns (c : Thread nD τ) arg37 fullShare x35 ∗ owns (c : Thread nD τ) arg38 fullShare x36 ∗ owns (c : Thread nD τ) arg39 fullShare x37 ∗ (∃ d, owns (c : Thread nD τ) arg40 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ owns (c : Thread nD τ) arg33 fullShare x31 ∗ owns (c : Thread nD τ) arg34 fullShare x32 ∗ owns (c : Thread nD τ) arg35 fullShare x33 ∗ owns (c : Thread nD τ) arg36 fullShare x34 ∗ owns (c : Thread nD τ) arg37 fullShare x35 ∗ owns (c : Thread nD τ) arg38 fullShare x36 ∗ owns (c : Thread nD τ) arg39 fullShare x37 ∗ (∃ f, arg40.view.loc (c : Thread nD τ) ↦[arg40.view.set]{fullShare} arg40.view.writes (Elt F) f L38) ∗ tbPt0 c tbM0_0 xt0) -∗ K ⟨⟩))
          ⊢ wp frame (wpE (defs₀ (F := F)) Variants.none c none) E (cc0_attn_sample i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40) K } := by
  refine ⟨?_, fun E K => ?run⟩
  case run =>
    simp only [cc0_attn_sample_eq_skeleton]; unfold cc0_attn_sample_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%d38, %f38, -, H38⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25; obtain rfl := harg28.eq_unread hf26; obtain rfl := harg29.eq_unread hf27; obtain rfl := harg30.eq_unread hf28; obtain rfl := harg31.eq_unread hf29; obtain rfl := harg32.eq_unread hf30; obtain rfl := harg33.eq_unread hf31; obtain rfl := harg34.eq_unread hf32; obtain rfl := harg35.eq_unread hf33; obtain rfl := harg36.eq_unread hf34; obtain rfl := harg37.eq_unread hf35; obtain rfl := harg38.eq_unread hf36; obtain rfl := harg39.eq_unread hf37
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]
    · iexists _; isplitr; · ipureintro; exact harg26.read_unread _
      iexact H24
    isplitl [H25]
    · iexists _; isplitr; · ipureintro; exact harg27.read_unread _
      iexact H25
    isplitl [H26]
    · iexists _; isplitr; · ipureintro; exact harg28.read_unread _
      iexact H26
    isplitl [H27]
    · iexists _; isplitr; · ipureintro; exact harg29.read_unread _
      iexact H27
    isplitl [H28]
    · iexists _; isplitr; · ipureintro; exact harg30.read_unread _
      iexact H28
    isplitl [H29]
    · iexists _; isplitr; · ipureintro; exact harg31.read_unread _
      iexact H29
    isplitl [H30]
    · iexists _; isplitr; · ipureintro; exact harg32.read_unread _
      iexact H30
    isplitl [H31]
    · iexists _; isplitr; · ipureintro; exact harg33.read_unread _
      iexact H31
    isplitl [H32]
    · iexists _; isplitr; · ipureintro; exact harg34.read_unread _
      iexact H32
    isplitl [H33]
    · iexists _; isplitr; · ipureintro; exact harg35.read_unread _
      iexact H33
    isplitl [H34]
    · iexists _; isplitr; · ipureintro; exact harg36.read_unread _
      iexact H34
    isplitl [H35]
    · iexists _; isplitr; · ipureintro; exact harg37.read_unread _
      iexact H35
    isplitl [H36]
    · iexists _; isplitr; · ipureintro; exact harg38.read_unread _
      iexact H36
    isplitl [H37]
    · iexists _; isplitr; · ipureintro; exact harg39.read_unread _
      iexact H37
    isplitl [H38]; · iexists _; iexact H38
    iexact HT0

end Cert.KernelIdeal.Gen

end
-- ==== Proof.SampleIdealFrame.lean ====
/- The sample attention's frame: its windows' contents point by point, the body's obligation, and the whole run.
   The launch set-up follows the generated one, over the run of `SampleIdealRun`. -/
module

public import proofs.«01_k».proof.Proof.SampleIdealRun
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 38 tile its block (1 store of `S1x8x512`, checked by the kernel's evaluation: Lib/Ring.lean `Piece.tiledL`, linear in the pieces, through a loop's `@[irreducible]` trip theorem too), so they cover it. -/
theorem cover0_A_38 (c : Dev nD) (i : grid0.Coords) (arg2 : Memref sig .tc .vmem S64x1 .f32) (harg2 : arg2.IsWhole) (arg3 : Memref sig .tc .vmem S64x512 .f32) (harg3 : arg3.IsWhole) (arg4 : Memref sig .tc .vmem S64x128 .f32) (harg4 : arg4.IsWhole) (arg5 : Memref sig .tc .vmem S1x8x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1x1x512x128 .f32) (harg8 : arg8.IsWhole) (arg9 : Memref sig .tc .vmem S1x1x512x128 .f32) (harg9 : arg9.IsWhole) (arg10 : Memref sig .tc .vmem S1x1x512x128 .f32) (harg10 : arg10.IsWhole) (arg11 : Memref sig .tc .vmem S1x1x512x128 .f32) (harg11 : arg11.IsWhole) (arg12 : Memref sig .tc .vmem S1x1x512x128 .f32) (harg12 : arg12.IsWhole) (arg13 : Memref sig .tc .vmem S1x1x512x128 .f32) (harg13 : arg13.IsWhole) (arg14 : Memref sig .tc .vmem S1x1x512x128 .f32) (harg14 : arg14.IsWhole) (arg15 : Memref sig .tc .vmem S1x1x512x128 .f32) (harg15 : arg15.IsWhole) (arg16 : Memref sig .tc .vmem S1x1x512x128 .f32) (harg16 : arg16.IsWhole) (arg17 : Memref sig .tc .vmem S1x1x512x128 .f32) (harg17 : arg17.IsWhole) (arg18 : Memref sig .tc .vmem S1x1x512x128 .f32) (harg18 : arg18.IsWhole) (arg19 : Memref sig .tc .vmem S1x1x512x128 .f32) (harg19 : arg19.IsWhole) (arg20 : Memref sig .tc .vmem S1x1x512x128 .f32) (harg20 : arg20.IsWhole) (arg21 : Memref sig .tc .vmem S1x1x512x128 .f32) (harg21 : arg21.IsWhole) (arg22 : Memref sig .tc .vmem S1x1x512x128 .f32) (harg22 : arg22.IsWhole) (arg23 : Memref sig .tc .vmem S1x1x512x128 .f32) (harg23 : arg23.IsWhole) (arg24 : Memref sig .tc .vmem S1x1x512x128 .f32) (harg24 : arg24.IsWhole) (arg25 : Memref sig .tc .vmem S1x1x512x128 .f32) (harg25 : arg25.IsWhole) (arg26 : Memref sig .tc .vmem S1x1x512x128 .f32) (harg26 : arg26.IsWhole) (arg27 : Memref sig .tc .vmem S1x1x512x128 .f32) (harg27 : arg27.IsWhole) (arg28 : Memref sig .tc .vmem S1x1x512x128 .f32) (harg28 : arg28.IsWhole) (arg29 : Memref sig .tc .vmem S1x1x512x128 .f32) (harg29 : arg29.IsWhole) (arg30 : Memref sig .tc .vmem S1x1x512x128 .f32) (harg30 : arg30.IsWhole) (arg31 : Memref sig .tc .vmem S1x1x512x128 .f32) (harg31 : arg31.IsWhole) (arg32 : Memref sig .tc .vmem S1x1x512x128 .f32) (harg32 : arg32.IsWhole) (arg33 : Memref sig .tc .vmem S1x1x512x128 .f32) (harg33 : arg33.IsWhole) (arg34 : Memref sig .tc .vmem S1x1x512x128 .f32) (harg34 : arg34.IsWhole) (arg35 : Memref sig .tc .vmem S1x1x512x128 .f32) (harg35 : arg35.IsWhole) (arg36 : Memref sig .tc .vmem S1x1x512x128 .f32) (harg36 : arg36.IsWhole) (arg37 : Memref sig .tc .vmem S1x1x512x128 .f32) (harg37 : arg37.IsWhole) (arg38 : Memref sig .tc .vmem S1x1x512x128 .f32) (harg38 : arg38.IsWhole) (arg39 : Memref sig .tc .vmem S1x1x512x128 .f32) (harg39 : arg39.IsWhole) (arg40 : Memref sig .tc .vmem S1x8x512 .bf16) (harg40 : arg40.IsWhole)
    (x0 : Vec F S64x1 .f32) (x1 : Vec F S64x512 .f32) (x2 : Vec F S64x128 .f32) (x3 : Vec F S1x8x512 .bf16) (x4 : Vec F S8x512 .f32) (x5 : Vec F S8x512 .f32) (x6 : Vec F S1x1x512x128 .f32) (x7 : Vec F S1x1x512x128 .f32) (x8 : Vec F S1x1x512x128 .f32) (x9 : Vec F S1x1x512x128 .f32) (x10 : Vec F S1x1x512x128 .f32) (x11 : Vec F S1x1x512x128 .f32) (x12 : Vec F S1x1x512x128 .f32) (x13 : Vec F S1x1x512x128 .f32) (x14 : Vec F S1x1x512x128 .f32) (x15 : Vec F S1x1x512x128 .f32) (x16 : Vec F S1x1x512x128 .f32) (x17 : Vec F S1x1x512x128 .f32) (x18 : Vec F S1x1x512x128 .f32) (x19 : Vec F S1x1x512x128 .f32) (x20 : Vec F S1x1x512x128 .f32) (x21 : Vec F S1x1x512x128 .f32) (x22 : Vec F S1x1x512x128 .f32) (x23 : Vec F S1x1x512x128 .f32) (x24 : Vec F S1x1x512x128 .f32) (x25 : Vec F S1x1x512x128 .f32) (x26 : Vec F S1x1x512x128 .f32) (x27 : Vec F S1x1x512x128 .f32) (x28 : Vec F S1x1x512x128 .f32) (x29 : Vec F S1x1x512x128 .f32) (x30 : Vec F S1x1x512x128 .f32) (x31 : Vec F S1x1x512x128 .f32) (x32 : Vec F S1x1x512x128 .f32) (x33 : Vec F S1x1x512x128 .f32) (x34 : Vec F S1x1x512x128 .f32) (x35 : Vec F S1x1x512x128 .f32) (x36 : Vec F S1x1x512x128 .f32) (x37 : Vec F S1x1x512x128 .f32) (xt0 : TbBuf0 (F := F) c tbM0_0) (y : S1x8x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x3 x4 x5 x6 x7 x8 x9 x10 x11 x12 x13 x14 x15 x16 x17 x18 x19 x20 x21 x22 x23 x24 x25 x26 x27 x28 x29 x30 x31 x32 x33 x34 x35 x36 x37 xt0).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x3 x4 x5 x6 x7 x8 x9 x10 x11 x12 x13 x14 x15 x16 x17 x18 x19 x20 x21 x22 x23 x24 x25 x26 x27 x28 x29 x30 x31 x32 x33 x34 x35 x36 x37 xt0).1 S1x8x512.size (by sl_kernel_rfl) y

/-- What the run leaves in output 38's staging buffer: its pieces read back over junk. -/
def out0_A_38 (c : Dev nD) (i : grid0.Coords) (arg2 : Memref sig .tc .vmem S64x1 .f32) (harg2 : arg2.IsWhole) (arg3 : Memref sig .tc .vmem S64x512 .f32) (harg3 : arg3.IsWhole) (arg4 : Memref sig .tc .vmem S64x128 .f32) (harg4 : arg4.IsWhole) (arg5 : Memref sig .tc .vmem S1x8x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1x1x512x128 .f32) (harg8 : arg8.IsWhole) (arg9 : Memref sig .tc .vmem S1x1x512x128 .f32) (harg9 : arg9.IsWhole) (arg10 : Memref sig .tc .vmem S1x1x512x128 .f32) (harg10 : arg10.IsWhole) (arg11 : Memref sig .tc .vmem S1x1x512x128 .f32) (harg11 : arg11.IsWhole) (arg12 : Memref sig .tc .vmem S1x1x512x128 .f32) (harg12 : arg12.IsWhole) (arg13 : Memref sig .tc .vmem S1x1x512x128 .f32) (harg13 : arg13.IsWhole) (arg14 : Memref sig .tc .vmem S1x1x512x128 .f32) (harg14 : arg14.IsWhole) (arg15 : Memref sig .tc .vmem S1x1x512x128 .f32) (harg15 : arg15.IsWhole) (arg16 : Memref sig .tc .vmem S1x1x512x128 .f32) (harg16 : arg16.IsWhole) (arg17 : Memref sig .tc .vmem S1x1x512x128 .f32) (harg17 : arg17.IsWhole) (arg18 : Memref sig .tc .vmem S1x1x512x128 .f32) (harg18 : arg18.IsWhole) (arg19 : Memref sig .tc .vmem S1x1x512x128 .f32) (harg19 : arg19.IsWhole) (arg20 : Memref sig .tc .vmem S1x1x512x128 .f32) (harg20 : arg20.IsWhole) (arg21 : Memref sig .tc .vmem S1x1x512x128 .f32) (harg21 : arg21.IsWhole) (arg22 : Memref sig .tc .vmem S1x1x512x128 .f32) (harg22 : arg22.IsWhole) (arg23 : Memref sig .tc .vmem S1x1x512x128 .f32) (harg23 : arg23.IsWhole) (arg24 : Memref sig .tc .vmem S1x1x512x128 .f32) (harg24 : arg24.IsWhole) (arg25 : Memref sig .tc .vmem S1x1x512x128 .f32) (harg25 : arg25.IsWhole) (arg26 : Memref sig .tc .vmem S1x1x512x128 .f32) (harg26 : arg26.IsWhole) (arg27 : Memref sig .tc .vmem S1x1x512x128 .f32) (harg27 : arg27.IsWhole) (arg28 : Memref sig .tc .vmem S1x1x512x128 .f32) (harg28 : arg28.IsWhole) (arg29 : Memref sig .tc .vmem S1x1x512x128 .f32) (harg29 : arg29.IsWhole) (arg30 : Memref sig .tc .vmem S1x1x512x128 .f32) (harg30 : arg30.IsWhole) (arg31 : Memref sig .tc .vmem S1x1x512x128 .f32) (harg31 : arg31.IsWhole) (arg32 : Memref sig .tc .vmem S1x1x512x128 .f32) (harg32 : arg32.IsWhole) (arg33 : Memref sig .tc .vmem S1x1x512x128 .f32) (harg33 : arg33.IsWhole) (arg34 : Memref sig .tc .vmem S1x1x512x128 .f32) (harg34 : arg34.IsWhole) (arg35 : Memref sig .tc .vmem S1x1x512x128 .f32) (harg35 : arg35.IsWhole) (arg36 : Memref sig .tc .vmem S1x1x512x128 .f32) (harg36 : arg36.IsWhole) (arg37 : Memref sig .tc .vmem S1x1x512x128 .f32) (harg37 : arg37.IsWhole) (arg38 : Memref sig .tc .vmem S1x1x512x128 .f32) (harg38 : arg38.IsWhole) (arg39 : Memref sig .tc .vmem S1x1x512x128 .f32) (harg39 : arg39.IsWhole) (arg40 : Memref sig .tc .vmem S1x8x512 .bf16) (harg40 : arg40.IsWhole)
    (x0 : Vec F S64x1 .f32) (x1 : Vec F S64x512 .f32) (x2 : Vec F S64x128 .f32) (x3 : Vec F S1x8x512 .bf16) (x4 : Vec F S8x512 .f32) (x5 : Vec F S8x512 .f32) (x6 : Vec F S1x1x512x128 .f32) (x7 : Vec F S1x1x512x128 .f32) (x8 : Vec F S1x1x512x128 .f32) (x9 : Vec F S1x1x512x128 .f32) (x10 : Vec F S1x1x512x128 .f32) (x11 : Vec F S1x1x512x128 .f32) (x12 : Vec F S1x1x512x128 .f32) (x13 : Vec F S1x1x512x128 .f32) (x14 : Vec F S1x1x512x128 .f32) (x15 : Vec F S1x1x512x128 .f32) (x16 : Vec F S1x1x512x128 .f32) (x17 : Vec F S1x1x512x128 .f32) (x18 : Vec F S1x1x512x128 .f32) (x19 : Vec F S1x1x512x128 .f32) (x20 : Vec F S1x1x512x128 .f32) (x21 : Vec F S1x1x512x128 .f32) (x22 : Vec F S1x1x512x128 .f32) (x23 : Vec F S1x1x512x128 .f32) (x24 : Vec F S1x1x512x128 .f32) (x25 : Vec F S1x1x512x128 .f32) (x26 : Vec F S1x1x512x128 .f32) (x27 : Vec F S1x1x512x128 .f32) (x28 : Vec F S1x1x512x128 .f32) (x29 : Vec F S1x1x512x128 .f32) (x30 : Vec F S1x1x512x128 .f32) (x31 : Vec F S1x1x512x128 .f32) (x32 : Vec F S1x1x512x128 .f32) (x33 : Vec F S1x1x512x128 .f32) (x34 : Vec F S1x1x512x128 .f32) (x35 : Vec F S1x1x512x128 .f32) (x36 : Vec F S1x1x512x128 .f32) (x37 : Vec F S1x1x512x128 .f32) (xt0 : TbBuf0 (F := F) c tbM0_0) : Vec F S1x8x512 .bf16 :=
  VO0_38.read (Elt F) (VO0_38.writes (Elt F) VO0_38.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x3 x4 x5 x6 x7 x8 x9 x10 x11 x12 x13 x14 x15 x16 x17 x18 x19 x20 x21 x22 x23 x24 x25 x26 x27 x28 x29 x30 x31 x32 x33 x34 x35 x36 x37 xt0).1)

/-! ## What the outputs hold after each point -/

/-- What the outputs' staging buffers hold after the body at point `t`: the run's contents at
    the point's memrefs and input blocks. -/
def outsAt0 (hO : Ok m) (c : Dev nD) (t : Fin (cfgM m hO).N) : Vec F S1x8x512 .bf16 :=
  out0_A_38 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) (ms0_36 m hO t) (hs0_36 m hO t) (ms0_37 m hO t) (hs0_37 m hO t) (ms0_38 m hO t) (hs0_38 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t) (iblk m hO c 36 t) (iblk m hO c 37 t) (tbl m 0)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => iblk m hO c 22 t
    | ⟨23, _⟩ => iblk m hO c 23 t
    | ⟨24, _⟩ => iblk m hO c 24 t
    | ⟨25, _⟩ => iblk m hO c 25 t
    | ⟨26, _⟩ => iblk m hO c 26 t
    | ⟨27, _⟩ => iblk m hO c 27 t
    | ⟨28, _⟩ => iblk m hO c 28 t
    | ⟨29, _⟩ => iblk m hO c 29 t
    | ⟨30, _⟩ => iblk m hO c 30 t
    | ⟨31, _⟩ => iblk m hO c 31 t
    | ⟨32, _⟩ => iblk m hO c 32 t
    | ⟨33, _⟩ => iblk m hO c 33 t
    | ⟨34, _⟩ => iblk m hO c 34 t
    | ⟨35, _⟩ => iblk m hO c 35 t
    | ⟨36, _⟩ => iblk m hO c 36 t
    | ⟨37, _⟩ => iblk m hO c 37 t
    | ⟨38, _⟩ => (outsAt0 m hO c t)
    | ⟨_ + 39, h⟩ => absurd h (Nat.not_lt.2 (Nat.le_add_left _ _))
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl
theorem after0_13 (hO : Ok m) (c : Dev nD) (t : Fin (cfgM m hO).N) : (dats m hO 0 c).after 13 t = iblk m hO c 13 t := by dsimp only [dats]; try rfl
theorem after0_14 (hO : Ok m) (c : Dev nD) (t : Fin (cfgM m hO).N) : (dats m hO 0 c).after 14 t = iblk m hO c 14 t := by dsimp only [dats]; try rfl
theorem after0_15 (hO : Ok m) (c : Dev nD) (t : Fin (cfgM m hO).N) : (dats m hO 0 c).after 15 t = iblk m hO c 15 t := by dsimp only [dats]; try rfl
theorem after0_16 (hO : Ok m) (c : Dev nD) (t : Fin (cfgM m hO).N) : (dats m hO 0 c).after 16 t = iblk m hO c 16 t := by dsimp only [dats]; try rfl
theorem after0_17 (hO : Ok m) (c : Dev nD) (t : Fin (cfgM m hO).N) : (dats m hO 0 c).after 17 t = iblk m hO c 17 t := by dsimp only [dats]; try rfl
theorem after0_18 (hO : Ok m) (c : Dev nD) (t : Fin (cfgM m hO).N) : (dats m hO 0 c).after 18 t = iblk m hO c 18 t := by dsimp only [dats]; try rfl
theorem after0_19 (hO : Ok m) (c : Dev nD) (t : Fin (cfgM m hO).N) : (dats m hO 0 c).after 19 t = iblk m hO c 19 t := by dsimp only [dats]; try rfl
theorem after0_20 (hO : Ok m) (c : Dev nD) (t : Fin (cfgM m hO).N) : (dats m hO 0 c).after 20 t = iblk m hO c 20 t := by dsimp only [dats]; try rfl
theorem after0_21 (hO : Ok m) (c : Dev nD) (t : Fin (cfgM m hO).N) : (dats m hO 0 c).after 21 t = iblk m hO c 21 t := by dsimp only [dats]; try rfl
theorem after0_22 (hO : Ok m) (c : Dev nD) (t : Fin (cfgM m hO).N) : (dats m hO 0 c).after 22 t = iblk m hO c 22 t := by dsimp only [dats]; try rfl
theorem after0_23 (hO : Ok m) (c : Dev nD) (t : Fin (cfgM m hO).N) : (dats m hO 0 c).after 23 t = iblk m hO c 23 t := by dsimp only [dats]; try rfl
theorem after0_24 (hO : Ok m) (c : Dev nD) (t : Fin (cfgM m hO).N) : (dats m hO 0 c).after 24 t = iblk m hO c 24 t := by dsimp only [dats]; try rfl
theorem after0_25 (hO : Ok m) (c : Dev nD) (t : Fin (cfgM m hO).N) : (dats m hO 0 c).after 25 t = iblk m hO c 25 t := by dsimp only [dats]; try rfl
theorem after0_26 (hO : Ok m) (c : Dev nD) (t : Fin (cfgM m hO).N) : (dats m hO 0 c).after 26 t = iblk m hO c 26 t := by dsimp only [dats]; try rfl
theorem after0_27 (hO : Ok m) (c : Dev nD) (t : Fin (cfgM m hO).N) : (dats m hO 0 c).after 27 t = iblk m hO c 27 t := by dsimp only [dats]; try rfl
theorem after0_28 (hO : Ok m) (c : Dev nD) (t : Fin (cfgM m hO).N) : (dats m hO 0 c).after 28 t = iblk m hO c 28 t := by dsimp only [dats]; try rfl
theorem after0_29 (hO : Ok m) (c : Dev nD) (t : Fin (cfgM m hO).N) : (dats m hO 0 c).after 29 t = iblk m hO c 29 t := by dsimp only [dats]; try rfl
theorem after0_30 (hO : Ok m) (c : Dev nD) (t : Fin (cfgM m hO).N) : (dats m hO 0 c).after 30 t = iblk m hO c 30 t := by dsimp only [dats]; try rfl
theorem after0_31 (hO : Ok m) (c : Dev nD) (t : Fin (cfgM m hO).N) : (dats m hO 0 c).after 31 t = iblk m hO c 31 t := by dsimp only [dats]; try rfl
theorem after0_32 (hO : Ok m) (c : Dev nD) (t : Fin (cfgM m hO).N) : (dats m hO 0 c).after 32 t = iblk m hO c 32 t := by dsimp only [dats]; try rfl
theorem after0_33 (hO : Ok m) (c : Dev nD) (t : Fin (cfgM m hO).N) : (dats m hO 0 c).after 33 t = iblk m hO c 33 t := by dsimp only [dats]; try rfl
theorem after0_34 (hO : Ok m) (c : Dev nD) (t : Fin (cfgM m hO).N) : (dats m hO 0 c).after 34 t = iblk m hO c 34 t := by dsimp only [dats]; try rfl
theorem after0_35 (hO : Ok m) (c : Dev nD) (t : Fin (cfgM m hO).N) : (dats m hO 0 c).after 35 t = iblk m hO c 35 t := by dsimp only [dats]; try rfl
theorem after0_36 (hO : Ok m) (c : Dev nD) (t : Fin (cfgM m hO).N) : (dats m hO 0 c).after 36 t = iblk m hO c 36 t := by dsimp only [dats]; try rfl
theorem after0_37 (hO : Ok m) (c : Dev nD) (t : Fin (cfgM m hO).N) : (dats m hO 0 c).after 37 t = iblk m hO c 37 t := by dsimp only [dats]; try rfl
theorem after0_38 (hO : Ok m) (c : Dev nD) (t : Fin (cfgM m hO).N) : (dats m hO 0 c).after 38 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
theorem before0_14 (hO : Ok m) (c : Dev nD) (t : Fin (cfgM m hO).N) (d) : (dats m hO 0 c).before 14 t d = iblk m hO c 14 t :=
  before0_14_of m hO (dats m hO 0 c) (A_eq m hO c 14) (after0_14 m hO c) t d
theorem before0_15 (hO : Ok m) (c : Dev nD) (t : Fin (cfgM m hO).N) (d) : (dats m hO 0 c).before 15 t d = iblk m hO c 15 t :=
  before0_15_of m hO (dats m hO 0 c) (A_eq m hO c 15) (after0_15 m hO c) t d
theorem before0_16 (hO : Ok m) (c : Dev nD) (t : Fin (cfgM m hO).N) (d) : (dats m hO 0 c).before 16 t d = iblk m hO c 16 t :=
  before0_16_of m hO (dats m hO 0 c) (A_eq m hO c 16) (after0_16 m hO c) t d
theorem before0_17 (hO : Ok m) (c : Dev nD) (t : Fin (cfgM m hO).N) (d) : (dats m hO 0 c).before 17 t d = iblk m hO c 17 t :=
  before0_17_of m hO (dats m hO 0 c) (A_eq m hO c 17) (after0_17 m hO c) t d
theorem before0_18 (hO : Ok m) (c : Dev nD) (t : Fin (cfgM m hO).N) (d) : (dats m hO 0 c).before 18 t d = iblk m hO c 18 t :=
  before0_18_of m hO (dats m hO 0 c) (A_eq m hO c 18) (after0_18 m hO c) t d
theorem before0_19 (hO : Ok m) (c : Dev nD) (t : Fin (cfgM m hO).N) (d) : (dats m hO 0 c).before 19 t d = iblk m hO c 19 t :=
  before0_19_of m hO (dats m hO 0 c) (A_eq m hO c 19) (after0_19 m hO c) t d
theorem before0_20 (hO : Ok m) (c : Dev nD) (t : Fin (cfgM m hO).N) (d) : (dats m hO 0 c).before 20 t d = iblk m hO c 20 t :=
  before0_20_of m hO (dats m hO 0 c) (A_eq m hO c 20) (after0_20 m hO c) t d
theorem before0_21 (hO : Ok m) (c : Dev nD) (t : Fin (cfgM m hO).N) (d) : (dats m hO 0 c).before 21 t d = iblk m hO c 21 t :=
  before0_21_of m hO (dats m hO 0 c) (A_eq m hO c 21) (after0_21 m hO c) t d
theorem before0_22 (hO : Ok m) (c : Dev nD) (t : Fin (cfgM m hO).N) (d) : (dats m hO 0 c).before 22 t d = iblk m hO c 22 t :=
  before0_22_of m hO (dats m hO 0 c) (A_eq m hO c 22) (after0_22 m hO c) t d
theorem before0_23 (hO : Ok m) (c : Dev nD) (t : Fin (cfgM m hO).N) (d) : (dats m hO 0 c).before 23 t d = iblk m hO c 23 t :=
  before0_23_of m hO (dats m hO 0 c) (A_eq m hO c 23) (after0_23 m hO c) t d
theorem before0_24 (hO : Ok m) (c : Dev nD) (t : Fin (cfgM m hO).N) (d) : (dats m hO 0 c).before 24 t d = iblk m hO c 24 t :=
  before0_24_of m hO (dats m hO 0 c) (A_eq m hO c 24) (after0_24 m hO c) t d
theorem before0_25 (hO : Ok m) (c : Dev nD) (t : Fin (cfgM m hO).N) (d) : (dats m hO 0 c).before 25 t d = iblk m hO c 25 t :=
  before0_25_of m hO (dats m hO 0 c) (A_eq m hO c 25) (after0_25 m hO c) t d
theorem before0_26 (hO : Ok m) (c : Dev nD) (t : Fin (cfgM m hO).N) (d) : (dats m hO 0 c).before 26 t d = iblk m hO c 26 t :=
  before0_26_of m hO (dats m hO 0 c) (A_eq m hO c 26) (after0_26 m hO c) t d
theorem before0_27 (hO : Ok m) (c : Dev nD) (t : Fin (cfgM m hO).N) (d) : (dats m hO 0 c).before 27 t d = iblk m hO c 27 t :=
  before0_27_of m hO (dats m hO 0 c) (A_eq m hO c 27) (after0_27 m hO c) t d
theorem before0_28 (hO : Ok m) (c : Dev nD) (t : Fin (cfgM m hO).N) (d) : (dats m hO 0 c).before 28 t d = iblk m hO c 28 t :=
  before0_28_of m hO (dats m hO 0 c) (A_eq m hO c 28) (after0_28 m hO c) t d
theorem before0_29 (hO : Ok m) (c : Dev nD) (t : Fin (cfgM m hO).N) (d) : (dats m hO 0 c).before 29 t d = iblk m hO c 29 t :=
  before0_29_of m hO (dats m hO 0 c) (A_eq m hO c 29) (after0_29 m hO c) t d
theorem before0_30 (hO : Ok m) (c : Dev nD) (t : Fin (cfgM m hO).N) (d) : (dats m hO 0 c).before 30 t d = iblk m hO c 30 t :=
  before0_30_of m hO (dats m hO 0 c) (A_eq m hO c 30) (after0_30 m hO c) t d
theorem before0_31 (hO : Ok m) (c : Dev nD) (t : Fin (cfgM m hO).N) (d) : (dats m hO 0 c).before 31 t d = iblk m hO c 31 t :=
  before0_31_of m hO (dats m hO 0 c) (A_eq m hO c 31) (after0_31 m hO c) t d
theorem before0_32 (hO : Ok m) (c : Dev nD) (t : Fin (cfgM m hO).N) (d) : (dats m hO 0 c).before 32 t d = iblk m hO c 32 t :=
  before0_32_of m hO (dats m hO 0 c) (A_eq m hO c 32) (after0_32 m hO c) t d
theorem before0_33 (hO : Ok m) (c : Dev nD) (t : Fin (cfgM m hO).N) (d) : (dats m hO 0 c).before 33 t d = iblk m hO c 33 t :=
  before0_33_of m hO (dats m hO 0 c) (A_eq m hO c 33) (after0_33 m hO c) t d
theorem before0_34 (hO : Ok m) (c : Dev nD) (t : Fin (cfgM m hO).N) (d) : (dats m hO 0 c).before 34 t d = iblk m hO c 34 t :=
  before0_34_of m hO (dats m hO 0 c) (A_eq m hO c 34) (after0_34 m hO c) t d
theorem before0_35 (hO : Ok m) (c : Dev nD) (t : Fin (cfgM m hO).N) (d) : (dats m hO 0 c).before 35 t d = iblk m hO c 35 t :=
  before0_35_of m hO (dats m hO 0 c) (A_eq m hO c 35) (after0_35 m hO c) t d
theorem before0_36 (hO : Ok m) (c : Dev nD) (t : Fin (cfgM m hO).N) (d) : (dats m hO 0 c).before 36 t d = iblk m hO c 36 t :=
  before0_36_of m hO (dats m hO 0 c) (A_eq m hO c 36) (after0_36 m hO c) t d
theorem before0_37 (hO : Ok m) (c : Dev nD) (t : Fin (cfgM m hO).N) (d) : (dats m hO 0 c).before 37 t d = iblk m hO c 37 t :=
  before0_37_of m hO (dats m hO 0 c) (A_eq m hO c 37) (after0_37 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d))
    ∗ (∃ d, owns (c : Thread nD τ) (ms0_21 m hO t) fullShare ((dats m hO 0 c).before 21 t d))
    ∗ (∃ d, owns (c : Thread nD τ) (ms0_22 m hO t) fullShare ((dats m hO 0 c).before 22 t d))
    ∗ (∃ d, owns (c : Thread nD τ) (ms0_23 m hO t) fullShare ((dats m hO 0 c).before 23 t d))
    ∗ (∃ d, owns (c : Thread nD τ) (ms0_24 m hO t) fullShare ((dats m hO 0 c).before 24 t d))
    ∗ (∃ d, owns (c : Thread nD τ) (ms0_25 m hO t) fullShare ((dats m hO 0 c).before 25 t d))
    ∗ (∃ d, owns (c : Thread nD τ) (ms0_26 m hO t) fullShare ((dats m hO 0 c).before 26 t d))
    ∗ (∃ d, owns (c : Thread nD τ) (ms0_27 m hO t) fullShare ((dats m hO 0 c).before 27 t d))
    ∗ (∃ d, owns (c : Thread nD τ) (ms0_28 m hO t) fullShare ((dats m hO 0 c).before 28 t d))
    ∗ (∃ d, owns (c : Thread nD τ) (ms0_29 m hO t) fullShare ((dats m hO 0 c).before 29 t d))
    ∗ (∃ d, owns (c : Thread nD τ) (ms0_30 m hO t) fullShare ((dats m hO 0 c).before 30 t d))
    ∗ (∃ d, owns (c : Thread nD τ) (ms0_31 m hO t) fullShare ((dats m hO 0 c).before 31 t d))
    ∗ (∃ d, owns (c : Thread nD τ) (ms0_32 m hO t) fullShare ((dats m hO 0 c).before 32 t d))
    ∗ (∃ d, owns (c : Thread nD τ) (ms0_33 m hO t) fullShare ((dats m hO 0 c).before 33 t d))
    ∗ (∃ d, owns (c : Thread nD τ) (ms0_34 m hO t) fullShare ((dats m hO 0 c).before 34 t d))
    ∗ (∃ d, owns (c : Thread nD τ) (ms0_35 m hO t) fullShare ((dats m hO 0 c).before 35 t d))
    ∗ (∃ d, owns (c : Thread nD τ) (ms0_36 m hO t) fullShare ((dats m hO 0 c).before 36 t d))
    ∗ (∃ d, owns (c : Thread nD τ) (ms0_37 m hO t) fullShare ((dats m hO 0 c).before 37 t d))
    ∗ (∃ d, owns (c : Thread nD τ) (ms0_38 m hO t) fullShare ((dats m hO 0 c).before 38 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ owns (c : Thread nD τ) (ms0_13 m hO t) fullShare ((dats m hO 0 c).after 13 t)
    ∗ owns (c : Thread nD τ) (ms0_14 m hO t) fullShare ((dats m hO 0 c).after 14 t)
    ∗ owns (c : Thread nD τ) (ms0_15 m hO t) fullShare ((dats m hO 0 c).after 15 t)
    ∗ owns (c : Thread nD τ) (ms0_16 m hO t) fullShare ((dats m hO 0 c).after 16 t)
    ∗ owns (c : Thread nD τ) (ms0_17 m hO t) fullShare ((dats m hO 0 c).after 17 t)
    ∗ owns (c : Thread nD τ) (ms0_18 m hO t) fullShare ((dats m hO 0 c).after 18 t)
    ∗ owns (c : Thread nD τ) (ms0_19 m hO t) fullShare ((dats m hO 0 c).after 19 t)
    ∗ owns (c : Thread nD τ) (ms0_20 m hO t) fullShare ((dats m hO 0 c).after 20 t)
    ∗ owns (c : Thread nD τ) (ms0_21 m hO t) fullShare ((dats m hO 0 c).after 21 t)
    ∗ owns (c : Thread nD τ) (ms0_22 m hO t) fullShare ((dats m hO 0 c).after 22 t)
    ∗ owns (c : Thread nD τ) (ms0_23 m hO t) fullShare ((dats m hO 0 c).after 23 t)
    ∗ owns (c : Thread nD τ) (ms0_24 m hO t) fullShare ((dats m hO 0 c).after 24 t)
    ∗ owns (c : Thread nD τ) (ms0_25 m hO t) fullShare ((dats m hO 0 c).after 25 t)
    ∗ owns (c : Thread nD τ) (ms0_26 m hO t) fullShare ((dats m hO 0 c).after 26 t)
    ∗ owns (c : Thread nD τ) (ms0_27 m hO t) fullShare ((dats m hO 0 c).after 27 t)
    ∗ owns (c : Thread nD τ) (ms0_28 m hO t) fullShare ((dats m hO 0 c).after 28 t)
    ∗ owns (c : Thread nD τ) (ms0_29 m hO t) fullShare ((dats m hO 0 c).after 29 t)
    ∗ owns (c : Thread nD τ) (ms0_30 m hO t) fullShare ((dats m hO 0 c).after 30 t)
    ∗ owns (c : Thread nD τ) (ms0_31 m hO t) fullShare ((dats m hO 0 c).after 31 t)
    ∗ owns (c : Thread nD τ) (ms0_32 m hO t) fullShare ((dats m hO 0 c).after 32 t)
    ∗ owns (c : Thread nD τ) (ms0_33 m hO t) fullShare ((dats m hO 0 c).after 33 t)
    ∗ owns (c : Thread nD τ) (ms0_34 m hO t) fullShare ((dats m hO 0 c).after 34 t)
    ∗ owns (c : Thread nD τ) (ms0_35 m hO t) fullShare ((dats m hO 0 c).after 35 t)
    ∗ owns (c : Thread nD τ) (ms0_36 m hO t) fullShare ((dats m hO 0 c).after 36 t)
    ∗ owns (c : Thread nD τ) (ms0_37 m hO t) fullShare ((dats m hO 0 c).after 37 t)
    ∗ owns (c : Thread nD τ) (ms0_38 m hO t) fullShare ((dats m hO 0 c).after 38 t))

set_option maxHeartbeats 3600000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33, before0_34, before0_35, before0_36, before0_37]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38]
  rw [show (dats m hO 0 c).Φ t.castSucc = iprop(Pipeline.ΦA spec0 c ∗ Pipeline.ΦT pre0 (tbl m) c) from rfl, PhiT0_eq]
  unfold outsAt0
  unfold out0_A_38
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t) (iblk m hO c 36 t) (iblk m hO c 37 t) (tbl m 0)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexists _; iexact H38
  isplitl [HT0]; · iexact HT0
  iintro ⟨H0, H1, H2, H3, H4, H5, H6, H7, H8, H9, H10, H11, H12, H13, H14, H15, H16, H17, H18, H19, H20, H21, H22, H23, H24, H25, H26, H27, H28, H29, H30, H31, H32, H33, H34, H35, H36, H37, ⟨%e38, H38⟩, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  unfold owns; iexists _; isplitr
  swap; · iexact H38
  ipureintro; exact View.read_writes_of_cover _ _ _ _ _ (cover0_A_38 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 4000000 in
/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP_shared`'s implicit arguments are found by unifying its conclusion with this one, which takes unfolding plain
-- definitions in a metavariable's type
set_option backward.isDefEq.respectTransparency.types false in
set_option maxHeartbeats 8000000 in
/-- The launch: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- The frame: the program runs, its arguments end as they were, and every counter reads zero, when the table's page
    numbers keep every window inside its array. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.KernelIdeal.Gen

end
-- ==== Proof.PostMath.lean ====
/- The arithmetic of the layer's tail (output projections, gated merge, the squared-ReLU MLP and the per-layer
   embedding), for one token row: plain functions of rows and weight matrices over the extended reals. -/
module

public import Idealize.ShloMosaic.Lib.Pointwise

@[expose] public section

set_option maxRecDepth 16384

noncomputable section

namespace Cert.PostMath

open Idealize.ShloMosaic

/-- The tanh form of the GELU of one value. -/
def gelu (a : EReal) : EReal :=
  a * (Ideal.ofBits .f32 0x3F000000#32 * (1 + Ideal.tanh (Ideal.ofBits .f32 0x3F4C422A#32 *
    (a + Ideal.ofBits .f32 0x3D372713#32 * (a * (a * a))))))

/-- The sigmoid of one value. -/
def sigm (a : EReal) : EReal := Ideal.div 1 (1 + Ideal.exp (-a))

/-- A row times a matrix, at one column. -/
def dotCol {n w : ℕ} (v : Fin n → EReal) (M : Fin n → Fin w → EReal) (j : Fin w) : EReal := ∑ k, v k * M k j

/-- A row of 1024 values over its root mean square, times a gain. -/
def rmsRow (g v : Fin 1024 → EReal) (j : Fin 1024) : EReal :=
  v j * Ideal.rsqrt (Ideal.div (∑ k, v k * v k) (Ideal.ofBits .f32 0x44800000#32) + Ideal.ofBits .f32 0x358637BD#32) * g j

/-- The square of the positive part. -/
def sqRelu (a : EReal) : EReal := max a 0 * max a 0

/-- The gated sum of the attention output and the gated linear unit, at one column. -/
def merged (o y : Fin 512 → EReal) (ga gs : Fin 1024 → EReal) (wA wV wG : Fin 512 → Fin 1024 → EReal)
    (j : Fin 1024) : EReal :=
  ga j * dotCol o wA j + gs j * (dotCol (fun k => gelu (y k)) wV j * sigm (dotCol (fun k => gelu (y k)) wG j))

/-- The residual row after the output projection of a merged row `h`. -/
def afterOut (x h : Fin 1024 → EReal) (wO : Fin 1024 → Fin 1024 → EReal) (j : Fin 1024) : EReal := x j + dotCol h wO j

/-- The residual row after the MLP. -/
def afterMlp (x1 g : Fin 1024 → EReal) (wU : Fin 1024 → Fin 4096 → EReal) (wD : Fin 4096 → Fin 1024 → EReal)
    (j : Fin 1024) : EReal :=
  x1 j + dotCol (fun h => sqRelu (dotCol (rmsRow g x1) wU h)) wD j

/-- The residual row after the gated per-layer embedding. -/
def afterPle (x2 g : Fin 1024 → EReal) (p : Fin 256 → EReal) (wP : Fin 256 → Fin 1024 → EReal)
    (wPG : Fin 1024 → Fin 1024 → EReal) (j : Fin 1024) : EReal :=
  x2 j + dotCol p wP j * sigm (dotCol (rmsRow g x2) wPG j)

/-- The whole tail for one token row, at one column: gated merge, output projection, MLP, per-layer embedding. -/
def tailRow (x : Fin 1024 → EReal) (o y : Fin 512 → EReal) (ga gs : Fin 1024 → EReal) (p : Fin 256 → EReal)
    (wA wV wG : Fin 512 → Fin 1024 → EReal) (wO : Fin 1024 → Fin 1024 → EReal) (g : Fin 1024 → EReal)
    (wU : Fin 1024 → Fin 4096 → EReal) (wD : Fin 4096 → Fin 1024 → EReal) (g' : Fin 1024 → EReal)
    (wP : Fin 256 → Fin 1024 → EReal) (wPG : Fin 1024 → Fin 1024 → EReal) (j : Fin 1024) : EReal :=
  afterPle (afterMlp (afterOut x (merged o y ga gs wA wV wG) wO) g wU wD) g' p wP wPG j

/-- A product with a matrix of 4096 rows is the sum of the products with its four blocks of 1024 rows. -/
theorem dotCol_blocks (v : Fin 4096 → EReal) (M : Fin 4096 → Fin 1024 → EReal) (j : Fin 1024) :
    dotCol v M j = dotCol (fun k : Fin 1024 => v ⟨0 + k.val, by omega⟩) (fun k => M ⟨0 + k.val, by omega⟩) j
      + dotCol (fun k : Fin 1024 => v ⟨1024 + k.val, by omega⟩) (fun k => M ⟨1024 + k.val, by omega⟩) j
      + dotCol (fun k : Fin 1024 => v ⟨2048 + k.val, by omega⟩) (fun k => M ⟨2048 + k.val, by omega⟩) j
      + dotCol (fun k : Fin 1024 => v ⟨3072 + k.val, by omega⟩) (fun k => M ⟨3072 + k.val, by omega⟩) j := by
  unfold dotCol
  rw [Fin.sum_univ_tiles 4 1024 rfl, Fin.sum_univ_four]
  rfl

end Cert.PostMath

end
-- ==== Proof.Consts.lean ====
/- The constants the two sides print, as real numbers. -/
module

public import Idealize.ShloMosaic.Lib.Pointwise

@[expose] public section

set_option maxRecDepth 16384

noncomputable section

namespace Cert.Consts

open Idealize.ShloMosaic

theorem c64 : Ideal.ofBits .f32 0x42800000#32 = ((64 : ℝ) : EReal) := by
  simp [Ideal.ofBits, Ideal.ieee, -EReal.coe_mul]; norm_num

theorem c64th : Ideal.ofBits .f32 0x3C800000#32 = ((1 / 64 : ℝ) : EReal) := by
  simp [Ideal.ofBits, Ideal.ieee, -EReal.coe_mul]; norm_num

theorem eighth : Ideal.ofBits .f32 0x3E000000#32 = ((1 / 8 : ℝ) : EReal) := by
  simp [Ideal.ofBits, Ideal.ieee, -EReal.coe_mul]; norm_num

theorem two : Ideal.ofBits .f32 0x40000000#32 = ((2 : ℝ) : EReal) := by
  have h : (8388608 : ℝ) * (2 ^ 22)⁻¹ = 2 := by norm_num
  rw [← h]
  simp [Ideal.ofBits, Ideal.ieee, -EReal.coe_mul]

theorem half : Ideal.ofBits .f32 0x3F000000#32 = ((1 / 2 : ℝ) : EReal) := by
  simp [Ideal.ofBits, Ideal.ieee, -EReal.coe_mul]; norm_num

end Cert.Consts

end
-- ==== Proof.InMath.lean ====
/- The arithmetic of the layer's input projection, for one token row. -/
module

public import Idealize.ShloMosaic.Lib.Pointwise
public import proofs.«01_k».proof.Proof.PostMath
public import proofs.«01_k».proof.Proof.Consts

@[expose] public section

set_option maxRecDepth 16384

noncomputable section

namespace Cert.InMath

open Idealize.ShloMosaic Cert.PostMath

/-- The root-mean-square normalisation of one head's 64 lanes, times a gain; lane `l` of the eight heads' 512. -/
def headNorm (g : Fin 64 → EReal) (p : Fin 512 → EReal) (l : Fin 512) : EReal :=
  p l * Ideal.rsqrt (Ideal.div (∑ d : Fin 64, p ⟨l.val / 64 * 64 + d.val, by omega⟩ * p ⟨l.val / 64 * 64 + d.val, by omega⟩)
      (Ideal.ofBits .f32 0x42800000#32) + Ideal.ofBits .f32 0x358637BD#32)
    * g ⟨l.val % 64, by omega⟩

/-- A query lane, scaled: divided by eight and by the logarithm of two, negated. -/
def scaled (a : EReal) : EReal :=
  Ideal.div (-(a * Ideal.ofBits .f32 0x3E000000#32)) (Ideal.log (Ideal.ofBits .f32 0x40000000#32))

theorem mul_self_nonneg (a : EReal) : 0 ≤ a * a := by
  rcases le_total 0 a with h | h
  · exact mul_nonneg h h
  · have := EReal.neg_le_neg_iff.mpr h
    rw [neg_zero] at this
    calc (0 : EReal) ≤ -a * -a := mul_nonneg this this
      _ = a * a := neg_mul_neg a a

/-- A common real factor comes out of a sum of terms that are not negative. -/
theorem sum_mul_of_nonneg {ι : Type} (s : Finset ι) (f : ι → EReal) (hf : ∀ i ∈ s, 0 ≤ f i) (c : EReal) :
    ∑ i ∈ s, f i * c = (∑ i ∈ s, f i) * c := by
  classical
  induction s using Finset.induction_on with
  | empty => simp
  | insert a s ha ih =>
    rw [Finset.sum_insert ha, Finset.sum_insert ha, ih fun i hi => hf i (Finset.mem_insert_of_mem hi),
      EReal.right_distrib_of_nonneg (hf a (Finset.mem_insert_self a s))
        (Finset.sum_nonneg fun i hi => hf i (Finset.mem_insert_of_mem hi))]

/-- The product with the block-diagonal matrix of entries 1/64 is the mean over the lane's own head. -/
theorem head_mean (p : Fin 512 → EReal) (l : Fin 512) :
    ∑ k : Fin 512, p k * p k * (if k.val / 64 = l.val / 64 then Ideal.ofBits .f32 0x3C800000#32 else 0)
      = Ideal.div (∑ d : Fin 64, p ⟨l.val / 64 * 64 + d.val, by omega⟩ * p ⟨l.val / 64 * 64 + d.val, by omega⟩)
          (Ideal.ofBits .f32 0x42800000#32) := by
  rw [Consts.c64, Consts.c64th, Ideal.div_coe (by norm_num), ← sum_mul_of_nonneg _ _ fun i _ => mul_self_nonneg _,
    Fin.sum_univ_tiles 8 64 rfl, Finset.sum_eq_single (⟨l.val / 64, by omega⟩ : Fin 8)]
  · refine Finset.sum_congr rfl fun d _ => ?_
    rw [if_pos]
    · show (l.val / 64 * 64 + d.val) / 64 = _
      omega
  · intro t _ ht
    refine Finset.sum_eq_zero fun d _ => ?_
    rw [if_neg, mul_zero]
    intro h
    apply ht
    ext
    have : (t.val * 64 + d.val) / 64 = l.val / 64 := h
    show t.val = l.val / 64
    omega
  · intro h
    exact absurd (Finset.mem_univ _) h

/-- The product with the named constant −1/(8 ln 2) is the scaled query lane. -/
theorem mul_scale (a : EReal) : a * ((-(8⁻¹ * (Real.log 2)⁻¹) : ℝ) : EReal) = scaled a := by
  have h2 : Real.log 2 ≠ 0 := (Real.log_pos (by norm_num)).ne'
  rw [scaled, Consts.eighth, Consts.two, Ideal.log_coe, if_neg (by norm_num), Ideal.div_coe h2, neg_mul, mul_assoc,
    ← EReal.coe_mul, EReal.coe_neg, mul_neg]
  congr 3
  ring

end Cert.InMath

end
-- ==== Proof.SampleMath.lean ====
/- The arithmetic of the sample attention, for one query and one head: the stick-breaking weights in base two, as the
   kernel forms them, against the weights in base e of the problem's statement. -/
module

public import Idealize.ShloMosaic.Lib.Pointwise
public import proofs.«01_k».proof.Proof.InMath

@[expose] public section

set_option maxRecDepth 16384

noncomputable section

namespace Cert.SampleMath

open Idealize.ShloMosaic Cert.InMath

/-- The base-two logarithm of e. -/
def κe : ℝ := (Real.log 2)⁻¹

theorem log2_pos : 0 < Real.log 2 := Real.log_pos (by norm_num)

theorem κe_pos : 0 < κe := inv_pos.mpr log2_pos

/-- The logarithm of one plus the exponential. -/
def softplus (y : EReal) : EReal := max y 0 + Ideal.log (1 + Ideal.exp (-(max y (-y))))

/-- The logarithm of the sigmoid. -/
def logSig (x : EReal) : EReal := -softplus (-x)

/-- The base-two logarithm of the probability of passing a key by, from the score times −log₂ e. -/
def stay (nz : EReal) : EReal :=
  min nz 0 - Ideal.log (1 + Ideal.exp2 (min nz 0 + (min nz 0 - nz))) * ((κe : ℝ) : EReal)

/-- The softplus of a real number. -/
def sp (y : ℝ) : ℝ := max y 0 + Real.log (1 + Real.exp (-|y|))

theorem sp_pos (y : ℝ) : 0 ≤ sp y := by
  have h : 0 ≤ Real.log (1 + Real.exp (-|y|)) := Real.log_nonneg (by linarith [Real.exp_pos (-|y|)])
  have := le_max_right y 0
  unfold sp
  linarith

theorem sp_neg (y : ℝ) : sp (-y) = sp y - y := by
  unfold sp
  rw [abs_neg]
  rcases le_total y 0 with h | h
  · rw [max_eq_right h, max_eq_left (by linarith)]; ring
  · rw [max_eq_left h, max_eq_right (by linarith)]; ring

theorem coe_min (a b : ℝ) : min (a : EReal) (b : EReal) = ((min a b : ℝ) : EReal) :=
  ((EReal.coe_strictMono.monotone).map_min).symm

theorem coe_max (a b : ℝ) : max (a : EReal) (b : EReal) = ((max a b : ℝ) : EReal) :=
  ((EReal.coe_strictMono.monotone).map_max).symm

theorem softplus_coe (y : ℝ) : softplus (y : EReal) = (sp y : EReal) := by
  have hp : ¬ (1 + Real.exp (-|y|) ≤ 0) := by linarith [Real.exp_pos (-|y|)]
  rw [softplus, ← EReal.coe_neg, coe_max, ← EReal.coe_zero, coe_max, ← EReal.coe_neg, Ideal.exp_coe, ← EReal.coe_one,
    ← EReal.coe_add, show max y (-y) = |y| from rfl, Ideal.log_coe, if_neg hp, ← EReal.coe_add]
  rfl

theorem log_one : Ideal.log (1 : EReal) = 0 := by
  rw [← EReal.coe_one, Ideal.log_coe, if_neg (by norm_num), Real.log_one, EReal.coe_zero]

theorem softplus_top : softplus ⊤ = ⊤ := by
  simp [softplus, log_one]

theorem softplus_bot : softplus ⊥ = 0 := by
  simp [softplus, log_one]

theorem logSig_coe (x : ℝ) : logSig (x : EReal) = ((-sp (-x) : ℝ) : EReal) := by
  rw [logSig, ← EReal.coe_neg, softplus_coe, EReal.coe_neg]

theorem logSig_top : logSig ⊤ = 0 := by
  rw [logSig, EReal.neg_top, softplus_bot, neg_zero]

theorem logSig_bot : logSig ⊥ = ⊥ := by
  rw [logSig, EReal.neg_bot, softplus_top, EReal.neg_top]

theorem logSig_nonpos (x : EReal) : logSig x ≤ 0 := by
  induction x with
  | bot => rw [logSig_bot]; exact bot_le
  | top => rw [logSig_top]
  | coe x =>
    rw [logSig_coe, ← EReal.coe_zero, EReal.coe_le_coe_iff]
    linarith [sp_pos (-x)]

theorem stay_top : stay ⊤ = 0 := by
  simp [stay, log_one]

theorem stay_bot : stay ⊥ = ⊥ := by
  simp [stay, sub_eq_add_neg]

theorem two_rpow (x : ℝ) : Real.rpow 2 (κe * x) = Real.exp x := by
  have h2 : Real.log 2 ≠ 0 := log2_pos.ne'
  show (2 : ℝ) ^ (κe * x) = _
  rw [Real.rpow_def_of_pos (by norm_num), κe]
  congr 1
  field_simp

theorem exp2_scaled (x : ℝ) : Ideal.exp2 ((κe * x : ℝ) : EReal) = Ideal.exp (x : EReal) := by
  rw [Ideal.exp2_coe, Ideal.exp_coe, two_rpow]

theorem stay_coe (z : ℝ) : stay ((-κe * z : ℝ) : EReal) = ((-κe * sp z : ℝ) : EReal) := by
  have hm : min (-κe * z) 0 = -κe * max z 0 := by
    rcases le_total z 0 with h | h
    · rw [max_eq_right h, min_eq_right (by nlinarith [κe_pos]), mul_zero]
    · rw [max_eq_left h, min_eq_left (by nlinarith [κe_pos])]
  have ha : -κe * max z 0 + (-κe * max z 0 - -κe * z) = κe * -|z| := by
    rcases le_total z 0 with h | h
    · rw [max_eq_right h, abs_of_nonpos h]; ring
    · rw [max_eq_left h, abs_of_nonneg h]; ring
  have hp : ¬ (1 + Real.exp (-|z|) ≤ 0) := by linarith [Real.exp_pos (-|z|)]
  rw [stay, ← EReal.coe_zero, coe_min, hm, ← EReal.coe_sub, ← EReal.coe_add, ha, exp2_scaled, Ideal.exp_coe,
    ← EReal.coe_one, ← EReal.coe_add, Ideal.log_coe, if_neg hp, ← EReal.coe_mul, ← EReal.coe_sub]
  congr 1
  unfold sp
  ring

theorem neg_coe_mul_top : ((-κe : ℝ) : EReal) * ⊤ = ⊥ := EReal.coe_mul_top_of_neg (by linarith [κe_pos])
theorem neg_coe_mul_bot : ((-κe : ℝ) : EReal) * ⊥ = ⊤ := EReal.coe_mul_bot_of_neg (by linarith [κe_pos])
theorem coe_mul_bot : ((κe : ℝ) : EReal) * ⊥ = ⊥ := EReal.coe_mul_bot_of_pos κe_pos

/-- Passing a key by, in base two and in base e. -/
theorem stay_eq (z : EReal) : stay (((-κe : ℝ) : EReal) * z) = ((κe : ℝ) : EReal) * logSig (-z) := by
  induction z with
  | bot => rw [neg_coe_mul_bot, stay_top, EReal.neg_bot, logSig_top, mul_zero]
  | top => rw [neg_coe_mul_top, stay_bot, EReal.neg_top, logSig_bot, coe_mul_bot]
  | coe z =>
    rw [← EReal.coe_mul, stay_coe, ← EReal.coe_neg, logSig_coe, neg_neg, ← EReal.coe_mul]
    congr 1
    ring

/-- A key's weight, in base two and in base e; `S` is the sum over the later keys. -/
theorem weight_eq (z S : EReal) (hS : S ≤ 0) :
    Ideal.exp2 ((stay (((-κe : ℝ) : EReal) * z) - ((-κe : ℝ) : EReal) * z) + ((κe : ℝ) : EReal) * S)
      = Ideal.exp (logSig z + ((logSig (-z) + S) - logSig (-z))) := by
  induction z with
  | bot =>
    rw [neg_coe_mul_bot, stay_top, logSig_bot, EReal.bot_add]
    simp [sub_eq_add_neg]
  | top =>
    rw [neg_coe_mul_top, stay_bot, EReal.neg_top, logSig_bot]
    simp [sub_eq_add_neg]
  | coe z =>
    rw [← EReal.coe_mul, stay_coe, ← EReal.coe_neg, logSig_coe, logSig_coe, ← EReal.coe_sub]
    induction S with
    | bot =>
      rw [coe_mul_bot]
      simp [sub_eq_add_neg]
    | top => exact absurd hS (by simp)
    | coe S =>
      rw [← EReal.coe_mul, ← EReal.coe_add, ← EReal.coe_add, ← EReal.coe_sub, ← EReal.coe_add, ← exp2_scaled]
      congr 2
      rw [sp_neg]
      ring

/-- The sum of the values of `f` over the numbers from `a` up to but not including `b`. -/
def seg (f : ℕ → EReal) (a b : ℕ) : EReal := ∑ k ∈ Finset.Ico a b, f k

theorem seg_add (f : ℕ → EReal) {a b d : ℕ} (h : a ≤ b) (h' : b ≤ d) : seg f a b + seg f b d = seg f a d :=
  Finset.sum_Ico_consecutive f h h'

theorem seg_first (f : ℕ → EReal) {a b : ℕ} (h : a < b) : f a + seg f (a + 1) b = seg f a b :=
  (Finset.sum_eq_sum_Ico_succ_bot h f).symm

theorem seg_nonpos (f : ℕ → EReal) (h : ∀ k, f k ≤ 0) (a b : ℕ) : seg f a b ≤ 0 :=
  Finset.sum_nonpos fun k _ => h k

theorem seg_mul (f : ℕ → EReal) (a b : ℕ) :
    seg (fun k => ((κe : ℝ) : EReal) * f k) a b = ((κe : ℝ) : EReal) * seg f a b := by
  unfold seg
  induction Finset.Ico a b using Finset.induction_on with
  | empty => simp
  | insert x s hx ih =>
    rw [Finset.sum_insert hx, Finset.sum_insert hx, ih,
      EReal.left_distrib_of_nonneg_of_ne_top (EReal.coe_nonneg.mpr κe_pos.le) (EReal.coe_ne_top _)]

/-- The part of a block's sum that lies after position `n`. -/
theorem seg_after (f : ℕ → EReal) (o K n : ℕ) (hn : n < K) :
    (∑ i : Fin K, if n < i.val then f (o + i.val) else 0) = seg f (o + n + 1) (o + K) := by
  rw [Fin.sum_univ_eq_sum_range (fun i => if n < i then f (o + i) else 0) K, seg,
    Finset.sum_Ico_eq_sum_range, ← Finset.sum_filter]
  refine Finset.sum_bij' (fun i _ => i - (n + 1)) (fun i _ => i + (n + 1)) ?_ ?_ ?_ ?_ ?_
  · intro i hi
    simp only [Finset.mem_filter, Finset.mem_range] at hi ⊢
    omega
  · intro i hi
    simp only [Finset.mem_filter, Finset.mem_range] at hi ⊢
    omega
  · intro i hi
    simp only [Finset.mem_filter, Finset.mem_range] at hi
    omega
  · intro i hi
    omega
  · intro i hi
    simp only [Finset.mem_filter, Finset.mem_range] at hi
    congr 1
    omega

/-- A value and the remainder of its rounding, which is zero where casts are exact, make the value again. -/
theorem add_rest (a : EReal) (h : a ≤ 0) : a + (a - a) = a := by
  induction a with
  | bot => simp [sub_eq_add_neg]
  | top => exact absurd h (by simp)
  | coe a => rw [← EReal.coe_sub, sub_self, EReal.coe_zero, add_zero]

/-- The values split in two parts, laid side by side and multiplied with the doubled triangle of ones. -/
theorem tri_sum (K : ℕ) (a : Fin K → EReal) (ha : ∀ i, a i ≤ 0) (p : Fin K → Prop) [DecidablePred p] :
    (∑ i : Fin K, if p i then a i else 0) + (∑ i : Fin K, if p i then a i - a i else 0)
      = ∑ i : Fin K, if p i then a i else 0 := by
  rw [← Finset.sum_add_distrib]
  refine Finset.sum_congr rfl fun i _ => ?_
  by_cases h : p i
  · rw [if_pos h, if_pos h, add_rest _ (ha i)]
  · rw [if_neg h, if_neg h, add_zero]

/-- The logarithm of passing key `k` by, zero at the keys a query may not see. -/
def pass (z : ℕ → EReal) (q k : ℕ) : EReal := if k < 2048 + q then logSig (-z k) else 0

/-- The same in base two, from the scores times −log₂ e. -/
def pass2 (nz : ℕ → EReal) (q k : ℕ) : EReal := if k < 2048 + q then stay (nz k) else 0

theorem pass_nonpos (z : ℕ → EReal) (q k : ℕ) : pass z q k ≤ 0 := by
  unfold pass
  split
  · exact logSig_nonpos _
  · exact le_refl _

/-- A key's weight as the problem states it. -/
def weight (z : ℕ → EReal) (q k : ℕ) : EReal :=
  if k < 2048 + q then Ideal.exp (logSig (z k) + (seg (pass z q) k 2056 - logSig (-z k))) else 0

/-- A key's weight as the kernel forms it. -/
def weight2 (nz : ℕ → EReal) (q k : ℕ) : EReal :=
  if k < 2048 + q then Ideal.exp2 ((stay (nz k) - nz k) + seg (pass2 nz q) (k + 1) 2176) else 0

theorem pass2_eq (z : ℕ → EReal) (q k : ℕ) :
    pass2 (fun k => ((-κe : ℝ) : EReal) * z k) q k = ((κe : ℝ) : EReal) * pass z q k := by
  unfold pass2 pass
  split
  · exact stay_eq _
  · rw [mul_zero]

theorem pass2_nonpos_of (nz z : ℕ → EReal) (q : ℕ) (h : ∀ k < 2048 + q, nz k = ((-κe : ℝ) : EReal) * z k) (k : ℕ) :
    pass2 nz q k = ((κe : ℝ) : EReal) * pass z q k := by
  unfold pass2 pass
  split
  · rename_i hk
    rw [h k hk, stay_eq]
  · rw [mul_zero]

theorem stay_nonpos (a : EReal) : stay a ≤ 0 := by
  have e : a = ((-κe : ℝ) : EReal) * (((-κe)⁻¹ : ℝ) * a) := by
    rw [← mul_assoc, ← EReal.coe_mul, mul_inv_cancel₀ (by linarith [κe_pos]), EReal.coe_one, one_mul]
  rw [e, stay_eq]
  exact EReal.mul_nonpos_iff.mpr (Or.inl ⟨EReal.coe_nonneg.mpr κe_pos.le, logSig_nonpos _⟩)

theorem pass2_nonpos (nz : ℕ → EReal) (q k : ℕ) : pass2 nz q k ≤ 0 := by
  unfold pass2
  split
  · exact stay_nonpos _
  · exact le_refl _

/-- The two weights agree. -/
theorem weight2_eq (nz z : ℕ → EReal) (q : ℕ) (hq : q < 8) (h : ∀ k < 2048 + q, nz k = ((-κe : ℝ) : EReal) * z k) (k : ℕ) :
    weight2 nz q k = weight z q k := by
  unfold weight2 weight
  split
  · rename_i hk
    have e1 : seg (pass2 nz q) (k + 1) 2176 = ((κe : ℝ) : EReal) * seg (pass z q) (k + 1) 2056 := by
      rw [← seg_mul, ← seg_add (pass2 nz q) (show k + 1 ≤ 2056 by omega) (show 2056 ≤ 2176 by omega)]
      have e2 : seg (pass2 nz q) 2056 2176 = 0 := by
        refine Finset.sum_eq_zero fun j hj => ?_
        have := (Finset.mem_Ico.mp hj).1
        exact if_neg (by omega)
      rw [e2, add_zero]
      exact Finset.sum_congr rfl fun j _ => pass2_nonpos_of nz z q h j
    rw [e1, h k hk, weight_eq _ _ (seg_nonpos _ (pass_nonpos z q) _ _), ← seg_first (pass z q) (show k < 2056 by omega)]
    unfold pass
    rw [if_pos hk]
  · rfl

/-- The scaled score: the kernel's form is −log₂ e times the problem's. -/
theorem score_eq (q k : Fin 64 → EReal) (b : EReal) (hq : ∀ d, q d ≠ ⊤ ∧ q d ≠ ⊥) (hk : ∀ d, k d ≠ ⊤ ∧ k d ≠ ⊥) :
    (∑ d, scaled (q d) * k d) + b * ((-κe : ℝ) : EReal)
      = ((-κe : ℝ) : EReal) * ((∑ d, q d * k d) * Ideal.ofBits .f32 0x3E000000#32 + b) := by
  lift q to Fin 64 → ℝ using fun d => hq d
  lift k to Fin 64 → ℝ using fun d => hk d
  simp only [← mul_scale, ← EReal.coe_mul, Consts.eighth]
  have hs : ∀ f : Fin 64 → ℝ, (∑ d, ((f d : ℝ) : EReal)) = ((∑ d, f d : ℝ) : EReal) := fun f =>
    (map_sum (⟨⟨Real.toEReal, EReal.coe_zero⟩, EReal.coe_add⟩ : ℝ →+ EReal) f Finset.univ).symm
  rw [hs, hs, ← EReal.coe_mul]
  have e : (∑ d, q d * -(8⁻¹ * (Real.log 2)⁻¹) * k d) = -κe * ((∑ d, q d * k d) * 8⁻¹) := by
    rw [Finset.sum_mul, Finset.mul_sum]
    refine Finset.sum_congr rfl fun d _ => ?_
    unfold κe
    ring
  rw [e]
  induction b with
  | bot => rw [EReal.add_bot, neg_coe_mul_bot, EReal.bot_mul_coe_of_neg (by linarith [κe_pos]), EReal.coe_add_top]
  | top => rw [EReal.coe_add_top, neg_coe_mul_top, EReal.top_mul_coe_of_neg (by linarith [κe_pos]), EReal.add_bot]
  | coe b =>
    rw [← EReal.coe_mul, ← EReal.coe_add, ← EReal.coe_add, ← EReal.coe_mul]
    congr 1
    ring

end Cert.SampleMath

end
-- ==== Proof.SampleKernel.lean ====
/- What one grid point of the sample attention computes, row by row, in the terms of `SampleMath`. -/
module

public import proofs.«01_k».proof.Proof.Gen.KernelIdeal.Skeleton
public import Idealize.ShloMosaic.Lib.Pipeline.Value
public import proofs.«01_k».proof.Proof.SampleMath

@[expose] public section

set_option maxRecDepth 16384

noncomputable section

namespace Cert.KernelIdeal.Rows

open Cert.KernelIdeal Cert.KernelIdeal.Gen Idealize.ShloMosaic Idealize.ShloMosaic.TcCoe Idealize.SL.Sem
open Cert.SampleMath

/-- Sixteen pages side by side, at a row and a column. -/
theorem pages_at (f : Fin 16 → FVec Ideal S512x128 .f32) (h) (l : Fin 512) (s : Fin 2048) :
    concatenate S512x2048 1 (List.ofFn fun n : Fin 16 => (⟨S512x128, f n⟩ : (s : Shape) × (s.Idx → Ideal .f32))) h (ix2 l s)
      = f ⟨s.val / 128, by omega⟩ (ix2 l ⟨s.val % 128, by omega⟩) := by
  refine concatenate_ofFn_apply 1 f h rfl 128 rfl (ix2 l s) ⟨s.val / 128, by omega⟩ rfl (ix2 l ⟨s.val % 128, by omega⟩) rfl ?_
  intro b hb
  fin_cases b
  · rfl
  · exact absurd rfl hb

/-- The mask of a head's lanes. -/
theorem pay3_at (v0 : Vec Ideal S64x512 .f32) (r : Fin 64) (l : Fin 512) :
    k0_pay3 (F := Ideal) v0 (ix2 r l) = Ideal.cmp .ogt (v0 (ix2 r l)) (Ideal.ofBits .f32 0x3F000000#32) := by
  pointwise [k0_pay3]

/-- The queries laid out block by block: a row's own head's lanes, zero elsewhere. -/
theorem pay4_at (v0 : Vec Ideal S64x512 .f32) (v4 : Vec Ideal S1x8x512 .bf16) (r : Fin 64) (l : Fin 512) :
    k0_pay4 (F := Ideal) v0 v4 (ix2 r l)
      = Scalar.select (k0_pay3 (F := Ideal) v0 (ix2 r l)) (v4 (ix3 0 ⟨r.val % 8, by omega⟩ l)) 0 := by
  have hh : ∀ a b : Fin 8, a.val = b.val → v4 (ix3 0 a l) = v4 (ix3 0 b l) := fun a b h => by rw [Fin.ext h]
  pointwise [k0_pay4]
  congr 1
  split_ifs <;> exact hh _ _ (by dsimp only; omega)

theorem pay5_at (v11 : Vec Ideal S64x1 .f32) (r : Fin 64) :
    k0_pay5 (F := Ideal) v11 (ix2 r 0) = v11 (ix2 r 0) * ((-κe : ℝ) : EReal) := by
  have hs : (Named.named κ "neg_log2e" 0xBFB8AA3B#32 : Ideal .f32) = ((-((Real.log 2)⁻¹) : ℝ) : EReal) :=
    IdealRules.named_const.ideal_named_scalar _ _ _ _ rfl
  pointwise [k0_pay5]
  rw [hs]
  rfl

/-- The new rows, filled up with zeros. -/
theorem pay7_at (v19 : Vec Ideal S8x512 .f32) (n : Fin 128) (l : Fin 512) :
    k0_pay7 (F := Ideal) v19 (ix2 n l) = if h : n.val < 8 then v19 (ix2 ⟨n.val, h⟩ l) else 0 := by
  pointwise [k0_pay7, k0_pay6]

theorem pay8_at (v22 : Vec Ideal S64x128 .f32) (r : Fin 64) (n : Fin 128) :
    k0_pay8 (F := Ideal) v22 (ix2 r n) = Ideal.cmp .ogt (v22 (ix2 r n)) (Ideal.ofBits .f32 0x3F000000#32) := by
  pointwise [k0_pay8]

/-- The new keys' scores, scaled. -/
theorem pay9_at (v0 : Vec Ideal S64x512 .f32) (v4 : Vec Ideal S1x8x512 .bf16) (v11 : Vec Ideal S64x1 .f32)
    (v16 : Vec Ideal S8x512 .f32) (r : Fin 64) (n : Fin 128) :
    k0_pay9 (F := Ideal) v0 v4 v11 v16 (ix2 r n)
      = (∑ l : Fin 512, k0_pay4 (F := Ideal) v0 v4 (ix2 r l) * (if h : n.val < 8 then v16 (ix2 ⟨n.val, h⟩ l) else 0))
        + k0_pay5 (F := Ideal) v11 (ix2 r 0) := by
  pointwise [k0_pay9, k0_pay6]

theorem one_bits : (Scalar.ofBits .f32 0x3F800000#32 : Ideal .f32) = (1 : EReal) := by
  pointwise []

theorem toInt_small (n : ℕ) (h : n < 2 ^ 31) : (BitVec.ofNat 32 n).toInt = n := by
  rw [BitVec.toInt_eq_toNat_of_lt]
  · rw [BitVec.toNat_ofNat, Nat.mod_eq_of_lt (by omega)]
  · rw [BitVec.toNat_ofNat, Nat.mod_eq_of_lt (by omega)]
    omega

theorem sgt_small (a b : ℕ) (ha : a < 2 ^ 31) (hb : b < 2 ^ 31) :
    IntOp.cmpi .sgt (BitVec.ofNat 32 a) (BitVec.ofNat 32 b) = if b < a then 1#1 else 0#1 := by
  show BitVec.ofBool ((BitVec.ofNat 32 b).slt (BitVec.ofNat 32 a)) = _
  rw [BitVec.slt, toInt_small b hb, toInt_small a ha]
  by_cases h : b < a
  · rw [if_pos h, decide_eq_true (by exact_mod_cast h)]
    rfl
  · rw [if_neg h, decide_eq_false (by exact_mod_cast h)]
    rfl

/-- A selection on a condition's word. -/
theorem select_ite (p : Prop) [Decidable p] (a b : EReal) :
    Scalar.select (α := EReal) (if p then 1#1 else 0#1) a b = if p then a else b := by
  by_cases h : p
  · rw [if_pos h, if_pos h]; rfl
  · rw [if_neg h, if_neg h]; rfl

/-- The doubled strict triangle of the new block. -/
theorem pay10_at (i : Fin 256) (n : Fin 128) :
    k0_pay10 (ix2 i n) = if n.val < i.val % 128 then 1#1 else 0#1 := by
  have hw : ∀ i : Fin 256, Scalar.select (IntOp.cmpi .sge (BitVec.ofNat 32 i.val) 128#32) (IntOp.subi (BitVec.ofNat 32 i.val) 128#32) (BitVec.ofNat 32 i.val) = BitVec.ofNat 32 (i.val % 128) := by
    decide +kernel
  rw [← sgt_small _ _ (by omega) (by omega), ← hw]
  pointwise [k0_pay10]

theorem pay11_at (v25 : IVec S64x128 1) (v28 : FVec Ideal S64x128 .f32) (r : Fin 64) (n : Fin 128) :
    k0_pay11 (F := Ideal) v25 v28 (ix2 r n) = Scalar.select (v25 (ix2 r n)) (stay (v28 (ix2 r n))) 0 := by
  have hs : (Named.named κ "log2e" 0x3FB8AA3B#32 : Ideal .f32) = (((Real.log 2)⁻¹ : ℝ) : EReal) :=
    IdealRules.named_const.ideal_named_scalar _ _ _ _ rfl
  pointwise [k0_pay11]
  rw [hs]
  rfl

/-- The sums over the later new keys. -/
theorem pay12_at (v25 : IVec S64x128 1) (v28 : FVec Ideal S64x128 .f32) (one : Ideal .f32) (h1 : one = (1 : EReal))
    (g : Fin 64 → ℕ → EReal) (hg : ∀ r k, g r k ≤ 0)
    (h : ∀ (r : Fin 64) (n : Fin 128), k0_pay11 (F := Ideal) v25 v28 (ix2 r n) = g r (2048 + n.val)) (r : Fin 64) (n : Fin 128) :
    k0_pay12 (F := Ideal) v25 v28 k0_pay10 one (ix2 r n) = seg (g r) (2048 + n.val + 1) 2176 := by
  rw [← seg_after (g r) 2048 128 n.val n.isLt, ← tri_sum 128 (fun i => g r (2048 + i.val)) (fun i => hg r _) (fun i => n.val < i.val)]
  subst h1
  pointwise [k0_pay12]
  simp only [h, pay10_at, select_ite]
  refine congrArg₂ (· + ·) (Finset.sum_congr rfl fun i _ => if_congr ?_ rfl rfl) (Finset.sum_congr rfl fun i _ => if_congr ?_ rfl rfl)
  · rw [Nat.mod_eq_of_lt i.isLt]
  · rw [Nat.add_mod_left, Nat.mod_eq_of_lt i.isLt]

/-- The sum over all the new keys. -/
theorem pay13_at (v25 : IVec S64x128 1) (v28 : FVec Ideal S64x128 .f32) (one : Ideal .f32) (h1 : one = (1 : EReal))
    (g : Fin 64 → ℕ → EReal) (hg : ∀ r k, g r k ≤ 0)
    (h : ∀ (r : Fin 64) (n : Fin 128), k0_pay11 (F := Ideal) v25 v28 (ix2 r n) = g r (2048 + n.val)) (r : Fin 64) :
    k0_pay13 (F := Ideal) v25 v28 k0_pay10 one (ix2 r 0) = seg (g r) 2048 2176 := by
  rw [← seg_first (g r) (show 2048 < 2176 by omega), add_comm]
  have h3 := pay12_at v25 v28 one h1 g hg h r 0
  have h2 := h r 0
  pointwise [k0_pay13]
  rw [h3, h2]
  rfl

theorem pay14_at (v21 : FVec Ideal S128x512 .bf16) (v25 : IVec S64x128 1) (v28 : FVec Ideal S64x128 .f32) (v36 cst) (r : Fin 64) (l : Fin 512) :
    k0_pay14 (F := Ideal) v21 v25 v28 v36 cst (ix2 r l)
      = ∑ n : Fin 128, Scalar.select (v25 (ix2 r n)) (Ideal.exp2 ((k0_pay11 (F := Ideal) v25 v28 (ix2 r n) - v28 (ix2 r n)) + k0_pay12 (F := Ideal) v25 v28 v36 cst (ix2 r n))) 0 * v21 (ix2 n l) := by
  pointwise [k0_pay14]
  rfl

end Cert.KernelIdeal.Rows

end
-- ==== Proof.SampleHost.lean ====
/- The sample attention's host lines, entry by entry: the caches laid out page by page with the positions last, the
   bias repeated for each query, the two masks, and the scaled queries. -/
module

public import proofs.«01_k».proof.Proof.Gen.KernelIdeal.Frame.Runs
public import Idealize.ShloMosaic.Lib.Pipeline.ValueKit
public import Idealize.ShloMosaic.Lib.Claim
public import proofs.«01_k».proof.Proof.SampleKernel

@[expose] public section

set_option maxRecDepth 16384

noncomputable section

namespace Cert.KernelIdeal.Final

open Cert.KernelIdeal Cert.KernelIdeal.Gen Idealize.ShloMosaic Idealize.ShloMosaic.TcCoe Idealize.SL.Sem
open Cert.InMath

variable (m : (ℓ : Loc nD τ sig) → Buf (Elt Ideal) ℓ)

/-- The quotient by `d`, rounded down, of each number. -/
def floorDiv (s : Shape) (hb : S_.BroadcastsInDim s (![] : Fin 0 → Fin s.rank)) (n : IVec s 32) (d : BitVec 32) : IVec s 32 :=
  select
    (andi
      (cmpi .ne (signi n) (broadcastInDim s ![] hb (signi (constantI S_ 32 d))))
      (cmpi .ne (Host.remsi n (broadcastInDim s ![] hb (constantI S_ 32 d))) (broadcastInDim s ![] hb (constantI S_ 32 0#32))))
    (subi (Host.divsi n (broadcastInDim s ![] hb (constantI S_ 32 d))) (broadcastInDim s ![] hb (constantI S_ 32 1#32)))
    (Host.divsi n (broadcastInDim s ![] hb (constantI S_ 32 d)))

/-- The number each remainder is taken by. -/
def divisor : IVec S_ 32 :=
  select (cmpi .eq (constantI S_ 32 8#32) (constantI S_ 32 0#32)) (constantI S_ 32 1#32) (constantI S_ 32 8#32)

/-- The remainders by 8, between 0 and 7. -/
def rest8 (n : IVec S64x1 32) : IVec S64x1 32 :=
  select
    (andi
      (cmpi .ne
        (cmpi .slt (Host.remsi n (broadcastInDim S64x1 ![] bcast_S_S64x1 divisor)) (broadcastInDim S64x1 ![] bcast_S_S64x1 (constantI S_ 32 0#32)))
        (broadcastInDim S64x1 ![] bcast_S_S64x1 (cmpi .slt divisor (constantI S_ 32 0#32))))
      (cmpi .ne (Host.remsi n (broadcastInDim S64x1 ![] bcast_S_S64x1 divisor)) (broadcastInDim S64x1 ![] bcast_S_S64x1 (constantI S_ 32 0#32))))
    (addi (Host.remsi n (broadcastInDim S64x1 ![] bcast_S_S64x1 divisor)) (broadcastInDim S64x1 ![] bcast_S_S64x1 divisor))
    (Host.remsi n (broadcastInDim S64x1 ![] bcast_S_S64x1 divisor))

/-- The rows' numbers. -/
def rowNo : IVec S64x1 32 := broadcastInDim S64x1 ![0] bcast_S64_S64x1_0 (iotaInDim S64 32 0)

/-- The lanes' numbers. -/
def laneNo : IVec S1x512 32 := broadcastInDim S1x512 ![1] bcast_S512_S1x512_1 (iotaInDim S512 32 0)

theorem rowHead_at : ∀ r : Fin 64, floorDiv S64x1 bcast_S_S64x1 rowNo 8#32 (ix2 r 0) = BitVec.ofNat 32 (r.val / 8) := by
  decide +kernel

theorem rowQuery_at : ∀ r : Fin 64, rest8 rowNo (ix2 r 0) = BitVec.ofNat 32 (r.val % 8) := by
  decide +kernel

theorem laneHead_at : ∀ l : Fin 512, floorDiv S1x512 bcast_S_S1x512 laneNo 64#32 (ix2 0 l) = BitVec.ofNat 32 (l.val / 64) := by
  decide +kernel

/-- The mask of the lanes of each row's head. -/
def headMask (a : IVec S64x1 32) (b : IVec S1x512 32) : FVec Ideal S64x512 .f32 :=
  uitofp .f32 (cmpi .eq (broadcastInDim S64x512 ![0, 1] bcast_S64x1_S64x512_0_1 a) (broadcastInDim S64x512 ![0, 1] bcast_S1x512_S64x512_0_1 b))

/-- The mask of the new keys before each row's query. -/
def newMask (b : IVec S64x1 32) : FVec Ideal S64x128 .f32 :=
  uitofp .f32 (cmpi .slt
    (broadcastInDim S64x128 ![0, 1] bcast_S1x128_S64x128_0_1 (broadcastInDim S1x128 ![1] bcast_S128_S1x128_1 (iotaInDim S128 32 0)))
    (broadcastInDim S64x128 ![0, 1] bcast_S64x1_S64x128_0_1 b))

/-- A bit read as a number exceeds one half just where it is set. -/
theorem above_half (b : BitVec 1) : Ideal.cmp .ogt (FloatOps.uitofp (F := Ideal) .f32 b) (Ideal.ofBits .f32 0x3F000000#32) = b := by
  have hb : b = 0#1 ∨ b = 1#1 := by revert b; decide
  rw [Consts.half]
  have h : ((1 / 2 : ℝ) : EReal) < ((b.toNat : ℝ) : EReal) ↔ b = 1#1 := by
    rw [EReal.coe_lt_coe_iff]
    rcases hb with rfl | rfl
    · simp
    · simp
      norm_num
  show BitVec.ofBool (decide (((1 / 2 : ℝ) : EReal) < ((b.toNat : ℝ) : EReal))) = b
  rcases hb with rfl | rfl
  · rw [decide_eq_false (fun e => absurd (h.mp e) (by decide))]; rfl
  · rw [decide_eq_true (h.mpr rfl)]; rfl

theorem entry26 (c : Dev nD) : V m c main_v26 = headMask (floorDiv S64x1 bcast_S_S64x1 rowNo 8#32) (floorDiv S1x512 bcast_S_S1x512 laneNo 64#32) := by
  simp only [V, hostOps0, hostOps0_1, hostOps0_2, hostOps0_3, hostOps0_4, hostOps0_5, hostOps0_6, List.flatten_cons, List.flatten_nil,
    List.append_nil, List.cons_append, List.nil_append]
  entry_read
  simp only [StableHlo.TRef.ofBuf, StableHlo.TRef.toBuf, StableHlo.TRef.of, cast_eq]
  rfl

theorem entry32 (c : Dev nD) : V m c main_v32 = newMask (rest8 rowNo) := by
  simp only [V, hostOps0, hostOps0_1, hostOps0_2, hostOps0_3, hostOps0_4, hostOps0_5, hostOps0_6, List.flatten_cons, List.flatten_nil,
    List.append_nil, List.cons_append, List.nil_append]
  entry_read
  simp only [StableHlo.TRef.ofBuf, StableHlo.TRef.toBuf, StableHlo.TRef.of, cast_eq]
  rfl

theorem headMask_at (r : Fin 64) (l : Fin 512) (a : IVec S64x1 32) (b : IVec S1x512 32) :
    headMask a b (ix2 r l) = FloatOps.uitofp (F := Ideal) .f32 (IntOp.cmpi .eq (a (ix2 r 0)) (b (ix2 0 l))) := by
  pointwise [headMask]

theorem newMask_at (r : Fin 64) (n : Fin 128) (b : IVec S64x1 32) :
    newMask b (ix2 r n) = FloatOps.uitofp (F := Ideal) .f32 (IntOp.cmpi .slt (BitVec.ofNat 32 n.val) (b (ix2 r 0))) := by
  pointwise [newMask]

/-- A cached key's entry as the kernel's pages hold it. -/
theorem entry1 (c : Dev nD) (y : Fin 2) (p : Fin 2560) (l : Fin 512) (s : Fin 128) :
    V m c main_v1 (ix4 y p l s) = m ((c : Thread nD τ).loc main_arg3) (ix5 y p s ⟨l.val / 64, by omega⟩ ⟨l.val % 64, by omega⟩) := by
  simp only [V, hostOps0, hostOps0_1, hostOps0_2, hostOps0_3, hostOps0_4, hostOps0_5, hostOps0_6, List.flatten_cons, List.flatten_nil,
    List.append_nil, List.cons_append, List.nil_append]
  entry_read
  pointwise []

/-- A cached value's entry as the kernel's pages hold it. -/
theorem entry3 (c : Dev nD) (y : Fin 2) (p : Fin 2560) (l : Fin 512) (s : Fin 128) :
    V m c main_v3 (ix4 y p l s) = m ((c : Thread nD τ).loc main_arg4) (ix5 y p s ⟨l.val / 64, by omega⟩ ⟨l.val % 64, by omega⟩) := by
  simp only [V, hostOps0, hostOps0_1, hostOps0_2, hostOps0_3, hostOps0_4, hostOps0_5, hostOps0_6, List.flatten_cons, List.flatten_nil,
    List.append_nil, List.cons_append, List.nil_append]
  entry_read
  pointwise []

/-- The bias of a row: its head's. -/
theorem entry6 (c : Dev nD) (r : Fin 64) :
    V m c main_v6 (ix2 r 0) = m ((c : Thread nD τ).loc main_arg6) (ix1 ⟨r.val / 8, by omega⟩) := by
  simp only [V, hostOps0, hostOps0_1, hostOps0_2, hostOps0_3, hostOps0_4, hostOps0_5, hostOps0_6, List.flatten_cons, List.flatten_nil,
    List.append_nil, List.cons_append, List.nil_append]
  entry_read
  pointwise []

/-- A scaled query's entry. -/
theorem entry33 (c : Dev nD) (t : Fin 128) (q : Fin 8) (l : Fin 512) :
    V m c main_v33 (ix3 t q l) = scaled (m ((c : Thread nD τ).loc main_arg0) (ix2 ⟨t.val * 8 + q.val, by omega⟩ l)) := by
  simp only [V, hostOps0, hostOps0_1, hostOps0_2, hostOps0_3, hostOps0_4, hostOps0_5, hostOps0_6, List.flatten_cons, List.flatten_nil,
    List.append_nil, List.cons_append, List.nil_append]
  entry_read
  pointwise [scaled]

end Cert.KernelIdeal.Final

end
-- ==== Proof.SampleBlocks.lean ====
/- The sample attention's blocks: which entries of the arrays each grid point's windows hold, the cached pages' through
   the page table. -/
module

public import proofs.«01_k».proof.Proof.Gen.KernelIdeal.Frame.Runs
public import Idealize.ShloMosaic.Lib.Pipeline.ValueKit
public import Idealize.ShloMosaic.Lib.Claim
public import proofs.«01_k».proof.Proof.SampleHost

@[expose] public section

set_option maxRecDepth 16384

noncomputable section

namespace Cert.KernelIdeal.Final

open Cert.KernelIdeal Cert.KernelIdeal.Gen Idealize.ShloMosaic Idealize.ShloMosaic.TcCoe Idealize.SL.Sem

variable (m : (ℓ : Loc nD τ sig) → Buf (Elt Ideal) ℓ) (hO : Ok m)

attribute [local irreducible] StableHlo.after tbl

theorem coords_at : ∀ t : Fin grid0.N, (grid0.coords t 0).val = t.val := by decide +kernel

/-- The table's word a window's index map reads at a point. -/
theorem table_at (pf : pre0.Contents (Elt Ideal)) (t : Fin grid0.N) (j : Fin 16)
    (hb : ∀ a, (![(Scalar.indexCast (BitVec.ofNat 32 (grid0.coords t 0).val)).toNat, j.val] : Fin 2 → ℕ) a + S1x1.size a ≤ S128x16.size a)
    (hn : S1x1.numel = 1) :
    pf.at 0 (Rect.unit (s := S128x16) ![(Scalar.indexCast (BitVec.ofNat 32 (grid0.coords t 0).val)).toNat, j.val] S1x1.size hb) hn
      = pf 0 (ix2 ⟨t.val, t.isLt⟩ j) := by
  have h := coords_at t
  have hlt : t.val < 128 := t.isLt
  show pf 0 _ = pf 0 _
  refine congrArg (pf 0) ?_
  funext a
  apply Fin.ext
  fin_cases a
  · show (Scalar.indexCast (BitVec.ofNat 32 (grid0.coords t 0).val)).toNat + 0 = t.val
    rw [h]
    show (BitVec.ofNat 32 t.val).toNat + 0 = t.val
    rw [BitVec.toNat_ofNat]
    omega
  · rfl

/-- A word as a page number. -/
def pageOf (v : BitVec 32) (h : v.toNat < 2560) : Fin 2560 := ⟨v.toNat, h⟩

theorem pageOf_val (v : BitVec 32) (h : v.toNat < 2560) : (pageOf v h).val = v.toNat := rfl

/-- The page a point reads for a block of 128 positions. -/
def page (hp : ∀ y : S128x16.Idx, (tbl m 0 y : BitVec 32).toNat < 2560) (t : Fin 128) (n : Fin 16) : Fin 2560 :=
  pageOf (tbl m 0 (ix2 t n)) (hp _)

theorem page_val (hp : ∀ y : S128x16.Idx, (tbl m 0 y : BitVec 32).toNat < 2560) (t : Fin 128) (n : Fin 16) :
    (page m hp t n).val = (tbl m 0 (ix2 t n) : BitVec 32).toNat := pageOf_val _ _

/-- An entry of a page's block, in the array. -/
theorem spot4 (p : Fin 2560) (l : Fin 512) (s : Fin 128) : ∀ a : Fin 4,
    (![0, p.val, 0, 0] : Fin 4 → ℕ) a * (![1, 1, 512, 128] : Fin 4 → ℕ) a + (ix4 (n0 := 1) (n1 := 1) (n2 := 512) (n3 := 128) 0 0 l s a).val
      = (ix4 (n0 := 2) (n1 := 2560) (n2 := 512) (n3 := 128) 0 p l s a).val := by
  intro a
  fin_cases a
  · show 0 * 1 + 0 = 0
    rfl
  · show p.val * 1 + 0 = p.val
    omega
  · show 0 * 512 + l.val = l.val
    omega
  · show 0 * 128 + s.val = s.val
    omega

variable (hp : ∀ y : S128x16.Idx, (tbl m 0 y : BitVec 32).toNat < 2560)

theorem index6 (t : Fin (cfgM m hO).N) : ((cfgM m hO).win 6).index t = ![0, (page m hp ⟨t.val, t.isLt⟩ 0).val, 0, 0] := by
  rw [page_val]
  exact congrArg (fun w : BitVec 32 => (![0, w.toNat, 0, 0] : Fin 4 → ℕ)) (table_at (tbl m) t 0 _ _)

theorem read6 (c : Dev nD) (t : Fin (cfgM m hO).N) (l : Fin 512) (s : Fin 128) (p : Fin 2560)
    (hi : ((cfgM m hO).win 6).index t = ![0, p.val, 0, 0]) :
    iblk m hO c 6 t (ix4 0 0 l s) = V m c main_v1 (ix4 0 p l s) := by
  show V m c main_v1 ((((cfgM m hO).win 6).rect t).emb (ix4 0 0 l s)) = _
  generalize V m c main_v1 = A
  refine congrArg A (funext fun a => Fin.ext ?_)
  have h1 := Pipeline.Window.rect_emb_val ((cfgM m hO).win 6) t (ix4 0 0 l s) a rfl
  refine h1.trans ?_
  refine (congrArg (fun i : Fin 4 → ℕ => i a * (![1, 1, 512, 128] : Fin 4 → ℕ) a + (ix4 (n0 := 1) (n1 := 1) (n2 := 512) (n3 := 128) 0 0 l s a).val) hi).trans ?_
  exact spot4 p l s a

theorem index22 (t : Fin (cfgM m hO).N) : ((cfgM m hO).win 22).index t = ![0, (page m hp ⟨t.val, t.isLt⟩ 0).val, 0, 0] := by
  rw [page_val]
  exact congrArg (fun w : BitVec 32 => (![0, w.toNat, 0, 0] : Fin 4 → ℕ)) (table_at (tbl m) t 0 _ _)

theorem read22 (c : Dev nD) (t : Fin (cfgM m hO).N) (l : Fin 512) (s : Fin 128) (p : Fin 2560)
    (hi : ((cfgM m hO).win 22).index t = ![0, p.val, 0, 0]) :
    iblk m hO c 22 t (ix4 0 0 l s) = V m c main_v3 (ix4 0 p l s) := by
  show V m c main_v3 ((((cfgM m hO).win 22).rect t).emb (ix4 0 0 l s)) = _
  generalize V m c main_v3 = A
  refine congrArg A (funext fun a => Fin.ext ?_)
  have h1 := Pipeline.Window.rect_emb_val ((cfgM m hO).win 22) t (ix4 0 0 l s) a rfl
  refine h1.trans ?_
  refine (congrArg (fun i : Fin 4 → ℕ => i a * (![1, 1, 512, 128] : Fin 4 → ℕ) a + (ix4 (n0 := 1) (n1 := 1) (n2 := 512) (n3 := 128) 0 0 l s a).val) hi).trans ?_
  exact spot4 p l s a

theorem index7 (t : Fin (cfgM m hO).N) : ((cfgM m hO).win 7).index t = ![0, (page m hp ⟨t.val, t.isLt⟩ 1).val, 0, 0] := by
  rw [page_val]
  exact congrArg (fun w : BitVec 32 => (![0, w.toNat, 0, 0] : Fin 4 → ℕ)) (table_at (tbl m) t 1 _ _)

theorem read7 (c : Dev nD) (t : Fin (cfgM m hO).N) (l : Fin 512) (s : Fin 128) (p : Fin 2560)
    (hi : ((cfgM m hO).win 7).index t = ![0, p.val, 0, 0]) :
    iblk m hO c 7 t (ix4 0 0 l s) = V m c main_v1 (ix4 0 p l s) := by
  show V m c main_v1 ((((cfgM m hO).win 7).rect t).emb (ix4 0 0 l s)) = _
  generalize V m c main_v1 = A
  refine congrArg A (funext fun a => Fin.ext ?_)
  have h1 := Pipeline.Window.rect_emb_val ((cfgM m hO).win 7) t (ix4 0 0 l s) a rfl
  refine h1.trans ?_
  refine (congrArg (fun i : Fin 4 → ℕ => i a * (![1, 1, 512, 128] : Fin 4 → ℕ) a + (ix4 (n0 := 1) (n1 := 1) (n2 := 512) (n3 := 128) 0 0 l s a).val) hi).trans ?_
  exact spot4 p l s a

theorem index23 (t : Fin (cfgM m hO).N) : ((cfgM m hO).win 23).index t = ![0, (page m hp ⟨t.val, t.isLt⟩ 1).val, 0, 0] := by
  rw [page_val]
  exact congrArg (fun w : BitVec 32 => (![0, w.toNat, 0, 0] : Fin 4 → ℕ)) (table_at (tbl m) t 1 _ _)

theorem read23 (c : Dev nD) (t : Fin (cfgM m hO).N) (l : Fin 512) (s : Fin 128) (p : Fin 2560)
    (hi : ((cfgM m hO).win 23).index t = ![0, p.val, 0, 0]) :
    iblk m hO c 23 t (ix4 0 0 l s) = V m c main_v3 (ix4 0 p l s) := by
  show V m c main_v3 ((((cfgM m hO).win 23).rect t).emb (ix4 0 0 l s)) = _
  generalize V m c main_v3 = A
  refine congrArg A (funext fun a => Fin.ext ?_)
  have h1 := Pipeline.Window.rect_emb_val ((cfgM m hO).win 23) t (ix4 0 0 l s) a rfl
  refine h1.trans ?_
  refine (congrArg (fun i : Fin 4 → ℕ => i a * (![1, 1, 512, 128] : Fin 4 → ℕ) a + (ix4 (n0 := 1) (n1 := 1) (n2 := 512) (n3 := 128) 0 0 l s a).val) hi).trans ?_
  exact spot4 p l s a

theorem index8 (t : Fin (cfgM m hO).N) : ((cfgM m hO).win 8).index t = ![0, (page m hp ⟨t.val, t.isLt⟩ 2).val, 0, 0] := by
  rw [page_val]
  exact congrArg (fun w : BitVec 32 => (![0, w.toNat, 0, 0] : Fin 4 → ℕ)) (table_at (tbl m) t 2 _ _)

theorem read8 (c : Dev nD) (t : Fin (cfgM m hO).N) (l : Fin 512) (s : Fin 128) (p : Fin 2560)
    (hi : ((cfgM m hO).win 8).index t = ![0, p.val, 0, 0]) :
    iblk m hO c 8 t (ix4 0 0 l s) = V m c main_v1 (ix4 0 p l s) := by
  show V m c main_v1 ((((cfgM m hO).win 8).rect t).emb (ix4 0 0 l s)) = _
  generalize V m c main_v1 = A
  refine congrArg A (funext fun a => Fin.ext ?_)
  have h1 := Pipeline.Window.rect_emb_val ((cfgM m hO).win 8) t (ix4 0 0 l s) a rfl
  refine h1.trans ?_
  refine (congrArg (fun i : Fin 4 → ℕ => i a * (![1, 1, 512, 128] : Fin 4 → ℕ) a + (ix4 (n0 := 1) (n1 := 1) (n2 := 512) (n3 := 128) 0 0 l s a).val) hi).trans ?_
  exact spot4 p l s a

theorem index24 (t : Fin (cfgM m hO).N) : ((cfgM m hO).win 24).index t = ![0, (page m hp ⟨t.val, t.isLt⟩ 2).val, 0, 0] := by
  rw [page_val]
  exact congrArg (fun w : BitVec 32 => (![0, w.toNat, 0, 0] : Fin 4 → ℕ)) (table_at (tbl m) t 2 _ _)

theorem read24 (c : Dev nD) (t : Fin (cfgM m hO).N) (l : Fin 512) (s : Fin 128) (p : Fin 2560)
    (hi : ((cfgM m hO).win 24).index t = ![0, p.val, 0, 0]) :
    iblk m hO c 24 t (ix4 0 0 l s) = V m c main_v3 (ix4 0 p l s) := by
  show V m c main_v3 ((((cfgM m hO).win 24).rect t).emb (ix4 0 0 l s)) = _
  generalize V m c main_v3 = A
  refine congrArg A (funext fun a => Fin.ext ?_)
  have h1 := Pipeline.Window.rect_emb_val ((cfgM m hO).win 24) t (ix4 0 0 l s) a rfl
  refine h1.trans ?_
  refine (congrArg (fun i : Fin 4 → ℕ => i a * (![1, 1, 512, 128] : Fin 4 → ℕ) a + (ix4 (n0 := 1) (n1 := 1) (n2 := 512) (n3 := 128) 0 0 l s a).val) hi).trans ?_
  exact spot4 p l s a

theorem index9 (t : Fin (cfgM m hO).N) : ((cfgM m hO).win 9).index t = ![0, (page m hp ⟨t.val, t.isLt⟩ 3).val, 0, 0] := by
  rw [page_val]
  exact congrArg (fun w : BitVec 32 => (![0, w.toNat, 0, 0] : Fin 4 → ℕ)) (table_at (tbl m) t 3 _ _)

theorem read9 (c : Dev nD) (t : Fin (cfgM m hO).N) (l : Fin 512) (s : Fin 128) (p : Fin 2560)
    (hi : ((cfgM m hO).win 9).index t = ![0, p.val, 0, 0]) :
    iblk m hO c 9 t (ix4 0 0 l s) = V m c main_v1 (ix4 0 p l s) := by
  show V m c main_v1 ((((cfgM m hO).win 9).rect t).emb (ix4 0 0 l s)) = _
  generalize V m c main_v1 = A
  refine congrArg A (funext fun a => Fin.ext ?_)
  have h1 := Pipeline.Window.rect_emb_val ((cfgM m hO).win 9) t (ix4 0 0 l s) a rfl
  refine h1.trans ?_
  refine (congrArg (fun i : Fin 4 → ℕ => i a * (![1, 1, 512, 128] : Fin 4 → ℕ) a + (ix4 (n0 := 1) (n1 := 1) (n2 := 512) (n3 := 128) 0 0 l s a).val) hi).trans ?_
  exact spot4 p l s a

theorem index25 (t : Fin (cfgM m hO).N) : ((cfgM m hO).win 25).index t = ![0, (page m hp ⟨t.val, t.isLt⟩ 3).val, 0, 0] := by
  rw [page_val]
  exact congrArg (fun w : BitVec 32 => (![0, w.toNat, 0, 0] : Fin 4 → ℕ)) (table_at (tbl m) t 3 _ _)

theorem read25 (c : Dev nD) (t : Fin (cfgM m hO).N) (l : Fin 512) (s : Fin 128) (p : Fin 2560)
    (hi : ((cfgM m hO).win 25).index t = ![0, p.val, 0, 0]) :
    iblk m hO c 25 t (ix4 0 0 l s) = V m c main_v3 (ix4 0 p l s) := by
  show V m c main_v3 ((((cfgM m hO).win 25).rect t).emb (ix4 0 0 l s)) = _
  generalize V m c main_v3 = A
  refine congrArg A (funext fun a => Fin.ext ?_)
  have h1 := Pipeline.Window.rect_emb_val ((cfgM m hO).win 25) t (ix4 0 0 l s) a rfl
  refine h1.trans ?_
  refine (congrArg (fun i : Fin 4 → ℕ => i a * (![1, 1, 512, 128] : Fin 4 → ℕ) a + (ix4 (n0 := 1) (n1 := 1) (n2 := 512) (n3 := 128) 0 0 l s a).val) hi).trans ?_
  exact spot4 p l s a

theorem index10 (t : Fin (cfgM m hO).N) : ((cfgM m hO).win 10).index t = ![0, (page m hp ⟨t.val, t.isLt⟩ 4).val, 0, 0] := by
  rw [page_val]
  exact congrArg (fun w : BitVec 32 => (![0, w.toNat, 0, 0] : Fin 4 → ℕ)) (table_at (tbl m) t 4 _ _)

theorem read10 (c : Dev nD) (t : Fin (cfgM m hO).N) (l : Fin 512) (s : Fin 128) (p : Fin 2560)
    (hi : ((cfgM m hO).win 10).index t = ![0, p.val, 0, 0]) :
    iblk m hO c 10 t (ix4 0 0 l s) = V m c main_v1 (ix4 0 p l s) := by
  show V m c main_v1 ((((cfgM m hO).win 10).rect t).emb (ix4 0 0 l s)) = _
  generalize V m c main_v1 = A
  refine congrArg A (funext fun a => Fin.ext ?_)
  have h1 := Pipeline.Window.rect_emb_val ((cfgM m hO).win 10) t (ix4 0 0 l s) a rfl
  refine h1.trans ?_
  refine (congrArg (fun i : Fin 4 → ℕ => i a * (![1, 1, 512, 128] : Fin 4 → ℕ) a + (ix4 (n0 := 1) (n1 := 1) (n2 := 512) (n3 := 128) 0 0 l s a).val) hi).trans ?_
  exact spot4 p l s a

theorem index26 (t : Fin (cfgM m hO).N) : ((cfgM m hO).win 26).index t = ![0, (page m hp ⟨t.val, t.isLt⟩ 4).val, 0, 0] := by
  rw [page_val]
  exact congrArg (fun w : BitVec 32 => (![0, w.toNat, 0, 0] : Fin 4 → ℕ)) (table_at (tbl m) t 4 _ _)

theorem read26 (c : Dev nD) (t : Fin (cfgM m hO).N) (l : Fin 512) (s : Fin 128) (p : Fin 2560)
    (hi : ((cfgM m hO).win 26).index t = ![0, p.val, 0, 0]) :
    iblk m hO c 26 t (ix4 0 0 l s) = V m c main_v3 (ix4 0 p l s) := by
  show V m c main_v3 ((((cfgM m hO).win 26).rect t).emb (ix4 0 0 l s)) = _
  generalize V m c main_v3 = A
  refine congrArg A (funext fun a => Fin.ext ?_)
  have h1 := Pipeline.Window.rect_emb_val ((cfgM m hO).win 26) t (ix4 0 0 l s) a rfl
  refine h1.trans ?_
  refine (congrArg (fun i : Fin 4 → ℕ => i a * (![1, 1, 512, 128] : Fin 4 → ℕ) a + (ix4 (n0 := 1) (n1 := 1) (n2 := 512) (n3 := 128) 0 0 l s a).val) hi).trans ?_
  exact spot4 p l s a

theorem index11 (t : Fin (cfgM m hO).N) : ((cfgM m hO).win 11).index t = ![0, (page m hp ⟨t.val, t.isLt⟩ 5).val, 0, 0] := by
  rw [page_val]
  exact congrArg (fun w : BitVec 32 => (![0, w.toNat, 0, 0] : Fin 4 → ℕ)) (table_at (tbl m) t 5 _ _)

theorem read11 (c : Dev nD) (t : Fin (cfgM m hO).N) (l : Fin 512) (s : Fin 128) (p : Fin 2560)
    (hi : ((cfgM m hO).win 11).index t = ![0, p.val, 0, 0]) :
    iblk m hO c 11 t (ix4 0 0 l s) = V m c main_v1 (ix4 0 p l s) := by
  show V m c main_v1 ((((cfgM m hO).win 11).rect t).emb (ix4 0 0 l s)) = _
  generalize V m c main_v1 = A
  refine congrArg A (funext fun a => Fin.ext ?_)
  have h1 := Pipeline.Window.rect_emb_val ((cfgM m hO).win 11) t (ix4 0 0 l s) a rfl
  refine h1.trans ?_
  refine (congrArg (fun i : Fin 4 → ℕ => i a * (![1, 1, 512, 128] : Fin 4 → ℕ) a + (ix4 (n0 := 1) (n1 := 1) (n2 := 512) (n3 := 128) 0 0 l s a).val) hi).trans ?_
  exact spot4 p l s a

theorem index27 (t : Fin (cfgM m hO).N) : ((cfgM m hO).win 27).index t = ![0, (page m hp ⟨t.val, t.isLt⟩ 5).val, 0, 0] := by
  rw [page_val]
  exact congrArg (fun w : BitVec 32 => (![0, w.toNat, 0, 0] : Fin 4 → ℕ)) (table_at (tbl m) t 5 _ _)

theorem read27 (c : Dev nD) (t : Fin (cfgM m hO).N) (l : Fin 512) (s : Fin 128) (p : Fin 2560)
    (hi : ((cfgM m hO).win 27).index t = ![0, p.val, 0, 0]) :
    iblk m hO c 27 t (ix4 0 0 l s) = V m c main_v3 (ix4 0 p l s) := by
  show V m c main_v3 ((((cfgM m hO).win 27).rect t).emb (ix4 0 0 l s)) = _
  generalize V m c main_v3 = A
  refine congrArg A (funext fun a => Fin.ext ?_)
  have h1 := Pipeline.Window.rect_emb_val ((cfgM m hO).win 27) t (ix4 0 0 l s) a rfl
  refine h1.trans ?_
  refine (congrArg (fun i : Fin 4 → ℕ => i a * (![1, 1, 512, 128] : Fin 4 → ℕ) a + (ix4 (n0 := 1) (n1 := 1) (n2 := 512) (n3 := 128) 0 0 l s a).val) hi).trans ?_
  exact spot4 p l s a

theorem index12 (t : Fin (cfgM m hO).N) : ((cfgM m hO).win 12).index t = ![0, (page m hp ⟨t.val, t.isLt⟩ 6).val, 0, 0] := by
  rw [page_val]
  exact congrArg (fun w : BitVec 32 => (![0, w.toNat, 0, 0] : Fin 4 → ℕ)) (table_at (tbl m) t 6 _ _)

theorem read12 (c : Dev nD) (t : Fin (cfgM m hO).N) (l : Fin 512) (s : Fin 128) (p : Fin 2560)
    (hi : ((cfgM m hO).win 12).index t = ![0, p.val, 0, 0]) :
    iblk m hO c 12 t (ix4 0 0 l s) = V m c main_v1 (ix4 0 p l s) := by
  show V m c main_v1 ((((cfgM m hO).win 12).rect t).emb (ix4 0 0 l s)) = _
  generalize V m c main_v1 = A
  refine congrArg A (funext fun a => Fin.ext ?_)
  have h1 := Pipeline.Window.rect_emb_val ((cfgM m hO).win 12) t (ix4 0 0 l s) a rfl
  refine h1.trans ?_
  refine (congrArg (fun i : Fin 4 → ℕ => i a * (![1, 1, 512, 128] : Fin 4 → ℕ) a + (ix4 (n0 := 1) (n1 := 1) (n2 := 512) (n3 := 128) 0 0 l s a).val) hi).trans ?_
  exact spot4 p l s a

theorem index28 (t : Fin (cfgM m hO).N) : ((cfgM m hO).win 28).index t = ![0, (page m hp ⟨t.val, t.isLt⟩ 6).val, 0, 0] := by
  rw [page_val]
  exact congrArg (fun w : BitVec 32 => (![0, w.toNat, 0, 0] : Fin 4 → ℕ)) (table_at (tbl m) t 6 _ _)

theorem read28 (c : Dev nD) (t : Fin (cfgM m hO).N) (l : Fin 512) (s : Fin 128) (p : Fin 2560)
    (hi : ((cfgM m hO).win 28).index t = ![0, p.val, 0, 0]) :
    iblk m hO c 28 t (ix4 0 0 l s) = V m c main_v3 (ix4 0 p l s) := by
  show V m c main_v3 ((((cfgM m hO).win 28).rect t).emb (ix4 0 0 l s)) = _
  generalize V m c main_v3 = A
  refine congrArg A (funext fun a => Fin.ext ?_)
  have h1 := Pipeline.Window.rect_emb_val ((cfgM m hO).win 28) t (ix4 0 0 l s) a rfl
  refine h1.trans ?_
  refine (congrArg (fun i : Fin 4 → ℕ => i a * (![1, 1, 512, 128] : Fin 4 → ℕ) a + (ix4 (n0 := 1) (n1 := 1) (n2 := 512) (n3 := 128) 0 0 l s a).val) hi).trans ?_
  exact spot4 p l s a

theorem index13 (t : Fin (cfgM m hO).N) : ((cfgM m hO).win 13).index t = ![0, (page m hp ⟨t.val, t.isLt⟩ 7).val, 0, 0] := by
  rw [page_val]
  exact congrArg (fun w : BitVec 32 => (![0, w.toNat, 0, 0] : Fin 4 → ℕ)) (table_at (tbl m) t 7 _ _)

theorem read13 (c : Dev nD) (t : Fin (cfgM m hO).N) (l : Fin 512) (s : Fin 128) (p : Fin 2560)
    (hi : ((cfgM m hO).win 13).index t = ![0, p.val, 0, 0]) :
    iblk m hO c 13 t (ix4 0 0 l s) = V m c main_v1 (ix4 0 p l s) := by
  show V m c main_v1 ((((cfgM m hO).win 13).rect t).emb (ix4 0 0 l s)) = _
  generalize V m c main_v1 = A
  refine congrArg A (funext fun a => Fin.ext ?_)
  have h1 := Pipeline.Window.rect_emb_val ((cfgM m hO).win 13) t (ix4 0 0 l s) a rfl
  refine h1.trans ?_
  refine (congrArg (fun i : Fin 4 → ℕ => i a * (![1, 1, 512, 128] : Fin 4 → ℕ) a + (ix4 (n0 := 1) (n1 := 1) (n2 := 512) (n3 := 128) 0 0 l s a).val) hi).trans ?_
  exact spot4 p l s a

theorem index29 (t : Fin (cfgM m hO).N) : ((cfgM m hO).win 29).index t = ![0, (page m hp ⟨t.val, t.isLt⟩ 7).val, 0, 0] := by
  rw [page_val]
  exact congrArg (fun w : BitVec 32 => (![0, w.toNat, 0, 0] : Fin 4 → ℕ)) (table_at (tbl m) t 7 _ _)

theorem read29 (c : Dev nD) (t : Fin (cfgM m hO).N) (l : Fin 512) (s : Fin 128) (p : Fin 2560)
    (hi : ((cfgM m hO).win 29).index t = ![0, p.val, 0, 0]) :
    iblk m hO c 29 t (ix4 0 0 l s) = V m c main_v3 (ix4 0 p l s) := by
  show V m c main_v3 ((((cfgM m hO).win 29).rect t).emb (ix4 0 0 l s)) = _
  generalize V m c main_v3 = A
  refine congrArg A (funext fun a => Fin.ext ?_)
  have h1 := Pipeline.Window.rect_emb_val ((cfgM m hO).win 29) t (ix4 0 0 l s) a rfl
  refine h1.trans ?_
  refine (congrArg (fun i : Fin 4 → ℕ => i a * (![1, 1, 512, 128] : Fin 4 → ℕ) a + (ix4 (n0 := 1) (n1 := 1) (n2 := 512) (n3 := 128) 0 0 l s a).val) hi).trans ?_
  exact spot4 p l s a

theorem index14 (t : Fin (cfgM m hO).N) : ((cfgM m hO).win 14).index t = ![0, (page m hp ⟨t.val, t.isLt⟩ 8).val, 0, 0] := by
  rw [page_val]
  exact congrArg (fun w : BitVec 32 => (![0, w.toNat, 0, 0] : Fin 4 → ℕ)) (table_at (tbl m) t 8 _ _)

theorem read14 (c : Dev nD) (t : Fin (cfgM m hO).N) (l : Fin 512) (s : Fin 128) (p : Fin 2560)
    (hi : ((cfgM m hO).win 14).index t = ![0, p.val, 0, 0]) :
    iblk m hO c 14 t (ix4 0 0 l s) = V m c main_v1 (ix4 0 p l s) := by
  show V m c main_v1 ((((cfgM m hO).win 14).rect t).emb (ix4 0 0 l s)) = _
  generalize V m c main_v1 = A
  refine congrArg A (funext fun a => Fin.ext ?_)
  have h1 := Pipeline.Window.rect_emb_val ((cfgM m hO).win 14) t (ix4 0 0 l s) a rfl
  refine h1.trans ?_
  refine (congrArg (fun i : Fin 4 → ℕ => i a * (![1, 1, 512, 128] : Fin 4 → ℕ) a + (ix4 (n0 := 1) (n1 := 1) (n2 := 512) (n3 := 128) 0 0 l s a).val) hi).trans ?_
  exact spot4 p l s a

theorem index30 (t : Fin (cfgM m hO).N) : ((cfgM m hO).win 30).index t = ![0, (page m hp ⟨t.val, t.isLt⟩ 8).val, 0, 0] := by
  rw [page_val]
  exact congrArg (fun w : BitVec 32 => (![0, w.toNat, 0, 0] : Fin 4 → ℕ)) (table_at (tbl m) t 8 _ _)

theorem read30 (c : Dev nD) (t : Fin (cfgM m hO).N) (l : Fin 512) (s : Fin 128) (p : Fin 2560)
    (hi : ((cfgM m hO).win 30).index t = ![0, p.val, 0, 0]) :
    iblk m hO c 30 t (ix4 0 0 l s) = V m c main_v3 (ix4 0 p l s) := by
  show V m c main_v3 ((((cfgM m hO).win 30).rect t).emb (ix4 0 0 l s)) = _
  generalize V m c main_v3 = A
  refine congrArg A (funext fun a => Fin.ext ?_)
  have h1 := Pipeline.Window.rect_emb_val ((cfgM m hO).win 30) t (ix4 0 0 l s) a rfl
  refine h1.trans ?_
  refine (congrArg (fun i : Fin 4 → ℕ => i a * (![1, 1, 512, 128] : Fin 4 → ℕ) a + (ix4 (n0 := 1) (n1 := 1) (n2 := 512) (n3 := 128) 0 0 l s a).val) hi).trans ?_
  exact spot4 p l s a

theorem index15 (t : Fin (cfgM m hO).N) : ((cfgM m hO).win 15).index t = ![0, (page m hp ⟨t.val, t.isLt⟩ 9).val, 0, 0] := by
  rw [page_val]
  exact congrArg (fun w : BitVec 32 => (![0, w.toNat, 0, 0] : Fin 4 → ℕ)) (table_at (tbl m) t 9 _ _)

theorem read15 (c : Dev nD) (t : Fin (cfgM m hO).N) (l : Fin 512) (s : Fin 128) (p : Fin 2560)
    (hi : ((cfgM m hO).win 15).index t = ![0, p.val, 0, 0]) :
    iblk m hO c 15 t (ix4 0 0 l s) = V m c main_v1 (ix4 0 p l s) := by
  show V m c main_v1 ((((cfgM m hO).win 15).rect t).emb (ix4 0 0 l s)) = _
  generalize V m c main_v1 = A
  refine congrArg A (funext fun a => Fin.ext ?_)
  have h1 := Pipeline.Window.rect_emb_val ((cfgM m hO).win 15) t (ix4 0 0 l s) a rfl
  refine h1.trans ?_
  refine (congrArg (fun i : Fin 4 → ℕ => i a * (![1, 1, 512, 128] : Fin 4 → ℕ) a + (ix4 (n0 := 1) (n1 := 1) (n2 := 512) (n3 := 128) 0 0 l s a).val) hi).trans ?_
  exact spot4 p l s a

theorem index31 (t : Fin (cfgM m hO).N) : ((cfgM m hO).win 31).index t = ![0, (page m hp ⟨t.val, t.isLt⟩ 9).val, 0, 0] := by
  rw [page_val]
  exact congrArg (fun w : BitVec 32 => (![0, w.toNat, 0, 0] : Fin 4 → ℕ)) (table_at (tbl m) t 9 _ _)

theorem read31 (c : Dev nD) (t : Fin (cfgM m hO).N) (l : Fin 512) (s : Fin 128) (p : Fin 2560)
    (hi : ((cfgM m hO).win 31).index t = ![0, p.val, 0, 0]) :
    iblk m hO c 31 t (ix4 0 0 l s) = V m c main_v3 (ix4 0 p l s) := by
  show V m c main_v3 ((((cfgM m hO).win 31).rect t).emb (ix4 0 0 l s)) = _
  generalize V m c main_v3 = A
  refine congrArg A (funext fun a => Fin.ext ?_)
  have h1 := Pipeline.Window.rect_emb_val ((cfgM m hO).win 31) t (ix4 0 0 l s) a rfl
  refine h1.trans ?_
  refine (congrArg (fun i : Fin 4 → ℕ => i a * (![1, 1, 512, 128] : Fin 4 → ℕ) a + (ix4 (n0 := 1) (n1 := 1) (n2 := 512) (n3 := 128) 0 0 l s a).val) hi).trans ?_
  exact spot4 p l s a

theorem index16 (t : Fin (cfgM m hO).N) : ((cfgM m hO).win 16).index t = ![0, (page m hp ⟨t.val, t.isLt⟩ 10).val, 0, 0] := by
  rw [page_val]
  exact congrArg (fun w : BitVec 32 => (![0, w.toNat, 0, 0] : Fin 4 → ℕ)) (table_at (tbl m) t 10 _ _)

theorem read16 (c : Dev nD) (t : Fin (cfgM m hO).N) (l : Fin 512) (s : Fin 128) (p : Fin 2560)
    (hi : ((cfgM m hO).win 16).index t = ![0, p.val, 0, 0]) :
    iblk m hO c 16 t (ix4 0 0 l s) = V m c main_v1 (ix4 0 p l s) := by
  show V m c main_v1 ((((cfgM m hO).win 16).rect t).emb (ix4 0 0 l s)) = _
  generalize V m c main_v1 = A
  refine congrArg A (funext fun a => Fin.ext ?_)
  have h1 := Pipeline.Window.rect_emb_val ((cfgM m hO).win 16) t (ix4 0 0 l s) a rfl
  refine h1.trans ?_
  refine (congrArg (fun i : Fin 4 → ℕ => i a * (![1, 1, 512, 128] : Fin 4 → ℕ) a + (ix4 (n0 := 1) (n1 := 1) (n2 := 512) (n3 := 128) 0 0 l s a).val) hi).trans ?_
  exact spot4 p l s a

theorem index32 (t : Fin (cfgM m hO).N) : ((cfgM m hO).win 32).index t = ![0, (page m hp ⟨t.val, t.isLt⟩ 10).val, 0, 0] := by
  rw [page_val]
  exact congrArg (fun w : BitVec 32 => (![0, w.toNat, 0, 0] : Fin 4 → ℕ)) (table_at (tbl m) t 10 _ _)

theorem read32 (c : Dev nD) (t : Fin (cfgM m hO).N) (l : Fin 512) (s : Fin 128) (p : Fin 2560)
    (hi : ((cfgM m hO).win 32).index t = ![0, p.val, 0, 0]) :
    iblk m hO c 32 t (ix4 0 0 l s) = V m c main_v3 (ix4 0 p l s) := by
  show V m c main_v3 ((((cfgM m hO).win 32).rect t).emb (ix4 0 0 l s)) = _
  generalize V m c main_v3 = A
  refine congrArg A (funext fun a => Fin.ext ?_)
  have h1 := Pipeline.Window.rect_emb_val ((cfgM m hO).win 32) t (ix4 0 0 l s) a rfl
  refine h1.trans ?_
  refine (congrArg (fun i : Fin 4 → ℕ => i a * (![1, 1, 512, 128] : Fin 4 → ℕ) a + (ix4 (n0 := 1) (n1 := 1) (n2 := 512) (n3 := 128) 0 0 l s a).val) hi).trans ?_
  exact spot4 p l s a

theorem index17 (t : Fin (cfgM m hO).N) : ((cfgM m hO).win 17).index t = ![0, (page m hp ⟨t.val, t.isLt⟩ 11).val, 0, 0] := by
  rw [page_val]
  exact congrArg (fun w : BitVec 32 => (![0, w.toNat, 0, 0] : Fin 4 → ℕ)) (table_at (tbl m) t 11 _ _)

theorem read17 (c : Dev nD) (t : Fin (cfgM m hO).N) (l : Fin 512) (s : Fin 128) (p : Fin 2560)
    (hi : ((cfgM m hO).win 17).index t = ![0, p.val, 0, 0]) :
    iblk m hO c 17 t (ix4 0 0 l s) = V m c main_v1 (ix4 0 p l s) := by
  show V m c main_v1 ((((cfgM m hO).win 17).rect t).emb (ix4 0 0 l s)) = _
  generalize V m c main_v1 = A
  refine congrArg A (funext fun a => Fin.ext ?_)
  have h1 := Pipeline.Window.rect_emb_val ((cfgM m hO).win 17) t (ix4 0 0 l s) a rfl
  refine h1.trans ?_
  refine (congrArg (fun i : Fin 4 → ℕ => i a * (![1, 1, 512, 128] : Fin 4 → ℕ) a + (ix4 (n0 := 1) (n1 := 1) (n2 := 512) (n3 := 128) 0 0 l s a).val) hi).trans ?_
  exact spot4 p l s a

theorem index33 (t : Fin (cfgM m hO).N) : ((cfgM m hO).win 33).index t = ![0, (page m hp ⟨t.val, t.isLt⟩ 11).val, 0, 0] := by
  rw [page_val]
  exact congrArg (fun w : BitVec 32 => (![0, w.toNat, 0, 0] : Fin 4 → ℕ)) (table_at (tbl m) t 11 _ _)

theorem read33 (c : Dev nD) (t : Fin (cfgM m hO).N) (l : Fin 512) (s : Fin 128) (p : Fin 2560)
    (hi : ((cfgM m hO).win 33).index t = ![0, p.val, 0, 0]) :
    iblk m hO c 33 t (ix4 0 0 l s) = V m c main_v3 (ix4 0 p l s) := by
  show V m c main_v3 ((((cfgM m hO).win 33).rect t).emb (ix4 0 0 l s)) = _
  generalize V m c main_v3 = A
  refine congrArg A (funext fun a => Fin.ext ?_)
  have h1 := Pipeline.Window.rect_emb_val ((cfgM m hO).win 33) t (ix4 0 0 l s) a rfl
  refine h1.trans ?_
  refine (congrArg (fun i : Fin 4 → ℕ => i a * (![1, 1, 512, 128] : Fin 4 → ℕ) a + (ix4 (n0 := 1) (n1 := 1) (n2 := 512) (n3 := 128) 0 0 l s a).val) hi).trans ?_
  exact spot4 p l s a

theorem index18 (t : Fin (cfgM m hO).N) : ((cfgM m hO).win 18).index t = ![0, (page m hp ⟨t.val, t.isLt⟩ 12).val, 0, 0] := by
  rw [page_val]
  exact congrArg (fun w : BitVec 32 => (![0, w.toNat, 0, 0] : Fin 4 → ℕ)) (table_at (tbl m) t 12 _ _)

theorem read18 (c : Dev nD) (t : Fin (cfgM m hO).N) (l : Fin 512) (s : Fin 128) (p : Fin 2560)
    (hi : ((cfgM m hO).win 18).index t = ![0, p.val, 0, 0]) :
    iblk m hO c 18 t (ix4 0 0 l s) = V m c main_v1 (ix4 0 p l s) := by
  show V m c main_v1 ((((cfgM m hO).win 18).rect t).emb (ix4 0 0 l s)) = _
  generalize V m c main_v1 = A
  refine congrArg A (funext fun a => Fin.ext ?_)
  have h1 := Pipeline.Window.rect_emb_val ((cfgM m hO).win 18) t (ix4 0 0 l s) a rfl
  refine h1.trans ?_
  refine (congrArg (fun i : Fin 4 → ℕ => i a * (![1, 1, 512, 128] : Fin 4 → ℕ) a + (ix4 (n0 := 1) (n1 := 1) (n2 := 512) (n3 := 128) 0 0 l s a).val) hi).trans ?_
  exact spot4 p l s a

theorem index34 (t : Fin (cfgM m hO).N) : ((cfgM m hO).win 34).index t = ![0, (page m hp ⟨t.val, t.isLt⟩ 12).val, 0, 0] := by
  rw [page_val]
  exact congrArg (fun w : BitVec 32 => (![0, w.toNat, 0, 0] : Fin 4 → ℕ)) (table_at (tbl m) t 12 _ _)

theorem read34 (c : Dev nD) (t : Fin (cfgM m hO).N) (l : Fin 512) (s : Fin 128) (p : Fin 2560)
    (hi : ((cfgM m hO).win 34).index t = ![0, p.val, 0, 0]) :
    iblk m hO c 34 t (ix4 0 0 l s) = V m c main_v3 (ix4 0 p l s) := by
  show V m c main_v3 ((((cfgM m hO).win 34).rect t).emb (ix4 0 0 l s)) = _
  generalize V m c main_v3 = A
  refine congrArg A (funext fun a => Fin.ext ?_)
  have h1 := Pipeline.Window.rect_emb_val ((cfgM m hO).win 34) t (ix4 0 0 l s) a rfl
  refine h1.trans ?_
  refine (congrArg (fun i : Fin 4 → ℕ => i a * (![1, 1, 512, 128] : Fin 4 → ℕ) a + (ix4 (n0 := 1) (n1 := 1) (n2 := 512) (n3 := 128) 0 0 l s a).val) hi).trans ?_
  exact spot4 p l s a

theorem index19 (t : Fin (cfgM m hO).N) : ((cfgM m hO).win 19).index t = ![0, (page m hp ⟨t.val, t.isLt⟩ 13).val, 0, 0] := by
  rw [page_val]
  exact congrArg (fun w : BitVec 32 => (![0, w.toNat, 0, 0] : Fin 4 → ℕ)) (table_at (tbl m) t 13 _ _)

theorem read19 (c : Dev nD) (t : Fin (cfgM m hO).N) (l : Fin 512) (s : Fin 128) (p : Fin 2560)
    (hi : ((cfgM m hO).win 19).index t = ![0, p.val, 0, 0]) :
    iblk m hO c 19 t (ix4 0 0 l s) = V m c main_v1 (ix4 0 p l s) := by
  show V m c main_v1 ((((cfgM m hO).win 19).rect t).emb (ix4 0 0 l s)) = _
  generalize V m c main_v1 = A
  refine congrArg A (funext fun a => Fin.ext ?_)
  have h1 := Pipeline.Window.rect_emb_val ((cfgM m hO).win 19) t (ix4 0 0 l s) a rfl
  refine h1.trans ?_
  refine (congrArg (fun i : Fin 4 → ℕ => i a * (![1, 1, 512, 128] : Fin 4 → ℕ) a + (ix4 (n0 := 1) (n1 := 1) (n2 := 512) (n3 := 128) 0 0 l s a).val) hi).trans ?_
  exact spot4 p l s a

theorem index35 (t : Fin (cfgM m hO).N) : ((cfgM m hO).win 35).index t = ![0, (page m hp ⟨t.val, t.isLt⟩ 13).val, 0, 0] := by
  rw [page_val]
  exact congrArg (fun w : BitVec 32 => (![0, w.toNat, 0, 0] : Fin 4 → ℕ)) (table_at (tbl m) t 13 _ _)

theorem read35 (c : Dev nD) (t : Fin (cfgM m hO).N) (l : Fin 512) (s : Fin 128) (p : Fin 2560)
    (hi : ((cfgM m hO).win 35).index t = ![0, p.val, 0, 0]) :
    iblk m hO c 35 t (ix4 0 0 l s) = V m c main_v3 (ix4 0 p l s) := by
  show V m c main_v3 ((((cfgM m hO).win 35).rect t).emb (ix4 0 0 l s)) = _
  generalize V m c main_v3 = A
  refine congrArg A (funext fun a => Fin.ext ?_)
  have h1 := Pipeline.Window.rect_emb_val ((cfgM m hO).win 35) t (ix4 0 0 l s) a rfl
  refine h1.trans ?_
  refine (congrArg (fun i : Fin 4 → ℕ => i a * (![1, 1, 512, 128] : Fin 4 → ℕ) a + (ix4 (n0 := 1) (n1 := 1) (n2 := 512) (n3 := 128) 0 0 l s a).val) hi).trans ?_
  exact spot4 p l s a

theorem index20 (t : Fin (cfgM m hO).N) : ((cfgM m hO).win 20).index t = ![0, (page m hp ⟨t.val, t.isLt⟩ 14).val, 0, 0] := by
  rw [page_val]
  exact congrArg (fun w : BitVec 32 => (![0, w.toNat, 0, 0] : Fin 4 → ℕ)) (table_at (tbl m) t 14 _ _)

theorem read20 (c : Dev nD) (t : Fin (cfgM m hO).N) (l : Fin 512) (s : Fin 128) (p : Fin 2560)
    (hi : ((cfgM m hO).win 20).index t = ![0, p.val, 0, 0]) :
    iblk m hO c 20 t (ix4 0 0 l s) = V m c main_v1 (ix4 0 p l s) := by
  show V m c main_v1 ((((cfgM m hO).win 20).rect t).emb (ix4 0 0 l s)) = _
  generalize V m c main_v1 = A
  refine congrArg A (funext fun a => Fin.ext ?_)
  have h1 := Pipeline.Window.rect_emb_val ((cfgM m hO).win 20) t (ix4 0 0 l s) a rfl
  refine h1.trans ?_
  refine (congrArg (fun i : Fin 4 → ℕ => i a * (![1, 1, 512, 128] : Fin 4 → ℕ) a + (ix4 (n0 := 1) (n1 := 1) (n2 := 512) (n3 := 128) 0 0 l s a).val) hi).trans ?_
  exact spot4 p l s a

theorem index36 (t : Fin (cfgM m hO).N) : ((cfgM m hO).win 36).index t = ![0, (page m hp ⟨t.val, t.isLt⟩ 14).val, 0, 0] := by
  rw [page_val]
  exact congrArg (fun w : BitVec 32 => (![0, w.toNat, 0, 0] : Fin 4 → ℕ)) (table_at (tbl m) t 14 _ _)

theorem read36 (c : Dev nD) (t : Fin (cfgM m hO).N) (l : Fin 512) (s : Fin 128) (p : Fin 2560)
    (hi : ((cfgM m hO).win 36).index t = ![0, p.val, 0, 0]) :
    iblk m hO c 36 t (ix4 0 0 l s) = V m c main_v3 (ix4 0 p l s) := by
  show V m c main_v3 ((((cfgM m hO).win 36).rect t).emb (ix4 0 0 l s)) = _
  generalize V m c main_v3 = A
  refine congrArg A (funext fun a => Fin.ext ?_)
  have h1 := Pipeline.Window.rect_emb_val ((cfgM m hO).win 36) t (ix4 0 0 l s) a rfl
  refine h1.trans ?_
  refine (congrArg (fun i : Fin 4 → ℕ => i a * (![1, 1, 512, 128] : Fin 4 → ℕ) a + (ix4 (n0 := 1) (n1 := 1) (n2 := 512) (n3 := 128) 0 0 l s a).val) hi).trans ?_
  exact spot4 p l s a

theorem index21 (t : Fin (cfgM m hO).N) : ((cfgM m hO).win 21).index t = ![0, (page m hp ⟨t.val, t.isLt⟩ 15).val, 0, 0] := by
  rw [page_val]
  exact congrArg (fun w : BitVec 32 => (![0, w.toNat, 0, 0] : Fin 4 → ℕ)) (table_at (tbl m) t 15 _ _)

theorem read21 (c : Dev nD) (t : Fin (cfgM m hO).N) (l : Fin 512) (s : Fin 128) (p : Fin 2560)
    (hi : ((cfgM m hO).win 21).index t = ![0, p.val, 0, 0]) :
    iblk m hO c 21 t (ix4 0 0 l s) = V m c main_v1 (ix4 0 p l s) := by
  show V m c main_v1 ((((cfgM m hO).win 21).rect t).emb (ix4 0 0 l s)) = _
  generalize V m c main_v1 = A
  refine congrArg A (funext fun a => Fin.ext ?_)
  have h1 := Pipeline.Window.rect_emb_val ((cfgM m hO).win 21) t (ix4 0 0 l s) a rfl
  refine h1.trans ?_
  refine (congrArg (fun i : Fin 4 → ℕ => i a * (![1, 1, 512, 128] : Fin 4 → ℕ) a + (ix4 (n0 := 1) (n1 := 1) (n2 := 512) (n3 := 128) 0 0 l s a).val) hi).trans ?_
  exact spot4 p l s a

theorem index37 (t : Fin (cfgM m hO).N) : ((cfgM m hO).win 37).index t = ![0, (page m hp ⟨t.val, t.isLt⟩ 15).val, 0, 0] := by
  rw [page_val]
  exact congrArg (fun w : BitVec 32 => (![0, w.toNat, 0, 0] : Fin 4 → ℕ)) (table_at (tbl m) t 15 _ _)

theorem read37 (c : Dev nD) (t : Fin (cfgM m hO).N) (l : Fin 512) (s : Fin 128) (p : Fin 2560)
    (hi : ((cfgM m hO).win 37).index t = ![0, p.val, 0, 0]) :
    iblk m hO c 37 t (ix4 0 0 l s) = V m c main_v3 (ix4 0 p l s) := by
  show V m c main_v3 ((((cfgM m hO).win 37).rect t).emb (ix4 0 0 l s)) = _
  generalize V m c main_v3 = A
  refine congrArg A (funext fun a => Fin.ext ?_)
  have h1 := Pipeline.Window.rect_emb_val ((cfgM m hO).win 37) t (ix4 0 0 l s) a rfl
  refine h1.trans ?_
  refine (congrArg (fun i : Fin 4 → ℕ => i a * (![1, 1, 512, 128] : Fin 4 → ℕ) a + (ix4 (n0 := 1) (n1 := 1) (n2 := 512) (n3 := 128) 0 0 l s a).val) hi).trans ?_
  exact spot4 p l s a

/-- The point's number, as the index maps read it. -/
theorem point_at (t : Fin (cfgM m hO).N) : (BitVec.ofNat 32 (grid0.coords t 0).val).toNat = t.val := by
  have hlt : t.val < 128 := t.isLt
  rw [coords_at t, BitVec.toNat_ofNat]
  omega

theorem index0 (t : Fin (cfgM m hO).N) : ((cfgM m hO).win 0).index t = ![0, 0] :=
  rfl

theorem place0 (t : Fin (cfgM m hO).N) (r : Fin 64) :
    (((cfgM m hO).win 0).blk t).view.emb (ix2 r 0) = ix2 r 0 := by
  have hlt : t.val < 128 := t.isLt
  refine funext fun a => Fin.ext ((Pipeline.Window.rect_emb_val ((cfgM m hO).win 0) t (ix2 r 0) a rfl).trans ?_)
  refine (congrArg (fun i : Fin 2 → ℕ => i a * (![64, 1] : Fin 2 → ℕ) a + ((ix2 (n0 := 64) (n1 := 1) r 0) a).val) (index0 m hO t)).trans ?_
  fin_cases a
  · show 0 * 64 + r.val = r.val
    omega
  · show 0 * 1 + 0 = 0
    omega

theorem read0 (c : Dev nD) (t : Fin (cfgM m hO).N) (r : Fin 64) :
    iblk m hO c 0 t (ix2 r 0) = V m c main_v6 (ix2 r 0) := by
  show V m c main_v6 ((((cfgM m hO).win 0).rect t).emb (ix2 r 0)) = _
  generalize V m c main_v6 = A
  exact congrArg A (place0 m hO t r)

theorem index1 (t : Fin (cfgM m hO).N) : ((cfgM m hO).win 1).index t = ![0, 0] :=
  rfl

theorem place1 (t : Fin (cfgM m hO).N) (r : Fin 64) (l : Fin 512) :
    (((cfgM m hO).win 1).blk t).view.emb (ix2 r l) = ix2 r l := by
  have hlt : t.val < 128 := t.isLt
  refine funext fun a => Fin.ext ((Pipeline.Window.rect_emb_val ((cfgM m hO).win 1) t (ix2 r l) a rfl).trans ?_)
  refine (congrArg (fun i : Fin 2 → ℕ => i a * (![64, 512] : Fin 2 → ℕ) a + ((ix2 (n0 := 64) (n1 := 512) r l) a).val) (index1 m hO t)).trans ?_
  fin_cases a
  · show 0 * 64 + r.val = r.val
    omega
  · show 0 * 512 + l.val = l.val
    omega

theorem read1 (c : Dev nD) (t : Fin (cfgM m hO).N) (r : Fin 64) (l : Fin 512) :
    iblk m hO c 1 t (ix2 r l) = V m c main_v26 (ix2 r l) := by
  show V m c main_v26 ((((cfgM m hO).win 1).rect t).emb (ix2 r l)) = _
  generalize V m c main_v26 = A
  exact congrArg A (place1 m hO t r l)

theorem index2 (t : Fin (cfgM m hO).N) : ((cfgM m hO).win 2).index t = ![0, 0] :=
  rfl

theorem place2 (t : Fin (cfgM m hO).N) (r : Fin 64) (n : Fin 128) :
    (((cfgM m hO).win 2).blk t).view.emb (ix2 r n) = ix2 r n := by
  have hlt : t.val < 128 := t.isLt
  refine funext fun a => Fin.ext ((Pipeline.Window.rect_emb_val ((cfgM m hO).win 2) t (ix2 r n) a rfl).trans ?_)
  refine (congrArg (fun i : Fin 2 → ℕ => i a * (![64, 128] : Fin 2 → ℕ) a + ((ix2 (n0 := 64) (n1 := 128) r n) a).val) (index2 m hO t)).trans ?_
  fin_cases a
  · show 0 * 64 + r.val = r.val
    omega
  · show 0 * 128 + n.val = n.val
    omega

theorem read2 (c : Dev nD) (t : Fin (cfgM m hO).N) (r : Fin 64) (n : Fin 128) :
    iblk m hO c 2 t (ix2 r n) = V m c main_v32 (ix2 r n) := by
  show V m c main_v32 ((((cfgM m hO).win 2).rect t).emb (ix2 r n)) = _
  generalize V m c main_v32 = A
  exact congrArg A (place2 m hO t r n)

theorem index3 (t : Fin (cfgM m hO).N) : ((cfgM m hO).win 3).index t = ![t.val, 0, 0] :=
  congrArg (fun n : ℕ => (![n, 0, 0] : Fin 3 → ℕ)) (point_at m hO t)

theorem place3 (t : Fin (cfgM m hO).N) (q : Fin 8) (l : Fin 512) :
    (((cfgM m hO).win 3).blk t).view.emb (ix3 0 q l) = ix3 ⟨t.val, t.isLt⟩ q l := by
  have hlt : t.val < 128 := t.isLt
  refine funext fun a => Fin.ext ((Pipeline.Window.rect_emb_val ((cfgM m hO).win 3) t (ix3 0 q l) a rfl).trans ?_)
  refine (congrArg (fun i : Fin 3 → ℕ => i a * (![1, 8, 512] : Fin 3 → ℕ) a + ((ix3 (n0 := 1) (n1 := 8) (n2 := 512) 0 q l) a).val) (index3 m hO t)).trans ?_
  fin_cases a
  · show t.val * 1 + 0 = t.val
    omega
  · show 0 * 8 + q.val = q.val
    omega
  · show 0 * 512 + l.val = l.val
    omega

theorem read3 (c : Dev nD) (t : Fin (cfgM m hO).N) (q : Fin 8) (l : Fin 512) :
    iblk m hO c 3 t (ix3 0 q l) = V m c main_v33 (ix3 ⟨t.val, t.isLt⟩ q l) := by
  show V m c main_v33 ((((cfgM m hO).win 3).rect t).emb (ix3 0 q l)) = _
  generalize V m c main_v33 = A
  exact congrArg A (place3 m hO t q l)

theorem index4 (t : Fin (cfgM m hO).N) : ((cfgM m hO).win 4).index t = ![t.val, 0] :=
  congrArg (fun n : ℕ => (![n, 0] : Fin 2 → ℕ)) (point_at m hO t)

theorem place4 (t : Fin (cfgM m hO).N) (q : Fin 8) (l : Fin 512) :
    (((cfgM m hO).win 4).blk t).view.emb (ix2 q l) = ix2 ⟨t.val * 8 + q.val, by have h : t.val < 128 := t.isLt; omega⟩ l := by
  have hlt : t.val < 128 := t.isLt
  refine funext fun a => Fin.ext ((Pipeline.Window.rect_emb_val ((cfgM m hO).win 4) t (ix2 q l) a rfl).trans ?_)
  refine (congrArg (fun i : Fin 2 → ℕ => i a * (![8, 512] : Fin 2 → ℕ) a + ((ix2 (n0 := 8) (n1 := 512) q l) a).val) (index4 m hO t)).trans ?_
  fin_cases a
  · show t.val * 8 + q.val = t.val * 8 + q.val
    omega
  · show 0 * 512 + l.val = l.val
    omega

theorem read4 (c : Dev nD) (t : Fin (cfgM m hO).N) (q : Fin 8) (l : Fin 512) :
    iblk m hO c 4 t (ix2 q l) = V m c main_arg1 (ix2 ⟨t.val * 8 + q.val, by have h : t.val < 128 := t.isLt; omega⟩ l) := by
  show V m c main_arg1 ((((cfgM m hO).win 4).rect t).emb (ix2 q l)) = _
  generalize V m c main_arg1 = A
  exact congrArg A (place4 m hO t q l)

theorem index5 (t : Fin (cfgM m hO).N) : ((cfgM m hO).win 5).index t = ![t.val, 0] :=
  congrArg (fun n : ℕ => (![n, 0] : Fin 2 → ℕ)) (point_at m hO t)

theorem place5 (t : Fin (cfgM m hO).N) (q : Fin 8) (l : Fin 512) :
    (((cfgM m hO).win 5).blk t).view.emb (ix2 q l) = ix2 ⟨t.val * 8 + q.val, by have h : t.val < 128 := t.isLt; omega⟩ l := by
  have hlt : t.val < 128 := t.isLt
  refine funext fun a => Fin.ext ((Pipeline.Window.rect_emb_val ((cfgM m hO).win 5) t (ix2 q l) a rfl).trans ?_)
  refine (congrArg (fun i : Fin 2 → ℕ => i a * (![8, 512] : Fin 2 → ℕ) a + ((ix2 (n0 := 8) (n1 := 512) q l) a).val) (index5 m hO t)).trans ?_
  fin_cases a
  · show t.val * 8 + q.val = t.val * 8 + q.val
    omega
  · show 0 * 512 + l.val = l.val
    omega

theorem read5 (c : Dev nD) (t : Fin (cfgM m hO).N) (q : Fin 8) (l : Fin 512) :
    iblk m hO c 5 t (ix2 q l) = V m c main_arg2 (ix2 ⟨t.val * 8 + q.val, by have h : t.val < 128 := t.isLt; omega⟩ l) := by
  show V m c main_arg2 ((((cfgM m hO).win 5).rect t).emb (ix2 q l)) = _
  generalize V m c main_arg2 = A
  exact congrArg A (place5 m hO t q l)

theorem index38 (t : Fin (cfgM m hO).N) : ((cfgM m hO).win 38).index t = ![t.val, 0, 0] :=
  congrArg (fun n : ℕ => (![n, 0, 0] : Fin 3 → ℕ)) (point_at m hO t)

theorem place38 (t : Fin (cfgM m hO).N) (q : Fin 8) (l : Fin 512) :
    (((cfgM m hO).win 38).blk t).view.emb (ix3 0 q l) = ix3 ⟨t.val, t.isLt⟩ q l := by
  have hlt : t.val < 128 := t.isLt
  refine funext fun a => Fin.ext ((Pipeline.Window.rect_emb_val ((cfgM m hO).win 38) t (ix3 0 q l) a rfl).trans ?_)
  refine (congrArg (fun i : Fin 3 → ℕ => i a * (![1, 8, 512] : Fin 3 → ℕ) a + ((ix3 (n0 := 1) (n1 := 8) (n2 := 512) 0 q l) a).val) (index38 m hO t)).trans ?_
  fin_cases a
  · show t.val * 1 + 0 = t.val
    omega
  · show 0 * 8 + q.val = q.val
    omega
  · show 0 * 512 + l.val = l.val
    omega

attribute [local irreducible] iblk

/-- A point's key pages. -/
def keyBlk (c : Dev nD) (t : Fin (cfgM m hO).N) : Fin 16 → Vec Ideal S1x1x512x128 .f32 :=
  ![iblk m hO c 6 t, iblk m hO c 7 t, iblk m hO c 8 t, iblk m hO c 9 t, iblk m hO c 10 t, iblk m hO c 11 t, iblk m hO c 12 t, iblk m hO c 13 t, iblk m hO c 14 t, iblk m hO c 15 t, iblk m hO c 16 t, iblk m hO c 17 t, iblk m hO c 18 t, iblk m hO c 19 t, iblk m hO c 20 t, iblk m hO c 21 t]

/-- A point's value pages. -/
def valBlk (c : Dev nD) (t : Fin (cfgM m hO).N) : Fin 16 → Vec Ideal S1x1x512x128 .f32 :=
  ![iblk m hO c 22 t, iblk m hO c 23 t, iblk m hO c 24 t, iblk m hO c 25 t, iblk m hO c 26 t, iblk m hO c 27 t, iblk m hO c 28 t, iblk m hO c 29 t, iblk m hO c 30 t, iblk m hO c 31 t, iblk m hO c 32 t, iblk m hO c 33 t, iblk m hO c 34 t, iblk m hO c 35 t, iblk m hO c 36 t, iblk m hO c 37 t]

theorem keyBlk_at (c : Dev nD) (t : Fin (cfgM m hO).N) (l : Fin 512) (s : Fin 128) : ∀ n : Fin 16,
    keyBlk m hO c t n (ix4 0 0 l s) = V m c main_v1 (ix4 0 (page m hp ⟨t.val, t.isLt⟩ n) l s) := by
  intro n
  match n with
  | ⟨0, _⟩ => exact read6 m hO c t l s _ (index6 m hO hp t)
  | ⟨1, _⟩ => exact read7 m hO c t l s _ (index7 m hO hp t)
  | ⟨2, _⟩ => exact read8 m hO c t l s _ (index8 m hO hp t)
  | ⟨3, _⟩ => exact read9 m hO c t l s _ (index9 m hO hp t)
  | ⟨4, _⟩ => exact read10 m hO c t l s _ (index10 m hO hp t)
  | ⟨5, _⟩ => exact read11 m hO c t l s _ (index11 m hO hp t)
  | ⟨6, _⟩ => exact read12 m hO c t l s _ (index12 m hO hp t)
  | ⟨7, _⟩ => exact read13 m hO c t l s _ (index13 m hO hp t)
  | ⟨8, _⟩ => exact read14 m hO c t l s _ (index14 m hO hp t)
  | ⟨9, _⟩ => exact read15 m hO c t l s _ (index15 m hO hp t)
  | ⟨10, _⟩ => exact read16 m hO c t l s _ (index16 m hO hp t)
  | ⟨11, _⟩ => exact read17 m hO c t l s _ (index17 m hO hp t)
  | ⟨12, _⟩ => exact read18 m hO c t l s _ (index18 m hO hp t)
  | ⟨13, _⟩ => exact read19 m hO c t l s _ (index19 m hO hp t)
  | ⟨14, _⟩ => exact read20 m hO c t l s _ (index20 m hO hp t)
  | ⟨15, _⟩ => exact read21 m hO c t l s _ (index21 m hO hp t)
  | ⟨k + 16, h⟩ => exact absurd h (by omega)

theorem valBlk_at (c : Dev nD) (t : Fin (cfgM m hO).N) (l : Fin 512) (s : Fin 128) : ∀ n : Fin 16,
    valBlk m hO c t n (ix4 0 0 l s) = V m c main_v3 (ix4 0 (page m hp ⟨t.val, t.isLt⟩ n) l s) := by
  intro n
  match n with
  | ⟨0, _⟩ => exact read22 m hO c t l s _ (index22 m hO hp t)
  | ⟨1, _⟩ => exact read23 m hO c t l s _ (index23 m hO hp t)
  | ⟨2, _⟩ => exact read24 m hO c t l s _ (index24 m hO hp t)
  | ⟨3, _⟩ => exact read25 m hO c t l s _ (index25 m hO hp t)
  | ⟨4, _⟩ => exact read26 m hO c t l s _ (index26 m hO hp t)
  | ⟨5, _⟩ => exact read27 m hO c t l s _ (index27 m hO hp t)
  | ⟨6, _⟩ => exact read28 m hO c t l s _ (index28 m hO hp t)
  | ⟨7, _⟩ => exact read29 m hO c t l s _ (index29 m hO hp t)
  | ⟨8, _⟩ => exact read30 m hO c t l s _ (index30 m hO hp t)
  | ⟨9, _⟩ => exact read31 m hO c t l s _ (index31 m hO hp t)
  | ⟨10, _⟩ => exact read32 m hO c t l s _ (index32 m hO hp t)
  | ⟨11, _⟩ => exact read33 m hO c t l s _ (index33 m hO hp t)
  | ⟨12, _⟩ => exact read34 m hO c t l s _ (index34 m hO hp t)
  | ⟨13, _⟩ => exact read35 m hO c t l s _ (index35 m hO hp t)
  | ⟨14, _⟩ => exact read36 m hO c t l s _ (index36 m hO hp t)
  | ⟨15, _⟩ => exact read37 m hO c t l s _ (index37 m hO hp t)
  | ⟨k + 16, h⟩ => exact absurd h (by omega)
end Cert.KernelIdeal.Final

end
-- ==== Proof.SamplePast.lean ====
/- The cached keys' side of the sample attention, row by row: the scores, the sums over the later keys block by block,
   and the weights, in the terms of `SampleMath`. -/
module

public import proofs.«01_k».proof.Proof.SampleKernel

@[expose] public section

set_option maxRecDepth 16384

noncomputable section

namespace Cert.KernelIdeal.Rows

open Cert.KernelIdeal Cert.KernelIdeal.Gen Idealize.ShloMosaic Idealize.ShloMosaic.TcCoe Idealize.SL.Sem
open Cert.SampleMath

/-- A page as a matrix. -/
def pageMat (K : Fin 16 → Vec Ideal S1x1x512x128 .f32) (n : Fin 16) : FVec Ideal S512x128 .f32 :=
  shapeCast S512x128 (K n) shapeCasts_S1x1x512x128_S512x128

/-- The sixteen pages side by side. -/
def allPages (K : Fin 16 → Vec Ideal S1x1x512x128 .f32) : FVec Ideal S512x2048 .f32 :=
  concatenate S512x2048 1 (List.ofFn fun n : Fin 16 => ⟨S512x128, pageMat K n⟩)
    concatenates_S512x128_S512x128_S512x128_S512x128_S512x128_S512x128_S512x128_S512x128_S512x128_S512x128_S512x128_S512x128_S512x128_S512x128_S512x128_S512x128_S512x2048_d1

theorem allPages_at (K : Fin 16 → Vec Ideal S1x1x512x128 .f32) (l : Fin 512) (s : Fin 2048) :
    allPages K (ix2 l s) = K ⟨s.val / 128, by omega⟩ (ix4 0 0 l ⟨s.val % 128, by omega⟩) := by
  refine (pages_at (pageMat K) _ l s).trans ?_
  pointwise [pageMat]

/-- The cached keys' scores, scaled. -/
theorem pay27_at (v10 : FVec Ideal S64x512 .bf16) (v14 : FVec Ideal S64x1 .f32) (K : Fin 16 → Vec Ideal S1x1x512x128 .f32)
    (r : Fin 64) (s : Fin 2048) :
    k0_pay27 (F := Ideal) v10 v14 (k0_pay15 (K 0)) (k0_pay16 (K 1)) (k0_pay17 (K 2)) (k0_pay18 (K 3)) (k0_pay19 (K 4))
        (k0_pay20 (K 5)) (k0_pay21 (K 6)) (k0_pay22 (K 7)) (k0_pay23 (K 8)) (k0_pay24 (K 9)) (k0_pay25 (K 10)) (k0_pay26 (K 11))
        (K 12) (K 13) (K 14) (K 15) (ix2 r s)
      = (∑ l : Fin 512, v10 (ix2 r l) * K ⟨s.val / 128, by omega⟩ (ix4 0 0 l ⟨s.val % 128, by omega⟩)) + v14 (ix2 r 0) := by
  simp only [← allPages_at]
  show addf (matmul dot_S64x512_S512x2048_S64x2048_1_0_0_1_n_n none v10 (truncf .bf16 (allPages K) bitsLt_bf16_f32)
      (constant S64x2048 .f32 0x00000000#32)) (broadcastTo S64x2048 v14 broadcasts_S64x1_S64x2048) (ix2 r s) = _
  generalize allPages K = C
  pointwise []

/-- The cached keys passed by. -/
theorem pay28_at (v10 : FVec Ideal S64x512 .bf16) (v14 : FVec Ideal S64x1 .f32)
    (a0 a1 a2 a3 a4 a5 a6 a7 a8 a9 a10 a11 : FVec Ideal S512x128 .f32) (b0 b1 b2 b3 : Vec Ideal S1x1x512x128 .f32)
    (r : Fin 64) (s : Fin 2048) :
    k0_pay28 (F := Ideal) v10 v14 a0 a1 a2 a3 a4 a5 a6 a7 a8 a9 a10 a11 b0 b1 b2 b3 (ix2 r s)
      = stay (k0_pay27 (F := Ideal) v10 v14 a0 a1 a2 a3 a4 a5 a6 a7 a8 a9 a10 a11 b0 b1 b2 b3 (ix2 r s)) := by
  have hs : (Named.named κ "log2e" 0x3FB8AA3B#32 : Ideal .f32) = (((Real.log 2)⁻¹ : ℝ) : EReal) :=
    IdealRules.named_const.ideal_named_scalar _ _ _ _ rfl
  pointwise [k0_pay28]
  rw [hs]
  rfl

/-- A block of 256 columns. -/
def blk (v : FVec Ideal S64x2048 .f32) : Fin 8 → FVec Ideal S64x256 .f32 :=
  ![extractStridedSlice S64x256 ![0, 0] v slices_S64x2048_o0_0_S64x256,
    extractStridedSlice S64x256 ![0, 256] v slices_S64x2048_o0_256_S64x256,
    extractStridedSlice S64x256 ![0, 512] v slices_S64x2048_o0_512_S64x256,
    extractStridedSlice S64x256 ![0, 768] v slices_S64x2048_o0_768_S64x256,
    extractStridedSlice S64x256 ![0, 1024] v slices_S64x2048_o0_1024_S64x256,
    extractStridedSlice S64x256 ![0, 1280] v slices_S64x2048_o0_1280_S64x256,
    extractStridedSlice S64x256 ![0, 1536] v slices_S64x2048_o0_1536_S64x256,
    extractStridedSlice S64x256 ![0, 1792] v slices_S64x2048_o0_1792_S64x256]

theorem blk_at (v : FVec Ideal S64x2048 .f32) (f : ℕ → EReal) (r : Fin 64) (h : ∀ s : Fin 2048, v (ix2 r s) = f s.val)
    (B : Fin 8) (n : Fin 256) : blk v B (ix2 r n) = f (256 * B.val + n.val) := by
  have hb : blk v B (ix2 r n) = v (ix2 r ⟨256 * B.val + n.val, by omega⟩) := by
    fin_cases B <;> (simp only [blk]; pointwise [])
  rw [hb, h]

/-- A block next to the remainder of its rounding. -/
def cut (v : FVec Ideal S64x256 .f32) : FVec Ideal S64x512 .bf16 :=
  concatenate S64x512 1 [⟨S64x256, truncf .bf16 v bitsLt_bf16_f32⟩,
    ⟨S64x256, truncf .bf16 (subf v (extf .f32 (truncf .bf16 v bitsLt_bf16_f32) bitsLt_bf16_f32)) bitsLt_bf16_f32⟩]
    concatenates_S64x256_S64x256_S64x512_d1

theorem cut_at (v : FVec Ideal S64x256 .f32) (r : Fin 64) (k : Fin 512) :
    cut v (ix2 r k) = if h : k.val < 256 then v (ix2 r ⟨k.val, h⟩)
      else v (ix2 r ⟨k.val - 256, by omega⟩) - v (ix2 r ⟨k.val - 256, by omega⟩) := by
  pointwise [cut]

/-- The doubled strict triangle of ones. -/
def tri : FVec Ideal S512x256 .bf16 :=
  truncf .bf16 (select
    (cmpi .sgt (select (cmpi .sge (iota .tc S512x256 32 [0] iota_S512x256_d0_w32) (broadcast S512x256 256#32))
        (subi (iota .tc S512x256 32 [0] iota_S512x256_d0_w32) (broadcast S512x256 256#32)) (iota .tc S512x256 32 [0] iota_S512x256_d0_w32))
      (iota .tc S512x256 32 [1] iota_S512x256_d1_w32))
    (broadcast S512x256 (Scalar.ofBits (F := Ideal) .f32 0x3F800000#32)) (broadcast S512x256 (Scalar.ofBits (F := Ideal) .f32 0x00000000#32)))
    bitsLt_bf16_f32

theorem tri_at (i : Fin 512) (n : Fin 256) : tri (ix2 i n) = if n.val < i.val % 256 then (1 : EReal) else 0 := by
  have hw : ∀ i : Fin 512, Scalar.select (IntOp.cmpi .sge (BitVec.ofNat 32 i.val) 256#32) (IntOp.subi (BitVec.ofNat 32 i.val) 256#32) (BitVec.ofNat 32 i.val) = BitVec.ofNat 32 (i.val % 256) := by
    decide +kernel
  rw [← select_ite, ← sgt_small _ _ (by omega) (by omega), ← hw]
  pointwise [tri]

/-- The eight blocks and their remainders, one above the other. -/
def stacked (v : FVec Ideal S64x2048 .f32) : FVec Ideal S512x512 .bf16 :=
  concatenate S512x512 0 (List.ofFn fun B : Fin 8 => ⟨S64x512, cut (blk v B)⟩)
    concatenates_S64x512_S64x512_S64x512_S64x512_S64x512_S64x512_S64x512_S64x512_S512x512_d0

theorem stacked_at (v : FVec Ideal S64x2048 .f32) (B : Fin 8) (r : Fin 64) (k : Fin 512) :
    stacked v (ix2 ⟨B.val * 64 + r.val, by omega⟩ k) = cut (blk v B) (ix2 r k) := by
  refine concatenate_ofFn_apply (t := S512x512) (s₁ := S64x512) 0 (fun B : Fin 8 => cut (blk v B)) _ rfl 64 rfl _ B ?_ (ix2 r k) ?_ ?_
  · show (B.val * 64 + r.val) / 64 = B.val
    omega
  · show r.val = (B.val * 64 + r.val) % 64
    omega
  · intro b hb
    fin_cases b
    · exact absurd rfl hb
    · rfl

/-- The blocks' sums over the later keys of the block. -/
theorem pay33_at (v120 : FVec Ideal S64x2048 .f32) (g : Fin 64 → ℕ → EReal) (hg : ∀ r k, g r k ≤ 0)
    (h : ∀ (r : Fin 64) (s : Fin 2048), v120 (ix2 r s) = g r s.val) (B : Fin 8) (r : Fin 64) (n : Fin 256) :
    k0_pay33 (F := Ideal) v120 (cut (blk v120 0)) (cut (blk v120 1)) (cut (blk v120 2)) (blk v120 3)
        (ix2 ⟨B.val * 64 + r.val, by omega⟩ n)
      = seg (g r) (256 * B.val + n.val + 1) (256 * B.val + 256) := by
  show matmul dot_S512x512_S512x256_S512x256_1_0_0_1_n_n none (stacked v120) tri (constant S512x256 .f32 0x00000000#32)
    (ix2 ⟨B.val * 64 + r.val, by omega⟩ n) = _
  have e : matmul dot_S512x512_S512x256_S512x256_1_0_0_1_n_n none (stacked v120) tri (constant S512x256 .f32 0x00000000#32)
      (ix2 ⟨B.val * 64 + r.val, by omega⟩ n)
      = ∑ k : Fin 512, stacked v120 (ix2 ⟨B.val * 64 + r.val, by omega⟩ k) * tri (ix2 k n) := by
    generalize stacked v120 = C
    generalize tri = T
    pointwise []
  rw [e, ← seg_after (g r) (256 * B.val) 256 n.val n.isLt,
    ← tri_sum 256 (fun i => g r (256 * B.val + i.val)) (fun i => hg r _) (fun i => n.val < i.val)]
  simp only [stacked_at, tri_at, cut_at]
  rw [Fin.sum_univ_add (a := 256) (b := 256)]
  refine congrArg₂ (· + ·) (Finset.sum_congr rfl fun i _ => ?_) (Finset.sum_congr rfl fun i _ => ?_)
  · have hi := i.isLt
    rw [dif_pos (show (Fin.castAdd 256 i).val < 256 from hi), show (⟨(Fin.castAdd 256 i).val, hi⟩ : Fin 256) = i from rfl,
      blk_at v120 (g r) r (h r), show (Fin.castAdd 256 i).val = i.val from rfl, Nat.mod_eq_of_lt hi]
    split
    · rw [mul_one]
    · rw [mul_zero]
  · have hi := i.isLt
    have hv : (Fin.natAdd 256 i).val = 256 + i.val := rfl
    rw [dif_neg (show ¬ (Fin.natAdd 256 i).val < 256 by omega),
      show (⟨(Fin.natAdd 256 i).val - 256, by omega⟩ : Fin 256) = i from Fin.ext (by dsimp only; omega),
      blk_at v120 (g r) r (h r), hv, Nat.add_mod_left, Nat.mod_eq_of_lt hi]
    split
    · rw [mul_one]
    · rw [mul_zero]

/-- The blocks' sums over the later keys, as the body slices them out. -/
theorem later_at (v120 : FVec Ideal S64x2048 .f32) (g : Fin 64 → ℕ → EReal) (hg : ∀ r k, g r k ≤ 0)
    (h : ∀ (r : Fin 64) (s : Fin 2048), v120 (ix2 r s) = g r s.val) (a b d e) (ha : a = cut (blk v120 0))
    (hb : b = cut (blk v120 1)) (hd : d = cut (blk v120 2)) (he : e = blk v120 3) (r : Fin 64) (n : Fin 256) :
    k0_pay34 (F := Ideal) v120 a b d e (ix2 r n) = seg (g r) (n.val + 1) 256
    ∧ k0_pay35 (F := Ideal) v120 a b d e (ix2 r n) = seg (g r) (256 + n.val + 1) 512
    ∧ k0_pay36 (F := Ideal) v120 a b d e (ix2 r n) = seg (g r) (512 + n.val + 1) 768
    ∧ k0_pay37 (F := Ideal) v120 a b d e (ix2 r n) = seg (g r) (768 + n.val + 1) 1024
    ∧ k0_pay38 (F := Ideal) v120 a b d e (ix2 r n) = seg (g r) (1024 + n.val + 1) 1280
    ∧ k0_pay39 (F := Ideal) v120 a b d e (ix2 r n) = seg (g r) (1280 + n.val + 1) 1536
    ∧ k0_pay40 (F := Ideal) v120 a b d e (ix2 r n) = seg (g r) (1536 + n.val + 1) 1792
    ∧ k0_pay41 (F := Ideal) v120 a b d e (ix2 r n) = seg (g r) (1792 + n.val + 1) 2048 := by
  subst ha hb hd he
  have key := fun B => pay33_at v120 g hg h B r n
  have z : seg (g r) (n.val + 1) 256 = seg (g r) (256 * (0 : Fin 8).val + n.val + 1) (256 * (0 : Fin 8).val + 256) := by
    simp
  refine ⟨?_, ?_, ?_, ?_, ?_, ?_, ?_, ?_⟩
  · rw [z, ← key 0]; pointwise [k0_pay34]
  · refine Eq.trans ?_ (key 1); pointwise [k0_pay35]
  · refine Eq.trans ?_ (key 2); pointwise [k0_pay36]
  · refine Eq.trans ?_ (key 3); pointwise [k0_pay37]
  · refine Eq.trans ?_ (key 4); pointwise [k0_pay38]
  · refine Eq.trans ?_ (key 5); pointwise [k0_pay39]
  · refine Eq.trans ?_ (key 6); pointwise [k0_pay40]
  · refine Eq.trans ?_ (key 7); pointwise [k0_pay41]

/-- A block's weights, from the logarithms, the scores, the sums over the block's later keys and the carried sum. -/
def wt (x y l : FVec Ideal S64x256 .f32) (u : FVec Ideal S64x1 .f32) : FVec Ideal S64x256 .bf16 :=
  truncf .bf16 (exp2 (addf (subf x y) (addf l (broadcastTo S64x256 u broadcasts_S64x1_S64x256)))) bitsLt_bf16_f32

theorem wt_at (x y l : FVec Ideal S64x256 .f32) (u : FVec Ideal S64x1 .f32) (r : Fin 64) (n : Fin 256) :
    wt x y l u (ix2 r n) = Ideal.exp2 ((x (ix2 r n) - y (ix2 r n)) + (l (ix2 r n) + u (ix2 r 0))) := by
  pointwise [wt]
  rfl

/-- A block's whole sum. -/
def tot (l x : FVec Ideal S64x256 .f32) : FVec Ideal S64x1 .f32 :=
  addf (extractStridedSlice S64x1 ![0, 0] l slices_S64x256_o0_0_S64x1) (extractStridedSlice S64x1 ![0, 0] x slices_S64x256_o0_0_S64x1)

theorem tot_at (l x : FVec Ideal S64x256 .f32) (r : Fin 64) : tot l x (ix2 r 0) = l (ix2 r 0) + x (ix2 r 0) := by
  pointwise [tot]

/-- The sum carried into a block: the new keys', then every later block's. -/
def carry (v70 : FVec Ideal S64x1 .f32) (v120 : FVec Ideal S64x2048 .f32) (l : Fin 8 → FVec Ideal S64x256 .f32) :
    ℕ → FVec Ideal S64x1 .f32
  | 0 => v70
  | B + 1 => addf (carry v70 v120 l B) (tot (l ⟨7 - B, by omega⟩) (blk v120 ⟨7 - B, by omega⟩))

theorem carry_at (v70 : FVec Ideal S64x1 .f32) (v120 : FVec Ideal S64x2048 .f32) (l : Fin 8 → FVec Ideal S64x256 .f32)
    (g : Fin 64 → ℕ → EReal) (h70 : ∀ r, v70 (ix2 r 0) = seg (g r) 2048 2176)
    (h : ∀ (r : Fin 64) (s : Fin 2048), v120 (ix2 r s) = g r s.val)
    (hl : ∀ (B : Fin 8) (r : Fin 64) (n : Fin 256), l B (ix2 r n) = seg (g r) (256 * B.val + n.val + 1) (256 * B.val + 256))
    (r : Fin 64) (B : ℕ) (hB : B ≤ 7) : carry v70 v120 l B (ix2 r 0) = seg (g r) (256 * (8 - B)) 2176 := by
  induction B with
  | zero => exact h70 r
  | succ B ih =>
    have e : carry v70 v120 l (B + 1) (ix2 r 0) = carry v70 v120 l B (ix2 r 0) + tot (l ⟨7 - B, by omega⟩) (blk v120 ⟨7 - B, by omega⟩) (ix2 r 0) := rfl
    have e1 : 256 * (8 - B) = 256 * (7 - B) + 256 := by omega
    have e2 : 256 * (8 - (B + 1)) = 256 * (7 - B) := by omega
    rw [e, ih (by omega), tot_at, hl, blk_at v120 (g r) r (h r), e1, e2, add_comm,
      add_comm (seg (g r) (256 * (7 - B) + (0 : Fin 256).val + 1) (256 * (7 - B) + 256))]
    show g r (256 * (7 - B)) + seg (g r) (256 * (7 - B) + 1) (256 * (7 - B) + 256) + _ = _
    rw [seg_first _ (by omega), seg_add _ (by omega) (by omega)]

/-- The cached keys' weights. -/
theorem pay53_at (v70 : FVec Ideal S64x1 .f32) (v109 v120 : FVec Ideal S64x2048 .f32) (l : Fin 8 → FVec Ideal S64x256 .f32)
    (nz g : Fin 64 → ℕ → EReal) (h70 : ∀ r, v70 (ix2 r 0) = seg (g r) 2048 2176)
    (h109 : ∀ (r : Fin 64) (s : Fin 2048), v109 (ix2 r s) = nz r s.val)
    (h : ∀ (r : Fin 64) (s : Fin 2048), v120 (ix2 r s) = g r s.val)
    (hl : ∀ (B : Fin 8) (r : Fin 64) (n : Fin 256), l B (ix2 r n) = seg (g r) (256 * B.val + n.val + 1) (256 * B.val + 256))
    (r : Fin 64) (s : Fin 2048) :
    k0_pay53 (F := Ideal) v109 v120 (l 0) (l 1) (l 2) (l 3) (tot (l 1) (blk v120 1)) (k0_pay43 (F := Ideal) v120 (l 2))
        (k0_pay44 (F := Ideal) v120 (l 3)) (k0_pay45 (F := Ideal) v70 v109 v120 (l 7)) (k0_pay47 (F := Ideal) v70 v109 v120 (l 6) (l 7))
        (k0_pay49 (F := Ideal) v70 v109 v120 (l 5) (l 6) (l 7)) (k0_pay51 (F := Ideal) v70 v109 v120 (l 4) (l 5) (l 6) (l 7))
        (k0_pay52 (F := Ideal) v70 v120 (l 4) (l 5) (l 6) (l 7)) (ix2 r s)
      = Ideal.exp2 ((g r s.val - nz r s.val) + seg (g r) (s.val + 1) 2176) := by
  refine (concatenate_ofFn_apply (t := S64x2048) (s₁ := S64x256) 1
    (fun B : Fin 8 => wt (blk v120 B) (blk v109 B) (l B) (carry v70 v120 l (7 - B.val)))
    concatenates_S64x256_S64x256_S64x256_S64x256_S64x256_S64x256_S64x256_S64x256_S64x2048_d1
    rfl 256 rfl (ix2 r s) ⟨s.val / 256, by omega⟩ rfl (ix2 r ⟨s.val % 256, by omega⟩) rfl ?_).trans ?_
  · intro b hb
    fin_cases b
    · rfl
    · exact absurd rfl hb
  · rw [wt_at, carry_at v70 v120 l g h70 h hl r _ (by omega), hl, blk_at v120 (g r) r (h r), blk_at v109 (nz r) r (h109 r)]
    dsimp only
    have e : 256 * (s.val / 256) + s.val % 256 = s.val := Nat.div_add_mod _ _
    have e1 : 256 * (8 - (7 - s.val / 256)) = 256 * (s.val / 256) + 256 := by omega
    rw [e, e1, seg_add _ (by omega) (by omega)]

end Cert.KernelIdeal.Rows

end
-- ==== Proof.SampleBody.lean ====
/- The sample attention's one store: what it holds, lane by lane, from the blocks the body loads. -/
module

public import proofs.«01_k».proof.Proof.SamplePast

@[expose] public section

set_option maxRecDepth 16384

noncomputable section

namespace Cert.KernelIdeal.Rows

open Cert.KernelIdeal Cert.KernelIdeal.Gen Idealize.ShloMosaic Idealize.ShloMosaic.TcCoe Idealize.SL.Sem
open Cert.SampleMath

/-- Of the eight heads' rows of a query, the lane's own head's. -/
theorem pay2_at (v3 : IVec S64x512 1) (v72 : FVec Ideal S64x512 .f32) (v290 : FVec Ideal S64x2048 .bf16)
    (v323 : FVec Ideal S512x2048 .f32)
    (hm : ∀ (r : Fin 64) (l : Fin 512), v3 (ix2 r l) = if r.val / 8 = l.val / 64 then 1#1 else 0#1) (t : Fin 8) (l : Fin 512) :
    k0_pay2 (F := Ideal) v3 v72 v290 v323 (ix3 0 t l)
      = v72 (ix2 ⟨l.val / 64 * 8 + t.val, by omega⟩ l)
        + ∑ s : Fin 2048, v290 (ix2 ⟨l.val / 64 * 8 + t.val, by omega⟩ s) * v323 (ix2 l s) := by
  pointwise [k0_pay2]
  simp only [hm, select_ite]
  have e0 : t.val / 8 = 0 := by omega
  have e1 : (8 + t.val) / 8 = 1 := by omega
  have e2 : (16 + t.val) / 8 = 2 := by omega
  have e3 : (24 + t.val) / 8 = 3 := by omega
  have e4 : (32 + t.val) / 8 = 4 := by omega
  have e5 : (40 + t.val) / 8 = 5 := by omega
  have e6 : (48 + t.val) / 8 = 6 := by omega
  have e7 : (56 + t.val) / 8 = 7 := by omega
  have hl : l.val / 64 = 0 ∨ l.val / 64 = 1 ∨ l.val / 64 = 2 ∨ l.val / 64 = 3 ∨ l.val / 64 = 4 ∨ l.val / 64 = 5
      ∨ l.val / 64 = 6 ∨ l.val / 64 = 7 := by omega
  rcases hl with h | h | h | h | h | h | h | h <;> simp [e0, e1, e2, e3, e4, e5, e6, e7, h]

/-- The blocks' later sums, as the body names them. -/
def later (v : FVec Ideal S64x2048 .f32) : Fin 8 → FVec Ideal S64x256 .f32 :=
  ![k0_pay34 (F := Ideal) v (cut (blk v 0)) (cut (blk v 1)) (cut (blk v 2)) (blk v 3),
    k0_pay35 (F := Ideal) v (cut (blk v 0)) (cut (blk v 1)) (cut (blk v 2)) (blk v 3),
    k0_pay36 (F := Ideal) v (cut (blk v 0)) (cut (blk v 1)) (cut (blk v 2)) (blk v 3),
    k0_pay37 (F := Ideal) v (cut (blk v 0)) (cut (blk v 1)) (cut (blk v 2)) (blk v 3),
    k0_pay38 (F := Ideal) v (cut (blk v 0)) (cut (blk v 1)) (cut (blk v 2)) (blk v 3),
    k0_pay39 (F := Ideal) v (cut (blk v 0)) (cut (blk v 1)) (cut (blk v 2)) (blk v 3),
    k0_pay40 (F := Ideal) v (cut (blk v 0)) (cut (blk v 1)) (cut (blk v 2)) (blk v 3),
    k0_pay41 (F := Ideal) v (cut (blk v 0)) (cut (blk v 1)) (cut (blk v 2)) (blk v 3)]

theorem later_seg (v : FVec Ideal S64x2048 .f32) (g : Fin 64 → ℕ → EReal) (hg : ∀ r k, g r k ≤ 0)
    (h : ∀ (r : Fin 64) (s : Fin 2048), v (ix2 r s) = g r s.val) (B : Fin 8) (r : Fin 64) (n : Fin 256) :
    later v B (ix2 r n) = seg (g r) (256 * B.val + n.val + 1) (256 * B.val + 256) := by
  obtain ⟨h0, h1, h2, h3, h4, h5, h6, h7⟩ := later_at v g hg h _ _ _ _ rfl rfl rfl rfl r n
  fin_cases B
  · refine h0.trans ?_
    simp
  · exact h1
  · exact h2
  · exact h3
  · exact h4
  · exact h5
  · exact h6
  · exact h7

/-- The cached keys' weights, from the new keys' sum, the scores and the logarithms. -/
def pastWeights (v70 : FVec Ideal S64x1 .f32) (v109 v120 : FVec Ideal S64x2048 .f32) : FVec Ideal S64x2048 .bf16 :=
  k0_pay53 (F := Ideal) v109 v120 (later v120 0) (later v120 1) (later v120 2) (later v120 3)
    (k0_pay42 (F := Ideal) v120 (cut (blk v120 0)) (cut (blk v120 1)) (cut (blk v120 2)) (blk v120 3))
    (k0_pay43 (F := Ideal) v120 (later v120 2)) (k0_pay44 (F := Ideal) v120 (later v120 3))
    (k0_pay45 (F := Ideal) v70 v109 v120 (later v120 7)) (k0_pay47 (F := Ideal) v70 v109 v120 (later v120 6) (later v120 7))
    (k0_pay49 (F := Ideal) v70 v109 v120 (later v120 5) (later v120 6) (later v120 7))
    (k0_pay51 (F := Ideal) v70 v109 v120 (later v120 4) (later v120 5) (later v120 6) (later v120 7))
    (k0_pay52 (F := Ideal) v70 v120 (later v120 4) (later v120 5) (later v120 6) (later v120 7))

/-- The queries laid out block by block. -/
abbrev bodyQ (x1 : Vec Ideal S64x512 .f32) (x3 : Vec Ideal S1x8x512 .bf16) : FVec Ideal S64x512 .bf16 := k0_pay4 (F := Ideal) x1 x3

/-- The cached keys' scores, scaled. -/
def bodyPast (x0 : Vec Ideal S64x1 .f32) (x1 : Vec Ideal S64x512 .f32) (x3 : Vec Ideal S1x8x512 .bf16)
    (K : Fin 16 → Vec Ideal S1x1x512x128 .f32) : FVec Ideal S64x2048 .f32 :=
  k0_pay27 (F := Ideal) (bodyQ x1 x3) (k0_pay5 (F := Ideal) x0) (k0_pay15 (K 0)) (k0_pay16 (K 1)) (k0_pay17 (K 2)) (k0_pay18 (K 3)) (k0_pay19 (K 4))
        (k0_pay20 (K 5)) (k0_pay21 (K 6)) (k0_pay22 (K 7)) (k0_pay23 (K 8)) (k0_pay24 (K 9)) (k0_pay25 (K 10)) (k0_pay26 (K 11))
        (K 12) (K 13) (K 14) (K 15)

/-- The cached keys passed by. -/
def bodyStay (x0 : Vec Ideal S64x1 .f32) (x1 : Vec Ideal S64x512 .f32) (x3 : Vec Ideal S1x8x512 .bf16)
    (K : Fin 16 → Vec Ideal S1x1x512x128 .f32) : FVec Ideal S64x2048 .f32 :=
  k0_pay28 (F := Ideal) (bodyQ x1 x3) (k0_pay5 (F := Ideal) x0) (k0_pay15 (K 0)) (k0_pay16 (K 1)) (k0_pay17 (K 2)) (k0_pay18 (K 3)) (k0_pay19 (K 4))
        (k0_pay20 (K 5)) (k0_pay21 (K 6)) (k0_pay22 (K 7)) (k0_pay23 (K 8)) (k0_pay24 (K 9)) (k0_pay25 (K 10)) (k0_pay26 (K 11))
        (K 12) (K 13) (K 14) (K 15)

/-- What the body stores. -/
def bodyOut (x0 : Vec Ideal S64x1 .f32) (x1 : Vec Ideal S64x512 .f32) (x2 : Vec Ideal S64x128 .f32) (x3 : Vec Ideal S1x8x512 .bf16)
    (x4 x5 : Vec Ideal S8x512 .f32) (K V : Fin 16 → Vec Ideal S1x1x512x128 .f32) : FVec Ideal S1x8x512 .bf16 :=
  k0_pay2 (F := Ideal) (k0_pay3 (F := Ideal) x1)
    (k0_pay14 (F := Ideal) (k0_pay7 (F := Ideal) x5) (k0_pay8 (F := Ideal) x2) (k0_pay9 (F := Ideal) x1 x3 x0 x4) k0_pay10 (Scalar.ofBits .f32 0x3F800000#32))
    (pastWeights (k0_pay13 (F := Ideal) (k0_pay8 (F := Ideal) x2) (k0_pay9 (F := Ideal) x1 x3 x0 x4) k0_pay10 (Scalar.ofBits .f32 0x3F800000#32))
      (bodyPast x0 x1 x3 K) (bodyStay x0 x1 x3 K))
    (allPages V)

/-- The scores of a row, key by key: the cached keys', then the new ones', padded. -/
def bodyNz (x0 : Vec Ideal S64x1 .f32) (x1 : Vec Ideal S64x512 .f32) (x3 : Vec Ideal S1x8x512 .bf16)
    (x4 : Vec Ideal S8x512 .f32) (K : Fin 16 → Vec Ideal S1x1x512x128 .f32) (r : Fin 64) (k : ℕ) : EReal :=
  if h : k < 2048 then bodyPast x0 x1 x3 K (ix2 r ⟨k, h⟩)
  else if h : k - 2048 < 128 then k0_pay9 (F := Ideal) x1 x3 x0 x4 (ix2 r ⟨k - 2048, h⟩) else 0

/-- The values of a lane, key by key. -/
def bodyVal (x5 : Vec Ideal S8x512 .f32) (V : Fin 16 → Vec Ideal S1x1x512x128 .f32) (l : Fin 512) (k : ℕ) : EReal :=
  if h : k < 2048 then V ⟨k / 128, by omega⟩ (ix4 0 0 l ⟨k % 128, by omega⟩)
  else if h : k - 2048 < 8 then x5 (ix2 ⟨k - 2048, h⟩ l) else 0

/-- The stored lanes: the weights of the lane's head against the lane's values. -/
theorem bodyOut_at (x0 : Vec Ideal S64x1 .f32) (x1 : Vec Ideal S64x512 .f32) (x2 : Vec Ideal S64x128 .f32) (x3 : Vec Ideal S1x8x512 .bf16)
    (x4 x5 : Vec Ideal S8x512 .f32) (K V : Fin 16 → Vec Ideal S1x1x512x128 .f32)
    (hm : ∀ (r : Fin 64) (l : Fin 512), k0_pay3 (F := Ideal) x1 (ix2 r l) = if r.val / 8 = l.val / 64 then 1#1 else 0#1)
    (hn : ∀ (r : Fin 64) (n : Fin 128), k0_pay8 (F := Ideal) x2 (ix2 r n) = if n.val < r.val % 8 then 1#1 else 0#1)
    (t : Fin 8) (l : Fin 512) :
    bodyOut x0 x1 x2 x3 x4 x5 K V (ix3 0 t l)
      = ∑ k : Fin 2056, weight2 (bodyNz x0 x1 x3 x4 K ⟨l.val / 64 * 8 + t.val, by omega⟩) t.val k.val * bodyVal x5 V l k.val := by
  have hp : ∀ (r : Fin 64) (s : Fin 2048), bodyPast x0 x1 x3 K (ix2 r s) = bodyNz x0 x1 x3 x4 K r s.val := fun r s => by
    rw [bodyNz, dif_pos s.isLt]
  have h9 : ∀ (r : Fin 64) (n : Fin 128), k0_pay9 (F := Ideal) x1 x3 x0 x4 (ix2 r n) = bodyNz x0 x1 x3 x4 K r (2048 + n.val) := fun r n => by
    have e : 2048 + n.val - 2048 = n.val := by omega
    rw [bodyNz, dif_neg (by omega), dif_pos (by omega)]
    congr 2
    exact Fin.ext e.symm
  have hs : ∀ (r : Fin 64) (s : Fin 2048), bodyStay x0 x1 x3 K (ix2 r s) = pass2 (bodyNz x0 x1 x3 x4 K r) (r.val % 8) s.val := fun r s => by
    rw [pass2, if_pos (by omega), ← hp]
    exact pay28_at _ _ _ _ _ _ _ _ _ _ _ _ _ _ _ _ _ _ r s
  have h11 : ∀ (r : Fin 64) (n : Fin 128), k0_pay11 (F := Ideal) (k0_pay8 (F := Ideal) x2) (k0_pay9 (F := Ideal) x1 x3 x0 x4) (ix2 r n)
      = pass2 (bodyNz x0 x1 x3 x4 K r) (r.val % 8) (2048 + n.val) := fun r n => by
    rw [pay11_at, hn, select_ite, pass2, h9]
    exact if_congr (by omega) rfl rfl
  have hg : ∀ (r : Fin 64) (k : ℕ), pass2 (bodyNz x0 x1 x3 x4 K r) (r.val % 8) k ≤ 0 := fun r k => pass2_nonpos _ _ _
  have hr : (⟨l.val / 64 * 8 + t.val, by omega⟩ : Fin 64).val % 8 = t.val := by
    show (l.val / 64 * 8 + t.val) % 8 = t.val
    omega
  rw [bodyOut, pay2_at _ _ _ _ hm, pay14_at]
  have hw : ∀ s : Fin 2048, pastWeights (k0_pay13 (F := Ideal) (k0_pay8 (F := Ideal) x2) (k0_pay9 (F := Ideal) x1 x3 x0 x4) k0_pay10 (Scalar.ofBits .f32 0x3F800000#32))
      (bodyPast x0 x1 x3 K) (bodyStay x0 x1 x3 K) (ix2 ⟨l.val / 64 * 8 + t.val, by omega⟩ s) * allPages V (ix2 l s)
      = weight2 (bodyNz x0 x1 x3 x4 K ⟨l.val / 64 * 8 + t.val, by omega⟩) t.val s.val * bodyVal x5 V l s.val := fun s => by
    have e := pay53_at _ _ _ (later (bodyStay x0 x1 x3 K)) (bodyNz x0 x1 x3 x4 K) (fun r => pass2 (bodyNz x0 x1 x3 x4 K r) (r.val % 8))
      (pay13_at _ _ _ one_bits _ hg h11) hp hs (later_seg _ _ hg hs) ⟨l.val / 64 * 8 + t.val, by omega⟩ s
    refine congrArg₂ (· * ·) (Eq.trans e ?_) ?_
    · dsimp only at hr ⊢
      rw [hr, weight2, if_pos (by omega), pass2, if_pos (by omega)]
    · rw [allPages_at, bodyVal, dif_pos s.isLt]
  have hv : ∀ n : Fin 128, Scalar.select (k0_pay8 (F := Ideal) x2 (ix2 ⟨l.val / 64 * 8 + t.val, by omega⟩ n))
      (Ideal.exp2 ((k0_pay11 (F := Ideal) (k0_pay8 (F := Ideal) x2) (k0_pay9 (F := Ideal) x1 x3 x0 x4) (ix2 ⟨l.val / 64 * 8 + t.val, by omega⟩ n)
          - k0_pay9 (F := Ideal) x1 x3 x0 x4 (ix2 ⟨l.val / 64 * 8 + t.val, by omega⟩ n))
        + k0_pay12 (F := Ideal) (k0_pay8 (F := Ideal) x2) (k0_pay9 (F := Ideal) x1 x3 x0 x4) k0_pay10 (Scalar.ofBits .f32 0x3F800000#32) (ix2 ⟨l.val / 64 * 8 + t.val, by omega⟩ n))) 0
        * k0_pay7 (F := Ideal) x5 (ix2 n l)
      = weight2 (bodyNz x0 x1 x3 x4 K ⟨l.val / 64 * 8 + t.val, by omega⟩) t.val (2048 + n.val) * bodyVal x5 V l (2048 + n.val) := fun n => by
    have e12 := pay12_at _ _ _ one_bits _ hg h11 ⟨l.val / 64 * 8 + t.val, by omega⟩ n
    rw [e12, h11, h9, hn, select_ite, pay7_at]
    dsimp only at hr ⊢
    rw [hr, weight2, bodyVal, dif_neg (show ¬ 2048 + n.val < 2048 by omega)]
    have e : 2048 + n.val - 2048 = n.val := by omega
    by_cases h : n.val < t.val
    · rw [if_pos h, if_pos (by omega), pass2, if_pos (by omega), dif_pos (show n.val < 8 by omega), dif_pos (show 2048 + n.val - 2048 < 8 by omega)]
      congr 3
      exact Fin.ext e.symm
    · rw [if_neg h, if_neg (by omega), zero_mul, zero_mul]
  rw [Finset.sum_congr rfl fun s _ => hw s, Finset.sum_congr rfl fun n _ => hv n]
  rw [Fin.sum_univ_eq_sum_range (fun k => weight2 (bodyNz x0 x1 x3 x4 K ⟨l.val / 64 * 8 + t.val, by omega⟩) t.val k * bodyVal x5 V l k) 2048,
    Fin.sum_univ_eq_sum_range (fun k => weight2 (bodyNz x0 x1 x3 x4 K ⟨l.val / 64 * 8 + t.val, by omega⟩) t.val k * bodyVal x5 V l k) 2056,
    Fin.sum_univ_eq_sum_range (fun k => weight2 (bodyNz x0 x1 x3 x4 K ⟨l.val / 64 * 8 + t.val, by omega⟩) t.val (2048 + k) * bodyVal x5 V l (2048 + k)) 128,
    add_comm, show 2056 = 2048 + 8 from rfl, Finset.sum_range_add, show 128 = 8 + 120 from rfl,
    Finset.sum_range_add (fun k => weight2 (bodyNz x0 x1 x3 x4 K ⟨l.val / 64 * 8 + t.val, by omega⟩) t.val (2048 + k) * bodyVal x5 V l (2048 + k)) 8 120]
  have hz : ∑ k ∈ Finset.range 120, weight2 (bodyNz x0 x1 x3 x4 K ⟨l.val / 64 * 8 + t.val, by omega⟩) t.val (2048 + (8 + k)) * bodyVal x5 V l (2048 + (8 + k)) = 0 := by
    refine Finset.sum_eq_zero fun k _ => ?_
    rw [weight2, if_neg (by omega), zero_mul]
  rw [hz, add_zero]

end Cert.KernelIdeal.Rows

end
-- ==== Proof.SampleStep.lean ====
/- What one step of the sampled attention leaves in its output block, as a function of its input blocks. -/
module
public import proofs.«01_k».proof.Proof.SampleIdealFrame
public import proofs.«01_k».proof.Proof.SampleBlocks
public import proofs.«01_k».proof.Proof.SampleBody
public import Idealize.ShloMosaic.Lib.Pipeline.ValueKit
public import Idealize.ShloMosaic.Lib.Claim
@[expose] public section
set_option maxRecDepth 16384
noncomputable section
namespace Cert.KernelIdeal.Final
open Cert.KernelIdeal Cert.KernelIdeal.Gen Idealize.ShloMosaic Idealize.ShloMosaic.TcCoe Idealize.SL.Sem
variable (m : (ℓ : Loc nD τ sig) → Buf (Elt Ideal) ℓ) (hO : Ok m)
attribute [local irreducible] StableHlo.after tbl iblk

set_option maxHeartbeats 8000000 in
theorem out_eq  (c : Dev nD) (i : grid0.Coords) (arg2 : Memref sig .tc .vmem S64x1 .f32) (harg2 : arg2.IsWhole) (arg3 : Memref sig .tc .vmem S64x512 .f32) (harg3 : arg3.IsWhole) (arg4 : Memref sig .tc .vmem S64x128 .f32) (harg4 : arg4.IsWhole) (arg5 : Memref sig .tc .vmem S1x8x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1x1x512x128 .f32) (harg8 : arg8.IsWhole) (arg9 : Memref sig .tc .vmem S1x1x512x128 .f32) (harg9 : arg9.IsWhole) (arg10 : Memref sig .tc .vmem S1x1x512x128 .f32) (harg10 : arg10.IsWhole) (arg11 : Memref sig .tc .vmem S1x1x512x128 .f32) (harg11 : arg11.IsWhole) (arg12 : Memref sig .tc .vmem S1x1x512x128 .f32) (harg12 : arg12.IsWhole) (arg13 : Memref sig .tc .vmem S1x1x512x128 .f32) (harg13 : arg13.IsWhole) (arg14 : Memref sig .tc .vmem S1x1x512x128 .f32) (harg14 : arg14.IsWhole) (arg15 : Memref sig .tc .vmem S1x1x512x128 .f32) (harg15 : arg15.IsWhole) (arg16 : Memref sig .tc .vmem S1x1x512x128 .f32) (harg16 : arg16.IsWhole) (arg17 : Memref sig .tc .vmem S1x1x512x128 .f32) (harg17 : arg17.IsWhole) (arg18 : Memref sig .tc .vmem S1x1x512x128 .f32) (harg18 : arg18.IsWhole) (arg19 : Memref sig .tc .vmem S1x1x512x128 .f32) (harg19 : arg19.IsWhole) (arg20 : Memref sig .tc .vmem S1x1x512x128 .f32) (harg20 : arg20.IsWhole) (arg21 : Memref sig .tc .vmem S1x1x512x128 .f32) (harg21 : arg21.IsWhole) (arg22 : Memref sig .tc .vmem S1x1x512x128 .f32) (harg22 : arg22.IsWhole) (arg23 : Memref sig .tc .vmem S1x1x512x128 .f32) (harg23 : arg23.IsWhole) (arg24 : Memref sig .tc .vmem S1x1x512x128 .f32) (harg24 : arg24.IsWhole) (arg25 : Memref sig .tc .vmem S1x1x512x128 .f32) (harg25 : arg25.IsWhole) (arg26 : Memref sig .tc .vmem S1x1x512x128 .f32) (harg26 : arg26.IsWhole) (arg27 : Memref sig .tc .vmem S1x1x512x128 .f32) (harg27 : arg27.IsWhole) (arg28 : Memref sig .tc .vmem S1x1x512x128 .f32) (harg28 : arg28.IsWhole) (arg29 : Memref sig .tc .vmem S1x1x512x128 .f32) (harg29 : arg29.IsWhole) (arg30 : Memref sig .tc .vmem S1x1x512x128 .f32) (harg30 : arg30.IsWhole) (arg31 : Memref sig .tc .vmem S1x1x512x128 .f32) (harg31 : arg31.IsWhole) (arg32 : Memref sig .tc .vmem S1x1x512x128 .f32) (harg32 : arg32.IsWhole) (arg33 : Memref sig .tc .vmem S1x1x512x128 .f32) (harg33 : arg33.IsWhole) (arg34 : Memref sig .tc .vmem S1x1x512x128 .f32) (harg34 : arg34.IsWhole) (arg35 : Memref sig .tc .vmem S1x1x512x128 .f32) (harg35 : arg35.IsWhole) (arg36 : Memref sig .tc .vmem S1x1x512x128 .f32) (harg36 : arg36.IsWhole) (arg37 : Memref sig .tc .vmem S1x1x512x128 .f32) (harg37 : arg37.IsWhole) (arg38 : Memref sig .tc .vmem S1x1x512x128 .f32) (harg38 : arg38.IsWhole) (arg39 : Memref sig .tc .vmem S1x1x512x128 .f32) (harg39 : arg39.IsWhole) (arg40 : Memref sig .tc .vmem S1x8x512 .bf16) (harg40 : arg40.IsWhole)
    (x0 : Vec Ideal S64x1 .f32) (x1 : Vec Ideal S64x512 .f32) (x2 : Vec Ideal S64x128 .f32) (x3 : Vec Ideal S1x8x512 .bf16) (x4 : Vec Ideal S8x512 .f32) (x5 : Vec Ideal S8x512 .f32) (x6 : Vec Ideal S1x1x512x128 .f32) (x7 : Vec Ideal S1x1x512x128 .f32) (x8 : Vec Ideal S1x1x512x128 .f32) (x9 : Vec Ideal S1x1x512x128 .f32) (x10 : Vec Ideal S1x1x512x128 .f32) (x11 : Vec Ideal S1x1x512x128 .f32) (x12 : Vec Ideal S1x1x512x128 .f32) (x13 : Vec Ideal S1x1x512x128 .f32) (x14 : Vec Ideal S1x1x512x128 .f32) (x15 : Vec Ideal S1x1x512x128 .f32) (x16 : Vec Ideal S1x1x512x128 .f32) (x17 : Vec Ideal S1x1x512x128 .f32) (x18 : Vec Ideal S1x1x512x128 .f32) (x19 : Vec Ideal S1x1x512x128 .f32) (x20 : Vec Ideal S1x1x512x128 .f32) (x21 : Vec Ideal S1x1x512x128 .f32) (x22 : Vec Ideal S1x1x512x128 .f32) (x23 : Vec Ideal S1x1x512x128 .f32) (x24 : Vec Ideal S1x1x512x128 .f32) (x25 : Vec Ideal S1x1x512x128 .f32) (x26 : Vec Ideal S1x1x512x128 .f32) (x27 : Vec Ideal S1x1x512x128 .f32) (x28 : Vec Ideal S1x1x512x128 .f32) (x29 : Vec Ideal S1x1x512x128 .f32) (x30 : Vec Ideal S1x1x512x128 .f32) (x31 : Vec Ideal S1x1x512x128 .f32) (x32 : Vec Ideal S1x1x512x128 .f32) (x33 : Vec Ideal S1x1x512x128 .f32) (x34 : Vec Ideal S1x1x512x128 .f32) (x35 : Vec Ideal S1x1x512x128 .f32) (x36 : Vec Ideal S1x1x512x128 .f32) (x37 : Vec Ideal S1x1x512x128 .f32) (xt0 : TbBuf0 (F := Ideal) c tbM0_0) :
    out0_A_38 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x3 x4 x5 x6 x7 x8 x9 x10 x11 x12 x13 x14 x15 x16 x17 x18 x19 x20 x21 x22 x23 x24 x25 x26 x27 x28 x29 x30 x31 x32 x33 x34 x35 x36 x37 xt0 = Rows.bodyOut x0 x1 x2 x3 x4 x5 ![x6, x7, x8, x9, x10, x11, x12, x13, x14, x15, x16, x17, x18, x19, x20, x21] ![x22, x23, x24, x25, x26, x27, x28, x29, x30, x31, x32, x33, x34, x35, x36, x37] := by
  unfold out0_A_38
  frame_out

  rfl

/-- The block a step leaves is the row's value over the step's input blocks. -/
theorem outs (c : Dev nD) (t : Fin (cfgM m hO).N) :
    outsAt0 m hO c t = Rows.bodyOut (iblk m hO c 0 t) (iblk m hO c 1 t) (iblk m hO c 2 t) (iblk m hO c 3 t) (iblk m hO c 4 t) (iblk m hO c 5 t) (keyBlk m hO c t) (valBlk m hO c t) := by
  unfold outsAt0
  exact out_eq ..
end Cert.KernelIdeal.Final
end
-- ==== Proof.SampleSpec.lean ====
/- The sample attention's value, entry by entry: keys and values through the page table, then the new tokens' own, the
   scores, and the weighted sum. -/
module

public import proofs.«01_k».proof.Proof.SampleMath

@[expose] public section

set_option maxRecDepth 16384

noncomputable section

namespace Cert.SampleMath

open Idealize.ShloMosaic Cert.InMath

/-- Lane `d` of head `h` of the key (or value) at position `k` of sequence `t`: of the cache's page for the first 2048
    positions, of the new tokens after. -/
def keyAt (cache : Fin 2560 → Fin 128 → Fin 8 → Fin 64 → EReal) (new : Fin 1024 → Fin 512 → EReal)
    (page : Fin 128 → Fin 16 → Fin 2560) (t : Fin 128) (h : Fin 8) (d : Fin 64) (k : ℕ) : EReal :=
  if hk : k < 2048 then cache (page t ⟨k / 128, by omega⟩) ⟨k % 128, by omega⟩ h d
  else if hn : k - 2048 < 8 then new ⟨t.val * 8 + (k - 2048), by omega⟩ ⟨h.val * 64 + d.val, by omega⟩ else 0

/-- The score of the key at position `k` for query `r` of sequence `t`. -/
def scoreAt (q : Fin 1024 → Fin 512 → EReal) (cache : Fin 2560 → Fin 128 → Fin 8 → Fin 64 → EReal)
    (new : Fin 1024 → Fin 512 → EReal) (page : Fin 128 → Fin 16 → Fin 2560) (bias : Fin 8 → EReal)
    (t : Fin 128) (h : Fin 8) (r : Fin 8) (k : ℕ) : EReal :=
  (∑ d : Fin 64, q ⟨t.val * 8 + r.val, by omega⟩ ⟨h.val * 64 + d.val, by omega⟩ * keyAt cache new page t h d k)
    * Ideal.ofBits .f32 0x3E000000#32 + bias h

/-- The attention's output lane `l` for query `r` of sequence `t`. -/
def attnAt (q : Fin 1024 → Fin 512 → EReal) (ck : Fin 2560 → Fin 128 → Fin 8 → Fin 64 → EReal)
    (kn : Fin 1024 → Fin 512 → EReal) (cv : Fin 2560 → Fin 128 → Fin 8 → Fin 64 → EReal)
    (vn : Fin 1024 → Fin 512 → EReal) (page : Fin 128 → Fin 16 → Fin 2560) (bias : Fin 8 → EReal)
    (t : Fin 128) (r : Fin 8) (l : Fin 512) : EReal :=
  ∑ k : Fin 2056, weight (scoreAt q ck kn page bias t ⟨l.val / 64, by omega⟩ r) r.val k.val
    * keyAt cv vn page t ⟨l.val / 64, by omega⟩ ⟨l.val % 64, by omega⟩ k.val

end Cert.SampleMath

end
-- ==== Proof.SampleScores.lean ====
/- The kernel's scaled scores, in the terms of `SampleSpec`: a row's product with all 512 lanes is its own head's 64. -/
module

public import proofs.«01_k».proof.Proof.SampleBody
public import proofs.«01_k».proof.Proof.SampleSpec

@[expose] public section

set_option maxRecDepth 16384

noncomputable section

namespace Cert.KernelIdeal.Rows

open Cert.KernelIdeal Cert.KernelIdeal.Gen Idealize.ShloMosaic Idealize.ShloMosaic.TcCoe Idealize.SL.Sem
open Cert.InMath Cert.SampleMath

/-- A sum over all lanes that keeps one head's lanes. -/
theorem head_sum (f : Fin 512 → EReal) (h : Fin 8) :
    (∑ l : Fin 512, if h.val = l.val / 64 then f l else 0) = ∑ d : Fin 64, f ⟨h.val * 64 + d.val, by omega⟩ := by
  rw [Fin.sum_univ_tiles 8 64 rfl]
  rw [Finset.sum_eq_single h]
  · exact Finset.sum_congr rfl fun d _ => if_pos (show h.val = (h.val * 64 + d.val) / 64 by omega)
  · intro g _ hg
    refine Finset.sum_eq_zero fun d _ => ?_
    rw [if_neg]
    show ¬ h.val = (g.val * 64 + d.val) / 64
    have : g.val ≠ h.val := fun e => hg (Fin.ext e)
    omega
  · intro hh
    exact absurd (Finset.mem_univ _) hh

section
variable (x0 : Vec Ideal S64x1 .f32) (x1 : Vec Ideal S64x512 .f32) (x3 : Vec Ideal S1x8x512 .bf16)
    (x4 : Vec Ideal S8x512 .f32) (K : Fin 16 → Vec Ideal S1x1x512x128 .f32)
    (hm : ∀ (r : Fin 64) (l : Fin 512), k0_pay3 (F := Ideal) x1 (ix2 r l) = if r.val / 8 = l.val / 64 then 1#1 else 0#1)
    (q : Fin 8 → Fin 512 → EReal) (hq : ∀ r l, x3 (ix3 0 r l) = scaled (q r l))
    (b : Fin 8 → EReal) (h0 : ∀ r : Fin 64, x0 (ix2 r 0) = b ⟨r.val / 8, by omega⟩)
    (key : Fin 8 → Fin 64 → ℕ → EReal)
    (hK : ∀ (l : Fin 512) (s : Fin 2048), K ⟨s.val / 128, by omega⟩ (ix4 0 0 l ⟨s.val % 128, by omega⟩)
      = key ⟨l.val / 64, by omega⟩ ⟨l.val % 64, by omega⟩ s.val)
    (h4 : ∀ (n : Fin 8) (l : Fin 512), x4 (ix2 n l) = key ⟨l.val / 64, by omega⟩ ⟨l.val % 64, by omega⟩ (2048 + n.val))

include hm hq in
theorem row_dot (h r : Fin 8) (X : Fin 512 → EReal) :
    (∑ l : Fin 512, k0_pay4 (F := Ideal) x1 x3 (ix2 ⟨h.val * 8 + r.val, by omega⟩ l) * X l)
      = ∑ d : Fin 64, scaled (q r ⟨h.val * 64 + d.val, by omega⟩) * X ⟨h.val * 64 + d.val, by omega⟩ := by
  rw [← head_sum (fun l => scaled (q r l) * X l) h]
  refine Finset.sum_congr rfl fun l _ => ?_
  have e8 : (h.val * 8 + r.val) / 8 = h.val := by omega
  have er : (⟨(h.val * 8 + r.val) % 8, by omega⟩ : Fin 8) = r := Fin.ext (show (h.val * 8 + r.val) % 8 = r.val by omega)
  rw [pay4_at, hm, select_ite]
  show (if (h.val * 8 + r.val) / 8 = l.val / 64 then x3 (ix3 0 ⟨(h.val * 8 + r.val) % 8, _⟩ l) else 0) * X l = _
  rw [e8, er, hq]
  by_cases hl : h.val = l.val / 64
  · rw [if_pos hl, if_pos hl]
  · rw [if_neg hl, if_neg hl, zero_mul]

include hm hq h0 hK h4 in
/-- The scaled score of a key before the query's end. -/
theorem bodyNz_at (hqf : ∀ r l, q r l ≠ ⊤ ∧ q r l ≠ ⊥) (hkf : ∀ h d k, key h d k ≠ ⊤ ∧ key h d k ≠ ⊥)
    (h r : Fin 8) (k : ℕ) (hk : k < 2056) :
    bodyNz x0 x1 x3 x4 K ⟨h.val * 8 + r.val, by omega⟩ k
      = ((-κe : ℝ) : EReal) * ((∑ d : Fin 64, q r ⟨h.val * 64 + d.val, by omega⟩ * key h d k)
          * Ideal.ofBits .f32 0x3E000000#32 + b h) := by
  rw [← score_eq (fun d => q r ⟨h.val * 64 + d.val, by omega⟩) (fun d => key h d k) (b h) (fun d => hqf _ _) (fun d => hkf _ _ _)]
  have hb : x0 (ix2 ⟨h.val * 8 + r.val, by omega⟩ 0) = b h :=
    (h0 _).trans (congrArg b (Fin.ext (show (h.val * 8 + r.val) / 8 = h.val by omega)))
  have hd : ∀ d : Fin 64, (⟨(h.val * 64 + d.val) / 64, by omega⟩ : Fin 8) = h ∧ (⟨(h.val * 64 + d.val) % 64, by omega⟩ : Fin 64) = d :=
    fun d => ⟨Fin.ext (show (h.val * 64 + d.val) / 64 = h.val by omega), Fin.ext (show (h.val * 64 + d.val) % 64 = d.val by omega)⟩
  unfold bodyNz
  by_cases hk2 : k < 2048
  · rw [dif_pos hk2]
    unfold bodyPast
    rw [pay27_at, pay5_at, hb]
    show (∑ l : Fin 512, k0_pay4 (F := Ideal) x1 x3 (ix2 ⟨h.val * 8 + r.val, _⟩ l) * K ⟨k / 128, _⟩ (ix4 0 0 l ⟨k % 128, _⟩)) + _ = _
    rw [row_dot x1 x3 hm q hq h r (fun l => K ⟨k / 128, by omega⟩ (ix4 0 0 l ⟨k % 128, by omega⟩))]
    refine congrArg (fun v : EReal => v + _) (Finset.sum_congr rfl fun d _ => ?_)
    refine congrArg (HMul.hMul (scaled (q r ⟨h.val * 64 + d.val, by omega⟩))) ?_
    refine (hK ⟨h.val * 64 + d.val, by omega⟩ ⟨k, hk2⟩).trans ?_
    show key ⟨(h.val * 64 + d.val) / 64, _⟩ ⟨(h.val * 64 + d.val) % 64, _⟩ k = key h d k
    rw [(hd d).1, (hd d).2]
  · have hk3 : k - 2048 < 8 := by omega
    rw [dif_neg hk2, dif_pos (show k - 2048 < 128 by omega), pay9_at, pay5_at, hb]
    rw [row_dot x1 x3 hm q hq h r (fun l => if h : (k - 2048 : ℕ) < 8 then x4 (ix2 ⟨k - 2048, h⟩ l) else 0)]
    refine congrArg (fun v : EReal => v + _) (Finset.sum_congr rfl fun d _ => ?_)
    refine congrArg (HMul.hMul (scaled (q r ⟨h.val * 64 + d.val, by omega⟩))) ?_
    rw [dif_pos hk3]
    refine (h4 ⟨k - 2048, hk3⟩ ⟨h.val * 64 + d.val, by omega⟩).trans ?_
    show key ⟨(h.val * 64 + d.val) / 64, _⟩ ⟨(h.val * 64 + d.val) % 64, _⟩ (2048 + (k - 2048)) = key h d k
    rw [(hd d).1, (hd d).2, show 2048 + (k - 2048) = k by omega]
end

/-- A key's or value's entry is finite when the cache's and the new ones are. -/
theorem keyAt_finite (cache : Fin 2560 → Fin 128 → Fin 8 → Fin 64 → EReal) (new : Fin 1024 → Fin 512 → EReal) (page : Fin 128 → Fin 16 → Fin 2560)
    (hc : ∀ p s h d, cache p s h d ≠ ⊤ ∧ cache p s h d ≠ ⊥) (hnew : ∀ r l, new r l ≠ ⊤ ∧ new r l ≠ ⊥)
    (t : Fin 128) (h : Fin 8) (d : Fin 64) (k : ℕ) : keyAt cache new page t h d k ≠ ⊤ ∧ keyAt cache new page t h d k ≠ ⊥ := by
  unfold keyAt
  split
  · exact hc _ _ _ _
  · split
    · exact hnew _ _
    · exact ⟨EReal.zero_ne_top, EReal.zero_ne_bot⟩

theorem keyAt_past (cache : Fin 2560 → Fin 128 → Fin 8 → Fin 64 → EReal) (new : Fin 1024 → Fin 512 → EReal) (page : Fin 128 → Fin 16 → Fin 2560)
    (t : Fin 128) (h : Fin 8) (d : Fin 64) (s : Fin 2048) :
    keyAt cache new page t h d s.val = cache (page t ⟨s.val / 128, by omega⟩) ⟨s.val % 128, by omega⟩ h d :=
  dif_pos s.isLt

theorem keyAt_new (cache : Fin 2560 → Fin 128 → Fin 8 → Fin 64 → EReal) (new : Fin 1024 → Fin 512 → EReal) (page : Fin 128 → Fin 16 → Fin 2560)
    (t : Fin 128) (h : Fin 8) (d : Fin 64) (n : Fin 8) :
    keyAt cache new page t h d (2048 + n.val) = new ⟨t.val * 8 + n.val, by omega⟩ ⟨h.val * 64 + d.val, by omega⟩ := by
  unfold keyAt
  rw [dif_neg (show ¬ 2048 + n.val < 2048 by omega), dif_pos (show 2048 + n.val - 2048 < 8 by omega)]
  refine congrArg (fun r => new r _) (Fin.ext ?_)
  show t.val * 8 + (2048 + n.val - 2048) = t.val * 8 + n.val
  omega

/-- The same at a lane of the layer's width. -/
theorem keyAt_new_lane (cache : Fin 2560 → Fin 128 → Fin 8 → Fin 64 → EReal) (new : Fin 1024 → Fin 512 → EReal) (page : Fin 128 → Fin 16 → Fin 2560)
    (t : Fin 128) (l : Fin 512) (n : Fin 8) (k : ℕ) (hk : k = 2048 + n.val) :
    keyAt cache new page t ⟨l.val / 64, by omega⟩ ⟨l.val % 64, by omega⟩ k = new ⟨t.val * 8 + n.val, by omega⟩ l := by
  subst hk
  rw [keyAt_new]
  refine congrArg (new ⟨t.val * 8 + n.val, by omega⟩) (Fin.ext ?_)
  show l.val / 64 * 64 + l.val % 64 = l.val
  omega

theorem row_lt (t : Fin 128) (n : Fin 8) : t.val * 8 + n.val < 1024 := by omega

theorem head_lt (l : Fin 512) : l.val / 64 < 8 := by omega

theorem place_lt (l : Fin 512) : l.val % 64 < 64 := by omega

theorem group_lt (r : Fin 64) : r.val / 8 < 8 := by omega

/-- A step's block is the attention of its request, when its inputs are the request's. -/
theorem bodyOut_attn (x0 : Vec Ideal S64x1 .f32) (x1 : Vec Ideal S64x512 .f32) (x2 : Vec Ideal S64x128 .f32) (x3 : Vec Ideal S1x8x512 .bf16)
    (x4 x5 : Vec Ideal S8x512 .f32) (K V : Fin 16 → Vec Ideal S1x1x512x128 .f32)
    (q kn vn : Fin 1024 → Fin 512 → EReal) (ck cv : Fin 2560 → Fin 128 → Fin 8 → Fin 64 → EReal)
    (page : Fin 128 → Fin 16 → Fin 2560) (b : Fin 8 → EReal) (t : Fin 128)
    (hm : ∀ (r : Fin 64) (l : Fin 512), k0_pay3 (F := Ideal) x1 (ix2 r l) = if r.val / 8 = l.val / 64 then 1#1 else 0#1)
    (hn : ∀ (r : Fin 64) (n : Fin 128), k0_pay8 (F := Ideal) x2 (ix2 r n) = if n.val < r.val % 8 then 1#1 else 0#1)
    (h0 : ∀ r : Fin 64, x0 (ix2 r 0) = b ⟨r.val / 8, group_lt r⟩)
    (h3 : ∀ (r : Fin 8) (l : Fin 512), x3 (ix3 0 r l) = scaled (q ⟨t.val * 8 + r.val, row_lt t r⟩ l))
    (h4 : ∀ (n : Fin 8) (l : Fin 512), x4 (ix2 n l) = kn ⟨t.val * 8 + n.val, row_lt t n⟩ l)
    (h5 : ∀ (n : Fin 8) (l : Fin 512), x5 (ix2 n l) = vn ⟨t.val * 8 + n.val, row_lt t n⟩ l)
    (hK : ∀ (n : Fin 16) (l : Fin 512) (s : Fin 128), K n (ix4 0 0 l s) = ck (page t n) s ⟨l.val / 64, head_lt l⟩ ⟨l.val % 64, place_lt l⟩)
    (hV : ∀ (n : Fin 16) (l : Fin 512) (s : Fin 128), V n (ix4 0 0 l s) = cv (page t n) s ⟨l.val / 64, head_lt l⟩ ⟨l.val % 64, place_lt l⟩)
    (fq : ∀ r l, q r l ≠ ⊤ ∧ q r l ≠ ⊥) (fk : ∀ r l, kn r l ≠ ⊤ ∧ kn r l ≠ ⊥) (fc : ∀ p s h d, ck p s h d ≠ ⊤ ∧ ck p s h d ≠ ⊥)
    (r : Fin 8) (l : Fin 512) :
    bodyOut x0 x1 x2 x3 x4 x5 K V (ix3 0 r l) = attnAt q ck kn cv vn page b t r l := by
  have old4 : ∀ (n : Fin 8) (l : Fin 512), x4 (ix2 n l) = keyAt ck kn page t ⟨l.val / 64, by omega⟩ ⟨l.val % 64, by omega⟩ (2048 + n.val) := by
    intro n l
    rw [keyAt_new_lane ck kn page t l n _ rfl]
    exact h4 n l
  have past : ∀ (l : Fin 512) (s : Fin 2048), K ⟨s.val / 128, by omega⟩ (ix4 0 0 l ⟨s.val % 128, by omega⟩)
      = keyAt ck kn page t ⟨l.val / 64, by omega⟩ ⟨l.val % 64, by omega⟩ s.val := by
    intro l s
    rw [keyAt_past, hK]
  rw [bodyOut_at x0 x1 x2 x3 x4 x5 K V hm hn]
  unfold attnAt
  refine Finset.sum_congr rfl fun k _ => ?_
  have hw : weight2 (bodyNz x0 x1 x3 x4 K ⟨l.val / 64 * 8 + r.val, by omega⟩) r.val k.val
      = weight (scoreAt q ck kn page b t ⟨l.val / 64, by omega⟩ r) r.val k.val := by
    refine weight2_eq _ _ r.val r.isLt (fun k hk => ?_) k.val
    have h8 : l.val / 64 < 8 := by omega
    have e := bodyNz_at x0 x1 x3 x4 K hm (fun r l => q ⟨t.val * 8 + r.val, by omega⟩ l) h3 b h0 (keyAt ck kn page t) past old4
      (fun _ _ => fq _ _) (keyAt_finite ck kn page fc fk t) ⟨l.val / 64, h8⟩ r k (by omega)
    exact e
  have hv : bodyVal x5 V l k.val = keyAt cv vn page t ⟨l.val / 64, by omega⟩ ⟨l.val % 64, by omega⟩ k.val := by
    unfold bodyVal
    by_cases hk : k.val < 2048
    · rw [dif_pos hk]
      have e := keyAt_past cv vn page t ⟨l.val / 64, by omega⟩ ⟨l.val % 64, by omega⟩ ⟨k.val, hk⟩
      exact (hV _ _ _).trans e.symm
    · have hk8 : k.val - 2048 < 8 := by omega
      rw [dif_neg hk, dif_pos hk8]
      rw [keyAt_new_lane cv vn page t l ⟨k.val - 2048, hk8⟩ k.val (show k.val = 2048 + (k.val - 2048) by omega)]
      exact h5 _ _
  rw [hw, hv]

end Cert.KernelIdeal.Rows

end
-- ==== Proof.SamplePages.lean ====
/- Under the precondition every page number of the table names a page of the cache, so that the windows' blocks are
   inside their array; and what the precondition says of the numbers. -/
module

public import proofs.«01_k».proof.Defs
public import proofs.«01_k».proof.Proof.Gen.Kernel.Frame.Runs
public import proofs.«01_k».proof.Proof.Gen.KernelIdeal.Frame.Runs
public import proofs.«01_k».proof.Proof.Gen.Pre_pages_ok
public import proofs.«01_k».proof.Proof.Gen.Pre_inputs_ok
import Idealize.ShloMosaic.Lib.Pointwise.ShapeOpsCore

@[expose] public section

set_option maxRecDepth 16384

noncomputable section

namespace Cert.Proof.SamplePages

open Idealize.ShloMosaic Idealize.ShloMosaic.TcCoe

/-- A word that compares as at least 0 and below 2560 is, read as a natural number, below 2560. -/
theorem word_lt {v : BitVec 32} (h : IntOp.andi (IntOp.cmpi .sge v 0#32) (IntOp.cmpi .slt v 2560#32) = 1#1) :
    v.toNat < 2560 := by
  have andi_one (a b : BitVec 1) : IntOp.andi a b = 1#1 ↔ a = 1#1 ∧ b = 1#1 := by revert a b; decide
  have ofBool_eq_one (p : Bool) : (BitVec.ofBool p = 1#1) ↔ p = true := by cases p <;> decide
  rw [andi_one] at h
  simp only [ofBool_eq_one, IntOp.cmpi, BitVec.sle, BitVec.slt, decide_eq_true_eq, BitVec.toInt,
    BitVec.toNat_ofNat] at h
  have := v.isLt
  omega

/-- A page below 2560, of layer 0, is inside the cache. -/
theorem page_inb {n : ℕ} (h : n < 2560) : ∀ a : Fin 4,
    ((![0, n, 0, 0] : Fin 4 → ℕ) a + 1) * (![1, 1, 512, 128] : Fin 4 → ℕ) a ≤ (![2, 2560, 512, 128] : Fin 4 → ℕ) a := by
  intro a
  fin_cases a <;> simp <;> omega

variable {F : FTy → Type} [FloatOps F]

/-- Every page number below 2560: every window's block is inside its array. -/
theorem ok_of_lt (pf : Cert.Kernel.pre0.Contents (Elt F)) (h : ∀ y : Cert.Kernel.S128x16.Idx, (pf 0 y : BitVec 32).toNat < 2560) :
    Cert.Kernel.ok0 (F := F) pf := by
  unfold Cert.Kernel.ok0
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact fun i => ⟨page_inb (h _), Or.inl rfl⟩

/-- The same of the idealized kernel. -/
theorem ok_of_lt_ideal [Named F] (pf : Cert.KernelIdeal.pre0.Contents (Elt F)) (h : ∀ y : Cert.KernelIdeal.S128x16.Idx, (pf 0 y : BitVec 32).toNat < 2560) :
    Cert.KernelIdeal.ok0 (F := F) pf := by
  unfold Cert.KernelIdeal.ok0
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact fun i => ⟨page_inb (h _), Or.inl rfl⟩

/-- The kernel's windows are inside their arrays under the precondition on the pages. -/
theorem ok_of_pre (m : (ℓ : Loc Cert.Kernel.nD Cert.Kernel.τ Cert.Kernel.sig) → Buf (Elt Bits) ℓ) (h : Cert.Pre_Kernel m) :
    Cert.Kernel.Gen.Ok m := by
  refine ok_of_lt _ fun y => ?_
  have e : (Cert.Kernel.Gen.tbl m 0 y : BitVec 32) = m (((0 : Dev Cert.Kernel.nD).tc : Thread Cert.Kernel.nD Cert.Kernel.τ).loc Cert.Kernel.main_arg5) y :=
    congrFun (Cert.Kernel.Gen.V_main_arg5 m 0) y
  rw [e]
  exact word_lt (congrFun (h 0) y)

/-- The idealized kernel's. -/
theorem ok_of_pre_ideal (m : (ℓ : Loc Cert.KernelIdeal.nD Cert.KernelIdeal.τ Cert.KernelIdeal.sig) → Buf (Elt Ideal) ℓ)
    (h : Cert.Pre_KernelIdeal m) : Cert.KernelIdeal.Gen.Ok m := by
  refine ok_of_lt_ideal _ fun y => ?_
  have e : (Cert.KernelIdeal.Gen.tbl m 0 y : BitVec 32) = m (((0 : Dev Cert.KernelIdeal.nD).tc : Thread Cert.KernelIdeal.nD Cert.KernelIdeal.τ).loc Cert.KernelIdeal.main_arg5) y :=
    congrFun (Cert.KernelIdeal.Gen.V_main_arg5 m 0) y
  rw [e]
  exact word_lt (congrFun (h 0) y)

/-- The precondition on all inputs contains the one on the pages. -/
theorem pages_of_inputs (m : (ℓ : Loc Cert.KernelIdeal.nD Cert.KernelIdeal.τ Cert.KernelIdeal.sig) → Buf (Elt Ideal) ℓ)
    (h : Cert.Pre_KernelIdeal_inputs_ok m) : Cert.Pre_KernelIdeal m := fun c => (h c).1

/-- Neither infinity. -/
abbrev Finite (x : EReal) : Prop := x ≠ ⊤ ∧ x ≠ ⊥

/-- An entry whose magnitude compares below infinity is neither infinity. -/
theorem finite_of {x : Ideal .f32}
    (h : FloatOps.cmpf (F := Ideal) .olt (FloatOps.absf (F := Ideal) x) (FloatOps.ofBits (F := Ideal) .f32 0x7F800000#32) = 1#1) :
    Finite x := by
  have htop : Ideal.ofBits .f32 0x7F800000#32 = ⊤ := by simp [Ideal.ofBits, Ideal.ieee]
  have hlt : max (x : EReal) (-x) < ⊤ := by
    by_contra hn
    have : BitVec.ofBool (decide (max (x : EReal) (-x) < Ideal.ofBits .f32 0x7F800000#32)) = 1#1 := h
    rw [htop] at this
    simp [hn] at this
  constructor
  · rintro rfl; simp at hlt
  · rintro rfl; simp at hlt

section inputs
variable (m : (ℓ : Loc Cert.KernelIdeal.nD Cert.KernelIdeal.τ Cert.KernelIdeal.sig) → Buf (Elt Ideal) ℓ)
  (h : Cert.Pre_KernelIdeal_inputs_ok m) (c : Dev Cert.KernelIdeal.nD)
include h

/-- Every page number is below 2560. -/
theorem page_lt (y : Cert.KernelIdeal.S128x16.Idx) :
    (m ((c.tc : Thread Cert.KernelIdeal.nD Cert.KernelIdeal.τ).loc Cert.KernelIdeal.main_arg5) y : BitVec 32).toNat < 2560 :=
  word_lt (congrFun (h c).1 y)

/-- Every query entry is finite. -/
theorem q_finite (y : Cert.KernelIdeal.S1024x512.Idx) :
    Finite (m ((c.tc : Thread Cert.KernelIdeal.nD Cert.KernelIdeal.τ).loc Cert.KernelIdeal.main_arg0) y) :=
  finite_of (congrFun (h c).2.1 y)

/-- Every entry of the new keys is finite. -/
theorem k_finite (y : Cert.KernelIdeal.S1024x512.Idx) :
    Finite (m ((c.tc : Thread Cert.KernelIdeal.nD Cert.KernelIdeal.τ).loc Cert.KernelIdeal.main_arg1) y) :=
  finite_of (congrFun (h c).2.2.1 y)

/-- Every entry of the cached keys is finite. -/
theorem cache_finite (y : Cert.KernelIdeal.S2x2560x128x8x64.Idx) :
    Finite (m ((c.tc : Thread Cert.KernelIdeal.nD Cert.KernelIdeal.τ).loc Cert.KernelIdeal.main_arg3) y) :=
  finite_of (congrFun (h c).2.2.2 y)

end inputs

end Cert.Proof.SamplePages
-- ==== Proof.SampleCumsum.lean ====
/- The running sum from the end along the last axis of a rank-four array, and the softplus as the reference writes it. -/
module

public import Idealize.ShloMosaic.Lib.Pointwise
public import Idealize.ShloMosaic.Lib.Pipeline.Value
public import proofs.«01_k».proof.Proof.SampleMath

@[expose] public section

set_option maxRecDepth 16384

noncomputable section

namespace Cert.SampleMath

open Idealize.ShloMosaic

/-- A fold of additions from zero is the sum. -/
theorem foldl_sum (N : ℕ) (g : Fin N → EReal) : (List.finRange N).foldl (fun r n => r + g n) 0 = ∑ n, g n := by
  rw [Fin.sum_univ_def, List.sum_eq_foldl, List.foldl_map]

/-- The window's positions. -/
abbrev row (N : ℕ) : Shape := ⟨4, ![1, 1, 1, N]⟩

theorem row_numel (N : ℕ) : (row N).numel = N := by
  show ∏ a : Fin 4, (![1, 1, 1, N] : Fin 4 → ℕ) a = N
  simp [Fin.prod_univ_four]

theorem row_symm (N : ℕ) (n : Fin (row N).numel) :
    (row N).rowMajor.symm n = ix4 (0 : Fin 1) (0 : Fin 1) (0 : Fin 1) (n.cast (row_numel N)) :=
  ((row N).rowMajor.symm_apply_eq).2 (Fin.ext (by
    rw [Shape.rowMajor_val_four]
    simp))

/-- The sum of a row's entries from position `k` on. -/
theorem sum_from (f : ℕ → EReal) (N k : ℕ) (hk : k ≤ N) :
    (∑ n : Fin N, if k + n.val < N then f (k + n.val) else 0) = seg f k N := by
  rw [Fin.sum_univ_eq_sum_range (fun i => if k + i < N then f (k + i) else 0) N, seg, Finset.sum_Ico_eq_sum_range,
    ← Finset.sum_filter]
  refine Finset.sum_congr ?_ fun _ _ => rfl
  ext i
  simp only [Finset.mem_filter, Finset.mem_range]
  omega

abbrev S4 (A B C N : ℕ) : Shape := ⟨4, ![A, B, C, N]⟩

theorem cumsum4 {A B C N M : ℕ} (hM : M + 1 = N) (x : (S4 A B C N).Idx → EReal)
    (h : (S4 A B C N).ReduceWindows ![1, 1, 1, N] ![1, 1, 1, 1] ![0, 0, 0, 0] ![0, 0, 0, M] (S4 A B C N))
    (t : Fin A) (a : Fin B) (b : Fin C) (k : Fin N) (f : ℕ → EReal) (hf : ∀ j : Fin N, x (ix4 t a b j) = f j.val) :
    Ideal.hostReduceWindowAdd ![1, 1, 1, N] ![1, 1, 1, 1] ![0, 0, 0, 0] ![0, 0, 0, M] h x 0 (ix4 t a b k)
      = seg f k.val N := by
  unfold Ideal.hostReduceWindowAdd Host.reduceWindow
  dsimp only
  rw [foldl_sum]
  rw [← sum_from f N k.val k.isLt.le]
  refine Fintype.sum_equiv (finCongr (row_numel N)) _ _ fun n => ?_
  have hn : n.val < N := lt_of_lt_of_eq n.isLt (row_numel N)
  have hw : ∀ c : Fin 4, ((row N).rowMajor.symm n c).val = (![0, 0, 0, n.val] : Fin 4 → ℕ) c := by
    rw [row_symm]
    intro c
    fin_cases c <;> rfl
  have e : ∀ c : Fin 4, ((ix4 t a b k : (S4 A B C N).Idx) c).val * (![1, 1, 1, 1] : Fin 4 → ℕ) c
      + ((row N).rowMajor.symm n c).val = (![t.val, a.val, b.val, k.val + n.val] : Fin 4 → ℕ) c := by
    intro c
    rw [hw]
    fin_cases c <;> simp
  split
  · next hin =>
    have h3 : k.val + n.val < N := by
      exact lt_of_eq_of_lt (e 3).symm (hin 3).2
    rw [if_pos (show k.val + ((finCongr (row_numel N)) n).val < N from h3)]
    refine Eq.trans (congrArg x (funext fun c => Fin.ext ?_)) (hf ⟨k.val + n.val, h3⟩)
    match c with
    | ⟨0, _⟩ => exact e 0
    | ⟨1, _⟩ => exact e 1
    | ⟨2, _⟩ => exact e 2
    | ⟨3, _⟩ => exact e 3
  · next hin =>
    rw [if_neg]
    intro h3
    refine hin fun c => ?_
    match c with
    | ⟨0, _⟩ => exact ⟨Nat.zero_le _, lt_of_eq_of_lt (e 0) t.isLt⟩
    | ⟨1, _⟩ => exact ⟨Nat.zero_le _, lt_of_eq_of_lt (e 1) a.isLt⟩
    | ⟨2, _⟩ => exact ⟨Nat.zero_le _, lt_of_eq_of_lt (e 2) b.isLt⟩
    | ⟨3, _⟩ => exact ⟨Nat.zero_le _, lt_of_eq_of_lt (e 3) h3⟩

/-- The softplus as the reference writes it: nothing differs from itself. -/
theorem softplus_printed (y : EReal) :
    Scalar.select (Ideal.cmp .une (y - Ideal.ofBits .f32 0x00000000#32) (y - Ideal.ofBits .f32 0x00000000#32))
      (y + Ideal.ofBits .f32 0x00000000#32)
      (max y (Ideal.ofBits .f32 0x00000000#32)
        + Ideal.log1p (Ideal.exp (-(max (y - Ideal.ofBits .f32 0x00000000#32) (-(y - Ideal.ofBits .f32 0x00000000#32))))))
      = softplus y := by
  have z : Ideal.ofBits .f32 0x00000000#32 = 0 := by simp
  have c : Ideal.cmp .une (y - 0) (y - 0) = 0#1 := by simp [Ideal.cmp]
  rw [z, c, sub_zero]
  rfl

end Cert.SampleMath

end
-- ==== Proof.SampleReference.lean ====
/- The reference of the sample attention, stage by stage and entry by entry, in the terms of `SampleSpec`. -/
module

public import proofs.«01_k».proof.Proof.Gen.ReferenceIdeal
public import Idealize.ShloMosaic.Lib.Claim
public import Idealize.ShloMosaic.Lib.Pipeline.ValueKit
public import proofs.«01_k».proof.Proof.SampleSpec
public import proofs.«01_k».proof.Proof.SampleCumsum

@[expose] public section

set_option maxRecDepth 16384

noncomputable section

namespace Cert.ReferenceIdeal.Rows

open Cert.ReferenceIdeal Cert.ReferenceIdeal.Gen Idealize.ShloMosaic Idealize.ShloMosaic.TcCoe
open Idealize.SL.Sem Idealize.ShloMosaic.StableHlo Cert.SampleMath

/-- The page table, a negative entry counted from the end. -/
def wrapped (x5 : IVec S128x16 32) : IVec S128x16 32 :=
  select (cmpi .slt x5 (broadcastInDim S128x16 ![] bcast_S_S128x16 (constantI S_ 32 0#32)))
    (addi x5 (broadcastInDim S128x16 ![] bcast_S_S128x16 (constantI S_ 32 2560#32))) x5

/-- The first layer's pages. -/
def layer0 (x : FVec Ideal S2x2560x128x8x64 .f32) : FVec Ideal S2560x128x8x64 .f32 :=
  shapeCast S2560x128x8x64 (extractStridedSlice S1x2560x128x8x64 ![0, 0, 0, 0, 0] x
    slices_S2x2560x128x8x64_S1x2560x128x8x64_0_0_0_0_0) shapeCasts_S1x2560x128x8x64_S2560x128x8x64

theorem layer0_at (x : FVec Ideal S2x2560x128x8x64 .f32) (p : Fin 2560) (s : Fin 128) (h : Fin 8) (d : Fin 64) :
    layer0 x (ix4 p s h d) = x (ix5 0 p s h d) := by
  pointwise [layer0]

theorem wrapped_at (x5 : IVec S128x16 32) (y : S128x16.Idx) (h : (x5 y).toNat < 2560) : wrapped x5 y = x5 y := by
  have e : IntOp.cmpi .slt (x5 y) 0#32 = 0#1 := by
    generalize x5 y = v at h
    have : v.toInt = v.toNat := by rw [BitVec.toInt_eq_toNat_cond]; split <;> omega
    have hn : ¬ ((v.toNat : ℤ) < 0) := by omega
    simp [IntOp.cmpi, BitVec.slt, this, hn]
  show Scalar.select (IntOp.cmpi .slt (x5 y) 0#32) _ _ = _
  rw [e]
  rfl

/-- The gather's dimension numbers. -/
abbrev dims : GatherDims S2560x128x8x64 S128x16x1 S128x16x128x8x64 :=
  gather_S2560x128x8x64_S128x16x1_S128x16x128x8x64_234_0_n_n_0_2_1128864

/-- The gathered pages. -/
def gathered (x : FVec Ideal S2560x128x8x64 .f32) (w : IVec S128x16 32) : FVec Ideal S128x16x128x8x64 .f32 :=
  Host.gather gather_S2560x128x8x64_S128x16x1_S128x16x128x8x64_234_0_n_n_0_2_1128864 x
    (broadcastInDim S128x16x1 ![0, 1] bcast_S128x16_S128x16x1_0_1 w)

theorem gathered_at (x : FVec Ideal S2560x128x8x64 .f32) (w : IVec S128x16 32) (t : Fin 128) (n : Fin 16) (s : Fin 128)
    (h : Fin 8) (d : Fin 64) (hw : (w (ix2 t n)).toNat < 2560) :
    gathered x w (ix5 t n s h d) = x (ix4 ⟨(w (ix2 t n)).toNat, hw⟩ s h d) := by
  have ht : (w (ix2 t n)).toInt = (w (ix2 t n)).toNat := by rw [BitVec.toInt_eq_toNat_cond]; split <;> omega
  have hs : (broadcastInDim S128x16x1 ![0, 1] bcast_S128x16_S128x16x1_0_1 w) (ix3 t n 0) = w (ix2 t n) := by pointwise []
  unfold gathered Host.gather
  refine congrArg x (funext fun a => Fin.ext ?_)
  have e0 : ∀ X : Fin 5, X = 0 → ((ix5 t n s h d : S128x16x128x8x64.Idx) X).val = t.val := by rintro _ rfl; rfl
  have e1 : ∀ X : Fin 5, X = 1 → ((ix5 t n s h d : S128x16x128x8x64.Idx) X).val = n.val := by rintro _ rfl; rfl
  have e2 : ∀ X : Fin 5, X = 2 → ((ix5 t n s h d : S128x16x128x8x64.Idx) X).val = s.val := by rintro _ rfl; rfl
  have e3 : ∀ X : Fin 5, X = 3 → ((ix5 t n s h d : S128x16x128x8x64.Idx) X).val = h.val := by rintro _ rfl; rfl
  have e4 : ∀ X : Fin 5, X = 4 → ((ix5 t n s h d : S128x16x128x8x64.Idx) X).val = d.val := by rintro _ rfl; rfl
  match a with
  | ⟨0, _⟩ =>
    show GatherDims.start dims (ix5 t n s h d) _ (0 : Fin 4) + GatherDims.batchCoord dims (ix5 t n s h d) (0 : Fin 4)
      + GatherDims.offCoord dims (ix5 t n s h d) (0 : Fin 4) = _
    rw [GatherDims.batchCoord_eq_zero _ _ _ (by decide), GatherDims.offCoord_eq_zero _ _ _ (by decide), Nat.add_zero]
    unfold GatherDims.start
    rw [dif_pos (show (0 : Fin 4) ∈ dims.startIndexMap by decide)]
    have hi : ∀ c, dims.siIdx (ix5 t n s h d) c = ix3 t n 0 := by
      intro c
      have hc : c.val = 0 := by have : c.val < 1 := c.isLt; omega
      funext b
      apply Fin.ext
      match b with
      | ⟨0, _⟩ =>
        unfold GatherDims.siIdx
        exact (congrArg Fin.val (dif_neg (show ¬ (0 : ℕ) = 2 by decide))).trans (e0 _
          (show dims.batchDims[List.idxOf (0 : Fin 3) dims.siKept]'(by decide) = 0 by decide))
      | ⟨1, _⟩ =>
        unfold GatherDims.siIdx
        exact (congrArg Fin.val (dif_neg (show ¬ (1 : ℕ) = 2 by decide))).trans (e1 _
          (show dims.batchDims[List.idxOf (1 : Fin 3) dims.siKept]'(by decide) = 1 by decide))
      | ⟨2, _⟩ =>
        unfold GatherDims.siIdx
        exact (congrArg Fin.val (dif_pos rfl)).trans hc
    rw [hi, hs, ht]
    show min (w (ix2 t n)).toNat 2559 = (w (ix2 t n)).toNat
    omega
  | ⟨1, _⟩ =>
    show GatherDims.start dims (ix5 t n s h d) _ (1 : Fin 4) + GatherDims.batchCoord dims (ix5 t n s h d) (1 : Fin 4)
      + GatherDims.offCoord dims (ix5 t n s h d) (1 : Fin 4) = _
    rw [GatherDims.batchCoord_eq_zero _ _ _ (by decide)]
    unfold GatherDims.start GatherDims.offCoord
    rw [dif_neg (by decide), dif_pos (by decide), Nat.zero_add]
    exact e2 _ (by decide)
  | ⟨2, _⟩ =>
    show GatherDims.start dims (ix5 t n s h d) _ (2 : Fin 4) + GatherDims.batchCoord dims (ix5 t n s h d) (2 : Fin 4)
      + GatherDims.offCoord dims (ix5 t n s h d) (2 : Fin 4) = _
    rw [GatherDims.batchCoord_eq_zero _ _ _ (by decide)]
    unfold GatherDims.start GatherDims.offCoord
    rw [dif_neg (by decide), dif_pos (by decide), Nat.zero_add]
    exact e3 _ (by decide)
  | ⟨3, _⟩ =>
    show GatherDims.start dims (ix5 t n s h d) _ (3 : Fin 4) + GatherDims.batchCoord dims (ix5 t n s h d) (3 : Fin 4)
      + GatherDims.offCoord dims (ix5 t n s h d) (3 : Fin 4) = _
    rw [GatherDims.batchCoord_eq_zero _ _ _ (by decide)]
    unfold GatherDims.start GatherDims.offCoord
    rw [dif_neg (by decide), dif_pos (by decide), Nat.zero_add]
    exact e4 _ (by decide)

/-- Every position's key or value: the cache's, then the new tokens'. -/
def allOf (x3 : FVec Ideal S2x2560x128x8x64 .f32) (x1 : FVec Ideal S1024x512 .f32) (x5 : IVec S128x16 32) :
    FVec Ideal S128x2056x8x64 .f32 :=
  concatenate S128x2056x8x64 1
    [⟨S128x2048x8x64, shapeCast S128x2048x8x64 (gathered (layer0 x3) (wrapped x5)) shapeCasts_S128x16x128x8x64_S128x2048x8x64⟩,
      ⟨S128x8x8x64, shapeCast S128x8x8x64 x1 shapeCasts_S1024x512_S128x8x8x64⟩]
    concatenates_S128x2048x8x64_S128x8x8x64_S128x2056x8x64_d1

/-- The page of an entry of the page table. -/
def pageNo (x5 : IVec S128x16 32) (hp : ∀ y, (x5 y).toNat < 2560) (t : Fin 128) (n : Fin 16) : Fin 2560 :=
  ⟨(x5 (ix2 t n)).toNat, hp _⟩

theorem past_at (x3 : FVec Ideal S2x2560x128x8x64 .f32) (x5 : IVec S128x16 32) (hp : ∀ y, (x5 y).toNat < 2560)
    (t : Fin 128) (k : Fin 2048) (h : Fin 8) (d : Fin 64) :
    shapeCast S128x2048x8x64 (gathered (layer0 x3) (wrapped x5)) shapeCasts_S128x16x128x8x64_S128x2048x8x64 (ix4 t k h d)
      = x3 (ix5 0 (pageNo x5 hp t ⟨k.val / 128, by omega⟩) ⟨k.val % 128, by omega⟩ h d) := by
  have e : shapeCast S128x2048x8x64 (gathered (layer0 x3) (wrapped x5)) shapeCasts_S128x16x128x8x64_S128x2048x8x64 (ix4 t k h d)
      = gathered (layer0 x3) (wrapped x5) (ix5 t ⟨k.val / 128, by omega⟩ ⟨k.val % 128, by omega⟩ h d) := by
    pointwise []
  have hw := wrapped_at x5 (ix2 t ⟨k.val / 128, by omega⟩) (hp _)
  rw [e, gathered_at _ _ _ _ _ _ _ (by rw [hw]; exact hp _), layer0_at]
  refine congrArg x3 ?_
  have hw' : (wrapped x5 (ix2 t ⟨k.val / 128, by omega⟩)).toNat = (pageNo x5 hp t ⟨k.val / 128, by omega⟩).val := by
    rw [hw]
    rfl
  exact congrArg (fun p : Fin 2560 => ix5 0 p _ h d) (Fin.ext hw')

theorem new_at (x1 : FVec Ideal S1024x512 .f32) (t : Fin 128) (k h : Fin 8) (d : Fin 64) :
    shapeCast S128x8x8x64 x1 shapeCasts_S1024x512_S128x8x8x64 (ix4 t k h d)
      = x1 (ix2 ⟨t.val * 8 + k.val, by omega⟩ ⟨h.val * 64 + d.val, by omega⟩) := by
  pointwise []

theorem allOf_at (x3 : FVec Ideal S2x2560x128x8x64 .f32) (x1 : FVec Ideal S1024x512 .f32) (x5 : IVec S128x16 32)
    (hp : ∀ y, (x5 y).toNat < 2560) (t : Fin 128) (k : Fin 2056) (h : Fin 8) (d : Fin 64) :
    allOf x3 x1 x5 (ix4 t k h d)
      = keyAt (fun p s h d => x3 (ix5 0 p s h d)) (fun r l => x1 (ix2 r l)) (pageNo x5 hp) t h d k.val := by
  unfold allOf keyAt
  rw [concatenate_pair_apply]
  by_cases hk : k.val < 2048
  · rw [dif_pos hk, dif_pos (show ((ix4 t k h d : S128x2056x8x64.Idx) 1).val < S128x2048x8x64.size (Fin.cast rfl 1) from hk)]
    exact past_at x3 x5 hp t ⟨k.val, hk⟩ h d
  · rw [dif_neg hk, dif_neg (show ¬ ((ix4 t k h d : S128x2056x8x64.Idx) 1).val < S128x2048x8x64.size (Fin.cast rfl 1) from hk), dif_pos (show k.val - 2048 < 8 by omega)]
    exact new_at x1 t ⟨k.val - 2048, by omega⟩ h d

/-- The scores. -/
def scores (x0 : FVec Ideal S1024x512 .f32) (kAll : FVec Ideal S128x2056x8x64 .f32) (x6 : FVec Ideal S8 .f32) :
    FVec Ideal S128x8x8x2056 .f32 :=
  addf (mulf (Host.dotGeneral dot_S128x8x8x64_S128x2056x8x64_S128x8x8x2056_3_3_1_1_02_02 none
      (shapeCast S128x8x8x64 x0 shapeCasts_S1024x512_S128x8x8x64) kAll)
      (broadcastInDim S128x8x8x2056 ![] bcast_S_S128x8x8x2056 (constant S_ .f32 0x3E000000#32)))
    (broadcastInDim S128x8x8x2056 ![0, 1, 2, 3] bcast_S1x8x1x1_S128x8x8x2056_0_1_2_3
      (broadcastInDim S1x8x1x1 ![1] bcast_S8_S1x8x1x1_1 x6))

theorem scores_at (x0 : FVec Ideal S1024x512 .f32) (kAll : FVec Ideal S128x2056x8x64 .f32) (x6 : FVec Ideal S8 .f32)
    (t : Fin 128) (h r : Fin 8) (k : Fin 2056) :
    scores x0 kAll x6 (ix4 t h r k)
      = (∑ d : Fin 64, x0 (ix2 ⟨t.val * 8 + r.val, by omega⟩ ⟨h.val * 64 + d.val, by omega⟩) * kAll (ix4 t k h d))
        * Ideal.ofBits .f32 0x3E000000#32 + x6 (ix1 h) := by
  pointwise [scores, new_at]

/-- The softplus. -/
def softplusOf (x : FVec Ideal S128x8x8x2056 .f32) : FVec Ideal S128x8x8x2056 .f32 :=
  select (cmpf .une (subf x (broadcastInDim S128x8x8x2056 ![] bcast_S_S128x8x8x2056 (constant S_ .f32 0x00000000#32)))
      (subf x (broadcastInDim S128x8x8x2056 ![] bcast_S_S128x8x8x2056 (constant S_ .f32 0x00000000#32))))
    (addf x (broadcastInDim S128x8x8x2056 ![] bcast_S_S128x8x8x2056 (constant S_ .f32 0x00000000#32)))
    (addf (maximumf x (broadcastInDim S128x8x8x2056 ![] bcast_S_S128x8x8x2056 (constant S_ .f32 0x00000000#32)))
      (Host.log1p (Host.exp (Host.negf (Host.absf
        (subf x (broadcastInDim S128x8x8x2056 ![] bcast_S_S128x8x8x2056 (constant S_ .f32 0x00000000#32))))))))

/-- The logarithm of the sigmoid. -/
def logSigOf (x : FVec Ideal S128x8x8x2056 .f32) : FVec Ideal S128x8x8x2056 .f32 :=
  Host.negf (softplusOf (Host.negf x))

theorem softplusOf_at (x : FVec Ideal S128x8x8x2056 .f32) (y : S128x8x8x2056.Idx) : softplusOf x y = softplus (x y) :=
  softplus_printed (x y)

theorem logSigOf_at (x : FVec Ideal S128x8x8x2056 .f32) (y : S128x8x8x2056.Idx) : logSigOf x y = logSig (x y) :=
  congrArg (fun v : EReal => -v) (softplusOf_at (Host.negf x) y)

/-- Which keys come before the query. -/
def before : IVec S8x2056 1 :=
  cmpi .slt (broadcastInDim S8x2056 ![0, 1] bcast_S1x2056_S8x2056_0_1
      (broadcastInDim S1x2056 ![1] bcast_S2056_S1x2056_1 (iotaInDim S2056 32 0)))
    (broadcastInDim S8x2056 ![0, 1] bcast_S8x1_S8x2056_0_1 (broadcastInDim S8x1 ![0] bcast_S8_S8x1_0
      (addi (broadcastInDim S8 ![] bcast_S_S8 (constantI S_ 32 2048#32)) (iotaInDim S8 32 0))))

theorem before_at (r : Fin 8) (k : Fin 2056) : before (ix2 r k) = if k.val < 2048 + r.val then 1#1 else 0#1 := by
  have e : before (ix2 r k) = IntOp.cmpi .slt (BitVec.ofNat 32 k.val) (BitVec.ofNat 32 2048 + BitVec.ofNat 32 r.val) := by
    pointwise [before]
    rfl
  have h1 : (BitVec.ofNat 32 k.val).toInt = k.val := by
    rw [BitVec.toInt_eq_toNat_cond, BitVec.toNat_ofNat, Nat.mod_eq_of_lt (by omega)]; split <;> omega
  have h2 : (BitVec.ofNat 32 2048 + BitVec.ofNat 32 r.val).toInt = ((2048 + r.val : ℕ) : ℤ) := by
    rw [← BitVec.ofNat_add, BitVec.toInt_eq_toNat_cond, BitVec.toNat_ofNat, Nat.mod_eq_of_lt (by omega)]; split <;> omega
  rw [e]
  show BitVec.ofBool (BitVec.slt _ _) = _
  unfold BitVec.slt
  rw [h1, h2]
  by_cases h : k.val < 2048 + r.val
  · rw [if_pos h, decide_eq_true (by omega)]; rfl
  · rw [if_neg h, decide_eq_false (by omega)]; rfl

/-- The entries of the keys before the query, zero elsewhere. -/
def onlyBefore (x : FVec Ideal S128x8x8x2056 .f32) : FVec Ideal S128x8x8x2056 .f32 :=
  select (broadcastInDim S128x8x8x2056 ![2, 3] bcast_S8x2056_S128x8x8x2056_2_3 before) x
    (broadcastInDim S128x8x8x2056 ![] bcast_S_S128x8x8x2056 (id (constant (F := Ideal) S_ .f32 0x00000000#32)))

theorem onlyBefore_at (x : FVec Ideal S128x8x8x2056 .f32) (t : Fin 128) (h r : Fin 8) (k : Fin 2056) :
    onlyBefore x (ix4 t h r k) = if k.val < 2048 + r.val then x (ix4 t h r k) else 0 := by
  have e : onlyBefore x (ix4 t h r k) = Scalar.select (before (ix2 r k)) (x (ix4 t h r k)) 0 := by
    have z : Ideal.ofBits .f32 0x00000000#32 = 0 := by simp
    pointwise [onlyBefore]
    exact congrArg (Scalar.select _ _) z
  rw [e, before_at]
  by_cases hk : k.val < 2048 + r.val
  · rw [if_pos hk, if_pos hk]; rfl
  · rw [if_neg hk, if_neg hk]; rfl

/-- The sums of each key's entry and all later ones. -/
def fromHere (x : FVec Ideal S128x8x8x2056 .f32) : FVec Ideal S128x8x8x2056 .f32 :=
  Host.reduceWindowAdd ![1, 1, 1, 2056] ![1, 1, 1, 1] ![0, 0, 0, 0] ![0, 0, 0, 2055] x
    (broadcastInDim S_ ![] bcast_S_S_ (constant (F := Ideal) S_ .f32 0x00000000#32))
    reduceWindows_S128x8x8x2056_S128x8x8x2056_w1s1p0_0_w1s1p0_0_w1s1p0_0_w2056s1p0_2055 h_S_

theorem fromHere_at (x : FVec Ideal S128x8x8x2056 .f32) (t : Fin 128) (h r : Fin 8) (k : Fin 2056) (f : ℕ → EReal)
    (hf : ∀ j : Fin 2056, x (ix4 t h r j) = f j.val) : fromHere x (ix4 t h r k) = seg f k.val 2056 := by
  have z : (broadcastInDim S_ ![] bcast_S_S_ (constant (F := Ideal) S_ .f32 0x00000000#32)) (Shape.Idx.first h_S_) = 0 :=
    (by simp : Ideal.ofBits .f32 0x00000000#32 = 0)
  unfold fromHere Host.reduceWindowAdd
  rw [z]
  exact cumsum4 (A := 128) (B := 8) (C := 8) (N := 2056) (M := 2055) (by norm_num) x _ t h r k f hf

/-- The weights. -/
def weights (z : FVec Ideal S128x8x8x2056 .f32) : FVec Ideal S128x8x8x2056 .f32 :=
  onlyBefore (Host.exp (addf (logSigOf z)
    (subf (fromHere (onlyBefore (logSigOf (Host.negf z)))) (onlyBefore (logSigOf (Host.negf z))))))

theorem weights_at (z : FVec Ideal S128x8x8x2056 .f32) (t : Fin 128) (h r : Fin 8) (k : Fin 2056) (f : ℕ → EReal)
    (hf : ∀ j : Fin 2056, z (ix4 t h r j) = f j.val) : weights z (ix4 t h r k) = weight f r.val k.val := by
  have hL : ∀ j : Fin 2056, onlyBefore (logSigOf (Host.negf z)) (ix4 t h r j) = pass f r.val j.val := by
    intro j
    rw [onlyBefore_at, logSigOf_at]
    show (if _ then logSig (-(z (ix4 t h r j))) else 0) = _
    rw [hf]
    rfl
  unfold weights weight
  rw [onlyBefore_at]
  by_cases hk : k.val < 2048 + r.val
  · rw [if_pos hk, if_pos hk]
    show Ideal.exp (logSigOf z (ix4 t h r k) + (fromHere _ (ix4 t h r k) - onlyBefore _ (ix4 t h r k))) = _
    rw [logSigOf_at, fromHere_at _ t h r k _ hL, hL, hf]
    unfold pass
    rw [if_pos hk]
  · rw [if_neg hk, if_neg hk]

/-- The output. -/
def outOf (x0 x1 x2 : FVec Ideal S1024x512 .f32) (x3 x4 : FVec Ideal S2x2560x128x8x64 .f32) (x5 : IVec S128x16 32)
    (x6 : FVec Ideal S8 .f32) : FVec Ideal S128x8x512 .bf16 :=
  truncf .bf16 (shapeCast S128x8x512 (transpose S128x8x8x64 [0, 3, 1, 2]
    (Host.dotGeneral dot_S128x2056x8x64_S128x8x8x2056_S128x8x64x8_1_3_3_2_02_01 none (allOf x4 x2 x5)
      (weights (scores x0 (allOf x3 x1 x5) x6)))
    transposes_S128x8x64x8_S128x8x8x64_0_3_1_2) shapeCasts_S128x8x8x64_S128x8x512) bitsLt_bf16_f32

theorem outOf_at (x0 x1 x2 : FVec Ideal S1024x512 .f32) (x3 x4 : FVec Ideal S2x2560x128x8x64 .f32) (x5 : IVec S128x16 32)
    (x6 : FVec Ideal S8 .f32) (hp : ∀ y, (x5 y).toNat < 2560) (t : Fin 128) (r : Fin 8) (l : Fin 512) :
    outOf x0 x1 x2 x3 x4 x5 x6 (ix3 t r l)
      = attnAt (fun r l => x0 (ix2 r l)) (fun p s h d => x3 (ix5 0 p s h d)) (fun r l => x1 (ix2 r l))
          (fun p s h d => x4 (ix5 0 p s h d)) (fun r l => x2 (ix2 r l)) (pageNo x5 hp) (fun h => x6 (ix1 h)) t r l := by
  have e : outOf x0 x1 x2 x3 x4 x5 x6 (ix3 t r l)
      = ∑ k : Fin 2056, allOf x4 x2 x5 (ix4 t k ⟨l.val / 64, by omega⟩ ⟨l.val % 64, by omega⟩)
          * weights (scores x0 (allOf x3 x1 x5) x6) (ix4 t ⟨l.val / 64, by omega⟩ r k) := by
    unfold outOf
    generalize allOf x4 x2 x5 = V
    generalize weights (scores x0 (allOf x3 x1 x5) x6) = W
    pointwise []
  rw [e]
  refine Finset.sum_congr rfl fun k _ => ?_
  rw [mul_comm, allOf_at _ _ _ hp, weights_at]
  intro j
  rw [scores_at]
  unfold scoreAt
  simp only [allOf_at _ _ _ hp]

set_option maxHeartbeats 4000000 in
/-- The reference's run: its result is the stages above of its arguments, and the arguments are unchanged. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v52)
        = outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6)) := by
  hlo_run <;> rfl

end Cert.ReferenceIdeal.Rows

end
-- ==== Proof.SampleValue.lean ====
/- The array the sample-attention kernel ends with, over the arrays it was given: every request's block is its attention. -/
module

public import proofs.«01_k».proof.Proof.SampleStep
public import proofs.«01_k».proof.Proof.SampleScores
public import proofs.«01_k».proof.Proof.SampleHost
public import proofs.«01_k».proof.Proof.SamplePages
public import proofs.«01_k».proof.Proof.SampleReference
public import Idealize.ShloMosaic.Lib.Pipeline.ValueKit

@[expose] public section

set_option maxRecDepth 16384

noncomputable section

namespace Cert.KernelIdeal.Final

open Cert.KernelIdeal Cert.KernelIdeal.Gen Idealize.ShloMosaic Idealize.ShloMosaic.TcCoe Idealize.SL.Sem
open Cert.InMath Cert.SampleMath

attribute [local irreducible] StableHlo.after tbl iblk

/-- Equality of two small numbers' words. -/
theorem eq_word (a b : ℕ) (ha : a < 8) (hb : b < 8) :
    IntOp.cmpi .eq (BitVec.ofNat 32 a) (BitVec.ofNat 32 b) = if a = b then 1#1 else 0#1 := by
  interval_cases a <;> interval_cases b <;> rfl

/-- Signed order of two small numbers' words. -/
theorem slt_word (a b : ℕ) (ha : a < 128) (hb : b < 8) :
    IntOp.cmpi .slt (BitVec.ofNat 32 a) (BitVec.ofNat 32 b) = if a < b then 1#1 else 0#1 := by
  have h1 : (BitVec.ofNat 32 a).toInt = a := by
    rw [BitVec.toInt_eq_toNat_cond, BitVec.toNat_ofNat, Nat.mod_eq_of_lt (by omega)]; split <;> omega
  have h2 : (BitVec.ofNat 32 b).toInt = b := by
    rw [BitVec.toInt_eq_toNat_cond, BitVec.toNat_ofNat, Nat.mod_eq_of_lt (by omega)]; split <;> omega
  show BitVec.ofBool (BitVec.slt _ _) = _
  unfold BitVec.slt
  rw [h1, h2]
  by_cases h : a < b
  · rw [if_pos h, decide_eq_true (by omega)]; rfl
  · rw [if_neg h, decide_eq_false (by omega)]; rfl

variable (m : (ℓ : Loc nD τ sig) → Buf (Elt Ideal) ℓ) (hO : Ok m)

/-- A step's mask of head lanes. -/
theorem mask_at (c : Dev nD) (t : Fin (cfgM m hO).N) (r : Fin 64) (l : Fin 512) :
    k0_pay3 (F := Ideal) (iblk m hO c 1 t) (ix2 r l) = if r.val / 8 = l.val / 64 then 1#1 else 0#1 := by
  have e : iblk m hO c 1 t (ix2 r l) = FloatOps.uitofp (F := Ideal) .f32 (IntOp.cmpi .eq (BitVec.ofNat 32 (r.val / 8)) (BitVec.ofNat 32 (l.val / 64))) := by
    refine (read1 m hO c t r l).trans ((congrFun (entry26 m c) (ix2 r l)).trans ((headMask_at r l _ _).trans ?_))
    rw [rowHead_at, laneHead_at]
  refine (Rows.pay3_at _ r l).trans ?_
  refine (congrArg (fun v => Ideal.cmp .ogt v (Ideal.ofBits .f32 0x3F000000#32)) e).trans ?_
  exact (above_half _).trans (eq_word _ _ (by omega) (by omega))

/-- A step's mask of the new keys before each query. -/
theorem newer_at (c : Dev nD) (t : Fin (cfgM m hO).N) (r : Fin 64) (n : Fin 128) :
    k0_pay8 (F := Ideal) (iblk m hO c 2 t) (ix2 r n) = if n.val < r.val % 8 then 1#1 else 0#1 := by
  have e : iblk m hO c 2 t (ix2 r n) = FloatOps.uitofp (F := Ideal) .f32 (IntOp.cmpi .slt (BitVec.ofNat 32 n.val) (BitVec.ofNat 32 (r.val % 8))) := by
    refine (read2 m hO c t r n).trans ((congrFun (entry32 m c) (ix2 r n)).trans ((newMask_at r n _).trans ?_))
    rw [rowQuery_at]
  refine (Rows.pay8_at _ r n).trans ?_
  refine (congrArg (fun v => Ideal.cmp .ogt v (Ideal.ofBits .f32 0x3F000000#32)) e).trans ?_
  exact (above_half _).trans (slt_word _ _ (by omega) (by omega))

variable (h : Cert.Pre_KernelIdeal_inputs_ok m)

include h in
/-- The table's page numbers are below 2560. -/
theorem table_lt (y : S128x16.Idx) : (tbl m 0 y : BitVec 32).toNat < 2560 := by
  have e : (tbl m 0 y : BitVec 32) = m (((0 : Dev nD).tc : Thread nD τ).loc main_arg5) y := by
    unfold tbl
    exact congrFun (V_main_arg5 m 0) y
  rw [e]
  exact Cert.Proof.SamplePages.page_lt m h 0 y

/-- The pages of the table are those of the reference. -/
theorem page_eq (hp : ∀ y : S128x16.Idx, (m (((0 : Dev nD).tc : Thread nD τ).loc main_arg5) y : BitVec 32).toNat < 2560) :
    page m (table_lt m h) = Cert.ReferenceIdeal.Rows.pageNo (m (((0 : Dev nD).tc : Thread nD τ).loc main_arg5)) hp := by
  funext t n
  refine Fin.ext ((page_val m (table_lt m h) t n).trans ?_)
  have e : (tbl m 0 (ix2 t n) : BitVec 32) = m (((0 : Dev nD).tc : Thread nD τ).loc main_arg5) (ix2 t n) := by
    unfold tbl
    exact congrFun (V_main_arg5 m 0) _
  show BitVec.toNat (tbl m 0 (ix2 t n) : BitVec 32) = BitVec.toNat (m (((0 : Dev nD).tc : Thread nD τ).loc main_arg5) (ix2 t n) : BitVec 32)
  rw [e]

set_option maxHeartbeats 4000000 in
include h in
/-- The block a step leaves, over the arrays the kernel was given. -/
theorem step_at (t : Fin (cfgM m hO).N) (r : Fin 8) (l : Fin 512) :
    outsAt0 m hO 0 t (ix3 0 r l)
      = Cert.ReferenceIdeal.Rows.outOf (m (((0 : Dev nD).tc : Thread nD τ).loc main_arg0)) (m (((0 : Dev nD).tc : Thread nD τ).loc main_arg1)) (m (((0 : Dev nD).tc : Thread nD τ).loc main_arg2)) (m (((0 : Dev nD).tc : Thread nD τ).loc main_arg3)) (m (((0 : Dev nD).tc : Thread nD τ).loc main_arg4)) (m (((0 : Dev nD).tc : Thread nD τ).loc main_arg5)) (m (((0 : Dev nD).tc : Thread nD τ).loc main_arg6))
          (ix3 (⟨t.val, t.isLt⟩ : Fin 128) r l) := by
  have hp := Cert.Proof.SamplePages.page_lt m h 0
  have e := Cert.ReferenceIdeal.Rows.outOf_at (m (((0 : Dev nD).tc : Thread nD τ).loc main_arg0)) (m (((0 : Dev nD).tc : Thread nD τ).loc main_arg1)) (m (((0 : Dev nD).tc : Thread nD τ).loc main_arg2)) (m (((0 : Dev nD).tc : Thread nD τ).loc main_arg3)) (m (((0 : Dev nD).tc : Thread nD τ).loc main_arg4)) (m (((0 : Dev nD).tc : Thread nD τ).loc main_arg5)) (m (((0 : Dev nD).tc : Thread nD τ).loc main_arg6)) hp (⟨t.val, t.isLt⟩ : Fin 128) r l
  refine (congrFun (outs m hO 0 t) (ix3 0 r l)).trans (Eq.trans ?_ e.symm)
  rw [← page_eq m h hp]
  exact Rows.bodyOut_attn _ _ _ _ _ _ _ _ _ _ _ _ _ (page m (table_lt m h)) _ ⟨t.val, t.isLt⟩ (mask_at m hO 0 t) (newer_at m hO 0 t)
    (fun r => (read0 m hO 0 t r).trans (entry6 m 0 r))
    (fun r l => (read3 m hO 0 t r l).trans (entry33 m 0 _ r l))
    (fun n l => (read4 m hO 0 t n l).trans (congrFun (V_main_arg1 m 0) _))
    (fun n l => (read5 m hO 0 t n l).trans (congrFun (V_main_arg2 m 0) _))
    (fun n l s => (keyBlk_at m hO (table_lt m h) 0 t l s n).trans (entry1 m 0 0 _ l s))
    (fun n l s => (valBlk_at m hO (table_lt m h) 0 t l s n).trans (entry3 m 0 0 _ l s))
    (fun _ _ => Cert.Proof.SamplePages.q_finite m h 0 _) (fun _ _ => Cert.Proof.SamplePages.k_finite m h 0 _)
    (fun _ _ _ _ => Cert.Proof.SamplePages.cache_finite m h 0 _) r l

/-- Every step writes its block back. -/
theorem flushes : ∀ t : Fin grid0.N, Pipeline.Window.flushOf grid0 true cc0_transform_38 t = true := by
  decide +kernel

theorem flush38 (t : Fin (cfgM m hO).N) : ((cfgM m hO).win 38).flush t = true := flushes t

/-- The blocks of the steps are all of the output array. -/
theorem covers38 : ((cfgM m hO).win 38).Covers := by
  refine ⟨fun (a : Fin 3) => ?_, fun β => ?_⟩
  · show 0 < (![1, 8, 512] : Fin 3 → ℕ) a
    fin_cases a <;> decide
  · have n0 : ((cfgM m hO).win 38).nblk (0 : Fin 3) = 128 := (rfl : _ = (128 + 1 - 1) / 1).trans (by decide)
    have b0 : (β (0 : Fin 3)).val < 128 := (β (0 : Fin 3)).isLt.trans_eq n0
    have n1 : ((cfgM m hO).win 38).nblk (1 : Fin 3) = 1 := (rfl : _ = (8 + 8 - 1) / 8).trans (by decide)
    have b1 : (β (1 : Fin 3)).val < 1 := (β (1 : Fin 3)).isLt.trans_eq n1
    have n2 : ((cfgM m hO).win 38).nblk (2 : Fin 3) = 1 := (rfl : _ = (512 + 512 - 1) / 512).trans (by decide)
    have b2 : (β (2 : Fin 3)).val < 1 := (β (2 : Fin 3)).isLt.trans_eq n2
    refine ⟨(⟨(β (0 : Fin 3)).val, b0⟩ : Fin 128), flush38 m hO _, fun (a : Fin 3) => ⟨?_, Or.inl rfl⟩⟩
    refine (congrFun (index38 m hO (⟨(β (0 : Fin 3)).val, b0⟩ : Fin 128)) a).trans ?_
    fin_cases a
    · rfl
    · exact (Nat.lt_one_iff.mp b1).symm
    · exact (Nat.lt_one_iff.mp b2).symm

set_option maxHeartbeats 4000000 in
include h in
/-- The output array after the run is the reference's. -/
theorem final38 : (dats m hO 0 0).arrAt 38 (cfgM m hO).N
    = Cert.ReferenceIdeal.Rows.outOf (m (((0 : Dev nD).tc : Thread nD τ).loc main_arg0)) (m (((0 : Dev nD).tc : Thread nD τ).loc main_arg1)) (m (((0 : Dev nD).tc : Thread nD τ).loc main_arg2)) (m (((0 : Dev nD).tc : Thread nD τ).loc main_arg3)) (m (((0 : Dev nD).tc : Thread nD τ).loc main_arg4)) (m (((0 : Dev nD).tc : Thread nD τ).loc main_arg5)) (m (((0 : Dev nD).tc : Thread nD τ).loc main_arg6)) := by
  refine (dats m hO 0 0).arrAt_eq_of_covers 38 _ (covers38 m hO) fun t _ y => ?_
  rw [after0_38]
  obtain ⟨r, l, rfl⟩ : ∃ (r : Fin 8) (l : Fin 512), y = ix3 (n0 := 1) (n1 := 8) (n2 := 512) 0 r l :=
    ⟨y (1 : Fin 3), y (2 : Fin 3), funext fun (a : Fin 3) => by
      fin_cases a
      · exact Subsingleton.elim (α := Fin 1) _ _
      · rfl
      · rfl⟩
  exact (step_at m hO h t r l).trans (congrArg _ (place38 m hO t r l).symm)

end Cert.KernelIdeal.Final

end
-- ==== Proof.SampleClaim.lean ====
/- The claims about the sample attention: its reference's frame, its named constants, and that kernel and reference compute the same array. -/
module

public import proofs.«01_k».proof.Defs
public import proofs.«01_k».proof.Proof.SampleValue

@[expose] public section

noncomputable section

namespace Cert.Proof.SampleClaim

open Idealize.ShloMosaic Idealize.SL.Sem

/-- The kernel ends with the reference's array, its arguments as they were. -/
theorem kernel_run (m : (ℓ : Loc Cert.KernelIdeal.nD Cert.KernelIdeal.τ Cert.KernelIdeal.sig) → Buf (Elt Ideal) ℓ)
    (g : Dev Cert.KernelIdeal.nD → PrngReg) (h : Cert.Pre_KernelIdeal_inputs_ok m) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v34)
        = Cert.ReferenceIdeal.Rows.outOf (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6))) := by
  have hO := SamplePages.ok_of_pre_ideal m (SamplePages.pages_of_inputs m h)
  refine (θ_run _ _ _).mono (fun r hr c => ?_) (Cert.KernelIdeal.Gen.run_main m g hO)
  obtain rfl : c = 0 := Subsingleton.elim _ _
  exact ((hr 0).1 38).trans (Cert.KernelIdeal.Final.final38 m hO h)

/-- The reference runs, leaving its arguments and every counter as they were. -/
theorem reference_frame : Cert.quiescent_ReferenceIdeal (hReferenceIdeal := Cert.ReferenceIdeal.Gen.facts) := fun m g _ =>
  (θ_run Cert.ReferenceIdeal.defs _ _).mono (fun r h => ⟨fun c => (h c).2,
      Idealize.ShloMosaic.sem_eq_zero_of_no_sems (by decide) r.2⟩)
    (Cert.ReferenceIdeal.Rows.run m g)

/-- The same under the precondition on all inputs. -/
theorem reference_frame_inputs : Cert.quiescent_ReferenceIdeal_pre_inputs_ok (hReferenceIdeal := Cert.ReferenceIdeal.Gen.facts) (hPre_inputs_ok := Cert.Pre_inputs_ok.Gen.facts) := fun m g _ =>
  (θ_run Cert.ReferenceIdeal.defs _ _).mono (fun r h => ⟨fun c => (h c).2,
      Idealize.ShloMosaic.sem_eq_zero_of_no_sems (by decide) r.2⟩)
    (Cert.ReferenceIdeal.Rows.run m g)

/-- The idealized kernel is the kernel with two literals named. -/
theorem kept : Cert.preserves_Kernel_KernelIdeal :=
  ⟨IdealRules.named_const.statement Cert.KernelIdeal.κ "neg_log2e" .f32 0xBFB8AA3B#32 _ rfl,
    IdealRules.named_const.statement Cert.KernelIdeal.κ "log2e" .f32 0x3FB8AA3B#32 _ rfl⟩

/-- Kernel and reference end with the same attention. -/
theorem equal : Cert.algebraic_KernelIdeal_ReferenceIdeal_pre_inputs_ok (hKernelIdeal := Cert.KernelIdeal.Gen.facts)
    (hReferenceIdeal := Cert.ReferenceIdeal.Gen.facts) (hPre_inputs_ok := Cert.Pre_inputs_ok.Gen.facts) := by
  intro m g m' g' hpre hargs
  have hO := SamplePages.ok_of_pre_ideal m (SamplePages.pages_of_inputs m hpre)
  refine ⟨fun c => Cert.ReferenceIdeal.Rows.outOf (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6)), ?_, ?_⟩
  · exact (θ_run _ _ _).mono (fun r hr c => ⟨hr.1 c, hr.2 c⟩)
      (θ_run_and (kernel_run m g hpre) (Cert.KernelIdeal.Gen.unchanged m g hO))
  · refine (θ_run _ _ _).mono (fun r hr c => ⟨(hr c).1.trans ?_, (hr c).2⟩) (Cert.ReferenceIdeal.Rows.run m' g')
    obtain ⟨e0, e1, e2, e3, e4, e5, e6⟩ := hargs c
    rw [e0, e1, e2, e3, e4, e5, e6]

end Cert.Proof.SampleClaim

end
-- ==== Proof.PostKernel.lean ====
/- What one grid point of the tail kernel stores, row by row, in the terms of `PostMath`. -/
module

public import proofs.«01_k».proof.Proof.Gen.Kernel2Ideal.Skeleton
public import proofs.«01_k».proof.Proof.PostMath

@[expose] public section

set_option maxRecDepth 16384

noncomputable section

namespace Cert.Kernel2Ideal.Rows

open Cert.Kernel2Ideal Cert.Kernel2Ideal.Gen Idealize.ShloMosaic Idealize.ShloMosaic.TcCoe Idealize.SL.Sem
open Cert.PostMath

/-- The merged row the body computes is the gated sum. -/
theorem pay2_row (y : Vec Ideal S256x512 .f32) (o : Vec Ideal S256x512 .bf16) (wA wV wG : Vec Ideal S512x1024 .bf16)
    (ga gs : Vec Ideal S256x1024 .bf16) (r : Fin 256) (l : Fin 1024) :
    k0_pay2 (F := Ideal) y o wA wV wG ga gs (ix2 r l)
      = merged (fun k => o (ix2 r k)) (fun k => y (ix2 r k)) (fun k => ga (ix2 r k)) (fun k => gs (ix2 r k))
          (fun k j => wA (ix2 k j)) (fun k j => wV (ix2 k j)) (fun k j => wG (ix2 k j)) l := by
  pointwise [k0_pay2]
  rfl

/-- The residual row after the output projection. -/
theorem pay3_row (x : Vec Ideal S256x1024 .f32) (h : FVec Ideal S256x1024 .bf16) (wO : Vec Ideal S1024x1024 .bf16)
    (r : Fin 256) (l : Fin 1024) :
    k0_pay3 (F := Ideal) x h wO (ix2 r l)
      = afterOut (fun k => x (ix2 r k)) (fun k => h (ix2 r k)) (fun k j => wO (ix2 k j)) l := by
  pointwise [k0_pay3]
  rfl

/-- The normalised row the MLP reads. -/
theorem pay4_row (x : Vec Ideal S256x1024 .f32) (h : FVec Ideal S256x1024 .bf16) (wO : Vec Ideal S1024x1024 .bf16)
    (g : Vec Ideal S1x1024 .f32) (r : Fin 256) (l : Fin 1024) :
    k0_pay4 (F := Ideal) x h wO g (ix2 r l)
      = rmsRow (fun k => g (ix2 0 k)) (fun k => k0_pay3 (F := Ideal) x h wO (ix2 r k)) l := by
  pointwise [k0_pay4]
  rfl

/-- One block of the MLP: 1024 hidden units, computed from the normalised row, times their rows of the down projection. -/
theorem pay5_row (x : Vec Ideal S256x1024 .f32) (h : FVec Ideal S256x1024 .bf16) (wO : Vec Ideal S1024x1024 .bf16)
    (g : Vec Ideal S1x1024 .f32) (u d : Vec Ideal S1024x1024 .bf16) (r : Fin 256) (l : Fin 1024) :
    k0_pay5 (F := Ideal) x h wO g u d (ix2 r l)
      = dotCol (fun n => sqRelu (dotCol (fun k => k0_pay4 (F := Ideal) x h wO g (ix2 r k)) (fun k j => u (ix2 k j)) n))
          (fun k j => d (ix2 k j)) l := by
  pointwise [k0_pay5]
  rfl

/-- The hidden units of the second block. -/
theorem pay6_row (x : Vec Ideal S256x1024 .f32) (h : FVec Ideal S256x1024 .bf16) (wO : Vec Ideal S1024x1024 .bf16)
    (g : Vec Ideal S1x1024 .f32) (u : Vec Ideal S1024x1024 .bf16) (r : Fin 256) (l : Fin 1024) :
    k0_pay6 (F := Ideal) x h wO g u (ix2 r l)
      = sqRelu (dotCol (fun k => k0_pay4 (F := Ideal) x h wO g (ix2 r k)) (fun k j => u (ix2 k j)) l) := by
  pointwise [k0_pay6]
  rfl

/-- The residual row after the MLP, its four blocks of hidden units added one after the other. -/
theorem pay8_row (x1 : FVec Ideal S256x1024 .f32) (n : FVec Ideal S256x1024 .bf16) (b0 : FVec Ideal S256x1024 .f32)
    (h1 : FVec Ideal S256x1024 .bf16) (d1 u2 d2 u3 d3 : Vec Ideal S1024x1024 .bf16) (r : Fin 256) (l : Fin 1024) :
    k0_pay8 (F := Ideal) x1 n b0 h1 (k0_pay7 (F := Ideal) d1) (constant S256x1024 .f32 0x00000000#32) u2 d2 u3 d3 (ix2 r l)
      = x1 (ix2 r l) + (b0 (ix2 r l) + dotCol (fun k => h1 (ix2 r k)) (fun k j => d1 (ix2 k j)) l
        + dotCol (fun q => sqRelu (dotCol (fun k => n (ix2 r k)) (fun k j => u2 (ix2 k j)) q)) (fun k j => d2 (ix2 k j)) l
        + dotCol (fun q => sqRelu (dotCol (fun k => n (ix2 r k)) (fun k j => u3 (ix2 k j)) q)) (fun k j => d3 (ix2 k j)) l) := by
  pointwise [k0_pay8, k0_pay7]
  rfl

/-- The normalised row the per-layer gate reads. -/
theorem pay9_row (x1 : FVec Ideal S256x1024 .f32) (n : FVec Ideal S256x1024 .bf16) (b0 : FVec Ideal S256x1024 .f32)
    (h1 : FVec Ideal S256x1024 .bf16) (d1 : FVec Ideal S1024x1024 .bf16) (z : FVec Ideal S256x1024 .f32)
    (u2 d2 u3 d3 : Vec Ideal S1024x1024 .bf16) (g : Vec Ideal S1x1024 .f32) (r : Fin 256) (l : Fin 1024) :
    k0_pay9 (F := Ideal) x1 n b0 h1 d1 z u2 d2 u3 d3 g (ix2 r l)
      = rmsRow (fun k => g (ix2 0 k)) (fun k => k0_pay8 (F := Ideal) x1 n b0 h1 d1 z u2 d2 u3 d3 (ix2 r k)) l := by
  pointwise [k0_pay9]
  rfl

/-- The row stored: the residual row after the gated per-layer embedding. -/
theorem pay1_row (x2 : FVec Ideal S256x1024 .f32) (n : FVec Ideal S256x1024 .bf16) (p : Vec Ideal S256x256 .f32)
    (wP : Vec Ideal S256x1024 .bf16) (wPG : Vec Ideal S1024x1024 .bf16) (r : Fin 256) (l : Fin 1024) :
    k0_pay1 (F := Ideal) x2 n p wP wPG (ix2 r l)
      = x2 (ix2 r l) + dotCol (fun k => p (ix2 r k)) (fun k j => wP (ix2 k j)) l
          * sigm (dotCol (fun k => n (ix2 r k)) (fun k j => wPG (ix2 k j)) l) := by
  pointwise [k0_pay1]
  rfl

/-- What a grid point stores, at one row and column: the whole tail of its rows, the MLP's hidden units in four blocks. -/
theorem stored_row (x0 : Vec Ideal S256x1024 .f32) (x1 : Vec Ideal S256x512 .bf16) (x2 : Vec Ideal S256x512 .f32)
    (x3 x4 : Vec Ideal S256x1024 .bf16) (x5 : Vec Ideal S256x256 .f32) (x6 x7 x8 : Vec Ideal S512x1024 .bf16)
    (x9 : Vec Ideal S1024x1024 .bf16) (x10 : Vec Ideal S1x1024 .f32) (u0 d0 u1 d1 u2 d2 u3 d3 : Vec Ideal S1024x1024 .bf16)
    (x13 : Vec Ideal S1x1024 .f32) (x14 : Vec Ideal S256x1024 .bf16) (x15 : Vec Ideal S1024x1024 .bf16)
    (wU : Fin 1024 → Fin 4096 → EReal) (wD : Fin 4096 → Fin 1024 → EReal)
    (hu0 : ∀ k j : Fin 1024, u0 (ix2 k j) = wU k ⟨0 + j.val, by omega⟩)
    (hu1 : ∀ k j : Fin 1024, u1 (ix2 k j) = wU k ⟨1024 + j.val, by omega⟩)
    (hu2 : ∀ k j : Fin 1024, u2 (ix2 k j) = wU k ⟨2048 + j.val, by omega⟩)
    (hu3 : ∀ k j : Fin 1024, u3 (ix2 k j) = wU k ⟨3072 + j.val, by omega⟩)
    (hd0 : ∀ k j : Fin 1024, d0 (ix2 k j) = wD ⟨0 + k.val, by omega⟩ j)
    (hd1 : ∀ k j : Fin 1024, d1 (ix2 k j) = wD ⟨1024 + k.val, by omega⟩ j)
    (hd2 : ∀ k j : Fin 1024, d2 (ix2 k j) = wD ⟨2048 + k.val, by omega⟩ j)
    (hd3 : ∀ k j : Fin 1024, d3 (ix2 k j) = wD ⟨3072 + k.val, by omega⟩ j)
    (h : FVec Ideal S256x1024 .bf16) (hh : h = k0_pay2 (F := Ideal) x2 x1 x6 x7 x8 x3 x4)
    (z : FVec Ideal S256x1024 .f32) (hz : z = constant S256x1024 .f32 0x00000000#32)
    (r : Fin 256) (l : Fin 1024) :
    k0_pay1 (F := Ideal)
        (k0_pay8 (F := Ideal) (k0_pay3 (F := Ideal) x0 h x9) (k0_pay4 (F := Ideal) x0 h x9 x10)
          (k0_pay5 (F := Ideal) x0 h x9 x10 u0 d0) (k0_pay6 (F := Ideal) x0 h x9 x10 u1) (k0_pay7 (F := Ideal) d1) z u2 d2 u3 d3)
        (k0_pay9 (F := Ideal) (k0_pay3 (F := Ideal) x0 h x9) (k0_pay4 (F := Ideal) x0 h x9 x10)
          (k0_pay5 (F := Ideal) x0 h x9 x10 u0 d0) (k0_pay6 (F := Ideal) x0 h x9 x10 u1) (k0_pay7 (F := Ideal) d1) z u2 d2 u3 d3 x13)
        x5 x14 x15 (ix2 r l)
      = tailRow (fun k => x0 (ix2 r k)) (fun k => x1 (ix2 r k)) (fun k => x2 (ix2 r k)) (fun k => x3 (ix2 r k))
          (fun k => x4 (ix2 r k)) (fun k => x5 (ix2 r k)) (fun k j => x6 (ix2 k j)) (fun k j => x7 (ix2 k j))
          (fun k j => x8 (ix2 k j)) (fun k j => x9 (ix2 k j)) (fun k => x10 (ix2 0 k)) wU wD
          (fun k => x13 (ix2 0 k)) (fun k j => x14 (ix2 k j)) (fun k j => x15 (ix2 k j)) l := by
  subst hh hz
  have hx2 : ∀ k : Fin 1024, k0_pay8 (F := Ideal) (k0_pay3 (F := Ideal) x0 (k0_pay2 (F := Ideal) x2 x1 x6 x7 x8 x3 x4) x9)
      (k0_pay4 (F := Ideal) x0 (k0_pay2 (F := Ideal) x2 x1 x6 x7 x8 x3 x4) x9 x10)
      (k0_pay5 (F := Ideal) x0 (k0_pay2 (F := Ideal) x2 x1 x6 x7 x8 x3 x4) x9 x10 u0 d0)
      (k0_pay6 (F := Ideal) x0 (k0_pay2 (F := Ideal) x2 x1 x6 x7 x8 x3 x4) x9 x10 u1) (k0_pay7 (F := Ideal) d1)
      (constant S256x1024 .f32 0x00000000#32) u2 d2 u3 d3 (ix2 r k)
      = afterMlp (afterOut (fun k => x0 (ix2 r k)) (merged (fun k => x1 (ix2 r k)) (fun k => x2 (ix2 r k))
          (fun k => x3 (ix2 r k)) (fun k => x4 (ix2 r k)) (fun k j => x6 (ix2 k j)) (fun k j => x7 (ix2 k j))
          (fun k j => x8 (ix2 k j))) (fun k j => x9 (ix2 k j))) (fun k => x10 (ix2 0 k)) wU wD k := by
    intro k
    rw [pay8_row, afterMlp, dotCol_blocks]
    simp only [pay5_row, pay6_row, pay4_row, pay3_row, pay2_row, hu0, hu1, hu2, hu3, hd0, hd1, hd2, hd3]
    rfl
  rw [pay1_row]
  simp only [pay9_row, hx2]
  rfl

end Cert.Kernel2Ideal.Rows

end
-- ==== Proof.PostReference.lean ====
/- The reference of the tail, stage by stage and row by row, in the terms of `PostMath`, and its run. -/
module

public import proofs.«01_k».proof.Proof.Gen.Reference2Ideal
public import Idealize.ShloMosaic.Lib.Claim
public import proofs.«01_k».proof.Proof.PostMath

@[expose] public section

set_option maxRecDepth 16384

noncomputable section

namespace Cert.Reference2Ideal.Rows

open Cert.Reference2Ideal Cert.Reference2Ideal.Gen Idealize.ShloMosaic Idealize.ShloMosaic.TcCoe
open Idealize.SL.Sem Idealize.ShloMosaic.StableHlo Cert.PostMath

/-- A scalar constant spread over a `16384x512` array. -/
def wide (b : BitVec 32) : FVec Ideal S16384x512 .f32 := broadcastInDim S16384x512 ![] bcast_S_S16384x512 (constant S_ .f32 b)

/-- A scalar constant spread over a `16384x1024` array. -/
def full (b : BitVec 32) : FVec Ideal S16384x1024 .f32 :=
  broadcastInDim S16384x1024 ![] bcast_S_S16384x1024 (constant S_ .f32 b)

/-- A scalar constant spread over a column. -/
def column (b : BitVec 32) : FVec Ideal S16384x1 .f32 := broadcastInDim S16384x1 ![] bcast_S_S16384x1 (constant S_ .f32 b)

/-- The GELU stage. -/
def geluOf (y : FVec Ideal S16384x512 .f32) : FVec Ideal S16384x512 .f32 :=
  mulf y (mulf (wide 0x3F000000#32) (addf (wide 0x3F800000#32)
    (Host.tanh (mulf (wide 0x3F4C422A#32) (addf y (mulf (wide 0x3D372713#32) (mulf (mulf y y) y)))))))

/-- The sigmoid stage. -/
def sigmOf (a : FVec Ideal S16384x1024 .f32) : FVec Ideal S16384x1024 .f32 :=
  Host.divf (full 0x3F800000#32) (addf (full 0x3F800000#32) (Host.exp (Host.negf a)))

/-- The root-mean-square normalisation stage. -/
def rmsOf (x : FVec Ideal S16384x1024 .f32) (g : FVec Ideal S1024 .f32) : FVec Ideal S16384x1024 .f32 :=
  mulf (mulf x (broadcastInDim S16384x1024 ![0, 1] bcast_S16384x1_S16384x1024_0_1
      (Host.rsqrt (addf (Host.divf (broadcastInDim S16384x1 ![0] bcast_S16384_S16384x1_0
          (Host.reduceAdd (mulf x x) (constant S_ .f32 0x00000000#32) reducesTo_S16384x1024_S16384_d1 h_S_))
        (column 0x44800000#32)) (column 0x358637BD#32)))))
    (broadcastInDim S16384x1024 ![0, 1] bcast_S1x1024_S16384x1024_0_1 (broadcastInDim S1x1024 ![1] bcast_S1024_S1x1024_1 g))

/-- The merged attention and gated-linear-unit outputs. -/
def mergedOf (o : FVec Ideal S16384x512 .bf16) (y : FVec Ideal S16384x512 .f32) (ga gs : FVec Ideal S16384x1024 .bf16)
    (wA wV wG : FVec Ideal S512x1024 .f32) : FVec Ideal S16384x1024 .f32 :=
  addf (mulf (extf .f32 ga bitsLt_bf16_f32)
      (Host.dotGeneral dot_S16384x512_S512x1024_S16384x1024_1_0_0_1_n_n none (extf .f32 o bitsLt_bf16_f32) wA))
    (mulf (extf .f32 gs bitsLt_bf16_f32)
      (mulf (Host.dotGeneral dot_S16384x512_S512x1024_S16384x1024_1_0_0_1_n_n none (geluOf y) wV)
        (sigmOf (Host.dotGeneral dot_S16384x512_S512x1024_S16384x1024_1_0_0_1_n_n none (geluOf y) wG))))

/-- The residual rows after the output projection. -/
def outOf (x h : FVec Ideal S16384x1024 .f32) (wO : FVec Ideal S1024x1024 .f32) : FVec Ideal S16384x1024 .f32 :=
  addf x (Host.dotGeneral dot_S16384x1024_S1024x1024_S16384x1024_1_0_0_1_n_n none h wO)

/-- The positive part, over the hidden units. -/
def reluOf (a : FVec Ideal S16384x4096 .f32) : FVec Ideal S16384x4096 .f32 :=
  maximumf a (broadcastInDim S16384x4096 ![] bcast_S_S16384x4096 (constant S_ .f32 0x00000000#32))

/-- The residual rows after the MLP. -/
def mlpOf (x1 : FVec Ideal S16384x1024 .f32) (g : FVec Ideal S1024 .f32) (wU : FVec Ideal S1024x4096 .f32)
    (wD : FVec Ideal S4096x1024 .f32) : FVec Ideal S16384x1024 .f32 :=
  addf x1 (Host.dotGeneral dot_S16384x4096_S4096x1024_S16384x1024_1_0_0_1_n_n none
    (mulf (reluOf (Host.dotGeneral dot_S16384x1024_S1024x4096_S16384x4096_1_0_0_1_n_n none (rmsOf x1 g) wU))
      (reluOf (Host.dotGeneral dot_S16384x1024_S1024x4096_S16384x4096_1_0_0_1_n_n none (rmsOf x1 g) wU))) wD)

/-- The residual rows after the gated per-layer embedding. -/
def pleOf (x2 : FVec Ideal S16384x1024 .f32) (g : FVec Ideal S1024 .f32) (p : FVec Ideal S16384x256 .f32)
    (wP : FVec Ideal S256x1024 .f32) (wPG : FVec Ideal S1024x1024 .f32) : FVec Ideal S16384x1024 .f32 :=
  addf x2 (mulf (Host.dotGeneral dot_S16384x256_S256x1024_S16384x1024_1_0_0_1_n_n none p wP)
    (sigmOf (Host.dotGeneral dot_S16384x1024_S1024x1024_S16384x1024_1_0_0_1_n_n none (rmsOf x2 g) wPG)))

/-- The whole tail. -/
def tail (x0 : FVec Ideal S16384x1024 .f32) (x1 : FVec Ideal S16384x512 .bf16) (x2 : FVec Ideal S16384x512 .f32)
    (x3 x4 : FVec Ideal S16384x1024 .bf16) (x5 : FVec Ideal S16384x256 .f32) (x6 x7 x8 : FVec Ideal S512x1024 .f32)
    (x9 : FVec Ideal S1024x1024 .f32) (x10 : FVec Ideal S1024 .f32) (x11 : FVec Ideal S1024x4096 .f32)
    (x12 : FVec Ideal S4096x1024 .f32) (x13 : FVec Ideal S1024 .f32) (x14 : FVec Ideal S256x1024 .f32)
    (x15 : FVec Ideal S1024x1024 .f32) : FVec Ideal S16384x1024 .f32 :=
  pleOf (mlpOf (outOf x0 (mergedOf x1 x2 x3 x4 x6 x7 x8) x9) x10 x11 x12) x13 x5 x14 x15

theorem geluOf_at (y : FVec Ideal S16384x512 .f32) (r : Fin 16384) (l : Fin 512) :
    geluOf y (ix2 r l) = gelu (y (ix2 r l)) := by
  pointwise [geluOf, wide]
  rw [mul_comm (y (ix2 r l) * y (ix2 r l))]
  rfl

theorem sigmOf_at (a : FVec Ideal S16384x1024 .f32) (r : Fin 16384) (l : Fin 1024) :
    sigmOf a (ix2 r l) = sigm (a (ix2 r l)) := by
  pointwise [sigmOf, full]
  rfl

theorem rmsOf_at (x : FVec Ideal S16384x1024 .f32) (g : FVec Ideal S1024 .f32) (r : Fin 16384) (l : Fin 1024) :
    rmsOf x g (ix2 r l) = rmsRow (fun k => g (ix1 k)) (fun k => x (ix2 r k)) l := by
  pointwise [rmsOf, column]
  rfl

theorem mergedOf_at (o : FVec Ideal S16384x512 .bf16) (y : FVec Ideal S16384x512 .f32)
    (ga gs : FVec Ideal S16384x1024 .bf16) (wA wV wG : FVec Ideal S512x1024 .f32) (r : Fin 16384) (l : Fin 1024) :
    mergedOf o y ga gs wA wV wG (ix2 r l)
      = merged (fun k => o (ix2 r k)) (fun k => y (ix2 r k)) (fun k => ga (ix2 r k)) (fun k => gs (ix2 r k))
          (fun k j => wA (ix2 k j)) (fun k j => wV (ix2 k j)) (fun k j => wG (ix2 k j)) l := by
  pointwise [mergedOf, sigmOf_at, geluOf_at]
  rfl

theorem outOf_at (x h : FVec Ideal S16384x1024 .f32) (wO : FVec Ideal S1024x1024 .f32) (r : Fin 16384) (l : Fin 1024) :
    outOf x h wO (ix2 r l) = afterOut (fun k => x (ix2 r k)) (fun k => h (ix2 r k)) (fun k j => wO (ix2 k j)) l := by
  pointwise [outOf]
  rfl

theorem mlpOf_at (x1 : FVec Ideal S16384x1024 .f32) (g : FVec Ideal S1024 .f32) (wU : FVec Ideal S1024x4096 .f32)
    (wD : FVec Ideal S4096x1024 .f32) (r : Fin 16384) (l : Fin 1024) :
    mlpOf x1 g wU wD (ix2 r l)
      = afterMlp (fun k => x1 (ix2 r k)) (fun k => g (ix1 k)) (fun k j => wU (ix2 k j)) (fun k j => wD (ix2 k j)) l := by
  pointwise [mlpOf, reluOf, rmsOf_at]
  rfl

theorem pleOf_at (x2 : FVec Ideal S16384x1024 .f32) (g : FVec Ideal S1024 .f32) (p : FVec Ideal S16384x256 .f32)
    (wP : FVec Ideal S256x1024 .f32) (wPG : FVec Ideal S1024x1024 .f32) (r : Fin 16384) (l : Fin 1024) :
    pleOf x2 g p wP wPG (ix2 r l)
      = afterPle (fun k => x2 (ix2 r k)) (fun k => g (ix1 k)) (fun k => p (ix2 r k)) (fun k j => wP (ix2 k j))
          (fun k j => wPG (ix2 k j)) l := by
  pointwise [pleOf, sigmOf_at, rmsOf_at]
  rfl

/-- The whole tail at one row and column. -/
theorem tail_at (x0 : FVec Ideal S16384x1024 .f32) (x1 : FVec Ideal S16384x512 .bf16) (x2 : FVec Ideal S16384x512 .f32)
    (x3 x4 : FVec Ideal S16384x1024 .bf16) (x5 : FVec Ideal S16384x256 .f32) (x6 x7 x8 : FVec Ideal S512x1024 .f32)
    (x9 : FVec Ideal S1024x1024 .f32) (x10 : FVec Ideal S1024 .f32) (x11 : FVec Ideal S1024x4096 .f32)
    (x12 : FVec Ideal S4096x1024 .f32) (x13 : FVec Ideal S1024 .f32) (x14 : FVec Ideal S256x1024 .f32)
    (x15 : FVec Ideal S1024x1024 .f32) (r : Fin 16384) (l : Fin 1024) :
    tail x0 x1 x2 x3 x4 x5 x6 x7 x8 x9 x10 x11 x12 x13 x14 x15 (ix2 r l)
      = tailRow (fun k => x0 (ix2 r k)) (fun k => x1 (ix2 r k)) (fun k => x2 (ix2 r k)) (fun k => x3 (ix2 r k))
          (fun k => x4 (ix2 r k)) (fun k => x5 (ix2 r k)) (fun k j => x6 (ix2 k j)) (fun k j => x7 (ix2 k j))
          (fun k j => x8 (ix2 k j)) (fun k j => x9 (ix2 k j)) (fun k => x10 (ix1 k)) (fun k j => x11 (ix2 k j))
          (fun k j => x12 (ix2 k j)) (fun k => x13 (ix1 k)) (fun k j => x14 (ix2 k j)) (fun k j => x15 (ix2 k j)) l := by
  rw [tail, pleOf_at]
  simp only [mlpOf_at, outOf_at, mergedOf_at]
  rfl

set_option maxHeartbeats 4000000 in
/-- The reference's run: its result is the whole tail of its arguments, and the arguments are unchanged. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v71)
        = tail (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
            (m ((c.tc : Thread nD τ).loc main_arg12)) (m ((c.tc : Thread nD τ).loc main_arg13))
            (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) := by
  hlo_run
  rfl

end Cert.Reference2Ideal.Rows

end
-- ==== Proof.PostValue.lean ====
/- The value of the tail kernel's run: its result array is the whole tail of its argument arrays. -/
module

public import proofs.«01_k».proof.Proof.Gen.Kernel2Ideal.Value
public import Idealize.ShloMosaic.Lib.Pipeline.ValueKit
public import Idealize.ShloMosaic.Lib.Claim
public import proofs.«01_k».proof.Proof.PostKernel
public import proofs.«01_k».proof.Proof.PostReference

@[expose] public section

set_option maxRecDepth 16384

noncomputable section

namespace Cert.Kernel2Ideal.Final

open Cert.Kernel2Ideal Cert.Kernel2Ideal.Gen Idealize.ShloMosaic Idealize.ShloMosaic.TcCoe Idealize.SL.Sem
open Idealize.ShloMosaic.Pipeline (Dat)
open Cert.PostMath

variable (m : (ℓ : Loc nD τ sig) → Buf (Elt Ideal) ℓ)

/-- Where each window's block lies at a grid point: the token arrays move with the point, the weights stay. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0]
    ∧ win0_14.index t = ![0, 0] ∧ win0_15.index t = ![0, 0] ∧ win0_16.index t = ![t.val, 0] :=
  (by decide +kernel : ∀ t : Fin grid0.N, _)

/-- The host's cast of weight argument 6 leaves its values. -/
theorem entry0 (c : Dev nD) : V m c main_v0 = m ((c : Thread nD τ).loc main_arg6) := by
  entry_read
  rfl

/-- The host's cast of weight argument 7 leaves its values. -/
theorem entry1 (c : Dev nD) : V m c main_v1 = m ((c : Thread nD τ).loc main_arg7) := by
  entry_read
  rfl

/-- The host's cast of weight argument 8 leaves its values. -/
theorem entry2 (c : Dev nD) : V m c main_v2 = m ((c : Thread nD τ).loc main_arg8) := by
  entry_read
  rfl

/-- The host's cast of weight argument 9 leaves its values. -/
theorem entry3 (c : Dev nD) : V m c main_v3 = m ((c : Thread nD τ).loc main_arg9) := by
  entry_read
  rfl

/-- The host's cast of weight argument 11 leaves its values. -/
theorem entry4 (c : Dev nD) : V m c main_v4 = m ((c : Thread nD τ).loc main_arg11) := by
  entry_read
  rfl

/-- The host's cast of weight argument 12 leaves its values. -/
theorem entry5 (c : Dev nD) : V m c main_v5 = m ((c : Thread nD τ).loc main_arg12) := by
  entry_read
  rfl

/-- The host's cast of weight argument 14 leaves its values. -/
theorem entry6 (c : Dev nD) : V m c main_v6 = m ((c : Thread nD τ).loc main_arg14) := by
  entry_read
  rfl

/-- The host's cast of weight argument 15 leaves its values. -/
theorem entry7 (c : Dev nD) : V m c main_v7 = m ((c : Thread nD τ).loc main_arg15) := by
  entry_read
  rfl

/-- The host's reshape of gain argument 10, at a column. -/
theorem entry8 (c : Dev nD) (l : Fin 1024) : V m c main_v8 (ix2 0 l) = m ((c : Thread nD τ).loc main_arg10) (ix1 l) := by
  entry_read
  pointwise []

/-- The host's reshape of gain argument 13, at a column. -/
theorem entry9 (c : Dev nD) (l : Fin 1024) : V m c main_v9 (ix2 0 l) = m ((c : Thread nD τ).loc main_arg13) (ix1 l) := by
  entry_read
  pointwise []

/-- Row `r` of grid point `t`'s block of 256 rows. -/
def row (t : Fin cfg0.N) (r : Fin 256) : Fin 16384 :=
  ⟨256 * t.val + r.val, by have h : t.val < 64 := t.isLt; omega⟩

theorem read0 (c : Dev nD) (t : Fin cfg0.N) (r : Fin 256) (k : Fin 1024) :
    iblk m c 0 t (ix2 r k) = m ((c : Thread nD τ).loc main_arg0) (ix2 (row t r) k) := by
  unfold row
  blk_ext [iblk, V, idx t]

theorem read1 (c : Dev nD) (t : Fin cfg0.N) (r : Fin 256) (k : Fin 512) :
    iblk m c 1 t (ix2 r k) = m ((c : Thread nD τ).loc main_arg1) (ix2 (row t r) k) := by
  unfold row
  blk_ext [iblk, V, idx t]

theorem read2 (c : Dev nD) (t : Fin cfg0.N) (r : Fin 256) (k : Fin 512) :
    iblk m c 2 t (ix2 r k) = m ((c : Thread nD τ).loc main_arg2) (ix2 (row t r) k) := by
  unfold row
  blk_ext [iblk, V, idx t]

theorem read3 (c : Dev nD) (t : Fin cfg0.N) (r : Fin 256) (k : Fin 1024) :
    iblk m c 3 t (ix2 r k) = m ((c : Thread nD τ).loc main_arg3) (ix2 (row t r) k) := by
  unfold row
  blk_ext [iblk, V, idx t]

theorem read4 (c : Dev nD) (t : Fin cfg0.N) (r : Fin 256) (k : Fin 1024) :
    iblk m c 4 t (ix2 r k) = m ((c : Thread nD τ).loc main_arg4) (ix2 (row t r) k) := by
  unfold row
  blk_ext [iblk, V, idx t]

theorem read5 (c : Dev nD) (t : Fin cfg0.N) (r : Fin 256) (k : Fin 256) :
    iblk m c 5 t (ix2 r k) = m ((c : Thread nD τ).loc main_arg5) (ix2 (row t r) k) := by
  unfold row
  blk_ext [iblk, V, idx t]

theorem read6 (c : Dev nD) (t : Fin cfg0.N) (k : Fin 512) (j : Fin 1024) :
    iblk m c 6 t (ix2 k j) = m ((c : Thread nD τ).loc main_arg6) (ix2 k j) := by
  rw [iblk, show V m c (Pipeline.arrRef spec0 6) = m ((c : Thread nD τ).loc main_arg6) from entry0 m c]
  blk_ext [idx t]

theorem read7 (c : Dev nD) (t : Fin cfg0.N) (k : Fin 512) (j : Fin 1024) :
    iblk m c 7 t (ix2 k j) = m ((c : Thread nD τ).loc main_arg7) (ix2 k j) := by
  rw [iblk, show V m c (Pipeline.arrRef spec0 7) = m ((c : Thread nD τ).loc main_arg7) from entry1 m c]
  blk_ext [idx t]

theorem read8 (c : Dev nD) (t : Fin cfg0.N) (k : Fin 512) (j : Fin 1024) :
    iblk m c 8 t (ix2 k j) = m ((c : Thread nD τ).loc main_arg8) (ix2 k j) := by
  rw [iblk, show V m c (Pipeline.arrRef spec0 8) = m ((c : Thread nD τ).loc main_arg8) from entry2 m c]
  blk_ext [idx t]

theorem read9 (c : Dev nD) (t : Fin cfg0.N) (k : Fin 1024) (j : Fin 1024) :
    iblk m c 9 t (ix2 k j) = m ((c : Thread nD τ).loc main_arg9) (ix2 k j) := by
  rw [iblk, show V m c (Pipeline.arrRef spec0 9) = m ((c : Thread nD τ).loc main_arg9) from entry3 m c]
  blk_ext [idx t]

theorem read14 (c : Dev nD) (t : Fin cfg0.N) (k : Fin 256) (j : Fin 1024) :
    iblk m c 14 t (ix2 k j) = m ((c : Thread nD τ).loc main_arg14) (ix2 k j) := by
  rw [iblk, show V m c (Pipeline.arrRef spec0 14) = m ((c : Thread nD τ).loc main_arg14) from entry6 m c]
  blk_ext [idx t]

theorem read15 (c : Dev nD) (t : Fin cfg0.N) (k : Fin 1024) (j : Fin 1024) :
    iblk m c 15 t (ix2 k j) = m ((c : Thread nD τ).loc main_arg15) (ix2 k j) := by
  rw [iblk, show V m c (Pipeline.arrRef spec0 15) = m ((c : Thread nD τ).loc main_arg15) from entry7 m c]
  blk_ext [idx t]

theorem read10 (c : Dev nD) (t : Fin cfg0.N) (k : Fin 1024) :
    iblk m c 10 t (ix2 0 k) = m ((c : Thread nD τ).loc main_arg10) (ix1 k) := by
  have h : ((cfg0.win 10).blk t).view.emb (ix2 0 k) = ix2 0 k := by blk_ext [idx t]
  show V m c main_v8 (((cfg0.win 10).blk t).view.emb (ix2 0 k)) = _
  rw [h, entry8]

theorem read13 (c : Dev nD) (t : Fin cfg0.N) (k : Fin 1024) :
    iblk m c 13 t (ix2 0 k) = m ((c : Thread nD τ).loc main_arg13) (ix1 k) := by
  have h : ((cfg0.win 13).blk t).view.emb (ix2 0 k) = ix2 0 k := by blk_ext [idx t]
  show V m c main_v9 (((cfg0.win 13).blk t).view.emb (ix2 0 k)) = _
  rw [h, entry9]

set_option maxHeartbeats 4000000 in
/-- The result array after the run is the whole tail of the argument arrays. -/
theorem final (c : Dev nD) : (dats m 0 c).arrAt 16 (cfgs 0).N
    = Cert.Reference2Ideal.Rows.tail (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (dats m 0 c).arrAt_eq_of_covers 16 _ (by decide +kernel) fun t _ y => ?_
  blk_simp
  rw [after0_16]
  frame_out
  unfold k0_pay16 k0_pay15 k0_pay14 k0_pay13 k0_pay12 k0_pay11 k0_pay10
  frame_out
  obtain ⟨r, l, rfl⟩ : ∃ (r : Fin 256) (l : Fin 1024), y = ix2 r l := ⟨y 0, y 1, eq_ix2 y⟩
  refine (Rows.stored_row _ _ _ _ _ _ _ _ _ _ _ _ _ _ _ _ _ _ _ _ _ _
    (fun k j => m ((c : Thread nD τ).loc main_arg11) (ix2 k j)) (fun k j => m ((c : Thread nD τ).loc main_arg12) (ix2 k j))
    ?_ ?_ ?_ ?_ ?_ ?_ ?_ ?_ _ rfl _ rfl r l).trans ?_
  iterate 4
    intro k j
    pointwise []
    rw [iblk, show V m c (Pipeline.arrRef spec0 11) = m ((c : Thread nD τ).loc main_arg11) from entry4 m c]
    blk_ext [idx t]
  iterate 4
    intro k j
    pointwise []
    rw [iblk, show V m c (Pipeline.arrRef spec0 12) = m ((c : Thread nD τ).loc main_arg12) from entry5 m c]
    blk_ext [idx t]
  have hy : ((View.whole main_v10).slice (win0_16.rect t)).emb (ix2 r l) = ix2 (row t r) l := by
    unfold row
    blk_ext [idx t]
  rw [hy, Cert.Reference2Ideal.Rows.tail_at]
  simp only [read0, read1, read2, read3, read4, read5, read6, read7, read8, read9, read10, read13, read14, read15]

end Cert.Kernel2Ideal.Final

end
-- ==== Proof.PostClaim.lean ====
/- The claims about the layer's tail: its reference's frame, and that kernel and reference compute the same array. -/
module

public import proofs.«01_k».proof.Defs
public import proofs.«01_k».proof.Proof.PostValue

@[expose] public section

noncomputable section

namespace Cert.Proof.PostClaim

open Idealize.ShloMosaic Idealize.SL.Sem

/-- The reference runs, leaving its arguments and every counter as they were. -/
theorem reference_frame : Cert.quiescent_Reference2Ideal (hReference2Ideal := Cert.Reference2Ideal.Gen.facts) := fun m g _ =>
  (θ_run Cert.Reference2Ideal.defs _ _).mono (fun r h => ⟨fun c => (h c).2,
      Idealize.ShloMosaic.sem_eq_zero_of_no_sems (by decide) r.2⟩)
    (Cert.Reference2Ideal.Rows.run m g)

/-- Kernel and reference end with the same layer output. -/
theorem equal : Cert.algebraic_Kernel2Ideal_Reference2Ideal (hKernel2Ideal := Cert.Kernel2Ideal.Gen.facts)
    (hReference2Ideal := Cert.Reference2Ideal.Gen.facts) := by
  pair_intro
  · run_from Cert.Kernel2Ideal.Value.run_blocks m g
  · run_from Cert.Reference2Ideal.Rows.run m' g'
    exact (Cert.Kernel2Ideal.Final.final m c).symm

end Cert.Proof.PostClaim

end
-- ==== Proof.InKernel.lean ====
/- What one grid point of the input projection stores, row by row, in the terms of `InMath`. -/
module

public import proofs.«01_k».proof.Proof.Gen.Kernel3Ideal.Skeleton
public import proofs.«01_k».proof.Proof.InMath

@[expose] public section

set_option maxRecDepth 16384

noncomputable section

namespace Cert.Kernel3Ideal.Rows

open Cert.Kernel3Ideal Cert.Kernel3Ideal.Gen Idealize.ShloMosaic Idealize.ShloMosaic.TcCoe Idealize.SL.Sem
open Cert.PostMath Cert.InMath

/-- The normalised row. -/
theorem pay2_row (x : Vec Ideal S256x1024 .f32) (g : Vec Ideal S1x1024 .f32) (r : Fin 256) (l : Fin 1024) :
    k0_pay2 (F := Ideal) x g (ix2 r l) = rmsRow (fun k => g (ix2 0 k)) (fun k => x (ix2 r k)) l := by
  pointwise [k0_pay2]
  rfl

/-- The keys: projected, each head normalised. -/
theorem pay3_row (x : Vec Ideal S256x1024 .f32) (gx : Vec Ideal S1x1024 .f32) (w : Vec Ideal S1024x512 .bf16)
    (bd : Vec Ideal S512x512 .bf16) (g : Vec Ideal S1x512 .f32) (gh : Fin 64 → EReal)
    (hbd : ∀ k l : Fin 512, bd (ix2 k l) = if k.val / 64 = l.val / 64 then Ideal.ofBits .f32 0x3C800000#32 else 0)
    (hg : ∀ l : Fin 512, g (ix2 0 l) = gh ⟨l.val % 64, by omega⟩) (r : Fin 256) (l : Fin 512) :
    k0_pay3 (F := Ideal) x gx w bd g (ix2 r l)
      = headNorm gh (dotCol (rmsRow (fun k => gx (ix2 0 k)) (fun k => x (ix2 r k))) (fun k j => w (ix2 k j))) l := by
  rw [headNorm, ← head_mean, ← hg]
  simp only [← hbd]
  pointwise [k0_pay3, pay2_row]
  rfl

/-- The values: projected. -/
theorem pay4_row (x : Vec Ideal S256x1024 .f32) (gx : Vec Ideal S1x1024 .f32) (w : Vec Ideal S1024x512 .bf16)
    (r : Fin 256) (l : Fin 512) :
    k0_pay4 (F := Ideal) x gx w (ix2 r l)
      = dotCol (rmsRow (fun k => gx (ix2 0 k)) (fun k => x (ix2 r k))) (fun k j => w (ix2 k j)) l := by
  pointwise [k0_pay4, pay2_row]
  rfl

/-- The queries: projected, each head normalised, scaled. -/
theorem pay5_row (x : Vec Ideal S256x1024 .f32) (gx : Vec Ideal S1x1024 .f32) (w : Vec Ideal S1024x512 .bf16)
    (bd : Vec Ideal S512x512 .bf16) (g : Vec Ideal S1x512 .f32) (gh : Fin 64 → EReal)
    (hbd : ∀ k l : Fin 512, bd (ix2 k l) = if k.val / 64 = l.val / 64 then Ideal.ofBits .f32 0x3C800000#32 else 0)
    (hg : ∀ l : Fin 512, g (ix2 0 l) = gh ⟨l.val % 64, by omega⟩) (r : Fin 256) (l : Fin 512) :
    k0_pay5 (F := Ideal) (k0_pay2 (F := Ideal) x gx) w bd g (ix2 r l)
      = scaled (headNorm gh (dotCol (rmsRow (fun k => gx (ix2 0 k)) (fun k => x (ix2 r k))) (fun k j => w (ix2 k j))) l) := by
  have hs : (Named.named κ "q_scale" 0xBE38AA3B#32 : Ideal .f32) = ((-(8⁻¹ * (Real.log 2)⁻¹) : ℝ) : EReal) :=
    IdealRules.named_const.ideal_named_scalar _ _ _ _ rfl
  rw [← mul_scale, headNorm, ← head_mean, ← hg]
  simp only [← hbd]
  pointwise [k0_pay5, pay2_row]
  rw [hs]
  rfl

/-- The state-space inputs: projected. -/
theorem pay6_row (x : Vec Ideal S256x1024 .f32) (gx : Vec Ideal S1x1024 .f32) (w : Vec Ideal S1024x512 .bf16)
    (r : Fin 256) (l : Fin 512) :
    k0_pay6 (F := Ideal) (k0_pay2 (F := Ideal) x gx) w (ix2 r l)
      = dotCol (rmsRow (fun k => gx (ix2 0 k)) (fun k => x (ix2 r k))) (fun k j => w (ix2 k j)) l := by
  pointwise [k0_pay6, pay2_row]
  rfl

/-- The attention gate: projected, through the sigmoid. -/
theorem pay7_row (x : Vec Ideal S256x1024 .f32) (gx : Vec Ideal S1x1024 .f32) (w : Vec Ideal S1024x1024 .bf16)
    (r : Fin 256) (l : Fin 1024) :
    k0_pay7 (F := Ideal) (k0_pay2 (F := Ideal) x gx) w (ix2 r l)
      = sigm (dotCol (rmsRow (fun k => gx (ix2 0 k)) (fun k => x (ix2 r k))) (fun k j => w (ix2 k j)) l) := by
  pointwise [k0_pay7, pay2_row]
  rfl

/-- The state-space gate: projected, through the sigmoid. -/
theorem pay1_row (x : Vec Ideal S256x1024 .f32) (gx : Vec Ideal S1x1024 .f32) (w : Vec Ideal S1024x1024 .bf16)
    (r : Fin 256) (l : Fin 1024) :
    k0_pay1 (F := Ideal) (k0_pay2 (F := Ideal) x gx) w (ix2 r l)
      = sigm (dotCol (rmsRow (fun k => gx (ix2 0 k)) (fun k => x (ix2 r k))) (fun k j => w (ix2 k j)) l) := by
  pointwise [k0_pay1, pay2_row]
  rfl

end Cert.Kernel3Ideal.Rows

end
-- ==== Proof.InReference.lean ====
/- The reference of the input projection, stage by stage and row by row, in the terms of `InMath`, and its run. -/
module

public import proofs.«01_k».proof.Proof.Gen.Reference3Ideal
public import Idealize.ShloMosaic.Lib.Claim
public import proofs.«01_k».proof.Proof.InMath

@[expose] public section

set_option maxRecDepth 16384

noncomputable section

namespace Cert.Reference3Ideal.Rows

open Cert.Reference3Ideal Cert.Reference3Ideal.Gen Idealize.ShloMosaic Idealize.ShloMosaic.TcCoe
open Idealize.SL.Sem Idealize.ShloMosaic.StableHlo Cert.PostMath Cert.InMath

/-- The normalised rows. -/
def rmsOf (x : FVec Ideal S1024x1024 .f32) (g : FVec Ideal S1024 .f32) : FVec Ideal S1024x1024 .f32 :=
  mulf (mulf x (broadcastInDim S1024x1024 ![0, 1] bcast_S1024x1_S1024x1024_0_1
      (Host.rsqrt (addf (Host.divf (broadcastInDim S1024x1 ![0] bcast_S1024_S1024x1_0
          (Host.reduceAdd (mulf x x) (constant S_ .f32 0x00000000#32) reducesTo_S1024x1024_S1024_d1 h_S_))
        (broadcastInDim S1024x1 ![] bcast_S_S1024x1 (constant S_ .f32 0x44800000#32)))
        (broadcastInDim S1024x1 ![] bcast_S_S1024x1 (constant S_ .f32 0x358637BD#32))))))
    (broadcastInDim S1024x1024 ![0, 1] bcast_S1x1024_S1024x1024_0_1 (broadcastInDim S1x1024 ![1] bcast_S1024_S1x1024_1 g))

theorem rmsOf_at (x : FVec Ideal S1024x1024 .f32) (g : FVec Ideal S1024 .f32) (r l : Fin 1024) :
    rmsOf x g (ix2 r l) = rmsRow (fun k => g (ix1 k)) (fun k => x (ix2 r k)) l := by
  pointwise [rmsOf]
  rfl

/-- The whole projection, of 4096 columns. -/
def projected (x0 : FVec Ideal S1024x1024 .f32) (x1 : FVec Ideal S1024 .f32) (x2 : FVec Ideal S1024x4096 .f32) :
    FVec Ideal S1024x4096 .f32 :=
  Host.dotGeneral dot_S1024x1024_S1024x4096_S1024x4096_1_0_0_1_n_n none (rmsOf x0 x1) x2

theorem projected_at (x0 : FVec Ideal S1024x1024 .f32) (x1 : FVec Ideal S1024 .f32) (x2 : FVec Ideal S1024x4096 .f32)
    (r : Fin 1024) (l : Fin 4096) :
    projected x0 x1 x2 (ix2 r l)
      = dotCol (rmsRow (fun k => x1 (ix1 k)) (fun k => x0 (ix2 r k))) (fun k j => x2 (ix2 k j)) l := by
  pointwise [projected, rmsOf_at]
  rfl

/-- The columns `0` to `511` of the projection. -/
def cols0 (x0 : FVec Ideal S1024x1024 .f32) (x1 : FVec Ideal S1024 .f32) (x2 : FVec Ideal S1024x4096 .f32) :
    FVec Ideal S1024x512 .f32 :=
  extractStridedSlice S1024x512 ![0, 0] (projected x0 x1 x2) slices_S1024x4096_S1024x512_0_0

theorem cols0_at (x0 : FVec Ideal S1024x1024 .f32) (x1 : FVec Ideal S1024 .f32) (x2 : FVec Ideal S1024x4096 .f32)
    (r : Fin 1024) (l : Fin 512) :
    cols0 x0 x1 x2 (ix2 r l) = dotCol (rmsRow (fun k => x1 (ix1 k)) (fun k => x0 (ix2 r k)))
      (fun (k : Fin 1024) (j : Fin 512) => x2 (ix2 k ⟨0 + j.val, by omega⟩)) l := by
  pointwise [cols0, projected_at]
  rfl

/-- The columns `512` to `1023` of the projection. -/
def cols512 (x0 : FVec Ideal S1024x1024 .f32) (x1 : FVec Ideal S1024 .f32) (x2 : FVec Ideal S1024x4096 .f32) :
    FVec Ideal S1024x512 .f32 :=
  extractStridedSlice S1024x512 ![0, 512] (projected x0 x1 x2) slices_S1024x4096_S1024x512_0_512

theorem cols512_at (x0 : FVec Ideal S1024x1024 .f32) (x1 : FVec Ideal S1024 .f32) (x2 : FVec Ideal S1024x4096 .f32)
    (r : Fin 1024) (l : Fin 512) :
    cols512 x0 x1 x2 (ix2 r l) = dotCol (rmsRow (fun k => x1 (ix1 k)) (fun k => x0 (ix2 r k)))
      (fun (k : Fin 1024) (j : Fin 512) => x2 (ix2 k ⟨512 + j.val, by omega⟩)) l := by
  pointwise [cols512, projected_at]
  rfl

/-- The columns `1024` to `1535` of the projection. -/
def cols1024 (x0 : FVec Ideal S1024x1024 .f32) (x1 : FVec Ideal S1024 .f32) (x2 : FVec Ideal S1024x4096 .f32) :
    FVec Ideal S1024x512 .f32 :=
  extractStridedSlice S1024x512 ![0, 1024] (projected x0 x1 x2) slices_S1024x4096_S1024x512_0_1024

theorem cols1024_at (x0 : FVec Ideal S1024x1024 .f32) (x1 : FVec Ideal S1024 .f32) (x2 : FVec Ideal S1024x4096 .f32)
    (r : Fin 1024) (l : Fin 512) :
    cols1024 x0 x1 x2 (ix2 r l) = dotCol (rmsRow (fun k => x1 (ix1 k)) (fun k => x0 (ix2 r k)))
      (fun (k : Fin 1024) (j : Fin 512) => x2 (ix2 k ⟨1024 + j.val, by omega⟩)) l := by
  pointwise [cols1024, projected_at]
  rfl

/-- The columns `1536` to `2047` of the projection. -/
def cols1536 (x0 : FVec Ideal S1024x1024 .f32) (x1 : FVec Ideal S1024 .f32) (x2 : FVec Ideal S1024x4096 .f32) :
    FVec Ideal S1024x512 .f32 :=
  extractStridedSlice S1024x512 ![0, 1536] (projected x0 x1 x2) slices_S1024x4096_S1024x512_0_1536

theorem cols1536_at (x0 : FVec Ideal S1024x1024 .f32) (x1 : FVec Ideal S1024 .f32) (x2 : FVec Ideal S1024x4096 .f32)
    (r : Fin 1024) (l : Fin 512) :
    cols1536 x0 x1 x2 (ix2 r l) = dotCol (rmsRow (fun k => x1 (ix1 k)) (fun k => x0 (ix2 r k)))
      (fun (k : Fin 1024) (j : Fin 512) => x2 (ix2 k ⟨1536 + j.val, by omega⟩)) l := by
  pointwise [cols1536, projected_at]
  rfl

/-- The columns `2048` to `3071` of the projection. -/
def cols2048 (x0 : FVec Ideal S1024x1024 .f32) (x1 : FVec Ideal S1024 .f32) (x2 : FVec Ideal S1024x4096 .f32) :
    FVec Ideal S1024x1024 .f32 :=
  extractStridedSlice S1024x1024 ![0, 2048] (projected x0 x1 x2) slices_S1024x4096_S1024x1024_0_2048

theorem cols2048_at (x0 : FVec Ideal S1024x1024 .f32) (x1 : FVec Ideal S1024 .f32) (x2 : FVec Ideal S1024x4096 .f32)
    (r : Fin 1024) (l : Fin 1024) :
    cols2048 x0 x1 x2 (ix2 r l) = dotCol (rmsRow (fun k => x1 (ix1 k)) (fun k => x0 (ix2 r k)))
      (fun (k : Fin 1024) (j : Fin 1024) => x2 (ix2 k ⟨2048 + j.val, by omega⟩)) l := by
  pointwise [cols2048, projected_at]
  rfl

/-- The columns `3072` to `4095` of the projection. -/
def cols3072 (x0 : FVec Ideal S1024x1024 .f32) (x1 : FVec Ideal S1024 .f32) (x2 : FVec Ideal S1024x4096 .f32) :
    FVec Ideal S1024x1024 .f32 :=
  extractStridedSlice S1024x1024 ![0, 3072] (projected x0 x1 x2) slices_S1024x4096_S1024x1024_0_3072

theorem cols3072_at (x0 : FVec Ideal S1024x1024 .f32) (x1 : FVec Ideal S1024 .f32) (x2 : FVec Ideal S1024x4096 .f32)
    (r : Fin 1024) (l : Fin 1024) :
    cols3072 x0 x1 x2 (ix2 r l) = dotCol (rmsRow (fun k => x1 (ix1 k)) (fun k => x0 (ix2 r k)))
      (fun (k : Fin 1024) (j : Fin 1024) => x2 (ix2 k ⟨3072 + j.val, by omega⟩)) l := by
  pointwise [cols3072, projected_at]
  rfl

/-- Each head's lanes normalised, times a gain. -/
def headOf (p : FVec Ideal S1024x512 .f32) (g : FVec Ideal S64 .f32) : FVec Ideal S1024x512 .f32 :=
  shapeCast S1024x512 (mulf (mulf (shapeCast S1024x8x64 p shapeCasts_S1024x512_S1024x8x64)
      (broadcastInDim S1024x8x64 ![0, 1, 2] bcast_S1024x8x1_S1024x8x64_0_1_2
        (Host.rsqrt (addf (Host.divf (broadcastInDim S1024x8x1 ![0, 1] bcast_S1024x8_S1024x8x1_0_1
            (Host.reduceAdd (mulf (shapeCast S1024x8x64 p shapeCasts_S1024x512_S1024x8x64)
              (shapeCast S1024x8x64 p shapeCasts_S1024x512_S1024x8x64))
              (constant S_ .f32 0x00000000#32) reducesTo_S1024x8x64_S1024x8_d2 h_S_))
          (broadcastInDim S1024x8x1 ![] bcast_S_S1024x8x1 (constant S_ .f32 0x42800000#32)))
          (broadcastInDim S1024x8x1 ![] bcast_S_S1024x8x1 (constant S_ .f32 0x358637BD#32))))))
      (broadcastInDim S1024x8x64 ![0, 1, 2] bcast_S1x1x64_S1024x8x64_0_1_2 (broadcastInDim S1x1x64 ![2] bcast_S64_S1x1x64_2 g)))
    shapeCasts_S1024x8x64_S1024x512

theorem headOf_at (p : FVec Ideal S1024x512 .f32) (g : FVec Ideal S64 .f32) (r : Fin 1024) (l : Fin 512) :
    headOf p g (ix2 r l) = headNorm (fun k => g (ix1 k)) (fun k => p (ix2 r k)) l := by
  pointwise [headOf]
  rfl

/-- The queries' scaling. -/
def scaleOf (p : FVec Ideal S1024x512 .f32) : FVec Ideal S1024x512 .bf16 :=
  truncf .bf16 (Host.divf (Host.negf (mulf p (broadcastInDim S1024x512 ![] bcast_S_S1024x512 (constant S_ .f32 0x3E000000#32))))
    (broadcastInDim S1024x512 ![] bcast_S_S1024x512 (Host.log (constant S_ .f32 0x40000000#32)))) bitsLt_bf16_f32

theorem scaleOf_at (p : FVec Ideal S1024x512 .f32) (r : Fin 1024) (l : Fin 512) :
    scaleOf p (ix2 r l) = scaled (p (ix2 r l)) := by
  pointwise [scaleOf]
  rfl

/-- A gate's sigmoid. -/
def sigmOf (a : FVec Ideal S1024x1024 .f32) : FVec Ideal S1024x1024 .bf16 :=
  truncf .bf16 (Host.divf (broadcastInDim S1024x1024 ![] bcast_S_S1024x1024 (constant S_ .f32 0x3F800000#32))
    (addf (broadcastInDim S1024x1024 ![] bcast_S_S1024x1024 (constant S_ .f32 0x3F800000#32)) (Host.exp (Host.negf a)))) bitsLt_bf16_f32

theorem sigmOf_at (a : FVec Ideal S1024x1024 .f32) (r l : Fin 1024) : sigmOf a (ix2 r l) = sigm (a (ix2 r l)) := by
  pointwise [sigmOf]
  rfl

set_option maxHeartbeats 4000000 in
/-- The reference's run: its six results are the stages above of its arguments, and the arguments are unchanged. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v56) = scaleOf (headOf (cols0 (m ((c.tc : Thread nD τ).loc main_arg0)) (m ((c.tc : Thread nD τ).loc main_arg1)) (m ((c.tc : Thread nD τ).loc main_arg2))) (m ((c.tc : Thread nD τ).loc main_arg3)))
      ∧ r.2.mem ((c.tc : Thread nD τ).loc main_v49) = headOf (cols512 (m ((c.tc : Thread nD τ).loc main_arg0)) (m ((c.tc : Thread nD τ).loc main_arg1)) (m ((c.tc : Thread nD τ).loc main_arg2))) (m ((c.tc : Thread nD τ).loc main_arg4))
      ∧ r.2.mem ((c.tc : Thread nD τ).loc main_v16) = cols1024 (m ((c.tc : Thread nD τ).loc main_arg0)) (m ((c.tc : Thread nD τ).loc main_arg1)) (m ((c.tc : Thread nD τ).loc main_arg2))
      ∧ r.2.mem ((c.tc : Thread nD τ).loc main_v17) = cols1536 (m ((c.tc : Thread nD τ).loc main_arg0)) (m ((c.tc : Thread nD τ).loc main_arg1)) (m ((c.tc : Thread nD τ).loc main_arg2))
      ∧ r.2.mem ((c.tc : Thread nD τ).loc main_v63) = sigmOf (cols2048 (m ((c.tc : Thread nD τ).loc main_arg0)) (m ((c.tc : Thread nD τ).loc main_arg1)) (m ((c.tc : Thread nD τ).loc main_arg2)))
      ∧ r.2.mem ((c.tc : Thread nD τ).loc main_v70) = sigmOf (cols3072 (m ((c.tc : Thread nD τ).loc main_arg0)) (m ((c.tc : Thread nD τ).loc main_arg1)) (m ((c.tc : Thread nD τ).loc main_arg2)))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4)) := by
  hlo_run <;> rfl

end Cert.Reference3Ideal.Rows

end
-- ==== Proof.InValue.lean ====
/- The value of the input projection's run: its six result arrays are the reference's stages of its argument arrays. -/
module

public import proofs.«01_k».proof.Proof.Gen.Kernel3Ideal.Value
public import Idealize.ShloMosaic.Lib.Pipeline.ValueKit
public import Idealize.ShloMosaic.Lib.Claim
public import proofs.«01_k».proof.Proof.InKernel
public import proofs.«01_k».proof.Proof.InReference

@[expose] public section

set_option maxRecDepth 16384

noncomputable section

namespace Cert.Kernel3Ideal.Final

open Cert.Kernel3Ideal Cert.Kernel3Ideal.Gen Idealize.ShloMosaic Idealize.ShloMosaic.TcCoe Idealize.SL.Sem
open Idealize.ShloMosaic.Pipeline (Dat)
open Cert.PostMath Cert.InMath

variable (m : (ℓ : Loc nD τ sig) → Buf (Elt Ideal) ℓ)

/-- Where each window's block lies at a grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0]
    ∧ win0_6.index t = ![t.val, 0] ∧ win0_7.index t = ![t.val, 0] ∧ win0_8.index t = ![t.val, 0]
    ∧ win0_9.index t = ![t.val, 0] ∧ win0_10.index t = ![t.val, 0] ∧ win0_11.index t = ![t.val, 0] :=
  (by decide +kernel : ∀ t : Fin grid0.N, _)

/-- The host's cast of the projection weights leaves their values. -/
theorem entry9 (c : Dev nD) : V m c main_v9 = m ((c : Thread nD τ).loc main_arg2) := by
  entry_read
  rfl

/-- The host's reshape of the gain, at a column. -/
theorem entry18 (c : Dev nD) (l : Fin 1024) : V m c main_v18 (ix2 0 l) = m ((c : Thread nD τ).loc main_arg1) (ix1 l) := by
  simp only [V, hostOps0, hostOps0_1, hostOps0_2, hostOps0_3, hostOps0_4, List.flatten_cons, List.flatten_nil,
    List.append_nil, List.cons_append, List.nil_append]
  entry_read
  pointwise []

/-- The query gain repeated for each head, at a lane. -/
theorem entry13 (c : Dev nD) (l : Fin 512) :
    V m c main_v13 (ix2 0 l) = m ((c : Thread nD τ).loc main_arg3) (ix1 ⟨l.val % 64, by omega⟩) := by
  simp only [V, hostOps0, hostOps0_1, hostOps0_2, hostOps0_3, hostOps0_4, List.flatten_cons, List.flatten_nil,
    List.append_nil, List.cons_append, List.nil_append]
  entry_read
  pointwise []

/-- The key gain repeated for each head, at a lane. -/
theorem entry17 (c : Dev nD) (l : Fin 512) :
    V m c main_v17 (ix2 0 l) = m ((c : Thread nD τ).loc main_arg4) (ix1 ⟨l.val % 64, by omega⟩) := by
  simp only [V, hostOps0, hostOps0_1, hostOps0_2, hostOps0_3, hostOps0_4, List.flatten_cons, List.flatten_nil,
    List.append_nil, List.cons_append, List.nil_append]
  entry_read
  pointwise []

/-- The number of each lane's head, as the host computes it: the lane's number floor-divided by 64. -/
def headIdx : IVec S512 32 :=
  select
    (andi
      (cmpi .ne (signi (iotaInDim S512 32 0)) (broadcastInDim S512 ![] bcast_S_S512 (signi (constantI S_ 32 64#32))))
      (cmpi .ne (Host.remsi (iotaInDim S512 32 0) (broadcastInDim S512 ![] bcast_S_S512 (constantI S_ 32 64#32)))
        (broadcastInDim S512 ![] bcast_S_S512 (constantI S_ 32 0#32))))
    (subi (Host.divsi (iotaInDim S512 32 0) (broadcastInDim S512 ![] bcast_S_S512 (constantI S_ 32 64#32)))
      (broadcastInDim S512 ![] bcast_S_S512 (constantI S_ 32 1#32)))
    (Host.divsi (iotaInDim S512 32 0) (broadcastInDim S512 ![] bcast_S_S512 (constantI S_ 32 64#32)))

theorem headIdx_at : ∀ l : Fin 512, headIdx (ix1 l) = BitVec.ofNat 32 (l.val / 64) := by
  decide +kernel

/-- The block-diagonal matrix over given head numbers. -/
def blockDiag (h : IVec S512 32) : FVec Ideal S512x512 .bf16 :=
  truncf .bf16
    (select
      (cmpi .eq
        (broadcastInDim S512x512 ![0, 1] bcast_S512x1_S512x512_0_1 (broadcastInDim S512x1 ![0] bcast_S512_S512x1_0 h))
        (broadcastInDim S512x512 ![0, 1] bcast_S1x512_S512x512_0_1 (broadcastInDim S1x512 ![1] bcast_S512_S1x512_1 h)))
      (broadcastInDim S512x512 ![] bcast_S_S512x512 (constant S_ .f32 0x3C800000#32))
      (broadcastInDim S512x512 ![] bcast_S_S512x512 (constant S_ .f32 0x00000000#32)))
    bitsLt_bf16_f32

theorem blockDiag_at (h : IVec S512 32) (k l : Fin 512) :
    blockDiag h (ix2 k l) = if h (ix1 k) = h (ix1 l) then Ideal.ofBits .f32 0x3C800000#32 else 0 := by
  pointwise [blockDiag]
  split_ifs with hh
  · simp [Scalar.select, IntOp.cmpi, hh]
  · simp [Scalar.select, IntOp.cmpi, beq_false_of_ne hh]

/-- The block-diagonal matrix the host builds: 1/64 where row and column lie in one head. -/
theorem entry8 (c : Dev nD) (k l : Fin 512) :
    V m c main_v8 (ix2 k l) = if k.val / 64 = l.val / 64 then Ideal.ofBits .f32 0x3C800000#32 else 0 := by
  have h : V m c main_v8 = blockDiag headIdx := by
    simp only [V, hostOps0, hostOps0_1, hostOps0_2, hostOps0_3, hostOps0_4, List.flatten_cons, List.flatten_nil,
      List.append_nil, List.cons_append, List.nil_append]
    entry_read
    simp only [StableHlo.TRef.ofBuf, StableHlo.TRef.toBuf, StableHlo.TRef.of, cast_eq]
    rfl
  rw [h, blockDiag_at, headIdx_at, headIdx_at]
  refine if_congr ?_ rfl rfl
  rw [BitVec.toNat_inj.symm, BitVec.toNat_ofNat, BitVec.toNat_ofNat]
  omega

/-- Row `r` of grid point `t`'s block of 256 rows. -/
def row (t : Fin cfg0.N) (r : Fin 256) : Fin 1024 :=
  ⟨256 * t.val + r.val, by have h : t.val < 4 := t.isLt; omega⟩

theorem read0 (c : Dev nD) (t : Fin cfg0.N) (r : Fin 256) (k : Fin 1024) :
    iblk m c 0 t (ix2 r k) = m ((c : Thread nD τ).loc main_arg0) (ix2 (row t r) k) := by
  unfold row
  blk_ext [iblk, V, idx t]

theorem read1 (c : Dev nD) (t : Fin cfg0.N) (k : Fin 1024) :
    iblk m c 1 t (ix2 0 k) = m ((c : Thread nD τ).loc main_arg1) (ix1 k) := by
  have h : ((cfg0.win 1).blk t).view.emb (ix2 0 k) = ix2 0 k := by blk_ext [idx t]
  show V m c main_v18 (((cfg0.win 1).blk t).view.emb (ix2 0 k)) = _
  rw [h, entry18]

theorem read2 (c : Dev nD) (t : Fin cfg0.N) (k : Fin 1024) (j : Fin 4096) :
    iblk m c 2 t (ix2 k j) = m ((c : Thread nD τ).loc main_arg2) (ix2 k j) := by
  rw [iblk, show V m c (Pipeline.arrRef spec0 2) = m ((c : Thread nD τ).loc main_arg2) from entry9 m c]
  blk_ext [idx t]

theorem read3 (c : Dev nD) (t : Fin cfg0.N) (k l : Fin 512) :
    iblk m c 3 t (ix2 k l) = if k.val / 64 = l.val / 64 then Ideal.ofBits .f32 0x3C800000#32 else 0 := by
  have h : ((cfg0.win 3).blk t).view.emb (ix2 k l) = ix2 k l := by blk_ext [idx t]
  show V m c main_v8 (((cfg0.win 3).blk t).view.emb (ix2 k l)) = _
  rw [h, entry8]

theorem read4 (c : Dev nD) (t : Fin cfg0.N) (l : Fin 512) :
    iblk m c 4 t (ix2 0 l) = m ((c : Thread nD τ).loc main_arg3) (ix1 ⟨l.val % 64, by omega⟩) := by
  have h : ((cfg0.win 4).blk t).view.emb (ix2 0 l) = ix2 0 l := by blk_ext [idx t]
  show V m c main_v13 (((cfg0.win 4).blk t).view.emb (ix2 0 l)) = _
  rw [h, entry13]

theorem read5 (c : Dev nD) (t : Fin cfg0.N) (l : Fin 512) :
    iblk m c 5 t (ix2 0 l) = m ((c : Thread nD τ).loc main_arg4) (ix1 ⟨l.val % 64, by omega⟩) := by
  have h : ((cfg0.win 5).blk t).view.emb (ix2 0 l) = ix2 0 l := by blk_ext [idx t]
  show V m c main_v17 (((cfg0.win 5).blk t).view.emb (ix2 0 l)) = _
  rw [h, entry17]

set_option maxHeartbeats 4000000 in
/-- The queries' array after the run. -/
theorem final6 (c : Dev nD) : (dats m 0 c).arrAt 6 (cfgs 0).N
    = Cert.Reference3Ideal.Rows.scaleOf (Cert.Reference3Ideal.Rows.headOf (Cert.Reference3Ideal.Rows.cols0 (m ((c : Thread nD τ).loc main_arg0)) (m ((c : Thread nD τ).loc main_arg1)) (m ((c : Thread nD τ).loc main_arg2))) (m ((c : Thread nD τ).loc main_arg3))) := by
  refine (dats m 0 c).arrAt_eq_of_covers 6 _ (by decide +kernel) fun t _ y => ?_
  blk_simp
  rw [after0_6]
  frame_out
  unfold k0_pay8
  frame_out
  obtain ⟨r, l, rfl⟩ : ∃ (r : Fin 256) (l : Fin 512), y = ix2 r l := ⟨y 0, y 1, eq_ix2 y⟩
  refine (Rows.pay5_row _ _ _ _ _ (fun k => (m ((c : Thread nD τ).loc main_arg3)) (ix1 k)) (fun k l => read3 m c t k l) (fun l => read4 m c t l) r l).trans ?_
  have hw : ∀ (k : Fin 1024) (j : Fin 512), View.ld (iblk m c 2 t) r0_7 (ix2 k j)
      = (m ((c : Thread nD τ).loc main_arg2)) (ix2 k ⟨0 + j.val, by omega⟩) := by
    intro k j
    pointwise []
    rw [read2]
  have hy : ((View.whole main_v19_0).slice (win0_6.rect t)).emb (ix2 r l) = ix2 (row t r) l := by
    unfold row
    blk_ext [idx t]
  rw [hy]
  simp only [Cert.Reference3Ideal.Rows.scaleOf_at, Cert.Reference3Ideal.Rows.headOf_at, Cert.Reference3Ideal.Rows.cols0_at, read0, read1]
  simp only [hw]

set_option maxHeartbeats 4000000 in
/-- The keys' array after the run. -/
theorem final7 (c : Dev nD) : (dats m 0 c).arrAt 7 (cfgs 0).N
    = Cert.Reference3Ideal.Rows.headOf (Cert.Reference3Ideal.Rows.cols512 (m ((c : Thread nD τ).loc main_arg0)) (m ((c : Thread nD τ).loc main_arg1)) (m ((c : Thread nD τ).loc main_arg2))) (m ((c : Thread nD τ).loc main_arg4)) := by
  refine (dats m 0 c).arrAt_eq_of_covers 7 _ (by decide +kernel) fun t _ y => ?_
  blk_simp
  rw [after0_7]
  frame_out
  obtain ⟨r, l, rfl⟩ : ∃ (r : Fin 256) (l : Fin 512), y = ix2 r l := ⟨y 0, y 1, eq_ix2 y⟩
  refine (Rows.pay3_row _ _ _ _ _ (fun k => (m ((c : Thread nD τ).loc main_arg4)) (ix1 k)) (fun k l => read3 m c t k l) (fun l => read5 m c t l) r l).trans ?_
  have hw : ∀ (k : Fin 1024) (j : Fin 512), View.ld (iblk m c 2 t) r0_2 (ix2 k j)
      = (m ((c : Thread nD τ).loc main_arg2)) (ix2 k ⟨512 + j.val, by omega⟩) := by
    intro k j
    pointwise []
    rw [read2]
  have hy : ((View.whole main_v19_1).slice (win0_7.rect t)).emb (ix2 r l) = ix2 (row t r) l := by
    unfold row
    blk_ext [idx t]
  rw [hy]
  simp only [Cert.Reference3Ideal.Rows.headOf_at, Cert.Reference3Ideal.Rows.cols512_at, read0, read1]
  simp only [hw]

set_option maxHeartbeats 4000000 in
/-- The values' array after the run. -/
theorem final8 (c : Dev nD) : (dats m 0 c).arrAt 8 (cfgs 0).N
    = Cert.Reference3Ideal.Rows.cols1024 (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  frame_out
  obtain ⟨r, l, rfl⟩ : ∃ (r : Fin 256) (l : Fin 512), y = ix2 r l := ⟨y 0, y 1, eq_ix2 y⟩
  refine (Rows.pay4_row _ _ _ r l).trans ?_
  have hw : ∀ (k : Fin 1024) (j : Fin 512), View.ld (iblk m c 2 t) r0_6 (ix2 k j)
      = (m ((c : Thread nD τ).loc main_arg2)) (ix2 k ⟨1024 + j.val, by omega⟩) := by
    intro k j
    pointwise []
    rw [read2]
  have hy : ((View.whole main_v19_2).slice (win0_8.rect t)).emb (ix2 r l) = ix2 (row t r) l := by
    unfold row
    blk_ext [idx t]
  rw [hy]
  simp only [Cert.Reference3Ideal.Rows.cols1024_at, read0, read1]
  simp only [hw]

set_option maxHeartbeats 4000000 in
/-- The array of the state space's inputs after the run. -/
theorem final9 (c : Dev nD) : (dats m 0 c).arrAt 9 (cfgs 0).N
    = Cert.Reference3Ideal.Rows.cols1536 (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  frame_out
  unfold k0_pay8
  frame_out
  obtain ⟨r, l, rfl⟩ : ∃ (r : Fin 256) (l : Fin 512), y = ix2 r l := ⟨y 0, y 1, eq_ix2 y⟩
  refine (Rows.pay6_row _ _ _ r l).trans ?_
  have hw : ∀ (k : Fin 1024) (j : Fin 512), View.ld (iblk m c 2 t) r0_8 (ix2 k j)
      = (m ((c : Thread nD τ).loc main_arg2)) (ix2 k ⟨1536 + j.val, by omega⟩) := by
    intro k j
    pointwise []
    rw [read2]
  have hy : ((View.whole main_v19_3).slice (win0_9.rect t)).emb (ix2 r l) = ix2 (row t r) l := by
    unfold row
    blk_ext [idx t]
  rw [hy]
  simp only [Cert.Reference3Ideal.Rows.cols1536_at, read0, read1]
  simp only [hw]

set_option maxHeartbeats 4000000 in
/-- The attention gates' array after the run. -/
theorem final10 (c : Dev nD) : (dats m 0 c).arrAt 10 (cfgs 0).N
    = Cert.Reference3Ideal.Rows.sigmOf (Cert.Reference3Ideal.Rows.cols2048 (m ((c : Thread nD τ).loc main_arg0)) (m ((c : Thread nD τ).loc main_arg1)) (m ((c : Thread nD τ).loc main_arg2))) := by
  refine (dats m 0 c).arrAt_eq_of_covers 10 _ (by decide +kernel) fun t _ y => ?_
  blk_simp
  rw [after0_10]
  frame_out
  unfold k0_pay8
  frame_out
  obtain ⟨r, l, rfl⟩ : ∃ (r : Fin 256) (l : Fin 1024), y = ix2 r l := ⟨y 0, y 1, eq_ix2 y⟩
  refine (Rows.pay7_row _ _ _ r l).trans ?_
  have hw : ∀ (k : Fin 1024) (j : Fin 1024), View.ld (iblk m c 2 t) r0_9 (ix2 k j)
      = (m ((c : Thread nD τ).loc main_arg2)) (ix2 k ⟨2048 + j.val, by omega⟩) := by
    intro k j
    pointwise []
    rw [read2]
  have hy : ((View.whole main_v19_4).slice (win0_10.rect t)).emb (ix2 r l) = ix2 (row t r) l := by
    unfold row
    blk_ext [idx t]
  rw [hy]
  simp only [Cert.Reference3Ideal.Rows.sigmOf_at, Cert.Reference3Ideal.Rows.cols2048_at, read0, read1]
  simp only [hw]

set_option maxHeartbeats 4000000 in
/-- The state-space gates' array after the run. -/
theorem final11 (c : Dev nD) : (dats m 0 c).arrAt 11 (cfgs 0).N
    = Cert.Reference3Ideal.Rows.sigmOf (Cert.Reference3Ideal.Rows.cols3072 (m ((c : Thread nD τ).loc main_arg0)) (m ((c : Thread nD τ).loc main_arg1)) (m ((c : Thread nD τ).loc main_arg2))) := by
  refine (dats m 0 c).arrAt_eq_of_covers 11 _ (by decide +kernel) fun t _ y => ?_
  blk_simp
  rw [after0_11]
  frame_out
  unfold k0_pay8
  frame_out
  obtain ⟨r, l, rfl⟩ : ∃ (r : Fin 256) (l : Fin 1024), y = ix2 r l := ⟨y 0, y 1, eq_ix2 y⟩
  refine (Rows.pay1_row _ _ _ r l).trans ?_
  have hw : ∀ (k : Fin 1024) (j : Fin 1024), View.ld (iblk m c 2 t) r0_10 (ix2 k j)
      = (m ((c : Thread nD τ).loc main_arg2)) (ix2 k ⟨3072 + j.val, by omega⟩) := by
    intro k j
    pointwise []
    rw [read2]
  have hy : ((View.whole main_v19_5).slice (win0_11.rect t)).emb (ix2 r l) = ix2 (row t r) l := by
    unfold row
    blk_ext [idx t]
  rw [hy]
  simp only [Cert.Reference3Ideal.Rows.sigmOf_at, Cert.Reference3Ideal.Rows.cols3072_at, read0, read1]
  simp only [hw]

end Cert.Kernel3Ideal.Final

end
-- ==== Proof.InClaim.lean ====
/- The claims about the input projection: its reference's frame, its named constant, and that kernel and reference compute the same six arrays. -/
module

public import proofs.«01_k».proof.Defs
public import proofs.«01_k».proof.Proof.InValue

@[expose] public section

noncomputable section

namespace Cert.Proof.InClaim

open Idealize.ShloMosaic Idealize.SL.Sem

/-- The reference runs, leaving its arguments and every counter as they were. -/
theorem reference_frame : Cert.quiescent_Reference3Ideal (hReference3Ideal := Cert.Reference3Ideal.Gen.facts) := fun m g _ =>
  (θ_run Cert.Reference3Ideal.defs _ _).mono (fun r h => ⟨fun c => (h c).2.2.2.2.2.2,
      Idealize.ShloMosaic.sem_eq_zero_of_no_sems (by decide) r.2⟩)
    (Cert.Reference3Ideal.Rows.run m g)

/-- The idealized kernel is the kernel with one literal named. -/
theorem kept : Cert.preserves_Kernel3_Kernel3Ideal :=
  IdealRules.named_const.statement Cert.Kernel3Ideal.κ "q_scale" .f32 0xBE38AA3B#32 _ rfl

/-- Kernel and reference end with the same queries, keys, values, state-space inputs and gates. -/
theorem equal : Cert.algebraic_Kernel3Ideal_Reference3Ideal (hKernel3Ideal := Cert.Kernel3Ideal.Gen.facts)
    (hReference3Ideal := Cert.Reference3Ideal.Gen.facts) := by
  pair_intro
  · run_from Cert.Kernel3Ideal.Value.run_blocks m g
  · run_from Cert.Reference3Ideal.Rows.run m' g'
    · exact (Cert.Kernel3Ideal.Final.final6 m c).symm
    · exact (Cert.Kernel3Ideal.Final.final7 m c).symm
    · exact (Cert.Kernel3Ideal.Final.final8 m c).symm
    · exact (Cert.Kernel3Ideal.Final.final9 m c).symm
    · exact (Cert.Kernel3Ideal.Final.final10 m c).symm
    · exact (Cert.Kernel3Ideal.Final.final11 m c).symm

end Cert.Proof.InClaim

end
-- ==== Proof.PromptKernel.lean ====
/- What one grid point of the prompt's input projection stores, row by row, in the terms of `InMath`. -/
module

public import proofs.«01_k».proof.Proof.Gen.Kernel4Ideal.Skeleton
public import proofs.«01_k».proof.Proof.InMath

@[expose] public section

set_option maxRecDepth 16384

noncomputable section

namespace Cert.Kernel4Ideal.Rows

open Cert.Kernel4Ideal Cert.Kernel4Ideal.Gen Idealize.ShloMosaic Idealize.ShloMosaic.TcCoe Idealize.SL.Sem
open Cert.PostMath Cert.InMath

/-- The normalised row. -/
theorem pay4_row (x : Vec Ideal S256x1024 .f32) (g : Vec Ideal S1x1024 .f32) (r : Fin 256) (l : Fin 1024) :
    k0_pay4 (F := Ideal) x g (ix2 r l) = rmsRow (fun k => g (ix2 0 k)) (fun k => x (ix2 r k)) l := by
  pointwise [k0_pay4]
  rfl

/-- The keys and values, features first: the four blocks of 256 feature rows, one under the other. -/
theorem pay5_row (x : Vec Ideal S256x1024 .f32) (gx : Vec Ideal S1x1024 .f32) (w0 w1 w2 w3 : Vec Ideal S256x1024 .bf16)
    (W : Fin 1024 → Fin 1024 → EReal)
    (h0 : ∀ (j : Fin 256) (k : Fin 1024), w0 (ix2 j k) = W k ⟨j.val, by omega⟩)
    (h1 : ∀ (j : Fin 256) (k : Fin 1024), w1 (ix2 j k) = W k ⟨256 + j.val, by omega⟩)
    (h2 : ∀ (j : Fin 256) (k : Fin 1024), w2 (ix2 j k) = W k ⟨512 + j.val, by omega⟩)
    (h3 : ∀ (j : Fin 256) (k : Fin 1024), w3 (ix2 j k) = W k ⟨768 + j.val, by omega⟩) (j : Fin 1024) (r : Fin 256) :
    k0_pay5 (F := Ideal) x gx w0 w1 w2 w3 (ix2 j r)
      = dotCol (rmsRow (fun k => gx (ix2 0 k)) (fun k => x (ix2 r k))) W j := by
  pointwise [k0_pay5, pay4_row]
  unfold dotCol
  split
  · exact Finset.sum_congr rfl fun k _ => by rw [h0, mul_comm]
  split
  · refine Finset.sum_congr rfl fun k _ => ?_
    rw [h1, mul_comm]
    congr 2
    ext
    show 256 + (j.val - 256) = j.val
    omega
  split
  · refine Finset.sum_congr rfl fun k _ => ?_
    rw [h2, mul_comm]
    congr 2
    ext
    show 512 + (j.val - 256 - 256) = j.val
    omega
  · refine Finset.sum_congr rfl fun k _ => ?_
    rw [h3, mul_comm]
    congr 2
    ext
    show 768 + (j.val - 256 - 256 - 256) = j.val
    omega

/-- The block-diagonal matrix times a column of squares is the mean over each lane's own head. -/
theorem head_mean_left (p : Fin 512 → EReal) (l : Fin 512) :
    ∑ k : Fin 512, (if l.val / 64 = k.val / 64 then Ideal.ofBits .f32 0x3C800000#32 else 0) * (p k * p k)
      = Ideal.div (∑ d : Fin 64, p ⟨l.val / 64 * 64 + d.val, by omega⟩ * p ⟨l.val / 64 * 64 + d.val, by omega⟩)
          (Ideal.ofBits .f32 0x42800000#32) := by
  rw [← head_mean]
  exact Finset.sum_congr rfl fun k _ => by simp only [mul_comm, eq_comm (a := l.val / 64)]

/-- The keys, features first: projected, each head normalised. -/
theorem pay9_row (x : Vec Ideal S256x1024 .f32) (gx : Vec Ideal S1x1024 .f32) (w0 w1 w2 w3 : Vec Ideal S256x1024 .bf16)
    (bd : Vec Ideal S512x512 .bf16) (g : Vec Ideal S512x1 .f32) (gh : Fin 64 → EReal) (W : Fin 1024 → Fin 1024 → EReal)
    (h0 : ∀ (j : Fin 256) (k : Fin 1024), w0 (ix2 j k) = W k ⟨j.val, by omega⟩)
    (h1 : ∀ (j : Fin 256) (k : Fin 1024), w1 (ix2 j k) = W k ⟨256 + j.val, by omega⟩)
    (h2 : ∀ (j : Fin 256) (k : Fin 1024), w2 (ix2 j k) = W k ⟨512 + j.val, by omega⟩)
    (h3 : ∀ (j : Fin 256) (k : Fin 1024), w3 (ix2 j k) = W k ⟨768 + j.val, by omega⟩)
    (hbd : ∀ k l : Fin 512, bd (ix2 k l) = if k.val / 64 = l.val / 64 then Ideal.ofBits .f32 0x3C800000#32 else 0)
    (hg : ∀ l : Fin 512, g (ix2 l 0) = gh ⟨l.val % 64, by omega⟩) (l : Fin 512) (r : Fin 256) :
    k0_pay9 (F := Ideal) (k0_pay6 x gx w0 w1 w2 w3) (k0_pay7 x gx w0 w1 w2 w3 bd) k0_pay8 g (ix4 0 0 l r)
      = headNorm gh (dotCol (rmsRow (fun k => gx (ix2 0 k)) (fun k => x (ix2 r k)))
          (fun k (j : Fin 512) => W k ⟨j.val, by omega⟩)) l := by
  have h6 : ∀ l : Fin 512, k0_pay6 (F := Ideal) x gx w0 w1 w2 w3 (ix2 l r)
      = dotCol (rmsRow (fun k => gx (ix2 0 k)) (fun k => x (ix2 r k))) (fun k (j : Fin 512) => W k ⟨j.val, by omega⟩) l := by
    intro l
    pointwise [k0_pay6, pay5_row x gx w0 w1 w2 w3 W h0 h1 h2 h3]
    rfl
  rw [headNorm, ← head_mean_left, ← hg]
  simp only [← hbd, ← h6]
  pointwise [k0_pay9, k0_pay7, k0_pay8]

/-- The values, features first: projected. -/
theorem pay10_row (x : Vec Ideal S256x1024 .f32) (gx : Vec Ideal S1x1024 .f32) (w0 w1 w2 w3 : Vec Ideal S256x1024 .bf16)
    (W : Fin 1024 → Fin 1024 → EReal)
    (h0 : ∀ (j : Fin 256) (k : Fin 1024), w0 (ix2 j k) = W k ⟨j.val, by omega⟩)
    (h1 : ∀ (j : Fin 256) (k : Fin 1024), w1 (ix2 j k) = W k ⟨256 + j.val, by omega⟩)
    (h2 : ∀ (j : Fin 256) (k : Fin 1024), w2 (ix2 j k) = W k ⟨512 + j.val, by omega⟩)
    (h3 : ∀ (j : Fin 256) (k : Fin 1024), w3 (ix2 j k) = W k ⟨768 + j.val, by omega⟩) (l : Fin 512) (r : Fin 256) :
    k0_pay10 (F := Ideal) (k0_pay5 x gx w0 w1 w2 w3) (ix4 0 0 l r)
      = dotCol (rmsRow (fun k => gx (ix2 0 k)) (fun k => x (ix2 r k)))
          (fun k (j : Fin 512) => W k ⟨512 + j.val, by omega⟩) l := by
  pointwise [k0_pay10, pay5_row x gx w0 w1 w2 w3 W h0 h1 h2 h3]
  rfl

/-- The queries: projected, each head normalised, scaled. -/
theorem pay11_row (x : Vec Ideal S256x1024 .f32) (gx : Vec Ideal S1x1024 .f32) (w : Vec Ideal S1024x512 .bf16)
    (bd : Vec Ideal S512x512 .bf16) (g : Vec Ideal S1x512 .f32) (gh : Fin 64 → EReal)
    (hbd : ∀ k l : Fin 512, bd (ix2 k l) = if k.val / 64 = l.val / 64 then Ideal.ofBits .f32 0x3C800000#32 else 0)
    (hg : ∀ l : Fin 512, g (ix2 0 l) = gh ⟨l.val % 64, by omega⟩) (r : Fin 256) (l : Fin 512) :
    k0_pay11 (F := Ideal) (k0_pay4 (F := Ideal) x gx) w bd g (ix2 r l)
      = scaled (headNorm gh (dotCol (rmsRow (fun k => gx (ix2 0 k)) (fun k => x (ix2 r k))) (fun k j => w (ix2 k j))) l) := by
  have hs : (Named.named κ "q_scale" 0xBE38AA3B#32 : Ideal .f32) = ((-(8⁻¹ * (Real.log 2)⁻¹) : ℝ) : EReal) :=
    IdealRules.named_const.ideal_named_scalar _ _ _ _ rfl
  rw [← mul_scale, headNorm, ← head_mean, ← hg]
  simp only [← hbd]
  pointwise [k0_pay11, pay4_row]
  rw [hs]
  rfl

/-- The state-space inputs: projected. -/
theorem pay1_row (x : Vec Ideal S256x1024 .f32) (gx : Vec Ideal S1x1024 .f32) (w : Vec Ideal S1024x512 .bf16)
    (r : Fin 256) (l : Fin 512) :
    k0_pay1 (F := Ideal) (k0_pay4 (F := Ideal) x gx) w (ix2 r l)
      = dotCol (rmsRow (fun k => gx (ix2 0 k)) (fun k => x (ix2 r k))) (fun k j => w (ix2 k j)) l := by
  pointwise [k0_pay1, pay4_row]
  rfl

/-- The attention gate: projected, through the sigmoid. -/
theorem pay2_row (x : Vec Ideal S256x1024 .f32) (gx : Vec Ideal S1x1024 .f32) (w : Vec Ideal S1024x1024 .bf16)
    (r : Fin 256) (l : Fin 1024) :
    k0_pay2 (F := Ideal) (k0_pay4 (F := Ideal) x gx) w (ix2 r l)
      = sigm (dotCol (rmsRow (fun k => gx (ix2 0 k)) (fun k => x (ix2 r k))) (fun k j => w (ix2 k j)) l) := by
  pointwise [k0_pay2, pay4_row]
  rfl

/-- The state-space gate: projected, through the sigmoid. -/
theorem pay3_row (x : Vec Ideal S256x1024 .f32) (gx : Vec Ideal S1x1024 .f32) (w : Vec Ideal S1024x1024 .bf16)
    (r : Fin 256) (l : Fin 1024) :
    k0_pay3 (F := Ideal) (k0_pay4 (F := Ideal) x gx) w (ix2 r l)
      = sigm (dotCol (rmsRow (fun k => gx (ix2 0 k)) (fun k => x (ix2 r k))) (fun k j => w (ix2 k j)) l) := by
  pointwise [k0_pay3, pay4_row]
  rfl

end Cert.Kernel4Ideal.Rows

end
-- ==== Proof.PromptReference.lean ====
/- The reference of the prompt's input projection, stage by stage and row by row, in the terms of `InMath`, and its run. -/
module

public import proofs.«01_k».proof.Proof.Gen.Reference4Ideal
public import Idealize.ShloMosaic.Lib.Claim
public import proofs.«01_k».proof.Proof.InMath

@[expose] public section

set_option maxRecDepth 16384

noncomputable section

namespace Cert.Reference4Ideal.Rows

open Cert.Reference4Ideal Cert.Reference4Ideal.Gen Idealize.ShloMosaic Idealize.ShloMosaic.TcCoe
open Idealize.SL.Sem Idealize.ShloMosaic.StableHlo Cert.PostMath Cert.InMath

/-- The normalised rows. -/
def rmsOf (x : FVec Ideal S16384x1024 .f32) (g : FVec Ideal S1024 .f32) : FVec Ideal S16384x1024 .f32 :=
  mulf (mulf x (broadcastInDim S16384x1024 ![0, 1] bcast_S16384x1_S16384x1024_0_1
      (Host.rsqrt (addf (Host.divf (broadcastInDim S16384x1 ![0] bcast_S16384_S16384x1_0
          (Host.reduceAdd (mulf x x) (constant S_ .f32 0x00000000#32) reducesTo_S16384x1024_S16384_d1 h_S_))
        (broadcastInDim S16384x1 ![] bcast_S_S16384x1 (constant S_ .f32 0x44800000#32)))
        (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

theorem rmsOf_at (x : FVec Ideal S16384x1024 .f32) (g : FVec Ideal S1024 .f32) (r : Fin 16384) (l : Fin 1024) :
    rmsOf x g (ix2 r l) = rmsRow (fun k => g (ix1 k)) (fun k => x (ix2 r k)) l := by
  pointwise [rmsOf]
  rfl

/-- The whole projection, of 4096 columns. -/
def projected (x0 : FVec Ideal S16384x1024 .f32) (x1 : FVec Ideal S1024 .f32) (x2 : FVec Ideal S1024x4096 .f32) :
    FVec Ideal S16384x4096 .f32 :=
  Host.dotGeneral dot_S16384x1024_S1024x4096_S16384x4096_1_0_0_1_n_n none (rmsOf x0 x1) x2

theorem projected_at (x0 : FVec Ideal S16384x1024 .f32) (x1 : FVec Ideal S1024 .f32) (x2 : FVec Ideal S1024x4096 .f32)
    (r : Fin 16384) (l : Fin 4096) :
    projected x0 x1 x2 (ix2 r l)
      = dotCol (rmsRow (fun k => x1 (ix1 k)) (fun k => x0 (ix2 r k))) (fun k j => x2 (ix2 k j)) l := by
  pointwise [projected, rmsOf_at]
  rfl

/-- The columns `0` to `511` of the projection. -/
def cols0 (x0 : FVec Ideal S16384x1024 .f32) (x1 : FVec Ideal S1024 .f32) (x2 : FVec Ideal S1024x4096 .f32) :
    FVec Ideal S16384x512 .f32 :=
  extractStridedSlice S16384x512 ![0, 0] (projected x0 x1 x2) slices_S16384x4096_S16384x512_0_0

theorem cols0_at (x0 : FVec Ideal S16384x1024 .f32) (x1 : FVec Ideal S1024 .f32) (x2 : FVec Ideal S1024x4096 .f32)
    (r : Fin 16384) (l : Fin 512) :
    cols0 x0 x1 x2 (ix2 r l) = dotCol (rmsRow (fun k => x1 (ix1 k)) (fun k => x0 (ix2 r k)))
      (fun (k : Fin 1024) (j : Fin 512) => x2 (ix2 k ⟨0 + j.val, by omega⟩)) l := by
  pointwise [cols0, projected_at]
  rfl

/-- The columns `512` to `1023` of the projection. -/
def cols512 (x0 : FVec Ideal S16384x1024 .f32) (x1 : FVec Ideal S1024 .f32) (x2 : FVec Ideal S1024x4096 .f32) :
    FVec Ideal S16384x512 .f32 :=
  extractStridedSlice S16384x512 ![0, 512] (projected x0 x1 x2) slices_S16384x4096_S16384x512_0_512

theorem cols512_at (x0 : FVec Ideal S16384x1024 .f32) (x1 : FVec Ideal S1024 .f32) (x2 : FVec Ideal S1024x4096 .f32)
    (r : Fin 16384) (l : Fin 512) :
    cols512 x0 x1 x2 (ix2 r l) = dotCol (rmsRow (fun k => x1 (ix1 k)) (fun k => x0 (ix2 r k)))
      (fun (k : Fin 1024) (j : Fin 512) => x2 (ix2 k ⟨512 + j.val, by omega⟩)) l := by
  pointwise [cols512, projected_at]
  rfl

/-- The columns `1024` to `1535` of the projection. -/
def cols1024 (x0 : FVec Ideal S16384x1024 .f32) (x1 : FVec Ideal S1024 .f32) (x2 : FVec Ideal S1024x4096 .f32) :
    FVec Ideal S16384x512 .f32 :=
  extractStridedSlice S16384x512 ![0, 1024] (projected x0 x1 x2) slices_S16384x4096_S16384x512_0_1024

theorem cols1024_at (x0 : FVec Ideal S16384x1024 .f32) (x1 : FVec Ideal S1024 .f32) (x2 : FVec Ideal S1024x4096 .f32)
    (r : Fin 16384) (l : Fin 512) :
    cols1024 x0 x1 x2 (ix2 r l) = dotCol (rmsRow (fun k => x1 (ix1 k)) (fun k => x0 (ix2 r k)))
      (fun (k : Fin 1024) (j : Fin 512) => x2 (ix2 k ⟨1024 + j.val, by omega⟩)) l := by
  pointwise [cols1024, projected_at]
  rfl

/-- The columns `1536` to `2047` of the projection. -/
def cols1536 (x0 : FVec Ideal S16384x1024 .f32) (x1 : FVec Ideal S1024 .f32) (x2 : FVec Ideal S1024x4096 .f32) :
    FVec Ideal S16384x512 .f32 :=
  extractStridedSlice S16384x512 ![0, 1536] (projected x0 x1 x2) slices_S16384x4096_S16384x512_0_1536

theorem cols1536_at (x0 : FVec Ideal S16384x1024 .f32) (x1 : FVec Ideal S1024 .f32) (x2 : FVec Ideal S1024x4096 .f32)
    (r : Fin 16384) (l : Fin 512) :
    cols1536 x0 x1 x2 (ix2 r l) = dotCol (rmsRow (fun k => x1 (ix1 k)) (fun k => x0 (ix2 r k)))
      (fun (k : Fin 1024) (j : Fin 512) => x2 (ix2 k ⟨1536 + j.val, by omega⟩)) l := by
  pointwise [cols1536, projected_at]
  rfl

/-- The columns `2048` to `3071` of the projection. -/
def cols2048 (x0 : FVec Ideal S16384x1024 .f32) (x1 : FVec Ideal S1024 .f32) (x2 : FVec Ideal S1024x4096 .f32) :
    FVec Ideal S16384x1024 .f32 :=
  extractStridedSlice S16384x1024 ![0, 2048] (projected x0 x1 x2) slices_S16384x4096_S16384x1024_0_2048

theorem cols2048_at (x0 : FVec Ideal S16384x1024 .f32) (x1 : FVec Ideal S1024 .f32) (x2 : FVec Ideal S1024x4096 .f32)
    (r : Fin 16384) (l : Fin 1024) :
    cols2048 x0 x1 x2 (ix2 r l) = dotCol (rmsRow (fun k => x1 (ix1 k)) (fun k => x0 (ix2 r k)))
      (fun (k : Fin 1024) (j : Fin 1024) => x2 (ix2 k ⟨2048 + j.val, by omega⟩)) l := by
  pointwise [cols2048, projected_at]
  rfl

/-- The columns `3072` to `4095` of the projection. -/
def cols3072 (x0 : FVec Ideal S16384x1024 .f32) (x1 : FVec Ideal S1024 .f32) (x2 : FVec Ideal S1024x4096 .f32) :
    FVec Ideal S16384x1024 .f32 :=
  extractStridedSlice S16384x1024 ![0, 3072] (projected x0 x1 x2) slices_S16384x4096_S16384x1024_0_3072

theorem cols3072_at (x0 : FVec Ideal S16384x1024 .f32) (x1 : FVec Ideal S1024 .f32) (x2 : FVec Ideal S1024x4096 .f32)
    (r : Fin 16384) (l : Fin 1024) :
    cols3072 x0 x1 x2 (ix2 r l) = dotCol (rmsRow (fun k => x1 (ix1 k)) (fun k => x0 (ix2 r k)))
      (fun (k : Fin 1024) (j : Fin 1024) => x2 (ix2 k ⟨3072 + j.val, by omega⟩)) l := by
  pointwise [cols3072, projected_at]
  rfl

/-- Each head's lanes normalised, times a gain. -/
def headOf (p : FVec Ideal S16384x512 .f32) (g : FVec Ideal S64 .f32) : FVec Ideal S16384x512 .f32 :=
  shapeCast S16384x512 (mulf (mulf (shapeCast S16384x8x64 p shapeCasts_S16384x512_S16384x8x64)
      (broadcastInDim S16384x8x64 ![0, 1, 2] bcast_S16384x8x1_S16384x8x64_0_1_2
        (Host.rsqrt (addf (Host.divf (broadcastInDim S16384x8x1 ![0, 1] bcast_S16384x8_S16384x8x1_0_1
            (Host.reduceAdd (mulf (shapeCast S16384x8x64 p shapeCasts_S16384x512_S16384x8x64)
              (shapeCast S16384x8x64 p shapeCasts_S16384x512_S16384x8x64))
              (constant S_ .f32 0x00000000#32) reducesTo_S16384x8x64_S16384x8_d2 h_S_))
          (broadcastInDim S16384x8x1 ![] bcast_S_S16384x8x1 (constant S_ .f32 0x42800000#32)))
          (broadcastInDim S16384x8x1 ![] bcast_S_S16384x8x1 (constant S_ .f32 0x358637BD#32))))))
      (broadcastInDim S16384x8x64 ![0, 1, 2] bcast_S1x1x64_S16384x8x64_0_1_2 (broadcastInDim S1x1x64 ![2] bcast_S64_S1x1x64_2 g)))
    shapeCasts_S16384x8x64_S16384x512

theorem headOf_at (p : FVec Ideal S16384x512 .f32) (g : FVec Ideal S64 .f32) (r : Fin 16384) (l : Fin 512) :
    headOf p g (ix2 r l) = headNorm (fun k => g (ix1 k)) (fun k => p (ix2 r k)) l := by
  pointwise [headOf]
  rfl

/-- The queries' scaling. -/
def scaleOf (p : FVec Ideal S16384x512 .f32) : FVec Ideal S16384x512 .bf16 :=
  truncf .bf16 (Host.divf (Host.negf (mulf p (broadcastInDim S16384x512 ![] bcast_S_S16384x512 (constant S_ .f32 0x3E000000#32))))
    (broadcastInDim S16384x512 ![] bcast_S_S16384x512 (Host.log (constant S_ .f32 0x40000000#32)))) bitsLt_bf16_f32

theorem scaleOf_at (p : FVec Ideal S16384x512 .f32) (r : Fin 16384) (l : Fin 512) :
    scaleOf p (ix2 r l) = scaled (p (ix2 r l)) := by
  pointwise [scaleOf]
  rfl

/-- A gate's sigmoid. -/
def sigmOf (a : FVec Ideal S16384x1024 .f32) : FVec Ideal S16384x1024 .bf16 :=
  truncf .bf16 (Host.divf (broadcastInDim S16384x1024 ![] bcast_S_S16384x1024 (constant S_ .f32 0x3F800000#32))
    (addf (broadcastInDim S16384x1024 ![] bcast_S_S16384x1024 (constant S_ .f32 0x3F800000#32)) (Host.exp (Host.negf a)))) bitsLt_bf16_f32

theorem sigmOf_at (a : FVec Ideal S16384x1024 .f32) (r : Fin 16384) (l : Fin 1024) : sigmOf a (ix2 r l) = sigm (a (ix2 r l)) := by
  pointwise [sigmOf]
  rfl

/-- Each head's lanes of the keys normalised, times a gain: token by token in four sequences. -/
def keysOf (p : FVec Ideal S16384x512 .f32) (g : FVec Ideal S64 .f32) : FVec Ideal S4x4096x8x64 .f32 :=
  mulf (mulf (shapeCast S4x4096x8x64 p shapeCasts_S16384x512_S4x4096x8x64)
      (broadcastInDim S4x4096x8x64 ![0, 1, 2, 3] bcast_S4x4096x8x1_S4x4096x8x64_0_1_2_3
        (Host.rsqrt (addf (Host.divf (broadcastInDim S4x4096x8x1 ![0, 1, 2] bcast_S4x4096x8_S4x4096x8x1_0_1_2
            (Host.reduceAdd (mulf (shapeCast S4x4096x8x64 p shapeCasts_S16384x512_S4x4096x8x64)
              (shapeCast S4x4096x8x64 p shapeCasts_S16384x512_S4x4096x8x64))
              (constant S_ .f32 0x00000000#32) reducesTo_S4x4096x8x64_S4x4096x8_d3 h_S_))
          (broadcastInDim S4x4096x8x1 ![] bcast_S_S4x4096x8x1 (constant S_ .f32 0x42800000#32)))
          (broadcastInDim S4x4096x8x1 ![] bcast_S_S4x4096x8x1 (constant S_ .f32 0x358637BD#32))))))
    (broadcastInDim S4x4096x8x64 ![0, 1, 2, 3] bcast_S1x1x1x64_S4x4096x8x64_0_1_2_3 (broadcastInDim S1x1x1x64 ![3] bcast_S64_S1x1x1x64_3 g))

/-- The row of a sequence's token. -/
def token (b : Fin 4) (s : Fin 4096) : Fin 16384 := ⟨b.val * 4096 + s.val, by omega⟩

/-- One layer's keys or values, features first, put behind the layer before's. -/
def stacked (first : FVec Ideal S2x4x512x4096 .f32) (a : FVec Ideal S4x4096x8x64 .f32) : FVec Ideal S2x4x512x4096 .f32 :=
  concatenate S2x4x512x4096 0
    [⟨S1x4x512x4096, broadcastInDim S1x4x512x4096 ![1, 2, 3] bcast_S4x512x4096_S1x4x512x4096_1_2_3
        (shapeCast S4x512x4096 (extractStridedSlice S1x4x512x4096 ![0, 0, 0, 0] first slices_S2x4x512x4096_S1x4x512x4096_0_0_0_0)
          shapeCasts_S1x4x512x4096_S4x512x4096)⟩,
     ⟨S1x4x512x4096, broadcastInDim S1x4x512x4096 ![1, 2, 3] bcast_S4x512x4096_S1x4x512x4096_1_2_3
        (transpose S4x512x4096 [0, 2, 1] (shapeCast S4x4096x512 a shapeCasts_S4x4096x8x64_S4x4096x512)
          transposes_S4x4096x512_S4x512x4096_0_2_1)⟩]
    concatenates_S1x4x512x4096_S1x4x512x4096_S2x4x512x4096_d0

/-- The first layer's slot is what it was. -/
theorem stacked_first (first : FVec Ideal S2x4x512x4096 .f32) (a : FVec Ideal S4x4096x8x64 .f32) (b : Fin 4) (l : Fin 512)
    (s : Fin 4096) : stacked first a (ix4 0 b l s) = first (ix4 0 b l s) := by
  pointwise [stacked]

/-- The second layer's slot of keys. -/
theorem stacked_keys (first : FVec Ideal S2x4x512x4096 .f32) (p : FVec Ideal S16384x512 .f32) (g : FVec Ideal S64 .f32)
    (b : Fin 4) (l : Fin 512) (s : Fin 4096) :
    stacked first (keysOf p g) (ix4 1 b l s) = headNorm (fun k => g (ix1 k)) (fun k => p (ix2 (token b s) k)) l := by
  unfold token
  pointwise [stacked, keysOf]
  rfl

/-- The second layer's slot of values. -/
theorem stacked_values (first : FVec Ideal S2x4x512x4096 .f32) (p : FVec Ideal S16384x512 .f32)
    (b : Fin 4) (l : Fin 512) (s : Fin 4096) :
    stacked first (shapeCast S4x4096x8x64 p shapeCasts_S16384x512_S4x4096x8x64) (ix4 1 b l s) = p (ix2 (token b s) l) := by
  unfold token
  pointwise [stacked]

set_option maxHeartbeats 4000000 in
/-- The reference's run: its six results are the stages above of its arguments, and the arguments are unchanged. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v56) = scaleOf (headOf (cols0 (m ((c.tc : Thread nD τ).loc main_arg0)) (m ((c.tc : Thread nD τ).loc main_arg1)) (m ((c.tc : Thread nD τ).loc main_arg2))) (m ((c.tc : Thread nD τ).loc main_arg3)))
      ∧ r.2.mem ((c.tc : Thread nD τ).loc main_v63) = stacked (m ((c.tc : Thread nD τ).loc main_arg5)) (keysOf (cols512 (m ((c.tc : Thread nD τ).loc main_arg0)) (m ((c.tc : Thread nD τ).loc main_arg1)) (m ((c.tc : Thread nD τ).loc main_arg2))) (m ((c.tc : Thread nD τ).loc main_arg4)))
      ∧ r.2.mem ((c.tc : Thread nD τ).loc main_v70) = stacked (m ((c.tc : Thread nD τ).loc main_arg6)) (shapeCast S4x4096x8x64 (cols1024 (m ((c.tc : Thread nD τ).loc main_arg0)) (m ((c.tc : Thread nD τ).loc main_arg1)) (m ((c.tc : Thread nD τ).loc main_arg2))) shapeCasts_S16384x512_S4x4096x8x64)
      ∧ r.2.mem ((c.tc : Thread nD τ).loc main_v17) = cols1536 (m ((c.tc : Thread nD τ).loc main_arg0)) (m ((c.tc : Thread nD τ).loc main_arg1)) (m ((c.tc : Thread nD τ).loc main_arg2))
      ∧ r.2.mem ((c.tc : Thread nD τ).loc main_v77) = sigmOf (cols2048 (m ((c.tc : Thread nD τ).loc main_arg0)) (m ((c.tc : Thread nD τ).loc main_arg1)) (m ((c.tc : Thread nD τ).loc main_arg2)))
      ∧ r.2.mem ((c.tc : Thread nD τ).loc main_v84) = sigmOf (cols3072 (m ((c.tc : Thread nD τ).loc main_arg0)) (m ((c.tc : Thread nD τ).loc main_arg1)) (m ((c.tc : Thread nD τ).loc main_arg2)))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6)) := by
  hlo_run <;> rfl

end Cert.Reference4Ideal.Rows

end
-- ==== Proof.PromptValue.lean ====
/- The value of the run of the prompt's input projection: its six result arrays are the reference's stages of its argument arrays. -/
module

public import proofs.«01_k».proof.Proof.Gen.Kernel4Ideal.Value
public import Idealize.ShloMosaic.Lib.Pipeline.ValueKit
public import Idealize.ShloMosaic.Lib.Claim
public import proofs.«01_k».proof.Proof.PromptKernel
public import proofs.«01_k».proof.Proof.PromptReference

@[expose] public section

set_option maxRecDepth 16384

noncomputable section

namespace Cert.Kernel4Ideal.Final

open Cert.Kernel4Ideal Cert.Kernel4Ideal.Gen Idealize.ShloMosaic Idealize.ShloMosaic.TcCoe Idealize.SL.Sem
open Idealize.ShloMosaic.Pipeline (Dat)
open Cert.PostMath Cert.InMath

variable (m : (ℓ : Loc nD τ sig) → Buf (Elt Ideal) ℓ)

/-- Where each window's block lies at a grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![1, t.val / 16, 0, t.val % 16]
    ∧ win0_9.index t = ![1, t.val / 16, 0, t.val % 16]
    ∧ win0_10.index t = ![t.val, 0] ∧ win0_11.index t = ![t.val, 0] ∧ win0_12.index t = ![t.val, 0] :=
  (by decide +kernel : ∀ t : Fin grid0.N, _)

/-- The host's cast of the projection weights leaves their values. -/
theorem entry9 (c : Dev nD) : V m c main_v9 = m ((c : Thread nD τ).loc main_arg2) := by
  entry_read
  rfl

/-- The host's reshape of the gain, at a column. -/
theorem entry20 (c : Dev nD) (l : Fin 1024) : V m c main_v20 (ix2 0 l) = m ((c : Thread nD τ).loc main_arg1) (ix1 l) := by
  simp only [V, hostOps0, hostOps0_1, hostOps0_2, hostOps0_3, hostOps0_4, List.flatten_cons, List.flatten_nil,
    List.append_nil, List.cons_append, List.nil_append]
  entry_read
  pointwise []

/-- The query gain repeated for each head, at a lane. -/
theorem entry15 (c : Dev nD) (l : Fin 512) :
    V m c main_v15 (ix2 0 l) = m ((c : Thread nD τ).loc main_arg3) (ix1 ⟨l.val % 64, by omega⟩) := by
  simp only [V, hostOps0, hostOps0_1, hostOps0_2, hostOps0_3, hostOps0_4, List.flatten_cons, List.flatten_nil,
    List.append_nil, List.cons_append, List.nil_append]
  entry_read
  pointwise []

/-- The key gain repeated for each head, at a lane. -/
theorem entry21 (c : Dev nD) (l : Fin 512) :
    V m c main_v21 (ix2 l 0) = m ((c : Thread nD τ).loc main_arg4) (ix1 ⟨l.val % 64, by omega⟩) := by
  simp only [V, hostOps0, hostOps0_1, hostOps0_2, hostOps0_3, hostOps0_4, List.flatten_cons, List.flatten_nil,
    List.append_nil, List.cons_append, List.nil_append]
  entry_read
  pointwise []

/-- The weights of keys and values, transposed. -/
theorem entry11 (c : Dev nD) (j k : Fin 1024) :
    V m c main_v11 (ix2 j k) = m ((c : Thread nD τ).loc main_arg2) (ix2 k ⟨512 + j.val, by omega⟩) := by
  simp only [V, hostOps0, hostOps0_1, hostOps0_2, hostOps0_3, hostOps0_4, List.flatten_cons, List.flatten_nil,
    List.append_nil, List.cons_append, List.nil_append]
  entry_read
  pointwise []

/-- The keys' array begins as a copy of the layer before's. -/
theorem entry22_1 (c : Dev nD) : V m c main_v22_1 = m ((c : Thread nD τ).loc main_arg5) := by
  entry_read
  rfl

/-- The values' array begins as a copy of the layer before's. -/
theorem entry22_2 (c : Dev nD) : V m c main_v22_2 = m ((c : Thread nD τ).loc main_arg6) := by
  entry_read
  rfl

/-- The number of each lane's head, as the host computes it: the lane's number floor-divided by 64. -/
def headIdx : IVec S512 32 :=
  select
    (andi
      (cmpi .ne (signi (iotaInDim S512 32 0)) (broadcastInDim S512 ![] bcast_S_S512 (signi (constantI S_ 32 64#32))))
      (cmpi .ne (Host.remsi (iotaInDim S512 32 0) (broadcastInDim S512 ![] bcast_S_S512 (constantI S_ 32 64#32)))
        (broadcastInDim S512 ![] bcast_S_S512 (constantI S_ 32 0#32))))
    (subi (Host.divsi (iotaInDim S512 32 0) (broadcastInDim S512 ![] bcast_S_S512 (constantI S_ 32 64#32)))
      (broadcastInDim S512 ![] bcast_S_S512 (constantI S_ 32 1#32)))
    (Host.divsi (iotaInDim S512 32 0) (broadcastInDim S512 ![] bcast_S_S512 (constantI S_ 32 64#32)))

theorem headIdx_at : ∀ l : Fin 512, headIdx (ix1 l) = BitVec.ofNat 32 (l.val / 64) := by
  decide +kernel

/-- The block-diagonal matrix over given head numbers. -/
def blockDiag (h : IVec S512 32) : FVec Ideal S512x512 .bf16 :=
  truncf .bf16
    (select
      (cmpi .eq
        (broadcastInDim S512x512 ![0, 1] bcast_S512x1_S512x512_0_1 (broadcastInDim S512x1 ![0] bcast_S512_S512x1_0 h))
        (broadcastInDim S512x512 ![0, 1] bcast_S1x512_S512x512_0_1 (broadcastInDim S1x512 ![1] bcast_S512_S1x512_1 h)))
      (broadcastInDim S512x512 ![] bcast_S_S512x512 (constant S_ .f32 0x3C800000#32))
      (broadcastInDim S512x512 ![] bcast_S_S512x512 (constant S_ .f32 0x00000000#32)))
    bitsLt_bf16_f32

theorem blockDiag_at (h : IVec S512 32) (k l : Fin 512) :
    blockDiag h (ix2 k l) = if h (ix1 k) = h (ix1 l) then Ideal.ofBits .f32 0x3C800000#32 else 0 := by
  pointwise [blockDiag]
  split_ifs with hh
  · simp [Scalar.select, IntOp.cmpi, hh]
  · simp [Scalar.select, IntOp.cmpi, beq_false_of_ne hh]

/-- The block-diagonal matrix the host builds: 1/64 where row and column lie in one head. -/
theorem entry8 (c : Dev nD) (k l : Fin 512) :
    V m c main_v8 (ix2 k l) = if k.val / 64 = l.val / 64 then Ideal.ofBits .f32 0x3C800000#32 else 0 := by
  have h : V m c main_v8 = blockDiag headIdx := by
    simp only [V, hostOps0, hostOps0_1, hostOps0_2, hostOps0_3, hostOps0_4, List.flatten_cons, List.flatten_nil,
      List.append_nil, List.cons_append, List.nil_append]
    entry_read
    simp only [StableHlo.TRef.ofBuf, StableHlo.TRef.toBuf, StableHlo.TRef.of, cast_eq]
    rfl
  rw [h, blockDiag_at, headIdx_at, headIdx_at]
  refine if_congr ?_ rfl rfl
  rw [BitVec.toNat_inj.symm, BitVec.toNat_ofNat, BitVec.toNat_ofNat]
  omega

/-- Row `r` of grid point `t`'s block of 256 rows. -/
def row (t : Fin cfg0.N) (r : Fin 256) : Fin 16384 :=
  ⟨256 * t.val + r.val, by have h : t.val < 64 := t.isLt; omega⟩

theorem read0 (c : Dev nD) (t : Fin cfg0.N) (r : Fin 256) (k : Fin 1024) :
    iblk m c 0 t (ix2 r k) = m ((c : Thread nD τ).loc main_arg0) (ix2 (row t r) k) := by
  unfold row
  blk_ext [iblk, V, idx t]

theorem read1 (c : Dev nD) (t : Fin cfg0.N) (k : Fin 1024) :
    iblk m c 1 t (ix2 0 k) = m ((c : Thread nD τ).loc main_arg1) (ix1 k) := by
  have h : ((cfg0.win 1).blk t).view.emb (ix2 0 k) = ix2 0 k := by blk_ext [idx t]
  show V m c main_v20 (((cfg0.win 1).blk t).view.emb (ix2 0 k)) = _
  rw [h, entry20]

theorem read2 (c : Dev nD) (t : Fin cfg0.N) (k : Fin 1024) (j : Fin 4096) :
    iblk m c 2 t (ix2 k j) = m ((c : Thread nD τ).loc main_arg2) (ix2 k j) := by
  rw [iblk, show V m c (Pipeline.arrRef spec0 2) = m ((c : Thread nD τ).loc main_arg2) from entry9 m c]
  blk_ext [idx t]

theorem read3 (c : Dev nD) (t : Fin cfg0.N) (k l : Fin 512) :
    iblk m c 3 t (ix2 k l) = if k.val / 64 = l.val / 64 then Ideal.ofBits .f32 0x3C800000#32 else 0 := by
  have h : ((cfg0.win 3).blk t).view.emb (ix2 k l) = ix2 k l := by blk_ext [idx t]
  show V m c main_v8 (((cfg0.win 3).blk t).view.emb (ix2 k l)) = _
  rw [h, entry8]

theorem read4 (c : Dev nD) (t : Fin cfg0.N) (l : Fin 512) :
    iblk m c 4 t (ix2 0 l) = m ((c : Thread nD τ).loc main_arg3) (ix1 ⟨l.val % 64, by omega⟩) := by
  have h : ((cfg0.win 4).blk t).view.emb (ix2 0 l) = ix2 0 l := by blk_ext [idx t]
  show V m c main_v15 (((cfg0.win 4).blk t).view.emb (ix2 0 l)) = _
  rw [h, entry15]

theorem read5 (c : Dev nD) (t : Fin cfg0.N) (l : Fin 512) :
    iblk m c 5 t (ix2 l 0) = m ((c : Thread nD τ).loc main_arg4) (ix1 ⟨l.val % 64, by omega⟩) := by
  have h : ((cfg0.win 5).blk t).view.emb (ix2 l 0) = ix2 l 0 := by blk_ext [idx t]
  show V m c main_v21 (((cfg0.win 5).blk t).view.emb (ix2 l 0)) = _
  rw [h, entry21]

theorem read6 (c : Dev nD) (t : Fin cfg0.N) (j k : Fin 1024) :
    iblk m c 6 t (ix2 j k) = m ((c : Thread nD τ).loc main_arg2) (ix2 k ⟨512 + j.val, by omega⟩) := by
  have h : ((cfg0.win 6).blk t).view.emb (ix2 j k) = ix2 j k := by blk_ext [idx t]
  show V m c main_v11 (((cfg0.win 6).blk t).view.emb (ix2 j k)) = _
  rw [h, entry11]

/-- The weights of keys and values: columns 512 to 1535 of the projection's. -/
def W (c : Dev nD) (k j : Fin 1024) : EReal := m ((c : Thread nD τ).loc main_arg2) (ix2 k ⟨512 + j.val, by omega⟩)

theorem tile0 (c : Dev nD) (t : Fin cfg0.N) (j : Fin 256) (k : Fin 1024) :
    View.ld (iblk m c 6 t) (Rect.unit ![0, 0] ![256, 1024] inb_S1024x1024_S256x1024_0_0) (ix2 j k)
      = W m c k ⟨j.val, by omega⟩ := by
  pointwise []
  rw [read6]
  rfl

theorem tile1 (c : Dev nD) (t : Fin cfg0.N) (j : Fin 256) (k : Fin 1024) :
    View.ld (iblk m c 6 t) (Rect.unit ![256, 0] ![256, 1024] inb_S1024x1024_S256x1024_256_0) (ix2 j k)
      = W m c k ⟨256 + j.val, by omega⟩ := by
  pointwise []
  rw [read6]
  rfl

theorem tile2 (c : Dev nD) (t : Fin cfg0.N) (j : Fin 256) (k : Fin 1024) :
    View.ld (iblk m c 6 t) (Rect.unit ![512, 0] ![256, 1024] inb_S1024x1024_S256x1024_512_0) (ix2 j k)
      = W m c k ⟨512 + j.val, by omega⟩ := by
  pointwise []
  rw [read6]
  rfl

theorem tile3 (c : Dev nD) (t : Fin cfg0.N) (j : Fin 256) (k : Fin 1024) :
    View.ld (iblk m c 6 t) (Rect.unit ![768, 0] ![256, 1024] inb_S1024x1024_S256x1024_768_0) (ix2 j k)
      = W m c k ⟨768 + j.val, by omega⟩ := by
  pointwise []
  rw [read6]
  rfl

theorem W_values (c : Dev nD) (k : Fin 1024) (j : Fin 512) :
    W m c k ⟨512 + j.val, by omega⟩ = m ((c : Thread nD τ).loc main_arg2) (ix2 k ⟨1024 + j.val, by omega⟩) := by
  unfold W
  congr 2
  ext
  show 512 + (512 + j.val) = 1024 + j.val
  omega

/-- An index of a block of keys or values is its feature and its token. -/
theorem block_idx (y : S1x1x512x256.Idx) : y = ix4 (n0 := 1) (n1 := 1) (n2 := 512) (n3 := 256) 0 0 (y 2) (y 3) :=
  (eq_ix4 y).trans (congrArg₂ (fun (a b : Fin 1) => ix4 (n0 := 1) (n1 := 1) (n2 := 512) (n3 := 256) a b (y 2) (y 3))
    (Subsingleton.elim _ _) (Subsingleton.elim _ _))

/-- The sequence grid point `t`'s tokens belong to. -/
def seq (t : Fin cfg0.N) : Fin 4 := ⟨t.val / 16, by have h : t.val < 64 := t.isLt; omega⟩

/-- The place in it of the point's token `r`. -/
def pos (t : Fin cfg0.N) (r : Fin 256) : Fin 4096 := ⟨256 * (t.val % 16) + r.val, by omega⟩

theorem row_token (t : Fin cfg0.N) (r : Fin 256) : row t r = Cert.Reference4Ideal.Rows.token (seq t) (pos t r) := by
  ext
  show 256 * t.val + r.val = t.val / 16 * 4096 + (256 * (t.val % 16) + r.val)
  omega

set_option maxHeartbeats 4000000 in
/-- The queries' array after the run. -/
theorem final7 (c : Dev nD) : (dats m 0 c).arrAt 7 (cfgs 0).N
    = Cert.Reference4Ideal.Rows.scaleOf (Cert.Reference4Ideal.Rows.headOf (Cert.Reference4Ideal.Rows.cols0 (m ((c : Thread nD τ).loc main_arg0)) (m ((c : Thread nD τ).loc main_arg1)) (m ((c : Thread nD τ).loc main_arg2))) (m ((c : Thread nD τ).loc main_arg3))) := by
  refine (dats m 0 c).arrAt_eq_of_covers 7 _ (by decide +kernel) fun t _ y => ?_
  blk_simp
  rw [after0_7]
  simp only [outsAt0]
  frame_out
  obtain ⟨r, l, rfl⟩ : ∃ (r : Fin 256) (l : Fin 512), y = ix2 r l := ⟨y 0, y 1, eq_ix2 y⟩
  refine (Rows.pay11_row _ _ _ _ _ (fun k => (m ((c : Thread nD τ).loc main_arg3)) (ix1 k)) (fun k l => read3 m c t k l) (fun l => read4 m c t l) r l).trans ?_
  have hw : ∀ (k : Fin 1024) (j : Fin 512), View.ld (iblk m c 2 t) (Rect.unit ![0, 0] ![1024, 512] inb_S1024x4096_S1024x512_0_0) (ix2 k j)
      = (m ((c : Thread nD τ).loc main_arg2)) (ix2 k ⟨0 + j.val, by omega⟩) := by
    intro k j
    pointwise []
    rw [read2]
  have hy : ((View.whole main_v22_0).slice (win0_7.rect t)).emb (ix2 r l) = ix2 (row t r) l := by
    unfold row
    blk_ext [idx t]
  rw [hy]
  simp only [Cert.Reference4Ideal.Rows.scaleOf_at, Cert.Reference4Ideal.Rows.headOf_at, Cert.Reference4Ideal.Rows.cols0_at, read0, read1]
  simp only [hw]

set_option maxHeartbeats 4000000 in
/-- The keys' array after the run: the layer before's slot as it was, this layer's slot written. -/
theorem final8 (c : Dev nD) : (dats m 0 c).arrAt 8 (cfgs 0).N
    = Cert.Reference4Ideal.Rows.stacked (m ((c : Thread nD τ).loc main_arg5)) (Cert.Reference4Ideal.Rows.keysOf (Cert.Reference4Ideal.Rows.cols512 (m ((c : Thread nD τ).loc main_arg0)) (m ((c : Thread nD τ).loc main_arg1)) (m ((c : Thread nD τ).loc main_arg2))) (m ((c : Thread nD τ).loc main_arg4))) := by
  refine (dats m 0 c).arrAt_eq_of_coversWhere_of_agree 8 _ (fun β => 1 ≤ β 0) (by decide +kernel) (fun t _ y => ?_) (fun j hj => ?_)
  · blk_simp
    rw [after0_8]
    frame_out
    obtain ⟨l, r, rfl⟩ : ∃ (l : Fin 512) (r : Fin 256), y = ix4 0 0 l r := ⟨y 2, y 3, block_idx y⟩
    refine (Rows.pay9_row _ _ _ _ _ _ _ _ (fun k => (m ((c : Thread nD τ).loc main_arg4)) (ix1 k)) (W m c) (tile0 m c t) (tile1 m c t) (tile2 m c t) (tile3 m c t)
      (fun k l => read3 m c t k l) (fun l => read5 m c t l) l r).trans ?_
    have hy : ((View.whole main_v22_1).slice (win0_8.rect t)).emb (ix4 0 0 l r) = ix4 1 (seq t) l (pos t r) := by
      unfold seq pos
      blk_ext [idx t]
    rw [hy, Cert.Reference4Ideal.Rows.stacked_keys]
    simp only [Cert.Reference4Ideal.Rows.cols512_at, read0, read1, row_token]
    rfl
  · obtain ⟨z, b, l, r, rfl⟩ : ∃ (z : Fin 2) (b : Fin 4) (l : Fin 512) (r : Fin 4096), j = ix4 z b l r :=
      ⟨j 0, j 1, j 2, j 3, eq_ix4 j⟩
    have hz : z = 0 := by
      ext
      have h : ¬1 ≤ z.val / 1 := hj
      show z.val = 0
      omega
    subst hz
    show V m c main_v22_1 (ix4 0 b l r) = _
    rw [entry22_1]
    exact (Cert.Reference4Ideal.Rows.stacked_first _ _ b l r).symm

set_option maxHeartbeats 4000000 in
/-- The values' array after the run: the layer before's slot as it was, this layer's slot written. -/
theorem final9 (c : Dev nD) : (dats m 0 c).arrAt 9 (cfgs 0).N
    = Cert.Reference4Ideal.Rows.stacked (m ((c : Thread nD τ).loc main_arg6))
        (shapeCast Cert.Reference4Ideal.S4x4096x8x64 (Cert.Reference4Ideal.Rows.cols1024 (m ((c : Thread nD τ).loc main_arg0)) (m ((c : Thread nD τ).loc main_arg1)) (m ((c : Thread nD τ).loc main_arg2)))
          Cert.Reference4Ideal.Gen.shapeCasts_S16384x512_S4x4096x8x64) := by
  refine (dats m 0 c).arrAt_eq_of_coversWhere_of_agree 9 _ (fun β => 1 ≤ β 0) (by decide +kernel) (fun t _ y => ?_) (fun j hj => ?_)
  · blk_simp
    rw [after0_9]
    frame_out
    obtain ⟨l, r, rfl⟩ : ∃ (l : Fin 512) (r : Fin 256), y = ix4 0 0 l r := ⟨y 2, y 3, block_idx y⟩
    refine (Rows.pay10_row _ _ _ _ _ _ (W m c) (tile0 m c t) (tile1 m c t) (tile2 m c t) (tile3 m c t) l r).trans ?_
    have hy : ((View.whole main_v22_2).slice (win0_9.rect t)).emb (ix4 0 0 l r) = ix4 1 (seq t) l (pos t r) := by
      unfold seq pos
      blk_ext [idx t]
    rw [hy, Cert.Reference4Ideal.Rows.stacked_values, Cert.Reference4Ideal.Rows.cols1024_at]
    simp only [read0, read1, row_token, W_values]
  · obtain ⟨z, b, l, r, rfl⟩ : ∃ (z : Fin 2) (b : Fin 4) (l : Fin 512) (r : Fin 4096), j = ix4 z b l r :=
      ⟨j 0, j 1, j 2, j 3, eq_ix4 j⟩
    have hz : z = 0 := by
      ext
      have h : ¬1 ≤ z.val / 1 := hj
      show z.val = 0
      omega
    subst hz
    show V m c main_v22_2 (ix4 0 b l r) = _
    rw [entry22_2]
    exact (Cert.Reference4Ideal.Rows.stacked_first _ _ b l r).symm

set_option maxHeartbeats 4000000 in
/-- The array of the state space's inputs after the run. -/
theorem final10 (c : Dev nD) : (dats m 0 c).arrAt 10 (cfgs 0).N
    = Cert.Reference4Ideal.Rows.cols1536 (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]
  frame_out
  obtain ⟨r, l, rfl⟩ : ∃ (r : Fin 256) (l : Fin 512), y = ix2 r l := ⟨y 0, y 1, eq_ix2 y⟩
  refine (Rows.pay1_row _ _ _ r l).trans ?_
  have hw : ∀ (k : Fin 1024) (j : Fin 512), View.ld (iblk m c 2 t) (Rect.unit ![0, 1536] ![1024, 512] inb_S1024x4096_S1024x512_0_1536) (ix2 k j)
      = (m ((c : Thread nD τ).loc main_arg2)) (ix2 k ⟨1536 + j.val, by omega⟩) := by
    intro k j
    pointwise []
    rw [read2]
  have hy : ((View.whole main_v22_3).slice (win0_10.rect t)).emb (ix2 r l) = ix2 (row t r) l := by
    unfold row
    blk_ext [idx t]
  rw [hy]
  simp only [Cert.Reference4Ideal.Rows.cols1536_at, read0, read1]
  simp only [hw]

set_option maxHeartbeats 4000000 in
/-- The attention gates' array after the run. -/
theorem final11 (c : Dev nD) : (dats m 0 c).arrAt 11 (cfgs 0).N
    = Cert.Reference4Ideal.Rows.sigmOf (Cert.Reference4Ideal.Rows.cols2048 (m ((c : Thread nD τ).loc main_arg0)) (m ((c : Thread nD τ).loc main_arg1)) (m ((c : Thread nD τ).loc main_arg2))) := by
  refine (dats m 0 c).arrAt_eq_of_covers 11 _ (by decide +kernel) fun t _ y => ?_
  blk_simp
  rw [after0_11]
  frame_out
  obtain ⟨r, l, rfl⟩ : ∃ (r : Fin 256) (l : Fin 1024), y = ix2 r l := ⟨y 0, y 1, eq_ix2 y⟩
  refine (Rows.pay2_row _ _ _ r l).trans ?_
  have hw : ∀ (k : Fin 1024) (j : Fin 1024), View.ld (iblk m c 2 t) (Rect.unit ![0, 2048] ![1024, 1024] inb_S1024x4096_S1024x1024_0_2048) (ix2 k j)
      = (m ((c : Thread nD τ).loc main_arg2)) (ix2 k ⟨2048 + j.val, by omega⟩) := by
    intro k j
    pointwise []
    rw [read2]
  have hy : ((View.whole main_v22_4).slice (win0_11.rect t)).emb (ix2 r l) = ix2 (row t r) l := by
    unfold row
    blk_ext [idx t]
  rw [hy]
  simp only [Cert.Reference4Ideal.Rows.sigmOf_at, Cert.Reference4Ideal.Rows.cols2048_at, read0, read1]
  simp only [hw]

set_option maxHeartbeats 4000000 in
/-- The state-space gates' array after the run. -/
theorem final12 (c : Dev nD) : (dats m 0 c).arrAt 12 (cfgs 0).N
    = Cert.Reference4Ideal.Rows.sigmOf (Cert.Reference4Ideal.Rows.cols3072 (m ((c : Thread nD τ).loc main_arg0)) (m ((c : Thread nD τ).loc main_arg1)) (m ((c : Thread nD τ).loc main_arg2))) := by
  refine (dats m 0 c).arrAt_eq_of_covers 12 _ (by decide +kernel) fun t _ y => ?_
  blk_simp
  rw [after0_12]
  frame_out
  obtain ⟨r, l, rfl⟩ : ∃ (r : Fin 256) (l : Fin 1024), y = ix2 r l := ⟨y 0, y 1, eq_ix2 y⟩
  refine (Rows.pay3_row _ _ _ r l).trans ?_
  have hw : ∀ (k : Fin 1024) (j : Fin 1024), View.ld (iblk m c 2 t) (Rect.unit ![0, 3072] ![1024, 1024] inb_S1024x4096_S1024x1024_0_3072) (ix2 k j)
      = (m ((c : Thread nD τ).loc main_arg2)) (ix2 k ⟨3072 + j.val, by omega⟩) := by
    intro k j
    pointwise []
    rw [read2]
  have hy : ((View.whole main_v22_5).slice (win0_12.rect t)).emb (ix2 r l) = ix2 (row t r) l := by
    unfold row
    blk_ext [idx t]
  rw [hy]
  simp only [Cert.Reference4Ideal.Rows.sigmOf_at, Cert.Reference4Ideal.Rows.cols3072_at, read0, read1]
  simp only [hw]

end Cert.Kernel4Ideal.Final

end
-- ==== Proof.PromptClaim.lean ====
/- The claims about the prompt's input projection: its reference's frame, its named constant, and that kernel and reference compute the same six arrays. -/
module

public import proofs.«01_k».proof.Defs
public import proofs.«01_k».proof.Proof.PromptValue

@[expose] public section

noncomputable section

namespace Cert.Proof.PromptClaim

open Idealize.ShloMosaic Idealize.SL.Sem

/-- The reference runs, leaving its arguments and every counter as they were. -/
theorem reference_frame : Cert.quiescent_Reference4Ideal (hReference4Ideal := Cert.Reference4Ideal.Gen.facts) := fun m g _ =>
  (θ_run Cert.Reference4Ideal.defs _ _).mono (fun r h => ⟨fun c => (h c).2.2.2.2.2.2,
      Idealize.ShloMosaic.sem_eq_zero_of_no_sems (by decide) r.2⟩)
    (Cert.Reference4Ideal.Rows.run m g)

/-- The idealized kernel is the kernel with one literal named. -/
theorem kept : Cert.preserves_Kernel4_Kernel4Ideal :=
  IdealRules.named_const.statement Cert.Kernel4Ideal.κ "q_scale" .f32 0xBE38AA3B#32 _ rfl

/-- Kernel and reference end with the same queries, keys, values, state-space inputs and gates. -/
theorem equal : Cert.algebraic_Kernel4Ideal_Reference4Ideal (hKernel4Ideal := Cert.Kernel4Ideal.Gen.facts)
    (hReference4Ideal := Cert.Reference4Ideal.Gen.facts) := by
  pair_intro
  · run_from Cert.Kernel4Ideal.Value.run_blocks m g
  · run_from Cert.Reference4Ideal.Rows.run m' g'
    · exact (Cert.Kernel4Ideal.Final.final7 m c).symm
    · exact (Cert.Kernel4Ideal.Final.final8 m c).symm
    · exact (Cert.Kernel4Ideal.Final.final9 m c).symm
    · exact (Cert.Kernel4Ideal.Final.final10 m c).symm
    · exact (Cert.Kernel4Ideal.Final.final11 m c).symm
    · exact (Cert.Kernel4Ideal.Final.final12 m c).symm

end Cert.Proof.PromptClaim

end
-- ==== Proof.PostSampleKernel.lean ====
/- What one grid point of the tail kernel at the sample batch's rows stores, row by row, in the terms of `PostMath`. -/
module

public import proofs.«01_k».proof.Proof.Gen.Kernel5Ideal.Skeleton
public import proofs.«01_k».proof.Proof.PostMath

@[expose] public section

set_option maxRecDepth 16384

noncomputable section

namespace Cert.Kernel5Ideal.Rows

open Cert.Kernel5Ideal Cert.Kernel5Ideal.Gen Idealize.ShloMosaic Idealize.ShloMosaic.TcCoe Idealize.SL.Sem
open Cert.PostMath

/-- The merged row the body computes is the gated sum. -/
theorem pay2_row (y : Vec Ideal S256x512 .f32) (o : Vec Ideal S256x512 .bf16) (wA wV wG : Vec Ideal S512x1024 .bf16)
    (ga gs : Vec Ideal S256x1024 .bf16) (r : Fin 256) (l : Fin 1024) :
    k0_pay2 (F := Ideal) y o wA wV wG ga gs (ix2 r l)
      = merged (fun k => o (ix2 r k)) (fun k => y (ix2 r k)) (fun k => ga (ix2 r k)) (fun k => gs (ix2 r k))
          (fun k j => wA (ix2 k j)) (fun k j => wV (ix2 k j)) (fun k j => wG (ix2 k j)) l := by
  pointwise [k0_pay2]
  rfl

/-- The residual row after the output projection. -/
theorem pay3_row (x : Vec Ideal S256x1024 .f32) (h : FVec Ideal S256x1024 .bf16) (wO : Vec Ideal S1024x1024 .bf16)
    (r : Fin 256) (l : Fin 1024) :
    k0_pay3 (F := Ideal) x h wO (ix2 r l)
      = afterOut (fun k => x (ix2 r k)) (fun k => h (ix2 r k)) (fun k j => wO (ix2 k j)) l := by
  pointwise [k0_pay3]
  rfl

/-- The normalised row the MLP reads. -/
theorem pay4_row (x : Vec Ideal S256x1024 .f32) (h : FVec Ideal S256x1024 .bf16) (wO : Vec Ideal S1024x1024 .bf16)
    (g : Vec Ideal S1x1024 .f32) (r : Fin 256) (l : Fin 1024) :
    k0_pay4 (F := Ideal) x h wO g (ix2 r l)
      = rmsRow (fun k => g (ix2 0 k)) (fun k => k0_pay3 (F := Ideal) x h wO (ix2 r k)) l := by
  pointwise [k0_pay4]
  rfl

/-- One block of the MLP: 1024 hidden units, computed from the normalised row, times their rows of the down projection. -/
theorem pay5_row (x : Vec Ideal S256x1024 .f32) (h : FVec Ideal S256x1024 .bf16) (wO : Vec Ideal S1024x1024 .bf16)
    (g : Vec Ideal S1x1024 .f32) (u d : Vec Ideal S1024x1024 .bf16) (r : Fin 256) (l : Fin 1024) :
    k0_pay5 (F := Ideal) x h wO g u d (ix2 r l)
      = dotCol (fun n => sqRelu (dotCol (fun k => k0_pay4 (F := Ideal) x h wO g (ix2 r k)) (fun k j => u (ix2 k j)) n))
          (fun k j => d (ix2 k j)) l := by
  pointwise [k0_pay5]
  rfl

/-- The hidden units of the second block. -/
theorem pay6_row (x : Vec Ideal S256x1024 .f32) (h : FVec Ideal S256x1024 .bf16) (wO : Vec Ideal S1024x1024 .bf16)
    (g : Vec Ideal S1x1024 .f32) (u : Vec Ideal S1024x1024 .bf16) (r : Fin 256) (l : Fin 1024) :
    k0_pay6 (F := Ideal) x h wO g u (ix2 r l)
      = sqRelu (dotCol (fun k => k0_pay4 (F := Ideal) x h wO g (ix2 r k)) (fun k j => u (ix2 k j)) l) := by
  pointwise [k0_pay6]
  rfl

/-- The residual row after the MLP, its four blocks of hidden units added one after the other. -/
theorem pay8_row (x1 : FVec Ideal S256x1024 .f32) (n : FVec Ideal S256x1024 .bf16) (b0 : FVec Ideal S256x1024 .f32)
    (h1 : FVec Ideal S256x1024 .bf16) (d1 u2 d2 u3 d3 : Vec Ideal S1024x1024 .bf16) (r : Fin 256) (l : Fin 1024) :
    k0_pay8 (F := Ideal) x1 n b0 h1 (k0_pay7 (F := Ideal) d1) (constant S256x1024 .f32 0x00000000#32) u2 d2 u3 d3 (ix2 r l)
      = x1 (ix2 r l) + (b0 (ix2 r l) + dotCol (fun k => h1 (ix2 r k)) (fun k j => d1 (ix2 k j)) l
        + dotCol (fun q => sqRelu (dotCol (fun k => n (ix2 r k)) (fun k j => u2 (ix2 k j)) q)) (fun k j => d2 (ix2 k j)) l
        + dotCol (fun q => sqRelu (dotCol (fun k => n (ix2 r k)) (fun k j => u3 (ix2 k j)) q)) (fun k j => d3 (ix2 k j)) l) := by
  pointwise [k0_pay8, k0_pay7]
  rfl

/-- The normalised row the per-layer gate reads. -/
theorem pay9_row (x1 : FVec Ideal S256x1024 .f32) (n : FVec Ideal S256x1024 .bf16) (b0 : FVec Ideal S256x1024 .f32)
    (h1 : FVec Ideal S256x1024 .bf16) (d1 : FVec Ideal S1024x1024 .bf16) (z : FVec Ideal S256x1024 .f32)
    (u2 d2 u3 d3 : Vec Ideal S1024x1024 .bf16) (g : Vec Ideal S1x1024 .f32) (r : Fin 256) (l : Fin 1024) :
    k0_pay9 (F := Ideal) x1 n b0 h1 d1 z u2 d2 u3 d3 g (ix2 r l)
      = rmsRow (fun k => g (ix2 0 k)) (fun k => k0_pay8 (F := Ideal) x1 n b0 h1 d1 z u2 d2 u3 d3 (ix2 r k)) l := by
  pointwise [k0_pay9]
  rfl

/-- The row stored: the residual row after the gated per-layer embedding. -/
theorem pay1_row (x2 : FVec Ideal S256x1024 .f32) (n : FVec Ideal S256x1024 .bf16) (p : Vec Ideal S256x256 .f32)
    (wP : Vec Ideal S256x1024 .bf16) (wPG : Vec Ideal S1024x1024 .bf16) (r : Fin 256) (l : Fin 1024) :
    k0_pay1 (F := Ideal) x2 n p wP wPG (ix2 r l)
      = x2 (ix2 r l) + dotCol (fun k => p (ix2 r k)) (fun k j => wP (ix2 k j)) l
          * sigm (dotCol (fun k => n (ix2 r k)) (fun k j => wPG (ix2 k j)) l) := by
  pointwise [k0_pay1]
  rfl

/-- What a grid point stores, at one row and column: the whole tail of its rows, the MLP's hidden units in four blocks. -/
theorem stored_row (x0 : Vec Ideal S256x1024 .f32) (x1 : Vec Ideal S256x512 .bf16) (x2 : Vec Ideal S256x512 .f32)
    (x3 x4 : Vec Ideal S256x1024 .bf16) (x5 : Vec Ideal S256x256 .f32) (x6 x7 x8 : Vec Ideal S512x1024 .bf16)
    (x9 : Vec Ideal S1024x1024 .bf16) (x10 : Vec Ideal S1x1024 .f32) (u0 d0 u1 d1 u2 d2 u3 d3 : Vec Ideal S1024x1024 .bf16)
    (x13 : Vec Ideal S1x1024 .f32) (x14 : Vec Ideal S256x1024 .bf16) (x15 : Vec Ideal S1024x1024 .bf16)
    (wU : Fin 1024 → Fin 4096 → EReal) (wD : Fin 4096 → Fin 1024 → EReal)
    (hu0 : ∀ k j : Fin 1024, u0 (ix2 k j) = wU k ⟨0 + j.val, by omega⟩)
    (hu1 : ∀ k j : Fin 1024, u1 (ix2 k j) = wU k ⟨1024 + j.val, by omega⟩)
    (hu2 : ∀ k j : Fin 1024, u2 (ix2 k j) = wU k ⟨2048 + j.val, by omega⟩)
    (hu3 : ∀ k j : Fin 1024, u3 (ix2 k j) = wU k ⟨3072 + j.val, by omega⟩)
    (hd0 : ∀ k j : Fin 1024, d0 (ix2 k j) = wD ⟨0 + k.val, by omega⟩ j)
    (hd1 : ∀ k j : Fin 1024, d1 (ix2 k j) = wD ⟨1024 + k.val, by omega⟩ j)
    (hd2 : ∀ k j : Fin 1024, d2 (ix2 k j) = wD ⟨2048 + k.val, by omega⟩ j)
    (hd3 : ∀ k j : Fin 1024, d3 (ix2 k j) = wD ⟨3072 + k.val, by omega⟩ j)
    (h : FVec Ideal S256x1024 .bf16) (hh : h = k0_pay2 (F := Ideal) x2 x1 x6 x7 x8 x3 x4)
    (z : FVec Ideal S256x1024 .f32) (hz : z = constant S256x1024 .f32 0x00000000#32)
    (r : Fin 256) (l : Fin 1024) :
    k0_pay1 (F := Ideal)
        (k0_pay8 (F := Ideal) (k0_pay3 (F := Ideal) x0 h x9) (k0_pay4 (F := Ideal) x0 h x9 x10)
          (k0_pay5 (F := Ideal) x0 h x9 x10 u0 d0) (k0_pay6 (F := Ideal) x0 h x9 x10 u1) (k0_pay7 (F := Ideal) d1) z u2 d2 u3 d3)
        (k0_pay9 (F := Ideal) (k0_pay3 (F := Ideal) x0 h x9) (k0_pay4 (F := Ideal) x0 h x9 x10)
          (k0_pay5 (F := Ideal) x0 h x9 x10 u0 d0) (k0_pay6 (F := Ideal) x0 h x9 x10 u1) (k0_pay7 (F := Ideal) d1) z u2 d2 u3 d3 x13)
        x5 x14 x15 (ix2 r l)
      = tailRow (fun k => x0 (ix2 r k)) (fun k => x1 (ix2 r k)) (fun k => x2 (ix2 r k)) (fun k => x3 (ix2 r k))
          (fun k => x4 (ix2 r k)) (fun k => x5 (ix2 r k)) (fun k j => x6 (ix2 k j)) (fun k j => x7 (ix2 k j))
          (fun k j => x8 (ix2 k j)) (fun k j => x9 (ix2 k j)) (fun k => x10 (ix2 0 k)) wU wD
          (fun k => x13 (ix2 0 k)) (fun k j => x14 (ix2 k j)) (fun k j => x15 (ix2 k j)) l := by
  subst hh hz
  have hx2 : ∀ k : Fin 1024, k0_pay8 (F := Ideal) (k0_pay3 (F := Ideal) x0 (k0_pay2 (F := Ideal) x2 x1 x6 x7 x8 x3 x4) x9)
      (k0_pay4 (F := Ideal) x0 (k0_pay2 (F := Ideal) x2 x1 x6 x7 x8 x3 x4) x9 x10)
      (k0_pay5 (F := Ideal) x0 (k0_pay2 (F := Ideal) x2 x1 x6 x7 x8 x3 x4) x9 x10 u0 d0)
      (k0_pay6 (F := Ideal) x0 (k0_pay2 (F := Ideal) x2 x1 x6 x7 x8 x3 x4) x9 x10 u1) (k0_pay7 (F := Ideal) d1)
      (constant S256x1024 .f32 0x00000000#32) u2 d2 u3 d3 (ix2 r k)
      = afterMlp (afterOut (fun k => x0 (ix2 r k)) (merged (fun k => x1 (ix2 r k)) (fun k => x2 (ix2 r k))
          (fun k => x3 (ix2 r k)) (fun k => x4 (ix2 r k)) (fun k j => x6 (ix2 k j)) (fun k j => x7 (ix2 k j))
          (fun k j => x8 (ix2 k j))) (fun k j => x9 (ix2 k j))) (fun k => x10 (ix2 0 k)) wU wD k := by
    intro k
    rw [pay8_row, afterMlp, dotCol_blocks]
    simp only [pay5_row, pay6_row, pay4_row, pay3_row, pay2_row, hu0, hu1, hu2, hu3, hd0, hd1, hd2, hd3]
    rfl
  rw [pay1_row]
  simp only [pay9_row, hx2]
  rfl

end Cert.Kernel5Ideal.Rows

end
-- ==== Proof.PostSampleReference.lean ====
/- The reference of the tail at the sample batch's rows, stage by stage and row by row, in the terms of `PostMath`, and its run. -/
module

public import proofs.«01_k».proof.Proof.Gen.Reference5Ideal
public import Idealize.ShloMosaic.Lib.Claim
public import proofs.«01_k».proof.Proof.PostMath

@[expose] public section

set_option maxRecDepth 16384

noncomputable section

namespace Cert.Reference5Ideal.Rows

open Cert.Reference5Ideal Cert.Reference5Ideal.Gen Idealize.ShloMosaic Idealize.ShloMosaic.TcCoe
open Idealize.SL.Sem Idealize.ShloMosaic.StableHlo Cert.PostMath

/-- A scalar constant spread over a `1024x512` array. -/
def wide (b : BitVec 32) : FVec Ideal S1024x512 .f32 := broadcastInDim S1024x512 ![] bcast_S_S1024x512 (constant S_ .f32 b)

/-- A scalar constant spread over a `1024x1024` array. -/
def full (b : BitVec 32) : FVec Ideal S1024x1024 .f32 :=
  broadcastInDim S1024x1024 ![] bcast_S_S1024x1024 (constant S_ .f32 b)

/-- A scalar constant spread over a column. -/
def column (b : BitVec 32) : FVec Ideal S1024x1 .f32 := broadcastInDim S1024x1 ![] bcast_S_S1024x1 (constant S_ .f32 b)

/-- The GELU stage. -/
def geluOf (y : FVec Ideal S1024x512 .f32) : FVec Ideal S1024x512 .f32 :=
  mulf y (mulf (wide 0x3F000000#32) (addf (wide 0x3F800000#32)
    (Host.tanh (mulf (wide 0x3F4C422A#32) (addf y (mulf (wide 0x3D372713#32) (mulf (mulf y y) y)))))))

/-- The sigmoid stage. -/
def sigmOf (a : FVec Ideal S1024x1024 .f32) : FVec Ideal S1024x1024 .f32 :=
  Host.divf (full 0x3F800000#32) (addf (full 0x3F800000#32) (Host.exp (Host.negf a)))

/-- The root-mean-square normalisation stage. -/
def rmsOf (x : FVec Ideal S1024x1024 .f32) (g : FVec Ideal S1024 .f32) : FVec Ideal S1024x1024 .f32 :=
  mulf (mulf x (broadcastInDim S1024x1024 ![0, 1] bcast_S1024x1_S1024x1024_0_1
      (Host.rsqrt (addf (Host.divf (broadcastInDim S1024x1 ![0] bcast_S1024_S1024x1_0
          (Host.reduceAdd (mulf x x) (constant S_ .f32 0x00000000#32) reducesTo_S1024x1024_S1024_d1 h_S_))
        (column 0x44800000#32)) (column 0x358637BD#32)))))
    (broadcastInDim S1024x1024 ![0, 1] bcast_S1x1024_S1024x1024_0_1 (broadcastInDim S1x1024 ![1] bcast_S1024_S1x1024_1 g))

/-- The merged attention and gated-linear-unit outputs. -/
def mergedOf (o : FVec Ideal S1024x512 .bf16) (y : FVec Ideal S1024x512 .f32) (ga gs : FVec Ideal S1024x1024 .bf16)
    (wA wV wG : FVec Ideal S512x1024 .f32) : FVec Ideal S1024x1024 .f32 :=
  addf (mulf (extf .f32 ga bitsLt_bf16_f32)
      (Host.dotGeneral dot_S1024x512_S512x1024_S1024x1024_1_0_0_1_n_n none (extf .f32 o bitsLt_bf16_f32) wA))
    (mulf (extf .f32 gs bitsLt_bf16_f32)
      (mulf (Host.dotGeneral dot_S1024x512_S512x1024_S1024x1024_1_0_0_1_n_n none (geluOf y) wV)
        (sigmOf (Host.dotGeneral dot_S1024x512_S512x1024_S1024x1024_1_0_0_1_n_n none (geluOf y) wG))))

/-- The residual rows after the output projection. -/
def outOf (x h : FVec Ideal S1024x1024 .f32) (wO : FVec Ideal S1024x1024 .f32) : FVec Ideal S1024x1024 .f32 :=
  addf x (Host.dotGeneral dot_S1024x1024_S1024x1024_S1024x1024_1_0_0_1_n_n none h wO)

/-- The positive part, over the hidden units. -/
def reluOf (a : FVec Ideal S1024x4096 .f32) : FVec Ideal S1024x4096 .f32 :=
  maximumf a (broadcastInDim S1024x4096 ![] bcast_S_S1024x4096 (constant S_ .f32 0x00000000#32))

/-- The residual rows after the MLP. -/
def mlpOf (x1 : FVec Ideal S1024x1024 .f32) (g : FVec Ideal S1024 .f32) (wU : FVec Ideal S1024x4096 .f32)
    (wD : FVec Ideal S4096x1024 .f32) : FVec Ideal S1024x1024 .f32 :=
  addf x1 (Host.dotGeneral dot_S1024x4096_S4096x1024_S1024x1024_1_0_0_1_n_n none
    (mulf (reluOf (Host.dotGeneral dot_S1024x1024_S1024x4096_S1024x4096_1_0_0_1_n_n none (rmsOf x1 g) wU))
      (reluOf (Host.dotGeneral dot_S1024x1024_S1024x4096_S1024x4096_1_0_0_1_n_n none (rmsOf x1 g) wU))) wD)

/-- The residual rows after the gated per-layer embedding. -/
def pleOf (x2 : FVec Ideal S1024x1024 .f32) (g : FVec Ideal S1024 .f32) (p : FVec Ideal S1024x256 .f32)
    (wP : FVec Ideal S256x1024 .f32) (wPG : FVec Ideal S1024x1024 .f32) : FVec Ideal S1024x1024 .f32 :=
  addf x2 (mulf (Host.dotGeneral dot_S1024x256_S256x1024_S1024x1024_1_0_0_1_n_n none p wP)
    (sigmOf (Host.dotGeneral dot_S1024x1024_S1024x1024_S1024x1024_1_0_0_1_n_n none (rmsOf x2 g) wPG)))

/-- The whole tail. -/
def tail (x0 : FVec Ideal S1024x1024 .f32) (x1 : FVec Ideal S1024x512 .bf16) (x2 : FVec Ideal S1024x512 .f32)
    (x3 x4 : FVec Ideal S1024x1024 .bf16) (x5 : FVec Ideal S1024x256 .f32) (x6 x7 x8 : FVec Ideal S512x1024 .f32)
    (x9 : FVec Ideal S1024x1024 .f32) (x10 : FVec Ideal S1024 .f32) (x11 : FVec Ideal S1024x4096 .f32)
    (x12 : FVec Ideal S4096x1024 .f32) (x13 : FVec Ideal S1024 .f32) (x14 : FVec Ideal S256x1024 .f32)
    (x15 : FVec Ideal S1024x1024 .f32) : FVec Ideal S1024x1024 .f32 :=
  pleOf (mlpOf (outOf x0 (mergedOf x1 x2 x3 x4 x6 x7 x8) x9) x10 x11 x12) x13 x5 x14 x15

theorem geluOf_at (y : FVec Ideal S1024x512 .f32) (r : Fin 1024) (l : Fin 512) :
    geluOf y (ix2 r l) = gelu (y (ix2 r l)) := by
  pointwise [geluOf, wide]
  rw [mul_comm (y (ix2 r l) * y (ix2 r l))]
  rfl

theorem sigmOf_at (a : FVec Ideal S1024x1024 .f32) (r : Fin 1024) (l : Fin 1024) :
    sigmOf a (ix2 r l) = sigm (a (ix2 r l)) := by
  pointwise [sigmOf, full]
  rfl

theorem rmsOf_at (x : FVec Ideal S1024x1024 .f32) (g : FVec Ideal S1024 .f32) (r : Fin 1024) (l : Fin 1024) :
    rmsOf x g (ix2 r l) = rmsRow (fun k => g (ix1 k)) (fun k => x (ix2 r k)) l := by
  pointwise [rmsOf, column]
  rfl

theorem mergedOf_at (o : FVec Ideal S1024x512 .bf16) (y : FVec Ideal S1024x512 .f32)
    (ga gs : FVec Ideal S1024x1024 .bf16) (wA wV wG : FVec Ideal S512x1024 .f32) (r : Fin 1024) (l : Fin 1024) :
    mergedOf o y ga gs wA wV wG (ix2 r l)
      = merged (fun k => o (ix2 r k)) (fun k => y (ix2 r k)) (fun k => ga (ix2 r k)) (fun k => gs (ix2 r k))
          (fun k j => wA (ix2 k j)) (fun k j => wV (ix2 k j)) (fun k j => wG (ix2 k j)) l := by
  pointwise [mergedOf, sigmOf_at, geluOf_at]
  rfl

theorem outOf_at (x h : FVec Ideal S1024x1024 .f32) (wO : FVec Ideal S1024x1024 .f32) (r : Fin 1024) (l : Fin 1024) :
    outOf x h wO (ix2 r l) = afterOut (fun k => x (ix2 r k)) (fun k => h (ix2 r k)) (fun k j => wO (ix2 k j)) l := by
  pointwise [outOf]
  rfl

theorem mlpOf_at (x1 : FVec Ideal S1024x1024 .f32) (g : FVec Ideal S1024 .f32) (wU : FVec Ideal S1024x4096 .f32)
    (wD : FVec Ideal S4096x1024 .f32) (r : Fin 1024) (l : Fin 1024) :
    mlpOf x1 g wU wD (ix2 r l)
      = afterMlp (fun k => x1 (ix2 r k)) (fun k => g (ix1 k)) (fun k j => wU (ix2 k j)) (fun k j => wD (ix2 k j)) l := by
  pointwise [mlpOf, reluOf, rmsOf_at]
  rfl

theorem pleOf_at (x2 : FVec Ideal S1024x1024 .f32) (g : FVec Ideal S1024 .f32) (p : FVec Ideal S1024x256 .f32)
    (wP : FVec Ideal S256x1024 .f32) (wPG : FVec Ideal S1024x1024 .f32) (r : Fin 1024) (l : Fin 1024) :
    pleOf x2 g p wP wPG (ix2 r l)
      = afterPle (fun k => x2 (ix2 r k)) (fun k => g (ix1 k)) (fun k => p (ix2 r k)) (fun k j => wP (ix2 k j))
          (fun k j => wPG (ix2 k j)) l := by
  pointwise [pleOf, sigmOf_at, rmsOf_at]
  rfl

/-- The whole tail at one row and column. -/
theorem tail_at (x0 : FVec Ideal S1024x1024 .f32) (x1 : FVec Ideal S1024x512 .bf16) (x2 : FVec Ideal S1024x512 .f32)
    (x3 x4 : FVec Ideal S1024x1024 .bf16) (x5 : FVec Ideal S1024x256 .f32) (x6 x7 x8 : FVec Ideal S512x1024 .f32)
    (x9 : FVec Ideal S1024x1024 .f32) (x10 : FVec Ideal S1024 .f32) (x11 : FVec Ideal S1024x4096 .f32)
    (x12 : FVec Ideal S4096x1024 .f32) (x13 : FVec Ideal S1024 .f32) (x14 : FVec Ideal S256x1024 .f32)
    (x15 : FVec Ideal S1024x1024 .f32) (r : Fin 1024) (l : Fin 1024) :
    tail x0 x1 x2 x3 x4 x5 x6 x7 x8 x9 x10 x11 x12 x13 x14 x15 (ix2 r l)
      = tailRow (fun k => x0 (ix2 r k)) (fun k => x1 (ix2 r k)) (fun k => x2 (ix2 r k)) (fun k => x3 (ix2 r k))
          (fun k => x4 (ix2 r k)) (fun k => x5 (ix2 r k)) (fun k j => x6 (ix2 k j)) (fun k j => x7 (ix2 k j))
          (fun k j => x8 (ix2 k j)) (fun k j => x9 (ix2 k j)) (fun k => x10 (ix1 k)) (fun k j => x11 (ix2 k j))
          (fun k j => x12 (ix2 k j)) (fun k => x13 (ix1 k)) (fun k j => x14 (ix2 k j)) (fun k j => x15 (ix2 k j)) l := by
  rw [tail, pleOf_at]
  simp only [mlpOf_at, outOf_at, mergedOf_at]
  rfl

set_option maxHeartbeats 4000000 in
/-- The reference's run: its result is the whole tail of its arguments, and the arguments are unchanged. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v71)
        = tail (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
            (m ((c.tc : Thread nD τ).loc main_arg12)) (m ((c.tc : Thread nD τ).loc main_arg13))
            (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) := by
  hlo_run
  rfl

end Cert.Reference5Ideal.Rows

end
-- ==== Proof.PostSampleValue.lean ====
/- The value of the run of the tail kernel at the sample batch's rows: its result array is the whole tail of its argument arrays. -/
module

public import proofs.«01_k».proof.Proof.Gen.Kernel5Ideal.Value
public import Idealize.ShloMosaic.Lib.Pipeline.ValueKit
public import Idealize.ShloMosaic.Lib.Claim
public import proofs.«01_k».proof.Proof.PostSampleKernel
public import proofs.«01_k».proof.Proof.PostSampleReference

@[expose] public section

set_option maxRecDepth 16384

noncomputable section

namespace Cert.Kernel5Ideal.Final

open Cert.Kernel5Ideal Cert.Kernel5Ideal.Gen Idealize.ShloMosaic Idealize.ShloMosaic.TcCoe Idealize.SL.Sem
open Idealize.ShloMosaic.Pipeline (Dat)
open Cert.PostMath

variable (m : (ℓ : Loc nD τ sig) → Buf (Elt Ideal) ℓ)

/-- Where each window's block lies at a grid point: the token arrays move with the point, the weights stay. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0]
    ∧ win0_14.index t = ![0, 0] ∧ win0_15.index t = ![0, 0] ∧ win0_16.index t = ![t.val, 0] :=
  (by decide +kernel : ∀ t : Fin grid0.N, _)

/-- The host's cast of weight argument 6 leaves its values. -/
theorem entry0 (c : Dev nD) : V m c main_v0 = m ((c : Thread nD τ).loc main_arg6) := by
  entry_read
  rfl

/-- The host's cast of weight argument 7 leaves its values. -/
theorem entry1 (c : Dev nD) : V m c main_v1 = m ((c : Thread nD τ).loc main_arg7) := by
  entry_read
  rfl

/-- The host's cast of weight argument 8 leaves its values. -/
theorem entry2 (c : Dev nD) : V m c main_v2 = m ((c : Thread nD τ).loc main_arg8) := by
  entry_read
  rfl

/-- The host's cast of weight argument 9 leaves its values. -/
theorem entry3 (c : Dev nD) : V m c main_v3 = m ((c : Thread nD τ).loc main_arg9) := by
  entry_read
  rfl

/-- The host's cast of weight argument 11 leaves its values. -/
theorem entry4 (c : Dev nD) : V m c main_v4 = m ((c : Thread nD τ).loc main_arg11) := by
  entry_read
  rfl

/-- The host's cast of weight argument 12 leaves its values. -/
theorem entry5 (c : Dev nD) : V m c main_v5 = m ((c : Thread nD τ).loc main_arg12) := by
  entry_read
  rfl

/-- The host's cast of weight argument 14 leaves its values. -/
theorem entry6 (c : Dev nD) : V m c main_v6 = m ((c : Thread nD τ).loc main_arg14) := by
  entry_read
  rfl

/-- The host's cast of weight argument 15 leaves its values. -/
theorem entry7 (c : Dev nD) : V m c main_v7 = m ((c : Thread nD τ).loc main_arg15) := by
  entry_read
  rfl

/-- The host's reshape of gain argument 10, at a column. -/
theorem entry8 (c : Dev nD) (l : Fin 1024) : V m c main_v8 (ix2 0 l) = m ((c : Thread nD τ).loc main_arg10) (ix1 l) := by
  entry_read
  pointwise []

/-- The host's reshape of gain argument 13, at a column. -/
theorem entry9 (c : Dev nD) (l : Fin 1024) : V m c main_v9 (ix2 0 l) = m ((c : Thread nD τ).loc main_arg13) (ix1 l) := by
  entry_read
  pointwise []

/-- Row `r` of grid point `t`'s block of 256 rows. -/
def row (t : Fin cfg0.N) (r : Fin 256) : Fin 1024 :=
  ⟨256 * t.val + r.val, by have h : t.val < 4 := t.isLt; omega⟩

theorem read0 (c : Dev nD) (t : Fin cfg0.N) (r : Fin 256) (k : Fin 1024) :
    iblk m c 0 t (ix2 r k) = m ((c : Thread nD τ).loc main_arg0) (ix2 (row t r) k) := by
  unfold row
  blk_ext [iblk, V, idx t]

theorem read1 (c : Dev nD) (t : Fin cfg0.N) (r : Fin 256) (k : Fin 512) :
    iblk m c 1 t (ix2 r k) = m ((c : Thread nD τ).loc main_arg1) (ix2 (row t r) k) := by
  unfold row
  blk_ext [iblk, V, idx t]

theorem read2 (c : Dev nD) (t : Fin cfg0.N) (r : Fin 256) (k : Fin 512) :
    iblk m c 2 t (ix2 r k) = m ((c : Thread nD τ).loc main_arg2) (ix2 (row t r) k) := by
  unfold row
  blk_ext [iblk, V, idx t]

theorem read3 (c : Dev nD) (t : Fin cfg0.N) (r : Fin 256) (k : Fin 1024) :
    iblk m c 3 t (ix2 r k) = m ((c : Thread nD τ).loc main_arg3) (ix2 (row t r) k) := by
  unfold row
  blk_ext [iblk, V, idx t]

theorem read4 (c : Dev nD) (t : Fin cfg0.N) (r : Fin 256) (k : Fin 1024) :
    iblk m c 4 t (ix2 r k) = m ((c : Thread nD τ).loc main_arg4) (ix2 (row t r) k) := by
  unfold row
  blk_ext [iblk, V, idx t]

theorem read5 (c : Dev nD) (t : Fin cfg0.N) (r : Fin 256) (k : Fin 256) :
    iblk m c 5 t (ix2 r k) = m ((c : Thread nD τ).loc main_arg5) (ix2 (row t r) k) := by
  unfold row
  blk_ext [iblk, V, idx t]

theorem read6 (c : Dev nD) (t : Fin cfg0.N) (k : Fin 512) (j : Fin 1024) :
    iblk m c 6 t (ix2 k j) = m ((c : Thread nD τ).loc main_arg6) (ix2 k j) := by
  rw [iblk, show V m c (Pipeline.arrRef spec0 6) = m ((c : Thread nD τ).loc main_arg6) from entry0 m c]
  blk_ext [idx t]

theorem read7 (c : Dev nD) (t : Fin cfg0.N) (k : Fin 512) (j : Fin 1024) :
    iblk m c 7 t (ix2 k j) = m ((c : Thread nD τ).loc main_arg7) (ix2 k j) := by
  rw [iblk, show V m c (Pipeline.arrRef spec0 7) = m ((c : Thread nD τ).loc main_arg7) from entry1 m c]
  blk_ext [idx t]

theorem read8 (c : Dev nD) (t : Fin cfg0.N) (k : Fin 512) (j : Fin 1024) :
    iblk m c 8 t (ix2 k j) = m ((c : Thread nD τ).loc main_arg8) (ix2 k j) := by
  rw [iblk, show V m c (Pipeline.arrRef spec0 8) = m ((c : Thread nD τ).loc main_arg8) from entry2 m c]
  blk_ext [idx t]

theorem read9 (c : Dev nD) (t : Fin cfg0.N) (k : Fin 1024) (j : Fin 1024) :
    iblk m c 9 t (ix2 k j) = m ((c : Thread nD τ).loc main_arg9) (ix2 k j) := by
  rw [iblk, show V m c (Pipeline.arrRef spec0 9) = m ((c : Thread nD τ).loc main_arg9) from entry3 m c]
  blk_ext [idx t]

theorem read14 (c : Dev nD) (t : Fin cfg0.N) (k : Fin 256) (j : Fin 1024) :
    iblk m c 14 t (ix2 k j) = m ((c : Thread nD τ).loc main_arg14) (ix2 k j) := by
  rw [iblk, show V m c (Pipeline.arrRef spec0 14) = m ((c : Thread nD τ).loc main_arg14) from entry6 m c]
  blk_ext [idx t]

theorem read15 (c : Dev nD) (t : Fin cfg0.N) (k : Fin 1024) (j : Fin 1024) :
    iblk m c 15 t (ix2 k j) = m ((c : Thread nD τ).loc main_arg15) (ix2 k j) := by
  rw [iblk, show V m c (Pipeline.arrRef spec0 15) = m ((c : Thread nD τ).loc main_arg15) from entry7 m c]
  blk_ext [idx t]

theorem read10 (c : Dev nD) (t : Fin cfg0.N) (k : Fin 1024) :
    iblk m c 10 t (ix2 0 k) = m ((c : Thread nD τ).loc main_arg10) (ix1 k) := by
  have h : ((cfg0.win 10).blk t).view.emb (ix2 0 k) = ix2 0 k := by blk_ext [idx t]
  show V m c main_v8 (((cfg0.win 10).blk t).view.emb (ix2 0 k)) = _
  rw [h, entry8]

theorem read13 (c : Dev nD) (t : Fin cfg0.N) (k : Fin 1024) :
    iblk m c 13 t (ix2 0 k) = m ((c : Thread nD τ).loc main_arg13) (ix1 k) := by
  have h : ((cfg0.win 13).blk t).view.emb (ix2 0 k) = ix2 0 k := by blk_ext [idx t]
  show V m c main_v9 (((cfg0.win 13).blk t).view.emb (ix2 0 k)) = _
  rw [h, entry9]

set_option maxHeartbeats 4000000 in
/-- The result array after the run is the whole tail of the argument arrays. -/
theorem final (c : Dev nD) : (dats m 0 c).arrAt 16 (cfgs 0).N
    = Cert.Reference5Ideal.Rows.tail (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (dats m 0 c).arrAt_eq_of_covers 16 _ (by decide +kernel) fun t _ y => ?_
  blk_simp
  rw [after0_16]
  frame_out
  unfold k0_pay16 k0_pay15 k0_pay14 k0_pay13 k0_pay12 k0_pay11 k0_pay10
  frame_out
  obtain ⟨r, l, rfl⟩ : ∃ (r : Fin 256) (l : Fin 1024), y = ix2 r l := ⟨y 0, y 1, eq_ix2 y⟩
  refine (Rows.stored_row _ _ _ _ _ _ _ _ _ _ _ _ _ _ _ _ _ _ _ _ _ _
    (fun k j => m ((c : Thread nD τ).loc main_arg11) (ix2 k j)) (fun k j => m ((c : Thread nD τ).loc main_arg12) (ix2 k j))
    ?_ ?_ ?_ ?_ ?_ ?_ ?_ ?_ _ rfl _ rfl r l).trans ?_
  iterate 4
    intro k j
    pointwise []
    rw [iblk, show V m c (Pipeline.arrRef spec0 11) = m ((c : Thread nD τ).loc main_arg11) from entry4 m c]
    blk_ext [idx t]
  iterate 4
    intro k j
    pointwise []
    rw [iblk, show V m c (Pipeline.arrRef spec0 12) = m ((c : Thread nD τ).loc main_arg12) from entry5 m c]
    blk_ext [idx t]
  have hy : ((View.whole main_v10).slice (win0_16.rect t)).emb (ix2 r l) = ix2 (row t r) l := by
    unfold row
    blk_ext [idx t]
  rw [hy, Cert.Reference5Ideal.Rows.tail_at]
  simp only [read0, read1, read2, read3, read4, read5, read6, read7, read8, read9, read10, read13, read14, read15]

end Cert.Kernel5Ideal.Final

end
-- ==== Proof.PostSampleClaim.lean ====
/- The claims about the layer's tail at the sample batch's rows: its reference's frame, and that kernel and reference compute the same array. -/
module

public import proofs.«01_k».proof.Defs
public import proofs.«01_k».proof.Proof.PostSampleValue

@[expose] public section

noncomputable section

namespace Cert.Proof.PostSampleClaim

open Idealize.ShloMosaic Idealize.SL.Sem

/-- The reference runs, leaving its arguments and every counter as they were. -/
theorem reference_frame : Cert.quiescent_Reference5Ideal (hReference5Ideal := Cert.Reference5Ideal.Gen.facts) := fun m g _ =>
  (θ_run Cert.Reference5Ideal.defs _ _).mono (fun r h => ⟨fun c => (h c).2,
      Idealize.ShloMosaic.sem_eq_zero_of_no_sems (by decide) r.2⟩)
    (Cert.Reference5Ideal.Rows.run m g)

/-- Kernel and reference end with the same layer output. -/
theorem equal : Cert.algebraic_Kernel5Ideal_Reference5Ideal (hKernel5Ideal := Cert.Kernel5Ideal.Gen.facts)
    (hReference5Ideal := Cert.Reference5Ideal.Gen.facts) := by
  pair_intro
  · run_from Cert.Kernel5Ideal.Value.run_blocks m g
  · run_from Cert.Reference5Ideal.Rows.run m' g'
    exact (Cert.Kernel5Ideal.Final.final m c).symm

end Cert.Proof.PostSampleClaim

end
-- ==== Proof.AttnMath.lean ====
/- The arithmetic of the prompt attention, for one query and one head: the kernel's blocks of 256 keys, from the query's own
   block down, against the problem's one sum over all keys. -/
module

public import proofs.«01_k».proof.Proof.SampleMath

@[expose] public section

set_option maxRecDepth 16384

noncomputable section

namespace Cert.AttnMath

open Idealize.ShloMosaic Cert.InMath Cert.SampleMath

/-- The logarithm of passing key `k` by, zero at the keys that the query at position `M` may not see. -/
def pass (z : ℕ → EReal) (M k : ℕ) : EReal := if k < M then logSig (-z k) else 0

/-- The same in base two, from the scores times −log₂ e. -/
def pass2 (nz : ℕ → EReal) (M k : ℕ) : EReal := if k < M then stay (nz k) else 0

theorem pass_nonpos (z : ℕ → EReal) (M k : ℕ) : pass z M k ≤ 0 := by
  unfold pass
  split
  · exact logSig_nonpos _
  · exact le_refl _

/-- A key's weight as the problem states it. -/
def weight (z : ℕ → EReal) (M k : ℕ) : EReal :=
  if k < M then Ideal.exp (logSig (z k) + (seg (pass z M) k 4096 - logSig (-z k))) else 0

/-- A key's weight as the kernel forms it. -/
def weight2 (nz : ℕ → EReal) (M k : ℕ) : EReal :=
  if k < M then Ideal.exp2 ((stay (nz k) - nz k) + seg (pass2 nz M) (k + 1) 4096) else 0

/-- The two weights agree. -/
theorem weight2_eq (nz z : ℕ → EReal) (M : ℕ) (hM : M ≤ 4096) (h : ∀ k < M, nz k = ((-κe : ℝ) : EReal) * z k) (k : ℕ) :
    weight2 nz M k = weight z M k := by
  unfold weight2 weight
  split
  · rename_i hk
    have e1 : seg (pass2 nz M) (k + 1) 4096 = ((κe : ℝ) : EReal) * seg (pass z M) (k + 1) 4096 := by
      rw [← seg_mul]
      refine Finset.sum_congr rfl fun j _ => ?_
      show pass2 nz M j = ((κe : ℝ) : EReal) * pass z M j
      unfold pass2 pass
      split
      · rename_i hj
        rw [h j hj, stay_eq]
      · rw [mul_zero]
    rw [e1, h k hk, weight_eq _ _ (seg_nonpos _ (pass_nonpos z M) _ _), ← seg_first (pass z M) (show k < 4096 by omega)]
    unfold pass
    rw [if_pos hk]
  · rfl

/-- Past the query's position nothing is passed by. -/
theorem seg_past (nz : ℕ → EReal) (M a b : ℕ) (h : M ≤ a) : seg (pass2 nz M) a b = 0 := by
  refine Finset.sum_eq_zero fun j hj => ?_
  have := (Finset.mem_Ico.mp hj).1
  exact if_neg (by omega)

theorem acc_past (nz v : ℕ → EReal) (M a b : ℕ) (h : M ≤ a) : seg (fun k => weight2 nz M k * v k) a b = 0 := by
  refine Finset.sum_eq_zero fun j hj => ?_
  have := (Finset.mem_Ico.mp hj).1
  show weight2 nz M j * v j = 0
  rw [weight2, if_neg (by omega), zero_mul]

/-- A block's product with the strict triangle, with the carried sum over the later blocks. -/
theorem later_eq (g : ℕ → EReal) (B : ℕ) (hB : B < 16) (ls : Fin 256 → EReal) (hls : ∀ i : Fin 256, ls i = g (256 * B + i.val))
    (n : Fin 256) :
    (∑ i : Fin 256, ls i * (if n.val < i.val then 1 else 0)) + seg g (256 * (B + 1)) 4096 = seg g (256 * B + n.val + 1) 4096 := by
  rw [← seg_add g (show 256 * B + n.val + 1 ≤ 256 * (B + 1) by omega) (show 256 * (B + 1) ≤ 4096 by omega)]
  congr 1
  rw [show 256 * (B + 1) = 256 * B + 256 by ring, ← seg_after g (256 * B) 256 n.val n.isLt]
  refine Finset.sum_congr rfl fun i _ => ?_
  rw [hls, mul_ite, mul_one, mul_zero]

/-- The carried sum with this block's. -/
theorem carry_eq (g : ℕ → EReal) (B : ℕ) (hB : B < 16) (ls : Fin 256 → EReal) (hls : ∀ i : Fin 256, ls i = g (256 * B + i.val))
    (c : EReal) (hc : c = seg g (256 * (B + 1)) 4096) :
    ((∑ i : Fin 256, ls i * (if (0 : Fin 256).val < i.val then 1 else 0)) + c) + ls 0 = seg g (256 * B) 4096 := by
  rw [hc, later_eq g B hB ls hls 0, hls 0, add_comm]
  exact seg_first g (show 256 * B < 4096 by omega)

/-- A block's weighted values. -/
theorem block_eq (nz v : ℕ → EReal) (M B : ℕ) (hB : B < 16) (ls f w u : Fin 256 → EReal)
    (hls : ∀ i : Fin 256, ls i = pass2 nz M (256 * B + i.val)) (hf : ∀ i : Fin 256, f i = nz (256 * B + i.val))
    (hu : ∀ i : Fin 256, u i = v (256 * B + i.val)) (c : EReal) (hc : c = seg (pass2 nz M) (256 * (B + 1)) 4096)
    (hw : ∀ n : Fin 256, w n = if 256 * B + n.val < M then
      Ideal.exp2 ((ls n - f n) + ((∑ i : Fin 256, ls i * (if n.val < i.val then 1 else 0)) + c)) else 0) :
    (∑ n : Fin 256, w n * u n) = seg (fun k => weight2 nz M k * v k) (256 * B) (256 * (B + 1)) := by
  rw [seg, Finset.sum_Ico_eq_sum_range, show 256 * (B + 1) - 256 * B = 256 by omega,
    ← Fin.sum_univ_eq_sum_range (fun k => weight2 nz M (256 * B + k) * v (256 * B + k)) 256]
  refine Finset.sum_congr rfl fun n _ => ?_
  rw [hw, hu, weight2]
  split
  · rename_i h
    rw [hc, later_eq (pass2 nz M) B hB ls hls n, hls, hf, pass2, if_pos h]
  · rfl

end Cert.AttnMath

end
-- ==== Proof.AttnKernel.lean ====
/- What the steps of the prompt attention compute, row by row, in the terms of `AttnMath`: a block of 256 keys against a tile's
   1024 rows (512 queries for each of two heads) or against half of them. -/
module

public import proofs.«01_k».proof.Proof.Gen.Kernel6Ideal.Skeleton
public import Idealize.ShloMosaic.Lib.Pipeline.Value
public import proofs.«01_k».proof.Proof.AttnMath

@[expose] public section

set_option maxRecDepth 16384

noncomputable section

namespace Cert.Kernel6Ideal.Rows

open Cert.Kernel6Ideal Cert.Kernel6Ideal.Gen Idealize.ShloMosaic Idealize.ShloMosaic.TcCoe Idealize.SL.Sem
open Cert.SampleMath hiding pass pass2 weight weight2 pass_nonpos weight2_eq
open Cert.AttnMath

theorem log2e_named : (Named.named κ "log2e" 0x3FB8AA3B#32 : Ideal .f32) = (((Real.log 2)⁻¹ : ℝ) : EReal) :=
  IdealRules.named_const.ideal_named_scalar _ _ _ _ rfl

theorem neg_log2e_named : (Named.named κ "neg_log2e" 0xBFB8AA3B#32 : Ideal .f32) = ((-((Real.log 2)⁻¹) : ℝ) : EReal) :=
  IdealRules.named_const.ideal_named_scalar _ _ _ _ rfl

theorem toInt_small (n : ℕ) (h : n < 2 ^ 31) : (BitVec.ofNat 32 n).toInt = n := by
  rw [BitVec.toInt_eq_toNat_of_lt]
  · rw [BitVec.toNat_ofNat, Nat.mod_eq_of_lt (by omega)]
  · rw [BitVec.toNat_ofNat, Nat.mod_eq_of_lt (by omega)]
    omega

theorem slt_small (a b : ℕ) (ha : a < 2 ^ 31) (hb : b < 2 ^ 31) :
    IntOp.cmpi .slt (BitVec.ofNat 32 a) (BitVec.ofNat 32 b) = if a < b then 1#1 else 0#1 := by
  show BitVec.ofBool ((BitVec.ofNat 32 a).slt (BitVec.ofNat 32 b)) = _
  rw [BitVec.slt, toInt_small b hb, toInt_small a ha]
  by_cases h : a < b
  · rw [if_pos h, decide_eq_true (by exact_mod_cast h)]
    rfl
  · rw [if_neg h, decide_eq_false (by exact_mod_cast h)]
    rfl

theorem sgt_small (a b : ℕ) (ha : a < 2 ^ 31) (hb : b < 2 ^ 31) :
    IntOp.cmpi .sgt (BitVec.ofNat 32 a) (BitVec.ofNat 32 b) = if b < a then 1#1 else 0#1 :=
  slt_small b a hb ha

/-- A selection on a condition's word. -/
theorem select_ite (p : Prop) [Decidable p] (a b : EReal) :
    Scalar.select (α := EReal) (if p then 1#1 else 0#1) a b = if p then a else b := by
  by_cases h : p
  · rw [if_pos h, if_pos h]; rfl
  · rw [if_neg h, if_neg h]; rfl

theorem one_bits : (Scalar.ofBits .f32 0x3F800000#32 : Ideal .f32) = (1 : EReal) := by
  pointwise []

/-! ### The masks -/

/-- The strict triangle. -/
theorem tri_at (i n : Fin 256) : k0_pay136 (F := Ideal) (ix2 i n) = if n.val < i.val then 1 else 0 := by
  have hw : ∀ i : Fin 256, Scalar.select (IntOp.cmpi .sge (BitVec.ofNat 32 i.val) 256#32) (IntOp.subi (BitVec.ofNat 32 i.val) 256#32) (BitVec.ofNat 32 i.val) = BitVec.ofNat 32 i.val := by
    decide +kernel
  have h1 := sgt_small i.val n.val (by omega) (by omega)
  rw [← hw] at h1
  rw [← select_ite, ← h1, ← one_bits]
  pointwise [k0_pay136]

/-- The keys before a half tile's query within the query's own block. -/
theorem mask_at (r : Fin 512) (n : Fin 256) : k0_pay137 (ix2 r n) = if n.val < r.val % 256 then 1#1 else 0#1 := by
  have hw : ∀ r : Fin 512, Scalar.select (IntOp.cmpi .slt (BitVec.ofNat 32 r.val) 256#32) (BitVec.ofNat 32 r.val) (IntOp.subi (BitVec.ofNat 32 r.val) 256#32) = BitVec.ofNat 32 (r.val % 256) := by
    decide +kernel
  rw [← slt_small _ _ (by omega) (by omega), ← hw]
  pointwise [k0_pay137]

/-- The lanes of the first of two heads. -/
theorem lane_at (l : Fin 128) : k0_pay132 (ix2 0 l) = if l.val < 64 then 1#1 else 0#1 := by
  rw [← slt_small _ _ (by omega) (by omega)]
  pointwise [k0_pay132]

/-! ### A block against all 1024 rows -/

theorem nz_at (q : Vec Ideal S1024x256 .bf16) (kb : Vec Ideal S1x256x256 .bf16) (r : Fin 1024) (n : Fin 256) :
    k0_pay92 (F := Ideal) q kb (ix2 r n) = ∑ d : Fin 256, q (ix2 r d) * kb (ix3 0 d n) := by
  pointwise [k0_pay92]

theorem ls_at (q : Vec Ideal S1024x256 .bf16) (kb : Vec Ideal S1x256x256 .bf16) (r : Fin 1024) (n : Fin 256) :
    k0_pay93 (F := Ideal) q kb (ix2 r n) = stay (k0_pay92 (F := Ideal) q kb (ix2 r n)) := by
  pointwise [k0_pay93]
  rw [log2e_named]
  rfl

theorem aft_at (q : Vec Ideal S1024x256 .bf16) (tri : Vec Ideal S256x256 .bf16) (c : Vec Ideal S1024x1 .f32)
    (kb : Vec Ideal S1x256x256 .bf16) (r : Fin 1024) (n : Fin 256) :
    k0_pay94 (F := Ideal) q tri c kb (ix2 r n)
      = (∑ i : Fin 256, k0_pay93 (F := Ideal) q kb (ix2 r i) * tri (ix2 i n)) + c (ix2 r 0) := by
  pointwise [k0_pay94]

theorem car_at (q : Vec Ideal S1024x256 .bf16) (tri : Vec Ideal S256x256 .bf16) (c : Vec Ideal S1024x1 .f32)
    (kb : Vec Ideal S1x256x256 .bf16) (r : Fin 1024) :
    k0_pay95 (F := Ideal) q tri c kb (ix2 r 0)
      = k0_pay94 (F := Ideal) q tri c kb (ix2 r 0) + k0_pay93 (F := Ideal) q kb (ix2 r 0) := by
  pointwise [k0_pay95]

/-- The row of a query for the head of lane `l`. -/
def row (r : Fin 512) (l : Fin 128) : Fin 1024 := if l.val < 64 then ⟨r.val, by omega⟩ else ⟨512 + r.val, by omega⟩

theorem row_mod (r : Fin 512) (l : Fin 128) : (row r l).val % 512 = r.val := by
  unfold row
  split <;> dsimp only <;> omega

theorem out_at (q : Vec Ideal S1024x256 .bf16) (tri : Vec Ideal S256x256 .bf16) (c : Vec Ideal S1024x1 .f32)
    (kb : Vec Ideal S1x256x256 .bf16) (vb : Vec Ideal S1x128x256 .bf16) (r : Fin 512) (l : Fin 128) :
    k0_pay96 (F := Ideal) k0_pay132 q tri c kb vb (ix2 r l)
      = ∑ n : Fin 256, Ideal.exp2 ((k0_pay93 (F := Ideal) q kb (ix2 (row r l) n) - k0_pay92 (F := Ideal) q kb (ix2 (row r l) n))
          + k0_pay94 (F := Ideal) q tri c kb (ix2 (row r l) n)) * vb (ix3 0 l n) := by
  unfold row
  pointwise [k0_pay96]
  rw [lane_at, select_ite]
  split <;> rfl

/-! ### A block against half of the rows -/

theorem hnz_at (q : Vec Ideal S512x256 .bf16) (kb : Vec Ideal S1x256x256 .bf16) (r : Fin 512) (n : Fin 256) :
    k0_pay79 (F := Ideal) q kb (ix2 r n) = ∑ d : Fin 256, q (ix2 r d) * kb (ix3 0 d n) := by
  pointwise [k0_pay79]

theorem mls_at (q : Vec Ideal S512x256 .bf16) (kb : Vec Ideal S1x256x256 .bf16) (r : Fin 512) (n : Fin 256) :
    k0_pay80 (F := Ideal) k0_pay137 q kb (ix2 r n)
      = if n.val < r.val % 256 then stay (k0_pay79 (F := Ideal) q kb (ix2 r n)) else 0 := by
  rw [← select_ite, ← mask_at]
  pointwise [k0_pay80]
  rw [log2e_named]
  rfl

theorem maft_at (q : Vec Ideal S512x256 .bf16) (tri : Vec Ideal S256x256 .bf16) (c : Vec Ideal S512x1 .f32)
    (kb : Vec Ideal S1x256x256 .bf16) (m : IVec S512x256 1) (r : Fin 512) (n : Fin 256) :
    k0_pay81 (F := Ideal) tri m q c kb (ix2 r n)
      = (∑ i : Fin 256, k0_pay80 (F := Ideal) m q kb (ix2 r i) * tri (ix2 i n)) + c (ix2 r 0) := by
  pointwise [k0_pay81]

theorem mcar_at (q : Vec Ideal S512x256 .bf16) (tri : Vec Ideal S256x256 .bf16) (c : Vec Ideal S512x1 .f32)
    (kb : Vec Ideal S1x256x256 .bf16) (m : IVec S512x256 1) (r : Fin 512) :
    k0_pay82 (F := Ideal) tri m q c kb (ix2 r 0)
      = k0_pay81 (F := Ideal) tri m q c kb (ix2 r 0) + k0_pay80 (F := Ideal) m q kb (ix2 r 0) := by
  pointwise [k0_pay82]

/-- The row of a half tile's query for the head of lane `l`. -/
def hrow (r : Fin 256) (l : Fin 128) : Fin 512 := if l.val < 64 then ⟨r.val, by omega⟩ else ⟨256 + r.val, by omega⟩

theorem mout_at (q : Vec Ideal S512x256 .bf16) (tri : Vec Ideal S256x256 .bf16) (c : Vec Ideal S512x1 .f32)
    (kb : Vec Ideal S1x256x256 .bf16) (vb : Vec Ideal S1x128x256 .bf16) (r : Fin 256) (l : Fin 128) :
    k0_pay83 (F := Ideal) k0_pay132 tri k0_pay137 q c kb vb (ix2 r l)
      = ∑ n : Fin 256, (if n.val < (hrow r l).val % 256 then
          Ideal.exp2 ((k0_pay80 (F := Ideal) k0_pay137 q kb (ix2 (hrow r l) n) - k0_pay79 (F := Ideal) q kb (ix2 (hrow r l) n))
          + k0_pay81 (F := Ideal) tri k0_pay137 q c kb (ix2 (hrow r l) n)) else 0) * vb (ix3 0 l n) := by
  simp only [← select_ite, ← mask_at]
  unfold hrow
  pointwise [k0_pay83]
  rw [lane_at, select_ite]
  split <;> rfl

theorem hls_at (f : Vec Ideal S512x256 .f32) (r : Fin 512) (n : Fin 256) :
    k0_pay85 (F := Ideal) f (ix2 r n) = stay (f (ix2 r n)) := by
  pointwise [k0_pay85]
  rw [log2e_named]
  rfl

theorem haft_at (tri : Vec Ideal S256x256 .bf16) (c : Vec Ideal S512x1 .f32) (f : Vec Ideal S512x256 .f32) (r : Fin 512)
    (n : Fin 256) :
    k0_pay86 (F := Ideal) tri c f (ix2 r n)
      = (∑ i : Fin 256, k0_pay85 (F := Ideal) f (ix2 r i) * tri (ix2 i n)) + c (ix2 r 0) := by
  pointwise [k0_pay86]

theorem hcar_at (tri : Vec Ideal S256x256 .bf16) (c : Vec Ideal S512x1 .f32) (f : Vec Ideal S512x256 .f32) (r : Fin 512) :
    k0_pay87 (F := Ideal) tri c f (ix2 r 0)
      = k0_pay86 (F := Ideal) tri c f (ix2 r 0) + k0_pay85 (F := Ideal) f (ix2 r 0) := by
  pointwise [k0_pay87]

theorem hout_at (tri : Vec Ideal S256x256 .bf16) (c : Vec Ideal S512x1 .f32) (f : Vec Ideal S512x256 .f32)
    (vb : Vec Ideal S1x128x256 .bf16) (r : Fin 256) (l : Fin 128) :
    k0_pay88 (F := Ideal) k0_pay132 tri c f vb (ix2 r l)
      = ∑ n : Fin 256, Ideal.exp2 ((k0_pay85 (F := Ideal) f (ix2 (hrow r l) n) - f (ix2 (hrow r l) n))
          + k0_pay86 (F := Ideal) tri c f (ix2 (hrow r l) n)) * vb (ix3 0 l n) := by
  unfold hrow
  pointwise [k0_pay88]
  rw [lane_at, select_ite]
  split <;> rfl

end Cert.Kernel6Ideal.Rows

end
-- ==== Proof.AttnStep.lean ====
/- One block of keys moves the carried sum and the weighted values of a tile on by that block. -/
module

public import proofs.«01_k».proof.Proof.AttnKernel

@[expose] public section

set_option maxRecDepth 16384

noncomputable section

namespace Cert.Kernel6Ideal.Rows

open Cert.Kernel6Ideal Cert.Kernel6Ideal.Gen Idealize.ShloMosaic Idealize.ShloMosaic.TcCoe Idealize.SL.Sem
open Cert.SampleMath hiding pass pass2 weight weight2 pass_nonpos weight2_eq
open Cert.AttnMath

/-- The position of a row's query within the sequence, in tile `qi`. -/
def posn (qi : ℕ) (R : Fin 1024) : ℕ := 512 * qi + R.val % 512

/-- The carried sums are those over the keys of the blocks from `B` on. -/
def CarOk (nzf : Fin 1024 → ℕ → EReal) (qi B : ℕ) (c : FVec Ideal S1024x1 .f32) : Prop :=
  ∀ R : Fin 1024, c (ix2 R 0) = seg (pass2 (nzf R) (posn qi R)) (256 * B) 4096

/-- The weighted values of the keys from `a` to `b`. -/
def part (nzf : Fin 1024 → ℕ → EReal) (v : Fin 128 → ℕ → EReal) (qi : ℕ) (r : Fin 512) (l : Fin 128) (a b : ℕ) : EReal :=
  seg (fun k => weight2 (nzf (row r l)) (512 * qi + r.val) k * v l k) a b

/-- The weighted values are those of the keys of the blocks from `B` on. -/
def AccOk (nzf : Fin 1024 → ℕ → EReal) (v : Fin 128 → ℕ → EReal) (qi B : ℕ) (acc : FVec Ideal S512x128 .f32) : Prop :=
  ∀ (r : Fin 512) (l : Fin 128), acc (ix2 r l) = part nzf v qi r l (256 * B) 4096

/-- The products of the rows with a block are the scores of its keys. -/
def KeyOk (nzf : Fin 1024 → ℕ → EReal) (b : ℕ) (q : Vec Ideal S1024x256 .bf16) (kb : Vec Ideal S1x256x256 .bf16) : Prop :=
  ∀ (R : Fin 1024) (n : Fin 256), (∑ d : Fin 256, q (ix2 R d) * kb (ix3 0 d n)) = nzf R (256 * b + n.val)

/-- The block holds the values of its keys. -/
def ValOk (v : Fin 128 → ℕ → EReal) (b : ℕ) (vb : Vec Ideal S1x128x256 .bf16) : Prop :=
  ∀ (l : Fin 128) (n : Fin 256), vb (ix3 0 l n) = v l (256 * b + n.val)

theorem posn_row (qi : ℕ) (r : Fin 512) (l : Fin 128) : posn qi (row r l) = 512 * qi + r.val := by
  rw [posn, row_mod]

section Full
variable (nzf : Fin 1024 → ℕ → EReal) (v : Fin 128 → ℕ → EReal) (qi b : ℕ) (hqi : qi < 8) (hb : b + 1 ≤ 2 * qi)
  (q : Vec Ideal S1024x256 .bf16) (kb : Vec Ideal S1x256x256 .bf16) (vb : Vec Ideal S1x128x256 .bf16) (c : FVec Ideal S1024x1 .f32)
  (hq : KeyOk nzf b q kb) (hv : ValOk v b vb) (hc : CarOk nzf qi (b + 1) c)
include hqi hb hq hc

theorem full_ls (R : Fin 1024) (i : Fin 256) :
    k0_pay93 (F := Ideal) q kb (ix2 R i) = pass2 (nzf R) (posn qi R) (256 * b + i.val) := by
  rw [ls_at, nz_at, hq, pass2, if_pos (by unfold posn; omega)]

theorem full_car : CarOk nzf qi b (k0_pay95 (F := Ideal) q (k0_pay136 (F := Ideal)) c kb) := by
  intro R
  rw [car_at, aft_at]
  simp only [tri_at]
  exact carry_eq _ b (by omega) _ (fun i => full_ls nzf qi b hqi hb q kb c hq hc R i) _ (hc R)

include hv in
theorem full_out (r : Fin 512) (l : Fin 128) :
    k0_pay96 (F := Ideal) k0_pay132 q (k0_pay136 (F := Ideal)) c kb vb (ix2 r l)
      = part nzf v qi r l (256 * b) (256 * (b + 1)) := by
  rw [out_at, part, ← posn_row qi r l]
  refine block_eq (nzf (row r l)) (v l) (posn qi (row r l)) b (by omega) _
    (fun n => k0_pay92 (F := Ideal) q kb (ix2 (row r l) n)) _ _
    (fun i => full_ls nzf qi b hqi hb q kb c hq hc (row r l) i) (fun i => by rw [nz_at, hq]) (fun i => hv l i) _ (hc (row r l)) fun n => ?_
  rw [if_pos (by unfold posn; omega), aft_at]
  simp only [tri_at]

end Full

/-! ### The diagonal -/

/-- A half tile's rows, `o` = 0 for its first 256 queries and 256 for its last. -/
def half (o : Fin 2) (r : Fin 512) : Fin 1024 := ⟨r.val / 256 * 512 + o.val * 256 + r.val % 256, by omega⟩

theorem half_row (o : Fin 2) (r : Fin 256) (l : Fin 128) : half o (hrow r l) = row ⟨o.val * 256 + r.val, by omega⟩ l := by
  unfold half hrow row
  split <;> exact Fin.ext (by dsimp only; omega)

theorem half_posn (qi : ℕ) (o : Fin 2) (r : Fin 512) : posn qi (half o r) = 256 * (2 * qi + o.val) + r.val % 256 := by
  unfold posn half
  dsimp only
  omega

/-- The half tile's products with a block. -/
def HKeyOk (nzf : Fin 1024 → ℕ → EReal) (o : Fin 2) (b : ℕ) (q : Vec Ideal S512x256 .bf16) (kb : Vec Ideal S1x256x256 .bf16) : Prop :=
  ∀ (r : Fin 512) (n : Fin 256), (∑ d : Fin 256, q (ix2 r d) * kb (ix3 0 d n)) = nzf (half o r) (256 * b + n.val)

def HCarOk (nzf : Fin 1024 → ℕ → EReal) (qi : ℕ) (o : Fin 2) (B : ℕ) (c : FVec Ideal S512x1 .f32) : Prop :=
  ∀ r : Fin 512, c (ix2 r 0) = seg (pass2 (nzf (half o r)) (posn qi (half o r))) (256 * B) 4096

section Half
variable (nzf : Fin 1024 → ℕ → EReal) (v : Fin 128 → ℕ → EReal) (qi : ℕ) (o : Fin 2) (hqi : qi < 8)
  (q : Vec Ideal S512x256 .bf16) (kb : Vec Ideal S1x256x256 .bf16) (vb : Vec Ideal S1x128x256 .bf16) (c : FVec Ideal S512x1 .f32)

/-- Nothing is carried into a half tile's own block. -/
theorem own_zero : HCarOk nzf qi o (2 * qi + o.val + 1) (k0_pay2 (F := Ideal)) := by
  intro r
  rw [seg_past _ _ _ _ (by rw [half_posn]; omega)]
  pointwise [k0_pay2]

include hqi in
theorem own_ls (hq : HKeyOk nzf o (2 * qi + o.val) q kb) (r : Fin 512) (i : Fin 256) :
    k0_pay80 (F := Ideal) k0_pay137 q kb (ix2 r i)
      = pass2 (nzf (half o r)) (posn qi (half o r)) (256 * (2 * qi + o.val) + i.val) := by
  rw [mls_at, hnz_at, hq, pass2, half_posn]
  exact if_congr (by omega) rfl rfl

include hqi in
theorem own_car (hq : HKeyOk nzf o (2 * qi + o.val) q kb) (hc : HCarOk nzf qi o (2 * qi + o.val + 1) c) :
    HCarOk nzf qi o (2 * qi + o.val) (k0_pay82 (F := Ideal) (k0_pay136 (F := Ideal)) k0_pay137 q c kb) := by
  intro r
  rw [mcar_at, maft_at]
  simp only [tri_at]
  exact carry_eq _ (2 * qi + o.val) (by omega) _ (fun i => own_ls nzf qi o hqi q kb hq r i) _ (hc r)

include hqi in
theorem own_out (hq : HKeyOk nzf o (2 * qi + o.val) q kb) (hc : HCarOk nzf qi o (2 * qi + o.val + 1) c)
    (hv : ValOk v (2 * qi + o.val) vb) (r : Fin 256) (l : Fin 128) :
    k0_pay83 (F := Ideal) k0_pay132 (k0_pay136 (F := Ideal)) k0_pay137 q c kb vb (ix2 r l)
      = part nzf v qi ⟨o.val * 256 + r.val, by omega⟩ l (256 * (2 * qi + o.val)) (256 * (2 * qi + o.val + 1)) := by
  rw [mout_at, part, ← posn_row qi _ l, ← half_row]
  refine block_eq (nzf (half o (hrow r l))) (v l) (posn qi (half o (hrow r l))) (2 * qi + o.val) (by omega) _
    (fun n => k0_pay79 (F := Ideal) q kb (ix2 (hrow r l) n)) _ _
    (fun i => own_ls nzf qi o hqi q kb hq (hrow r l) i) (fun i => by rw [hnz_at, hq]) (fun i => hv l i) _ (hc (hrow r l)) fun n => ?_
  rw [maft_at]
  simp only [tri_at]
  refine if_congr ?_ rfl rfl
  rw [half_posn]
  omega

include hqi in
theorem next_ls (hq : HKeyOk nzf 1 (2 * qi) q kb) (r : Fin 512) (i : Fin 256) :
    k0_pay85 (F := Ideal) (k0_pay79 (F := Ideal) q kb) (ix2 r i)
      = pass2 (nzf (half 1 r)) (posn qi (half 1 r)) (256 * (2 * qi) + i.val) := by
  rw [hls_at, hnz_at, hq, pass2, if_pos (by rw [half_posn]; show _ < 256 * (2 * qi + 1) + _; omega)]

include hqi in
theorem next_car (hq : HKeyOk nzf 1 (2 * qi) q kb) (hc : HCarOk nzf qi 1 (2 * qi + 1) c) :
    HCarOk nzf qi 1 (2 * qi) (k0_pay87 (F := Ideal) (k0_pay136 (F := Ideal)) c (k0_pay79 (F := Ideal) q kb)) := by
  intro r
  rw [hcar_at, haft_at]
  simp only [tri_at]
  exact carry_eq _ (2 * qi) (by omega) _ (fun i => next_ls nzf qi hqi q kb hq r i) _ (hc r)

include hqi in
theorem next_out (hq : HKeyOk nzf 1 (2 * qi) q kb) (hc : HCarOk nzf qi 1 (2 * qi + 1) c)
    (hv : ValOk v (2 * qi) vb) (r : Fin 256) (l : Fin 128) :
    k0_pay88 (F := Ideal) k0_pay132 (k0_pay136 (F := Ideal)) c (k0_pay79 (F := Ideal) q kb) vb (ix2 r l)
      = part nzf v qi ⟨256 + r.val, by omega⟩ l (256 * (2 * qi)) (256 * (2 * qi + 1)) := by
  have e : (⟨256 + r.val, by omega⟩ : Fin 512) = ⟨(1 : Fin 2).val * 256 + r.val, by show 1 * 256 + r.val < 512; omega⟩ :=
    Fin.ext (by show 256 + r.val = 1 * 256 + r.val; omega)
  rw [hout_at, part, ← posn_row qi _ l, e, ← half_row]
  refine block_eq (nzf (half 1 (hrow r l))) (v l) (posn qi (half 1 (hrow r l))) (2 * qi) (by omega) _
    (fun n => k0_pay79 (F := Ideal) q kb (ix2 (hrow r l) n)) _ _
    (fun i => next_ls nzf qi hqi q kb hq (hrow r l) i) (fun i => by rw [hnz_at, hq]) (fun i => hv l i) _ (hc (hrow r l)) fun n => ?_
  rw [if_pos (by rw [half_posn]; show _ < 256 * (2 * qi + 1) + _; omega), haft_at]
  simp only [tri_at]

end Half

/-! ### The diagonal's carried sums and weighted values -/

/-- The carried sums of the two half tiles put together. -/
theorem join_car (nzf : Fin 1024 → ℕ → EReal) (qi B : ℕ) (c0 c1 : FVec Ideal S512x1 .f32) (h0 : HCarOk nzf qi 0 B c0)
    (h1 : HCarOk nzf qi 1 B c1) (c : FVec Ideal S1024x1 .f32)
    (h : ∀ R : Fin 1024, c (ix2 R 0) = if R.val % 512 < 256 then c0 (ix2 ⟨R.val / 512 * 256 + R.val % 256, by omega⟩ 0)
      else c1 (ix2 ⟨R.val / 512 * 256 + R.val % 256, by omega⟩ 0)) : CarOk nzf qi B c := by
  intro R
  rw [h]
  split
  · rename_i hr
    have e : half 0 ⟨R.val / 512 * 256 + R.val % 256, by omega⟩ = R := Fin.ext (by
      show (R.val / 512 * 256 + R.val % 256) / 256 * 512 + 0 * 256 + (R.val / 512 * 256 + R.val % 256) % 256 = R.val
      omega)
    rw [h0, e]
  · rename_i hr
    have e : half 1 ⟨R.val / 512 * 256 + R.val % 256, by omega⟩ = R := Fin.ext (by
      show (R.val / 512 * 256 + R.val % 256) / 256 * 512 + 1 * 256 + (R.val / 512 * 256 + R.val % 256) % 256 = R.val
      omega)
    rw [h1, e]

/-- The diagonal's carried sums, put together. -/
theorem joined_at (tri : Vec Ideal S256x256 .bf16) (m : IVec S512x256 1) (c1 : FVec Ideal S512x1 .f32)
    (q : Vec Ideal S512x256 .bf16) (kb : Vec Ideal S1x256x256 .bf16) (R : Fin 1024) :
    k0_pay8 (F := Ideal) tri m c1 (k0_pay90 (F := Ideal) q kb) (k0_pay91 (F := Ideal) q kb) (ix2 R 0)
      = if R.val % 512 < 256 then k0_pay82 (F := Ideal) tri m q (k0_pay2 (F := Ideal)) kb (ix2 ⟨R.val / 512 * 256 + R.val % 256, by omega⟩ 0)
        else c1 (ix2 ⟨R.val / 512 * 256 + R.val % 256, by omega⟩ 0) := by
  have e6 : k0_pay6 (F := Ideal) tri m (k0_pay90 (F := Ideal) q kb) (k0_pay91 (F := Ideal) q kb)
    = k0_pay81 (F := Ideal) tri m q (k0_pay2 (F := Ideal)) kb := rfl
  have e5 : k0_pay5 (F := Ideal) m (k0_pay90 (F := Ideal) q kb) (k0_pay91 (F := Ideal) q kb) = k0_pay80 (F := Ideal) m q kb := rfl
  have hc : ∀ (f : FVec Ideal S512x1 .f32) (a b : Fin 512), a.val = b.val → f (ix2 a 0) = f (ix2 b 0) := fun f a b h => by
    rw [Fin.ext h]
  have h82 : k0_pay82 (F := Ideal) tri m q (k0_pay2 (F := Ideal)) kb = addf
    (extractStridedSlice S512x1 ![0, 0] (k0_pay81 (F := Ideal) tri m q (k0_pay2 (F := Ideal)) kb) slices_S512x256_o0_0_S512x1)
    (extractStridedSlice S512x1 ![0, 0] (k0_pay80 (F := Ideal) m q kb) slices_S512x256_o0_0_S512x1) := rfl
  unfold k0_pay8
  rw [e5, e6, ← h82]
  generalize k0_pay82 (F := Ideal) tri m q (k0_pay2 (F := Ideal)) kb = c0
  pointwise []
  repeat' split
  all_goals first | omega | (exact hc _ _ _ (by dsimp only; omega)) | skip

/-- The diagonal's weighted values. -/
theorem joined_acc_at (tri : Vec Ideal S256x256 .bf16) (m : IVec S512x256 1) (a1 a2 : FVec Ideal S256x128 .f32)
    (q : Vec Ideal S512x256 .bf16) (kb : Vec Ideal S1x256x256 .bf16) (vb : Vec Ideal S1x128x256 .bf16) (r : Fin 512) (l : Fin 128) :
    k0_pay7 (F := Ideal) k0_pay132 tri m a1 a2 (k0_pay89 (F := Ideal) q kb) (k0_pay90 (F := Ideal) q kb) (k0_pay91 (F := Ideal) q kb) vb (ix2 r l)
      = if h : r.val < 256 then k0_pay83 (F := Ideal) k0_pay132 tri m q (k0_pay2 (F := Ideal)) kb vb (ix2 ⟨r.val, h⟩ l)
        else a1 (ix2 ⟨r.val - 256, by omega⟩ l) + a2 (ix2 ⟨r.val - 256, by omega⟩ l) := by
  have e7 : k0_pay7 (F := Ideal) k0_pay132 tri m a1 a2 (k0_pay89 (F := Ideal) q kb) (k0_pay90 (F := Ideal) q kb) (k0_pay91 (F := Ideal) q kb) vb
    = shapeCast S512x128 (concatenate S512x128 0 [⟨S256x128, k0_pay83 (F := Ideal) k0_pay132 tri m q (k0_pay2 (F := Ideal)) kb vb⟩, ⟨S256x128, addf a1 a2⟩] concatenates_S256x128_S256x128_S512x128_d0) shapeCasts_S512x128_S512x128 := rfl
  rw [e7]
  generalize k0_pay83 (F := Ideal) k0_pay132 tri m q (k0_pay2 (F := Ideal)) kb vb = a0
  pointwise []

end Cert.Kernel6Ideal.Rows

end
-- ==== Proof.AttnLoop.lean ====
/- The diagonal blocks of a tile and one trip of the loop over the blocks before them. -/
module

public import proofs.«01_k».proof.Proof.Gen.Kernel6Ideal.Loops
public import Idealize.ShloMosaic.Lib.VecWindow
public import proofs.«01_k».proof.Proof.AttnStep

@[expose] public section

set_option maxRecDepth 16384

noncomputable section

namespace Cert.Kernel6Ideal.Rows

open Cert.Kernel6Ideal Cert.Kernel6Ideal.Gen Idealize.ShloMosaic Idealize.ShloMosaic.TcCoe Idealize.SL.Sem
open Cert.SampleMath hiding pass pass2 weight weight2 pass_nonpos weight2_eq
open Cert.AttnMath

/-- The triangle. -/
abbrev tri : FVec Ideal S256x256 .bf16 := k0_pay136 (F := Ideal)

theorem part_add (nzf : Fin 1024 → ℕ → EReal) (v : Fin 128 → ℕ → EReal) (qi : ℕ) (r : Fin 512) (l : Fin 128) {a b d : ℕ}
    (h : a ≤ b) (h' : b ≤ d) : part nzf v qi r l a b + part nzf v qi r l b d = part nzf v qi r l a d :=
  seg_add _ h h'

section Four
variable (nzf : Fin 1024 → ℕ → EReal) (v : Fin 128 → ℕ → EReal) (qi b : ℕ) (hqi : qi < 8)
  (q : FVec Ideal S1024x256 .bf16)

include hqi in
/-- One more block. -/
theorem one_block (hb : b + 1 ≤ 2 * qi) (kb : Vec Ideal S1x256x256 .bf16) (vb : Vec Ideal S1x128x256 .bf16)
    (hq : KeyOk nzf b q kb) (hv : ValOk v b vb) (c : FVec Ideal S1024x1 .f32) (hc : CarOk nzf qi (b + 1) c) :
    CarOk nzf qi b (k0_pay95 (F := Ideal) q tri c kb)
    ∧ ∀ r l, k0_pay96 (F := Ideal) k0_pay132 q tri c kb vb (ix2 r l) = part nzf v qi r l (256 * b) (256 * (b + 1)) :=
  ⟨full_car nzf qi b hqi hb q kb c hq hc, fun r l => full_out nzf v qi b hqi hb q kb vb c hq hv hc r l⟩

include hqi in
/-- Four blocks. -/
theorem four_blocks (hb : b + 4 ≤ 2 * qi) (k0 k1 k2 k3 : Vec Ideal S1x256x256 .bf16) (v0 v1 v2 v3 : Vec Ideal S1x128x256 .bf16)
    (hk0 : KeyOk nzf (b + 3) q k0) (hk1 : KeyOk nzf (b + 2) q k1) (hk2 : KeyOk nzf (b + 1) q k2) (hk3 : KeyOk nzf b q k3)
    (hv0 : ValOk v (b + 3) v0) (hv1 : ValOk v (b + 2) v1) (hv2 : ValOk v (b + 1) v2) (hv3 : ValOk v b v3)
    (c : FVec Ideal S1024x1 .f32) (hc : CarOk nzf qi (b + 4) c) (a : FVec Ideal S512x128 .f32) (ha : AccOk nzf v qi (b + 4) a)
    (c3 : FVec Ideal S1024x1 .f32)
    (hc3 : c3 = k0_pay95 (F := Ideal) q tri (k0_pay95 (F := Ideal) q tri (k0_pay95 (F := Ideal) q tri c k0) k1) k2)
    (o3 : FVec Ideal S512x128 .f32)
    (ho3 : o3 = addf (addf (k0_pay96 (F := Ideal) k0_pay132 q tri c k0 v0)
      (k0_pay96 (F := Ideal) k0_pay132 q tri (k0_pay95 (F := Ideal) q tri c k0) k1 v1))
      (k0_pay96 (F := Ideal) k0_pay132 q tri (k0_pay95 (F := Ideal) q tri (k0_pay95 (F := Ideal) q tri c k0) k1) k2 v2)) :
    CarOk nzf qi b (k0_pay11 (F := Ideal) tri c3 (k0_pay110 (F := Ideal) q k3) (k0_pay111 (F := Ideal) q k3)
      (constant S1024x256 .f32 0x00000000#32))
    ∧ AccOk nzf v qi b (k0_pay10 (F := Ideal) k0_pay132 tri c3 o3 (k0_pay109 (F := Ideal) q k3) (k0_pay110 (F := Ideal) q k3)
        (k0_pay111 (F := Ideal) q k3) (constant S1024x256 .f32 0x00000000#32) v3 a) := by
  have s0 := one_block nzf v qi (b + 3) hqi q (by omega) k0 v0 hk0 hv0 c hc
  have s1 := one_block nzf v qi (b + 2) hqi q (by omega) k1 v1 hk1 hv1 _ s0.1
  have s2 := one_block nzf v qi (b + 1) hqi q (by omega) k2 v2 hk2 hv2 _ s1.1
  have s3 := one_block nzf v qi b hqi q (by omega) k3 v3 hk3 hv3 _ s2.1
  rw [← hc3] at s3
  have e11 : k0_pay11 (F := Ideal) tri c3 (k0_pay110 (F := Ideal) q k3) (k0_pay111 (F := Ideal) q k3)
      (constant S1024x256 .f32 0x00000000#32)
    = shapeCast S1024x1 (k0_pay95 (F := Ideal) q tri c3 k3) shapeCasts_S1024x1_S1024x1 := rfl
  have e10 : k0_pay10 (F := Ideal) k0_pay132 tri c3 o3 (k0_pay109 (F := Ideal) q k3) (k0_pay110 (F := Ideal) q k3)
        (k0_pay111 (F := Ideal) q k3) (constant S1024x256 .f32 0x00000000#32) v3 a
    = shapeCast S512x128 (addf a (addf o3 (k0_pay96 (F := Ideal) k0_pay132 q tri c3 k3 v3))) shapeCasts_S512x128_S512x128 := rfl
  rw [e11, e10]
  refine ⟨fun R => ?_, fun r l => ?_⟩
  · rw [← s3.1 R]
    generalize k0_pay95 (F := Ideal) q tri c3 k3 = x
    pointwise []
  · have h0 := s0.2 r l
    have h1 := s1.2 r l
    have h2 := s2.2 r l
    have h3 := s3.2 r l
    have h4 := ha r l
    subst ho3
    generalize k0_pay96 (F := Ideal) k0_pay132 q tri c3 k3 v3 = x3 at h3 ⊢
    generalize k0_pay96 (F := Ideal) k0_pay132 q tri (k0_pay95 (F := Ideal) q tri (k0_pay95 (F := Ideal) q tri c k0) k1) k2 v2 = x2 at h2 ⊢
    generalize k0_pay96 (F := Ideal) k0_pay132 q tri (k0_pay95 (F := Ideal) q tri c k0) k1 v1 = x1 at h1 ⊢
    generalize k0_pay96 (F := Ideal) k0_pay132 q tri c k0 v0 = x0 at h0 ⊢
    have e : (shapeCast S512x128 (addf a (addf (addf (addf x0 x1) x2) x3)) shapeCasts_S512x128_S512x128) (ix2 r l)
      = a (ix2 r l) + (((x0 (ix2 r l) + x1 (ix2 r l)) + x2 (ix2 r l)) + x3 (ix2 r l)) := by pointwise []
    rw [e, h0, h1, h2, h3, h4, ← part_add nzf v qi r l (show 256 * b ≤ 256 * (b + 1) by omega) (show 256 * (b + 1) ≤ 4096 by omega),
      ← part_add nzf v qi r l (show 256 * (b + 1) ≤ 256 * (b + 1 + 1) by omega) (show 256 * (b + 1 + 1) ≤ 4096 by omega),
      ← part_add nzf v qi r l (show 256 * (b + 1 + 1) ≤ 256 * (b + 2 + 1) by omega) (show 256 * (b + 2 + 1) ≤ 4096 by omega),
      ← part_add nzf v qi r l (show 256 * (b + 2 + 1) ≤ 256 * (b + 3 + 1) by omega) (show 256 * (b + 3 + 1) ≤ 4096 by omega)]
    show _ + (((part nzf v qi r l (256 * (b + 3)) (256 * (b + 4)) + part nzf v qi r l (256 * (b + 2)) (256 * (b + 3)))
      + part nzf v qi r l (256 * (b + 1)) (256 * (b + 2))) + part nzf v qi r l (256 * b) (256 * (b + 1)))
      = part nzf v qi r l (256 * b) (256 * (b + 1)) + (part nzf v qi r l (256 * (b + 1)) (256 * (b + 2))
        + (part nzf v qi r l (256 * (b + 2)) (256 * (b + 3)) + (part nzf v qi r l (256 * (b + 3)) (256 * (b + 4))
          + part nzf v qi r l (256 * (b + 4)) 4096)))
    generalize part nzf v qi r l (256 * (b + 3)) (256 * (b + 4)) = p3
    generalize part nzf v qi r l (256 * (b + 2)) (256 * (b + 3)) = p2
    generalize part nzf v qi r l (256 * (b + 1)) (256 * (b + 2)) = p1
    generalize part nzf v qi r l (256 * b) (256 * (b + 1)) = p0
    abel

end Four

/-! ### The diagonal -/

section Diag
variable (nzf : Fin 1024 → ℕ → EReal) (v : Fin 128 → ℕ → EReal) (qi : ℕ) (hqi : qi < 8)
  (qE qL : FVec Ideal S512x256 .bf16) (kT kN : Vec Ideal S1x256x256 .bf16) (vT vN : Vec Ideal S1x128x256 .bf16)

/-- The carried sums after the diagonal. -/
def diagCar : FVec Ideal S1024x1 .f32 :=
  k0_pay8 (F := Ideal) tri k0_pay137 (k0_pay87 (F := Ideal) tri (k0_pay82 (F := Ideal) tri k0_pay137 qL (k0_pay2 (F := Ideal)) kT)
    (k0_pay84 (F := Ideal) qL kN)) (k0_pay90 (F := Ideal) qE kN) (k0_pay91 (F := Ideal) qE kN)

/-- The weighted values after the diagonal. -/
def diagAcc : FVec Ideal S512x128 .f32 :=
  k0_pay7 (F := Ideal) k0_pay132 tri k0_pay137
    (k0_pay83 (F := Ideal) k0_pay132 tri k0_pay137 qL (k0_pay2 (F := Ideal)) kT vT)
    (k0_pay88 (F := Ideal) k0_pay132 tri (k0_pay82 (F := Ideal) tri k0_pay137 qL (k0_pay2 (F := Ideal)) kT)
      (k0_pay84 (F := Ideal) qL kN) vN)
    (k0_pay89 (F := Ideal) qE kN) (k0_pay90 (F := Ideal) qE kN) (k0_pay91 (F := Ideal) qE kN) vN

variable (hT : HKeyOk nzf 1 (2 * qi + 1) qL kT) (hN : HKeyOk nzf 1 (2 * qi) qL kN) (hE : HKeyOk nzf 0 (2 * qi) qE kN)
  (hvT : ValOk v (2 * qi + 1) vT) (hvN : ValOk v (2 * qi) vN)

include hqi hT hN hE in
theorem diag_car : CarOk nzf qi (2 * qi) (diagCar qE qL kT kN) := by
  refine join_car nzf qi (2 * qi) _ _ (own_car nzf qi 0 hqi qE kN (k0_pay2 (F := Ideal)) hE (own_zero nzf qi 0))
    (next_car nzf qi hqi qL kN (k0_pay82 (F := Ideal) tri k0_pay137 qL (k0_pay2 (F := Ideal)) kT) hN
      (own_car nzf qi 1 hqi qL kT (k0_pay2 (F := Ideal)) hT (own_zero nzf qi 1))) _ fun R => ?_
  exact joined_at _ _ _ _ _ R

include hqi hT hN hE hvT hvN in
theorem diag_acc : AccOk nzf v qi (2 * qi) (diagAcc qE qL kT kN vT vN) := by
  intro r l
  have e1 := own_out nzf v qi 1 hqi qL kT vT (k0_pay2 (F := Ideal)) hT (own_zero nzf qi 1) hvT
  have e2 := next_out nzf v qi hqi qL kN vN (k0_pay82 (F := Ideal) tri k0_pay137 qL (k0_pay2 (F := Ideal)) kT) hN
    (own_car nzf qi 1 hqi qL kT (k0_pay2 (F := Ideal)) hT (own_zero nzf qi 1)) hvN
  have e0 := own_out nzf v qi 0 hqi qE kN vN (k0_pay2 (F := Ideal)) hE (own_zero nzf qi 0) hvN
  refine (joined_acc_at _ _ _ _ _ _ _ r l).trans ?_
  have hp : ∀ a, 512 * qi + r.val ≤ a → part nzf v qi r l a 4096 = 0 := fun a h => acc_past _ _ _ _ _ h
  split
  · rename_i h
    have hr : (⟨(0 : Fin 2).val * 256 + r.val, by show 0 * 256 + r.val < 512; omega⟩ : Fin 512) = r :=
      Fin.ext (by show 0 * 256 + r.val = r.val; omega)
    have := e0 ⟨r.val, h⟩ l
    rw [← part_add nzf v qi r l (show 256 * (2 * qi) ≤ 256 * (2 * qi + 1) by omega) (show 256 * (2 * qi + 1) ≤ 4096 by omega),
      hp _ (by omega), add_zero]
    exact this.trans (congrArg (fun x => part nzf v qi x l (256 * (2 * qi)) (256 * (2 * qi + 1))) hr)
  · rename_i h
    have hr : (⟨(1 : Fin 2).val * 256 + (r.val - 256), by show 1 * 256 + (r.val - 256) < 512; omega⟩ : Fin 512) = r :=
      Fin.ext (by show 1 * 256 + (r.val - 256) = r.val; omega)
    have hr' : (⟨256 + (r.val - 256), by omega⟩ : Fin 512) = r := Fin.ext (by show 256 + (r.val - 256) = r.val; omega)
    have f1 := (e1 ⟨r.val - 256, by omega⟩ l).trans
      (congrArg (fun x => part nzf v qi x l (256 * (2 * qi + 1)) (256 * (2 * qi + 1 + 1))) hr)
    have f2 := (e2 ⟨r.val - 256, by omega⟩ l).trans
      (congrArg (fun x => part nzf v qi x l (256 * (2 * qi)) (256 * (2 * qi + 1))) hr')
    refine (congrArg₂ (· + ·) f1 f2).trans ?_
    rw [← part_add nzf v qi r l (show 256 * (2 * qi) ≤ 256 * (2 * qi + 1) by omega) (show 256 * (2 * qi + 1) ≤ 4096 by omega),
      ← part_add nzf v qi r l (show 256 * (2 * qi + 1) ≤ 256 * (2 * qi + 1 + 1) by omega) (show 256 * (2 * qi + 1 + 1) ≤ 4096 by omega),
      hp (256 * (2 * qi + 1 + 1)) (by omega), add_zero, add_comm]

end Diag

/-! ### Two blocks more, in the odd tiles -/

section Two
variable (nzf : Fin 1024 → ℕ → EReal) (v : Fin 128 → ℕ → EReal) (qi b : ℕ) (hqi : qi < 8) (hb : b + 2 ≤ 2 * qi)
  (q : FVec Ideal S1024x256 .bf16) (kA kB : Vec Ideal S1x256x256 .bf16) (vA vB : Vec Ideal S1x128x256 .bf16)
  (c : FVec Ideal S1024x1 .f32) (a : FVec Ideal S512x128 .f32)

/-- The literal log₂ e, by its name. -/
abbrev log2e : Ideal .f32 := Named.named κ "log2e" 0x3FB8AA3B#32

/-- The carried sums after two blocks. -/
def twoCar : FVec Ideal S1024x1 .f32 :=
  k0_pay4 (F := Ideal) (k0_pay76 (F := Ideal) q kB) (k0_pay77 (F := Ideal) q tri c (k0_pay70 (F := Ideal) q kA) (k0_pay71 (F := Ideal) q kA) log2e kB)

/-- The weighted values after two blocks. -/
def twoAcc : FVec Ideal S512x128 .f32 :=
  k0_pay3 (F := Ideal) k0_pay132
    (k0_pay74 (F := Ideal) k0_pay132 tri c a (k0_pay69 (F := Ideal) q kA) (k0_pay70 (F := Ideal) q kA) (k0_pay71 (F := Ideal) q kA) log2e vA)
    (k0_pay78 (F := Ideal) q tri c (k0_pay70 (F := Ideal) q kA) (k0_pay71 (F := Ideal) q kA) log2e kB) vB

variable (hA : KeyOk nzf (b + 1) q kA) (hB : KeyOk nzf b q kB) (hvA : ValOk v (b + 1) vA) (hvB : ValOk v b vB)
  (hc : CarOk nzf qi (b + 2) c)

include hqi hb hA hB hvA hvB hc in
theorem two_blocks (ha : AccOk nzf v qi (b + 2) a) :
    CarOk nzf qi b (twoCar q kA kB c) ∧ AccOk nzf v qi b (twoAcc q kA kB vA vB c a) := by
  have s0 := one_block nzf v qi (b + 1) hqi q (by omega) kA vA hA hvA c hc
  have s1 := one_block nzf v qi b hqi q (by omega) kB vB hB hvB _ s0.1
  have e1 : twoCar q kA kB c = shapeCast S1024x1 (k0_pay95 (F := Ideal) q tri (k0_pay95 (F := Ideal) q tri c kA) kB) shapeCasts_S1024x1_S1024x1 := rfl
  have e0 : twoAcc q kA kB vA vB c a = shapeCast S512x128 (addf (addf a (k0_pay96 (F := Ideal) k0_pay132 q tri c kA vA))
    (k0_pay96 (F := Ideal) k0_pay132 q tri (k0_pay95 (F := Ideal) q tri c kA) kB vB)) shapeCasts_S512x128_S512x128 := rfl
  rw [e1, e0]
  refine ⟨fun R => ?_, fun r l => ?_⟩
  · rw [← s1.1 R]
    generalize k0_pay95 (F := Ideal) q tri (k0_pay95 (F := Ideal) q tri c kA) kB = x
    pointwise []
  · have h0 := s0.2 r l
    have h1 := s1.2 r l
    have h4 := ha r l
    generalize k0_pay96 (F := Ideal) k0_pay132 q tri (k0_pay95 (F := Ideal) q tri c kA) kB vB = x1 at h1 ⊢
    generalize k0_pay96 (F := Ideal) k0_pay132 q tri c kA vA = x0 at h0 ⊢
    have e : (shapeCast S512x128 (addf (addf a x0) x1) shapeCasts_S512x128_S512x128) (ix2 r l)
      = (a (ix2 r l) + x0 (ix2 r l)) + x1 (ix2 r l) := by pointwise []
    rw [e, h0, h1, h4, ← part_add nzf v qi r l (show 256 * b ≤ 256 * (b + 1) by omega) (show 256 * (b + 1) ≤ 4096 by omega),
      ← part_add nzf v qi r l (show 256 * (b + 1) ≤ 256 * (b + 1 + 1) by omega) (show 256 * (b + 1 + 1) ≤ 4096 by omega)]
    show (part nzf v qi r l (256 * (b + 2)) 4096 + part nzf v qi r l (256 * (b + 1)) (256 * (b + 2))) + _ = _ + (_ + part nzf v qi r l (256 * (b + 2)) 4096)
    rw [add_comm, add_comm (part nzf v qi r l (256 * (b + 2)) 4096)]

end Two

/-! ### The queries of half a tile -/

theorem early_at (v0 : IVec S1x128 32) (v18 : FVec Ideal S1024x128 .bf16) (v39 : FVec Ideal S512x128 .bf16) (v43 : Elt Ideal .f32)
    (r : Fin 512) (d : Fin 256) :
    k0_pay138 (F := Ideal) v0 v18 v39 v43 (ix2 r d) = k0_pay135 (F := Ideal) v0 v18 v39 v43 (ix2 (half 0 r) d) := by
  have hc : ∀ (f : FVec Ideal S1024x256 .bf16) (a b : Fin 1024), a.val = b.val → f (ix2 a d) = f (ix2 b d) := fun f a b h => by
    rw [Fin.ext h]
  unfold k0_pay138
  generalize k0_pay135 (F := Ideal) v0 v18 v39 v43 = f
  pointwise []
  split <;> exact hc f _ _ (by show _ = r.val / 256 * 512 + 0 * 256 + r.val % 256; dsimp only; omega)

theorem late_at (v0 : IVec S1x128 32) (v18 : FVec Ideal S1024x128 .bf16) (v39 : FVec Ideal S512x128 .bf16) (v43 : Elt Ideal .f32)
    (r : Fin 512) (d : Fin 256) :
    k0_pay1 (F := Ideal) (k0_pay135 (F := Ideal) v0 v18 v39 v43) (k0_pay139 (F := Ideal) v0 v18 v39 v43) (ix2 r d)
      = k0_pay135 (F := Ideal) v0 v18 v39 v43 (ix2 (half 1 r) d) := by
  have hc : ∀ (f : FVec Ideal S1024x256 .bf16) (a b : Fin 1024), a.val = b.val → f (ix2 a d) = f (ix2 b d) := fun f a b h => by
    rw [Fin.ext h]
  unfold k0_pay1 k0_pay139
  generalize k0_pay135 (F := Ideal) v0 v18 v39 v43 = f
  pointwise []
  split <;> exact hc f _ _ (by show _ = r.val / 256 * 512 + 1 * 256 + r.val % 256; dsimp only; omega)

end Cert.Kernel6Ideal.Rows

end
-- ==== Proof.AttnTrip.lean ====
/- The loop over the blocks of keys before the diagonal: four blocks a trip, down to the first. -/
module

public import proofs.«01_k».proof.Proof.AttnLoop

@[expose] public section

set_option maxRecDepth 16384

noncomputable section

namespace Cert.Kernel6Ideal.Rows

open Cert.Kernel6Ideal Cert.Kernel6Ideal.Gen Idealize.ShloMosaic Idealize.ShloMosaic.TcCoe Idealize.SL.Sem

theorem off12_eq : ∀ (i : grid0.Coords) (k : Fin (k0_t1_loop i).trips) (r : Fin 4), k0_off12 i k (BitVec.ofNat 32 r.val)
    = ![4 * ((i 2).val / 2 - k.val - 1) + 3 - r.val, 0, 0] := by decide +kernel

theorem off13_eq : ∀ (i : grid0.Coords) (k : Fin (k0_t1_loop i).trips) (r : Fin 4), k0_off13 i k (BitVec.ofNat 32 r.val)
    = ![4 * ((i 2).val / 2 - k.val - 1) + 3 - r.val, 0, 0] := by decide +kernel

theorem trips1 : ∀ i : grid0.Coords, (k0_t1_loop i).trips = (i 2).val / 2 := by decide +kernel

theorem trips2 : ∀ i : grid0.Coords, (k0_t2_loop i).trips = 0 := by decide +kernel

section Trip
variable (c : Dev nD) (i : grid0.Coords) (arg3 : Memref sig .tc .smem S8 .f32) (harg3 : arg3.IsWhole) (arg4 : Memref sig .tc .vmem S512x128 .bf16) (harg4 : arg4.IsWhole) (arg5 : Memref sig .tc .vmem S1x1x128x4096 .f32) (harg5 : arg5.IsWhole) (arg6 : Memref sig .tc .vmem S1x1x128x4096 .f32) (harg6 : arg6.IsWhole) (arg7 : Memref sig .tc .vmem S512x128 .bf16) (harg7 : arg7.IsWhole) (arg8 : Memref sig .tc .vmem S16x256x256 .bf16) (harg8 : arg8.IsWhole) (arg9 : Memref sig .tc .vmem S16x128x256 .bf16) (harg9 : arg9.IsWhole) (arg10 : Memref sig .tc .vmem S512x128 .f32) (harg10 : arg10.IsWhole) (arg11 : Memref sig .tc .vmem S1024x1 .f32) (harg11 : arg11.IsWhole)
  (q : FVec Ideal S1024x256 .bf16) (v76 : BitVec 32) (v92 : BitVec 32)
  (X8 : BufTy.Contents (Elt Ideal) arg8.view.ty) (X9 : BufTy.Contents (Elt Ideal) arg9.view.ty)
  (nzf : Fin 1024 → ℕ → EReal) (v : Fin 128 → ℕ → EReal)
  (hX8 : ∀ (b : ℕ) (off : Fin 3 → ℕ) (inb : ∀ a, off a + S1x256x256.size a ≤ S16x256x256.size a), off = ![b, 0, 0] →
    KeyOk nzf b q (arg8.view.readAt (Elt Ideal) (Rect.unit (s := S16x256x256) off S1x256x256.size inb).toLoadRect X8))
  (hX9 : ∀ (b : ℕ) (off : Fin 3 → ℕ) (inb : ∀ a, off a + S1x128x256.size a ≤ S16x128x256.size a), off = ![b, 0, 0] →
    ValOk v b (arg9.view.readAt (Elt Ideal) (Rect.unit (s := S16x128x256) off S1x128x256.size inb).toLoadRect X9))

include hX8 hX9 in
set_option maxHeartbeats 4000000 in
/-- A trip moves the tile on by four blocks. -/
theorem trip_ok (k : Fin (k0_t1_loop i).trips) (acc : BitVec 32) (f10 : BufTy.Contents (Elt Ideal) arg10.view.ty)
    (f11 : BufTy.Contents (Elt Ideal) arg11.view.ty)
    (G10 : BufTy.Contents (Elt Ideal) arg10.view.ty) (G11 : BufTy.Contents (Elt Ideal) arg11.view.ty)
    (L10 : List (View.Piece (Elt Ideal) S512x128 .f32)) (L11 : List (View.Piece (Elt Ideal) S1024x1 .f32))
    (ha : AccOk nzf v (i 2).val (4 * ((i 2).val / 2 - k.val)) (arg10.view.read (Elt Ideal) f10))
    (hc : CarOk nzf (i 2).val (4 * ((i 2).val / 2 - k.val)) (arg11.view.read (Elt Ideal) f11)) :
    AccOk nzf v (i 2).val (4 * ((i 2).val / 2 - (k.val + 1))) (arg10.view.read (Elt Ideal) (arg10.view.writes (Elt Ideal) G10
      ((tripL_k0_t1 (F := Ideal) Variants.none c none i arg3 harg3 arg4 harg4 arg5 harg5 arg6 harg6 arg7 harg7 arg8 harg8 arg9 harg9 arg10 harg10 arg11 harg11 k0_pay132 q tri v76 v92 X8 X9 k acc f10 f11).1 ++ L10)))
    ∧ CarOk nzf (i 2).val (4 * ((i 2).val / 2 - (k.val + 1))) (arg11.view.read (Elt Ideal) (arg11.view.writes (Elt Ideal) G11
      ((tripL_k0_t1 (F := Ideal) Variants.none c none i arg3 harg3 arg4 harg4 arg5 harg5 arg6 harg6 arg7 harg7 arg8 harg8 arg9 harg9 arg10 harg10 arg11 harg11 k0_pay132 q tri v76 v92 X8 X9 k acc f10 f11).2 ++ L11))) := by
  have hk : k.val < (i 2).val / 2 := lt_of_lt_of_eq k.isLt (trips1 i)
  have hi : (i 2).val < 8 := (i 2).isLt
  obtain ⟨n, hn⟩ : ∃ n, (i 2).val / 2 - k.val - 1 = n := ⟨_, rfl⟩
  have e4 : 4 * ((i 2).val / 2 - k.val) = 4 * n + 4 := by omega
  have e0 : 4 * ((i 2).val / 2 - (k.val + 1)) = 4 * n := by omega
  rw [e4] at ha hc
  rw [e0]
  have h12 := off12_eq i k
  have h13 := off13_eq i k
  rw [hn] at h12 h13
  have key := four_blocks nzf v (i 2).val (4 * n) hi q (by omega) _ _ _ _ _ _ _ _
    (hX8 _ (k0_off12 i k 0#32) (k0_off12_inb i k 0) (h12 0)) (hX8 _ (k0_off12 i k 1#32) (k0_off12_inb i k 1) (h12 1))
    (hX8 _ (k0_off12 i k 2#32) (k0_off12_inb i k 2) (h12 2)) (hX8 _ (k0_off12 i k 3#32) (k0_off12_inb i k 3) (h12 3))
    (hX9 _ (k0_off13 i k 0#32) (k0_off13_inb i k 0) (h13 0)) (hX9 _ (k0_off13 i k 1#32) (k0_off13_inb i k 1) (h13 1))
    (hX9 _ (k0_off13 i k 2#32) (k0_off13_inb i k 2) (h13 2)) (hX9 _ (k0_off13 i k 3#32) (k0_off13_inb i k 3) (h13 3))
    _ hc _ ha _ rfl _ rfl
  rw [← View.readAt_full arg10.view f10 inb_S512x128_S512x128_0_0, ← View.readAt_full arg11.view f11 inb_S1024x1_S1024x1_0_0] at key
  unfold tripL_k0_t1 trip_k0_t1
  dsimp only
  rw [List.singleton_append, List.singleton_append]
  refine ⟨?_, ?_⟩
  · refine (congrArg (AccOk nzf v (i 2).val (4 * n)) ((View.read_writes_full arg10.view G10 inb_S512x128_S512x128_0_0 _ L10).trans ?_)).mpr key.2
    rfl
  · refine (congrArg (CarOk nzf (i 2).val (4 * n)) ((View.read_writes_full arg11.view G11 inb_S1024x1_S1024x1_0_0 _ L11).trans ?_)).mpr key.1
    rfl

include hX8 hX9 in
/-- Before trip `k`, the blocks from `4 (qi / 2 - k)` on are done. -/
theorem loop_ok (G10 : BufTy.Contents (Elt Ideal) arg10.view.ty) (G11 : BufTy.Contents (Elt Ideal) arg11.view.ty) (init : BitVec 32)
    (ha : AccOk nzf v (i 2).val (4 * ((i 2).val / 2)) (arg10.view.read (Elt Ideal) G10))
    (hc : CarOk nzf (i 2).val (4 * ((i 2).val / 2)) (arg11.view.read (Elt Ideal) G11)) (k : ℕ) (hk : k ≤ (i 2).val / 2) :
    AccOk nzf v (i 2).val (4 * ((i 2).val / 2 - k)) (arg10.view.read (Elt Ideal) (arg10.view.writes (Elt Ideal) G10
      (st_k0_t1 (F := Ideal) Variants.none c none i arg3 harg3 arg4 harg4 arg5 harg5 arg6 harg6 arg7 harg7 arg8 harg8 arg9 harg9 arg10 harg10 arg11 harg11 k0_pay132 q tri v76 v92 X8 X9 G10 G11 init k).2.1))
    ∧ CarOk nzf (i 2).val (4 * ((i 2).val / 2 - k)) (arg11.view.read (Elt Ideal) (arg11.view.writes (Elt Ideal) G11
      (st_k0_t1 (F := Ideal) Variants.none c none i arg3 harg3 arg4 harg4 arg5 harg5 arg6 harg6 arg7 harg7 arg8 harg8 arg9 harg9 arg10 harg10 arg11 harg11 k0_pay132 q tri v76 v92 X8 X9 G10 G11 init k).2.2)) := by
  induction k with
  | zero => exact ⟨ha, hc⟩
  | succ k ih =>
    have ih := ih (by omega)
    have hs := st_k0_t1_succ (F := Ideal) Variants.none c none i arg3 harg3 arg4 harg4 arg5 harg5 arg6 harg6 arg7 harg7 arg8 harg8 arg9 harg9 arg10 harg10 arg11 harg11 k0_pay132 q tri v76 v92 X8 X9 G10 G11 init ⟨k, by rw [trips1]; omega⟩
    dsimp only at hs
    rw [hs]
    exact trip_ok c i arg3 harg3 arg4 harg4 arg5 harg5 arg6 harg6 arg7 harg7 arg8 harg8 arg9 harg9 arg10 harg10 arg11 harg11 q v76 v92 X8 X9 nzf v hX8 hX9 ⟨k, by rw [trips1]; omega⟩ _ _ _ G10 G11 _ _ ih.1 ih.2

include hX8 hX9 in
set_option maxHeartbeats 2000000 in
/-- What the two loops leave of the weighted values: the second makes no trip, and the first ends at the first block. -/
theorem loops_end (dA : FVec Ideal S512x128 .f32) (dC : FVec Ideal S1024x1 .f32)
    (ha : AccOk nzf v (i 2).val (4 * ((i 2).val / 2)) dA) (hc : CarOk nzf (i 2).val (4 * ((i 2).val / 2)) dC)
    (v104 init init' : BitVec 32) (G10 : BufTy.Contents (Elt Ideal) arg10.view.ty) (G11 : BufTy.Contents (Elt Ideal) arg11.view.ty) :
    AccOk nzf v (i 2).val 0 (arg10.view.readCov
      ((st_k0_t2 (F := Ideal) Variants.none c none i arg3 harg3 arg4 harg4 arg5 harg5 arg6 harg6 arg7 harg7 arg8 harg8 arg9 harg9 arg10 harg10 arg11 harg11 k0_pay132 q tri v76 v92 v104 X8 X9 G10 G11 init' (k0_t2_loop i).trips).2.1
        ++ ((st_k0_t1 (F := Ideal) Variants.none c none i arg3 harg3 arg4 harg4 arg5 harg5 arg6 harg6 arg7 harg7 arg8 harg8 arg9 harg9 arg10 harg10 arg11 harg11 k0_pay132 q tri v76 v92 X8 X9
              (arg10.view.writes (Elt Ideal) arg10.view.junk [⟨Rect.unit ![0, 0] ![512, 128] inb_S512x128_S512x128_0_0, dA⟩])
              (arg11.view.writes (Elt Ideal) arg11.view.junk [⟨Rect.unit ![0, 0] ![1024, 1] inb_S1024x1_S1024x1_0_0, dC⟩]) init (k0_t1_loop i).trips).2.1
          ++ [⟨Rect.unit ![0, 0] ![512, 128] inb_S512x128_S512x128_0_0, dA⟩]))
      (Rect.unit ![0, 0] ![512, 128] inb_S512x128_S512x128_0_0).toLoadRect) := by
  rw [trips2 i, show (st_k0_t2 (F := Ideal) Variants.none c none i arg3 harg3 arg4 harg4 arg5 harg5 arg6 harg6 arg7 harg7 arg8 harg8 arg9 harg9 arg10 harg10 arg11 harg11 k0_pay132 q tri v76 v92 v104 X8 X9 G10 G11 init' 0).2.1 = [] from rfl, List.nil_append]
  unfold View.readCov
  rw [View.writes_append, trips1 i]
  rw [View.readAt_full arg10.view _ inb_S512x128_S512x128_0_0]
  have ra : AccOk nzf v (i 2).val (4 * ((i 2).val / 2)) (arg10.view.read (Elt Ideal)
      (arg10.view.writes (Elt Ideal) arg10.view.junk [⟨Rect.unit ![0, 0] ![512, 128] inb_S512x128_S512x128_0_0, dA⟩])) := by
    refine (congrArg (AccOk nzf v (i 2).val (4 * ((i 2).val / 2))) ((View.read_writes_full arg10.view arg10.view.junk inb_S512x128_S512x128_0_0 _ []).trans ?_)).mpr ha
    rfl
  have rc : CarOk nzf (i 2).val (4 * ((i 2).val / 2)) (arg11.view.read (Elt Ideal)
      (arg11.view.writes (Elt Ideal) arg11.view.junk [⟨Rect.unit ![0, 0] ![1024, 1] inb_S1024x1_S1024x1_0_0, dC⟩])) := by
    refine (congrArg (CarOk nzf (i 2).val (4 * ((i 2).val / 2))) ((View.read_writes_full arg11.view arg11.view.junk inb_S1024x1_S1024x1_0_0 _ []).trans ?_)).mpr hc
    rfl
  have h := loop_ok c i arg3 harg3 arg4 harg4 arg5 harg5 arg6 harg6 arg7 harg7 arg8 harg8 arg9 harg9 arg10 harg10 arg11 harg11 q v76 v92 X8 X9 nzf v hX8 hX9
    (arg10.view.writes (Elt Ideal) arg10.view.junk [⟨Rect.unit ![0, 0] ![512, 128] inb_S512x128_S512x128_0_0, dA⟩])
    (arg11.view.writes (Elt Ideal) arg11.view.junk [⟨Rect.unit ![0, 0] ![1024, 1] inb_S1024x1_S1024x1_0_0, dC⟩]) init
    ra rc ((i 2).val / 2) le_rfl
  rw [Nat.sub_self, Nat.mul_zero] at h
  exact h.1

end Trip

end Cert.Kernel6Ideal.Rows

end
-- ==== Proof.AttnReference.lean ====
/- The reference of the prompt attention, stage by stage and entry by entry. -/
module

public import proofs.«01_k».proof.Proof.Gen.Reference6Ideal
public import Idealize.ShloMosaic.Lib.Claim
public import Idealize.ShloMosaic.Lib.Pipeline.ValueKit
public import proofs.«01_k».proof.Proof.AttnMath
public import proofs.«01_k».proof.Proof.SampleCumsum

@[expose] public section

set_option maxRecDepth 16384

noncomputable section

namespace Cert.AttnMath

open Idealize.ShloMosaic Cert.SampleMath

/-- The first layer's key or value of sequence `b` in lane `L` at position `k`. -/
def keyN (x : Fin 4 → Fin 512 → Fin 4096 → EReal) (b : Fin 4) (L : Fin 512) (k : ℕ) : EReal :=
  if h : k < 4096 then x b L ⟨k, h⟩ else 0

/-- The score of key `k` for the query in row `T` and head `h`. -/
def scoreAt (q : Fin 16384 → Fin 512 → EReal) (x : Fin 4 → Fin 512 → Fin 4096 → EReal) (sb : Fin 8 → EReal) (T : Fin 16384)
    (h : Fin 8) (k : ℕ) : EReal :=
  (∑ d : Fin 64, q T ⟨h.val * 64 + d.val, by omega⟩ * keyN x ⟨T.val / 4096, by omega⟩ ⟨h.val * 64 + d.val, by omega⟩ k)
    * Ideal.ofBits .f32 0x3E000000#32 + sb h

/-- The attention's output in row `T` and lane `L`. -/
def attnAt (q : Fin 16384 → Fin 512 → EReal) (x y : Fin 4 → Fin 512 → Fin 4096 → EReal) (sb : Fin 8 → EReal) (T : Fin 16384)
    (L : Fin 512) : EReal :=
  seg (fun k => AttnMath.weight (scoreAt q x sb T ⟨L.val / 64, by omega⟩) (T.val % 4096) k * keyN y ⟨T.val / 4096, by omega⟩ L k) 0 4096

end Cert.AttnMath

namespace Cert.Reference6Ideal.Rows

open Cert.Reference6Ideal Cert.Reference6Ideal.Gen Idealize.ShloMosaic Idealize.ShloMosaic.TcCoe
open Idealize.SL.Sem Idealize.ShloMosaic.StableHlo
open Cert.SampleMath hiding pass pass2 weight weight2 pass_nonpos weight2_eq
open Cert.AttnMath

/-- The first layer's keys or values, token by token. -/
def tokens (x : FVec Ideal S2x4x512x4096 .f32) : FVec Ideal S4x4096x8x64 .f32 :=
  transpose S4x4096x8x64 [0, 3, 1, 2] (shapeCast S4x8x64x4096 (shapeCast S4x512x4096
    (extractStridedSlice S1x4x512x4096 ![0, 0, 0, 0] x slices_S2x4x512x4096_S1x4x512x4096_0_0_0_0)
    shapeCasts_S1x4x512x4096_S4x512x4096) shapeCasts_S4x512x4096_S4x8x64x4096) transposes_S4x8x64x4096_S4x4096x8x64_0_3_1_2

theorem tokens_at (x : FVec Ideal S2x4x512x4096 .f32) (b : Fin 4) (k : Fin 4096) (h : Fin 8) (d : Fin 64) :
    tokens x (ix4 b k h d) = x (ix4 0 b ⟨h.val * 64 + d.val, by omega⟩ k) := by
  pointwise [tokens]

/-- The scores. -/
def scores (x0 : FVec Ideal S16384x512 .f32) (kAll : FVec Ideal S4x4096x8x64 .f32) (x3 : FVec Ideal S8 .f32) :
    FVec Ideal S4x8x4096x4096 .f32 :=
  addf (mulf (Host.dotGeneral dot_S4x4096x8x64_S4x4096x8x64_S4x8x4096x4096_3_3_1_1_02_02 none
      (shapeCast S4x4096x8x64 x0 shapeCasts_S16384x512_S4x4096x8x64) kAll)
      (broadcastInDim S4x8x4096x4096 ![] bcast_S_S4x8x4096x4096 (constant S_ .f32 0x3E000000#32)))
    (broadcastInDim S4x8x4096x4096 ![0, 1, 2, 3] bcast_S1x8x1x1_S4x8x4096x4096_0_1_2_3
      (broadcastInDim S1x8x1x1 ![1] bcast_S8_S1x8x1x1_1 x3))

theorem scores_at (x0 : FVec Ideal S16384x512 .f32) (kAll : FVec Ideal S4x4096x8x64 .f32) (x3 : FVec Ideal S8 .f32)
    (b : Fin 4) (h : Fin 8) (p k : Fin 4096) :
    scores x0 kAll x3 (ix4 b h p k)
      = (∑ d : Fin 64, x0 (ix2 ⟨b.val * 4096 + p.val, by omega⟩ ⟨h.val * 64 + d.val, by omega⟩) * kAll (ix4 b k h d))
        * Ideal.ofBits .f32 0x3E000000#32 + x3 (ix1 h) := by
  pointwise [scores]

/-- The softplus. -/
def softplusOf (x : FVec Ideal S4x8x4096x4096 .f32) : FVec Ideal S4x8x4096x4096 .f32 :=
  select (cmpf .une (subf x (broadcastInDim S4x8x4096x4096 ![] bcast_S_S4x8x4096x4096 (constant S_ .f32 0x00000000#32)))
      (subf x (broadcastInDim S4x8x4096x4096 ![] bcast_S_S4x8x4096x4096 (constant S_ .f32 0x00000000#32))))
    (addf x (broadcastInDim S4x8x4096x4096 ![] bcast_S_S4x8x4096x4096 (constant S_ .f32 0x00000000#32)))
    (addf (maximumf x (broadcastInDim S4x8x4096x4096 ![] bcast_S_S4x8x4096x4096 (constant S_ .f32 0x00000000#32)))
      (Host.log1p (Host.exp (Host.negf (Host.absf
        (subf x (broadcastInDim S4x8x4096x4096 ![] bcast_S_S4x8x4096x4096 (constant S_ .f32 0x00000000#32))))))))

/-- The logarithm of the sigmoid. -/
def logSigOf (x : FVec Ideal S4x8x4096x4096 .f32) : FVec Ideal S4x8x4096x4096 .f32 :=
  Host.negf (softplusOf (Host.negf x))

theorem softplusOf_at (x : FVec Ideal S4x8x4096x4096 .f32) (y : S4x8x4096x4096.Idx) : softplusOf x y = softplus (x y) :=
  softplus_printed (x y)

theorem logSigOf_at (x : FVec Ideal S4x8x4096x4096 .f32) (y : S4x8x4096x4096.Idx) : logSigOf x y = logSig (x y) :=
  congrArg (fun v : EReal => -v) (softplusOf_at (Host.negf x) y)

/-- Which keys come before the query. -/
def before : IVec S4096x4096 1 :=
  cmpi .slt (broadcastInDim S4096x4096 ![0, 1] bcast_S1x4096_S4096x4096_0_1
      (broadcastInDim S1x4096 ![1] bcast_S4096_S1x4096_1 (iotaInDim S4096 32 0)))
    (broadcastInDim S4096x4096 ![0, 1] bcast_S4096x1_S4096x4096_0_1
      (broadcastInDim S4096x1 ![0] bcast_S4096_S4096x1_0 (iotaInDim S4096 32 0)))

theorem before_at (p k : Fin 4096) : before (ix2 p k) = if k.val < p.val then 1#1 else 0#1 := by
  have e : before (ix2 p k) = IntOp.cmpi .slt (BitVec.ofNat 32 k.val) (BitVec.ofNat 32 p.val) := by
    pointwise [before]
  have h1 : ∀ a : Fin 4096, (BitVec.ofNat 32 a.val).toInt = a.val := by
    intro a
    rw [BitVec.toInt_eq_toNat_cond, BitVec.toNat_ofNat, Nat.mod_eq_of_lt (by omega)]; split <;> omega
  rw [e]
  show BitVec.ofBool (BitVec.slt _ _) = _
  unfold BitVec.slt
  rw [h1, h1]
  by_cases h : k.val < p.val
  · rw [if_pos h, decide_eq_true (by omega)]; rfl
  · rw [if_neg h, decide_eq_false (by omega)]; rfl

/-- The entries of the keys before the query, zero elsewhere. -/
def onlyBefore (x : FVec Ideal S4x8x4096x4096 .f32) : FVec Ideal S4x8x4096x4096 .f32 :=
  select (broadcastInDim S4x8x4096x4096 ![2, 3] bcast_S4096x4096_S4x8x4096x4096_2_3 before) x
    (broadcastInDim S4x8x4096x4096 ![] bcast_S_S4x8x4096x4096 (id (constant (F := Ideal) S_ .f32 0x00000000#32)))

theorem onlyBefore_at (x : FVec Ideal S4x8x4096x4096 .f32) (b : Fin 4) (h : Fin 8) (p k : Fin 4096) :
    onlyBefore x (ix4 b h p k) = if k.val < p.val then x (ix4 b h p k) else 0 := by
  have e : onlyBefore x (ix4 b h p k) = Scalar.select (before (ix2 p k)) (x (ix4 b h p k)) 0 := by
    have z : Ideal.ofBits .f32 0x00000000#32 = 0 := by simp
    pointwise [onlyBefore]
    exact congrArg (Scalar.select _ _) z
  rw [e, before_at]
  by_cases hk : k.val < p.val
  · rw [if_pos hk, if_pos hk]; rfl
  · rw [if_neg hk, if_neg hk]; rfl

/-- The sums of each key's entry and all later ones. -/
def fromHere (x : FVec Ideal S4x8x4096x4096 .f32) : FVec Ideal S4x8x4096x4096 .f32 :=
  Host.reduceWindowAdd ![1, 1, 1, 4096] ![1, 1, 1, 1] ![0, 0, 0, 0] ![0, 0, 0, 4095] x
    (broadcastInDim S_ ![] bcast_S_S_ (constant (F := Ideal) S_ .f32 0x00000000#32))
    reduceWindows_S4x8x4096x4096_S4x8x4096x4096_w1s1p0_0_w1s1p0_0_w1s1p0_0_w4096s1p0_4095 h_S_

theorem fromHere_at (x : FVec Ideal S4x8x4096x4096 .f32) (b : Fin 4) (h : Fin 8) (p k : Fin 4096) (f : ℕ → EReal)
    (hf : ∀ j : Fin 4096, x (ix4 b h p j) = f j.val) : fromHere x (ix4 b h p k) = seg f k.val 4096 := by
  have z : (broadcastInDim S_ ![] bcast_S_S_ (constant (F := Ideal) S_ .f32 0x00000000#32)) (Shape.Idx.first h_S_) = 0 :=
    (by simp : Ideal.ofBits .f32 0x00000000#32 = 0)
  unfold fromHere Host.reduceWindowAdd
  rw [z]
  exact cumsum4 (A := 4) (B := 8) (C := 4096) (N := 4096) (M := 4095) (by norm_num) x _ b h p k f hf

/-- The weights. -/
def weights (z : FVec Ideal S4x8x4096x4096 .f32) : FVec Ideal S4x8x4096x4096 .f32 :=
  onlyBefore (Host.exp (addf (logSigOf z)
    (subf (fromHere (onlyBefore (logSigOf (Host.negf z)))) (onlyBefore (logSigOf (Host.negf z))))))

theorem weights_at (z : FVec Ideal S4x8x4096x4096 .f32) (b : Fin 4) (h : Fin 8) (p k : Fin 4096) (f : ℕ → EReal)
    (hf : ∀ j : Fin 4096, z (ix4 b h p j) = f j.val) : weights z (ix4 b h p k) = weight f p.val k.val := by
  have hL : ∀ j : Fin 4096, onlyBefore (logSigOf (Host.negf z)) (ix4 b h p j) = pass f p.val j.val := by
    intro j
    rw [onlyBefore_at, logSigOf_at]
    show (if _ then logSig (-(z (ix4 b h p j))) else 0) = _
    rw [hf]
    rfl
  unfold weights weight
  rw [onlyBefore_at]
  by_cases hk : k.val < p.val
  · rw [if_pos hk, if_pos hk]
    show Ideal.exp (logSigOf z (ix4 b h p k) + (fromHere _ (ix4 b h p k) - onlyBefore _ (ix4 b h p k))) = _
    rw [logSigOf_at, fromHere_at _ b h p k _ hL, hL, hf]
    unfold pass
    rw [if_pos hk]
  · rw [if_neg hk, if_neg hk]

/-- The output. -/
def outOf (x0 : FVec Ideal S16384x512 .f32) (x1 x2 : FVec Ideal S2x4x512x4096 .f32) (x3 : FVec Ideal S8 .f32) :
    FVec Ideal S16384x512 .bf16 :=
  truncf .bf16 (shapeCast S16384x512 (transpose S4x4096x8x64 [0, 3, 1, 2]
    (Host.dotGeneral dot_S4x4096x8x64_S4x8x4096x4096_S4x8x64x4096_1_3_3_2_02_01 none (tokens x2) (weights (scores x0 (tokens x1) x3)))
    transposes_S4x8x64x4096_S4x4096x8x64_0_3_1_2) shapeCasts_S4x4096x8x64_S16384x512) bitsLt_bf16_f32

theorem outOf_at (x0 : FVec Ideal S16384x512 .f32) (x1 x2 : FVec Ideal S2x4x512x4096 .f32) (x3 : FVec Ideal S8 .f32)
    (T : Fin 16384) (L : Fin 512) :
    outOf x0 x1 x2 x3 (ix2 T L)
      = attnAt (fun r l => x0 (ix2 r l)) (fun b l k => x1 (ix4 0 b l k)) (fun b l k => x2 (ix4 0 b l k)) (fun h => x3 (ix1 h)) T L := by
  have e : outOf x0 x1 x2 x3 (ix2 T L)
      = ∑ k : Fin 4096, tokens x2 (ix4 ⟨T.val / 4096, by omega⟩ k ⟨L.val / 64, by omega⟩ ⟨L.val % 64, by omega⟩)
          * weights (scores x0 (tokens x1) x3) (ix4 ⟨T.val / 4096, by omega⟩ ⟨L.val / 64, by omega⟩ ⟨T.val % 4096, by omega⟩ k) := by
    unfold outOf
    generalize tokens x2 = V
    generalize weights (scores x0 (tokens x1) x3) = W
    pointwise []
  have hL : (⟨L.val / 64 * 64 + L.val % 64, by omega⟩ : Fin 512) = L := Fin.ext (by dsimp only; omega)
  have hT : (⟨T.val / 4096 * 4096 + T.val % 4096, by omega⟩ : Fin 16384) = T := Fin.ext (by dsimp only; omega)
  rw [e, attnAt, seg, Nat.Ico_zero_eq_range, ← Fin.sum_univ_eq_sum_range]
  refine Finset.sum_congr rfl fun k _ => ?_
  rw [mul_comm, tokens_at, keyN, dif_pos k.isLt]
  dsimp only
  rw [hL]
  refine congrArg (· * _) (weights_at _ _ _ ⟨T.val % 4096, by omega⟩ k _ fun j => ?_)
  rw [scores_at, scoreAt]
  dsimp only
  rw [hT]
  simp only [tokens_at, keyN, dif_pos j.isLt]

set_option maxHeartbeats 4000000 in
/-- The reference's run: its result is the stages above of its arguments, and the arguments are unchanged. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v34)
        = outOf (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3)) := by
  hlo_run <;> rfl

end Cert.Reference6Ideal.Rows

end
-- ==== Proof.AttnScore.lean ====
/- The rows the kernel forms from a tile of queries and the two heads' biases, and their products with a staged block of keys: the
   scores times minus log₂ e, the bias coming in by two rows of ones under the keys. -/
module

public import proofs.«01_k».proof.Proof.AttnStep
public import proofs.«01_k».proof.Proof.AttnReference

@[expose] public section

set_option maxRecDepth 16384

noncomputable section

namespace Cert.Kernel6Ideal.Rows

open Cert.Kernel6Ideal Cert.Kernel6Ideal.Gen Idealize.ShloMosaic Idealize.ShloMosaic.TcCoe Idealize.SL.Sem
open Cert.SampleMath hiding pass pass2 weight weight2 pass_nonpos weight2_eq
open Cert.AttnMath

/-- The lane numbers. -/
abbrev lanes : IVec S1x128 32 := iota .tc S1x128 32 [1] iota_S1x128_d1_w32

theorem eq_small (a b : ℕ) (ha : a < 2 ^ 31) (hb : b < 2 ^ 31) :
    IntOp.cmpi .eq (BitVec.ofNat 32 a) (BitVec.ofNat 32 b) = if a = b then 1#1 else 0#1 := by
  show BitVec.ofBool ((BitVec.ofNat 32 a) == (BitVec.ofNat 32 b)) = _
  by_cases h : a = b
  · rw [if_pos h, h]
    simp
  · rw [if_neg h]
    have : (BitVec.ofNat 32 a == BitVec.ofNat 32 b) = false := by
      rw [beq_eq_false_iff_ne]
      intro e
      have := congrArg BitVec.toNat e
      rw [BitVec.toNat_ofNat, BitVec.toNat_ofNat] at this
      omega
    rw [this]
    rfl

/-- The tile's rows twice, the first time with the first head's lanes and the second time with the second head's. -/
theorem heads_at (q : Vec Ideal S512x128 .bf16) (R : Fin 1024) (d : Fin 128) :
    k0_pay133 (F := Ideal) q (ix2 R d)
      = if h : R.val < 512 then (if d.val < 64 then q (ix2 ⟨R.val, h⟩ d) else 0)
        else (if d.val < 64 then 0 else q (ix2 ⟨R.val - 512, by omega⟩ d)) := by
  have hl := lane_at d
  simp only [← select_ite]
  rw [← hl]
  have hz : (((((0#32 : BitVec 32).toInt : ℤ) : ℝ)) : EReal) = 0 := by simp
  rw [← hz]
  pointwise [k0_pay133]

/-- A head's bias on the first two lanes. -/
theorem bias_at (b : EReal) (r : Fin 512) (d : Fin 128) :
    k0_pay134 (F := Ideal) b (ix2 r d)
      = if d.val = 0 then b * ((-((Real.log 2)⁻¹) : ℝ) : EReal)
        else if d.val = 1 then b * ((-((Real.log 2)⁻¹) : ℝ) : EReal) - b * ((-((Real.log 2)⁻¹) : ℝ) : EReal) else 0 := by
  rw [← neg_log2e_named]
  have h0 := eq_small d.val 0 (by omega) (by omega)
  have h1 := eq_small d.val 1 (by omega) (by omega)
  simp only [← select_ite]
  rw [← h0, ← h1]
  pointwise [k0_pay134]

theorem rows_left (v18 : FVec Ideal S1024x128 .bf16) (v39 : FVec Ideal S512x128 .bf16) (b : EReal) (R : Fin 1024) (d : Fin 128) :
    k0_pay135 (F := Ideal) lanes v18 v39 b (ix2 R ⟨d.val, by omega⟩) = v18 (ix2 R d) := by
  unfold k0_pay135
  pointwise []

theorem rows_right (v18 : FVec Ideal S1024x128 .bf16) (b0 b1 : EReal) (R : Fin 1024) (d : Fin 128) :
    k0_pay135 (F := Ideal) lanes v18 (k0_pay134 (F := Ideal) b0) b1 (ix2 R ⟨128 + d.val, by omega⟩)
      = k0_pay134 (F := Ideal) (if R.val < 512 then b0 else b1) (ix2 ⟨R.val % 512, by omega⟩ d) := by
  rw [bias_at]
  by_cases h : R.val < 512
  · rw [if_pos h, ← bias_at b0 ⟨R.val % 512, by omega⟩ d]
    generalize k0_pay134 (F := Ideal) b0 = f
    unfold k0_pay135
    pointwise []
    rw [dif_pos h]
    congr 2
    exact Fin.ext (by dsimp only; omega)
  · rw [if_neg h, ← bias_at b1 ⟨R.val % 512, by omega⟩ d]
    generalize k0_pay134 (F := Ideal) b0 = f
    pointwise [k0_pay135, k0_pay134]
    rw [dif_neg h]

/-- The score of a row with one key, times minus log₂ e: `k` is the key's lanes of both heads, `b0` and `b1` the heads' biases. -/
def nzOf (q : Vec Ideal S512x128 .bf16) (b0 b1 : EReal) (R : Fin 1024) (k : Fin 128 → EReal) : EReal :=
  (∑ d : Fin 64, q (ix2 ⟨R.val % 512, by omega⟩ ⟨R.val / 512 * 64 + d.val, by omega⟩) * k ⟨R.val / 512 * 64 + d.val, by omega⟩)
    + (if R.val < 512 then b0 else b1) * ((-((Real.log 2)⁻¹) : ℝ) : EReal)

theorem sum_halves (f : Fin 256 → EReal) : (∑ d, f d) = (∑ d : Fin 128, f ⟨d.val, by omega⟩) + ∑ d : Fin 128, f ⟨128 + d.val, by omega⟩ :=
  Fin.sum_univ_add (a := 128) (b := 128) f

theorem sum_heads (f : Fin 128 → EReal) : (∑ d, f d) = (∑ d : Fin 64, f ⟨d.val, by omega⟩) + ∑ d : Fin 64, f ⟨64 + d.val, by omega⟩ :=
  Fin.sum_univ_add (a := 64) (b := 64) f

theorem sum_two (x y : EReal) (g : Fin 128 → EReal) :
    (∑ d : Fin 128, (if d.val = 0 then x else if d.val = 1 then y else 0) * (if d.val < 2 then (1 : EReal) else 0)) = x + y := by
  rw [Fin.sum_univ_eq_sum_range (fun n => (if n = 0 then x else if n = 1 then y else 0) * (if n < 2 then (1 : EReal) else 0)) 128,
    Finset.sum_range_succ' _ 127, Finset.sum_range_succ' _ 126, Finset.sum_eq_zero]
  · simp [add_comm]
  · intro n _
    simp

/-- The product of a row with a staged block is the score. -/
theorem rows_sum (q : Vec Ideal S512x128 .bf16) (b0 b1 : EReal) (hb0 : b0 ≠ ⊤ ∧ b0 ≠ ⊥) (hb1 : b1 ≠ ⊤ ∧ b1 ≠ ⊥) (R : Fin 1024)
    (k : Fin 128 → EReal) (kb : Fin 256 → EReal) (hk : ∀ d : Fin 128, kb ⟨d.val, by omega⟩ = k d)
    (h1 : ∀ d : Fin 128, kb ⟨128 + d.val, by omega⟩ = if d.val < 2 then (1 : EReal) else 0) :
    (∑ d : Fin 256, k0_pay135 (F := Ideal) lanes (k0_pay133 (F := Ideal) q) (k0_pay134 (F := Ideal) b0) b1 (ix2 R d) * kb d)
      = nzOf q b0 b1 R k := by
  rw [sum_halves]
  simp only [rows_left, rows_right, hk, h1, bias_at]
  rw [sum_two _ _ k]
  unfold nzOf
  have hx : ∀ b : EReal, b ≠ ⊤ ∧ b ≠ ⊥ → b * ((-((Real.log 2)⁻¹) : ℝ) : EReal)
      + (b * ((-((Real.log 2)⁻¹) : ℝ) : EReal) - b * ((-((Real.log 2)⁻¹) : ℝ) : EReal)) = b * ((-((Real.log 2)⁻¹) : ℝ) : EReal) := fun b hb => by
    lift b to ℝ using hb
    rw [← EReal.coe_mul, ← EReal.coe_sub, sub_self, EReal.coe_zero, add_zero]
  rw [hx _ (by split <;> assumption)]
  congr 1
  rw [sum_heads]
  simp only [heads_at]
  by_cases h : R.val < 512
  · simp only [dif_pos h]
    have e : (∑ d : Fin 64, (if (64 + d.val) < 64 then q (ix2 ⟨R.val, h⟩ ⟨64 + d.val, by omega⟩) else 0) * k ⟨64 + d.val, by omega⟩) = 0 :=
      Finset.sum_eq_zero fun d _ => by rw [if_neg (by omega), zero_mul]
    rw [e, add_zero]
    refine Finset.sum_congr rfl fun d _ => ?_
    rw [if_pos d.isLt]
    have e1 : (⟨R.val, h⟩ : Fin 512) = ⟨R.val % 512, by omega⟩ := Fin.ext (by dsimp only; omega)
    have e2 : (⟨d.val, by omega⟩ : Fin 128) = ⟨R.val / 512 * 64 + d.val, by omega⟩ := Fin.ext (by dsimp only; omega)
    rw [e1, e2]
  · simp only [dif_neg h]
    have e : (∑ d : Fin 64, (if d.val < 64 then (0 : EReal) else q (ix2 ⟨R.val - 512, by omega⟩ ⟨d.val, by omega⟩)) * k ⟨d.val, by omega⟩) = 0 :=
      Finset.sum_eq_zero fun d _ => by rw [if_pos d.isLt, zero_mul]
    rw [e, zero_add]
    refine Finset.sum_congr rfl fun d _ => ?_
    rw [if_neg (by omega)]
    have e1 : (⟨R.val - 512, by omega⟩ : Fin 512) = ⟨R.val % 512, by omega⟩ := Fin.ext (by dsimp only; omega)
    have e2 : (⟨64 + d.val, by omega⟩ : Fin 128) = ⟨R.val / 512 * 64 + d.val, by omega⟩ := Fin.ext (by dsimp only; omega)
    rw [e1, e2]

end Cert.Kernel6Ideal.Rows
end
-- ==== Proof.AttnStage.lean ====
/- What the kernel keeps in its two scratch memories: at the first tile of a batch and pair of heads it copies the keys and the values
   there in blocks of 256 tokens, two rows of ones under the keys; the later tiles leave them. -/
module

public import proofs.«01_k».proof.Proof.AttnKernel
public import proofs.«01_k».proof.Proof.Gen.Kernel6Ideal.Value
public import Idealize.ShloMosaic.Lib.Pipeline.ValueKit
public import proofs.«01_k».proof.Proof.InMath

@[expose] public section

set_option maxRecDepth 16384

noncomputable section

namespace Cert.Kernel6Ideal.Rows

open Cert.Kernel6Ideal Cert.Kernel6Ideal.Gen Idealize.ShloMosaic Idealize.ShloMosaic.TcCoe Idealize.SL.Sem

/-- The staged keys. -/
def keysOf (x : Vec Ideal S1x1x128x4096 .f32) (b : Fin 16) (d n : Fin 256) : EReal :=
  if h : d.val < 128 then x (ix4 0 0 ⟨d.val, h⟩ ⟨256 * b.val + n.val, by omega⟩) else if d.val < 130 then 1 else 0

/-- The staged values. -/
def valsOf (x : Vec Ideal S1x1x128x4096 .f32) (b : Fin 16) (l : Fin 128) (n : Fin 256) : EReal :=
  x (ix4 0 0 l ⟨256 * b.val + n.val, by omega⟩)

theorem ones_at (d : Fin 128) (n : Fin 256) : k0_pay16 (F := Ideal) (ix2 d n) = if d.val < 2 then (1 : EReal) else 0 := by
  have h := slt_small d.val 2 (by omega) (by omega)
  rw [← select_ite, ← h, ← one_bits]
  pointwise [k0_pay16]

theorem key_piece (x : Vec Ideal S1x1x128x4096 .f32) (b : Fin 16) (inb : ∀ a, (![0, 0, 0, 256 * b.val] : Fin 4 → ℕ) a + S1x1x128x256.size a ≤ S1x1x128x4096.size a)
    (d n : Fin 256) :
    k0_pay17 (F := Ideal) (View.ld x (Rect.unit (s := S1x1x128x4096) ![0, 0, 0, 256 * b.val] S1x1x128x256.size inb)) (ix3 0 d n) = keysOf x b d n := by
  have ho : ∀ e : Fin 128, d.val = 128 + e.val → (if d.val < 130 then (1 : EReal) else 0) = k0_pay16 (F := Ideal) (ix2 e n) := fun e he => by
    rw [ones_at]
    by_cases h : e.val < 2
    · rw [if_pos h, if_pos (by omega)]
    · rw [if_neg h, if_neg (by omega)]
  unfold keysOf
  generalize hk : k0_pay16 (F := Ideal) = one at ho
  unfold k0_pay17
  rw [hk]
  pointwise []
  split
  · rfl
  · exact (ho _ (by dsimp only; omega)).symm

theorem val_piece (x : Vec Ideal S1x1x128x4096 .f32) (b : Fin 16) (inb : ∀ a, (![0, 0, 0, 256 * b.val] : Fin 4 → ℕ) a + S1x1x128x256.size a ≤ S1x1x128x4096.size a)
    (l : Fin 128) (n : Fin 256) :
    k0_pay18 (F := Ideal) (View.ld x (Rect.unit (s := S1x1x128x4096) ![0, 0, 0, 256 * b.val] S1x1x128x256.size inb)) (ix3 0 l n) = valsOf x b l n := by
  unfold valsOf k0_pay18
  pointwise []

theorem key_piece_at (v : Vec Ideal S1x256x256 .bf16) (x' x : Vec Ideal S1x1x128x4096 .f32) (hx : x' = x) (b : Fin 16)
    (inb : ∀ a, (![0, 0, 0, 256 * b.val] : Fin 4 → ℕ) a + S1x1x128x256.size a ≤ S1x1x128x4096.size a)
    (hv : v = k0_pay17 (F := Ideal) (View.ld x' (Rect.unit (s := S1x1x128x4096) ![0, 0, 0, 256 * b.val] S1x1x128x256.size inb)))
    (inbp : ∀ a, (![b.val, 0, 0] : Fin 3 → ℕ) a + S1x256x256.size a ≤ S16x256x256.size a) (z : S1x256x256.Idx) :
    v z = keysOf x ((Rect.unit (s := S16x256x256) ![b.val, 0, 0] S1x256x256.size inbp).emb z 0)
      ((Rect.unit (s := S16x256x256) ![b.val, 0, 0] S1x256x256.size inbp).emb z 1)
      ((Rect.unit (s := S16x256x256) ![b.val, 0, 0] S1x256x256.size inbp).emb z 2) := by
  subst hx hv
  obtain ⟨e, d, n, rfl⟩ : ∃ (e : Fin 1) (d n : Fin 256), z = ix3 e d n := ⟨z 0, z 1, z 2, eq_ix3 z⟩
  obtain rfl : e = 0 := Subsingleton.elim _ _
  rw [key_piece]
  congr 1
  · exact Fin.ext (show d.val = 0 + 1 * d.val by omega)
  · exact Fin.ext (show n.val = 0 + 1 * n.val by omega)

theorem val_piece_at (v : Vec Ideal S1x128x256 .bf16) (x' x : Vec Ideal S1x1x128x4096 .f32) (hx : x' = x) (b : Fin 16)
    (inb : ∀ a, (![0, 0, 0, 256 * b.val] : Fin 4 → ℕ) a + S1x1x128x256.size a ≤ S1x1x128x4096.size a)
    (hv : v = k0_pay18 (F := Ideal) (View.ld x' (Rect.unit (s := S1x1x128x4096) ![0, 0, 0, 256 * b.val] S1x1x128x256.size inb)))
    (inbp : ∀ a, (![b.val, 0, 0] : Fin 3 → ℕ) a + S1x128x256.size a ≤ S16x128x256.size a) (z : S1x128x256.Idx) :
    v z = valsOf x ((Rect.unit (s := S16x128x256) ![b.val, 0, 0] S1x128x256.size inbp).emb z 0)
      ((Rect.unit (s := S16x128x256) ![b.val, 0, 0] S1x128x256.size inbp).emb z 1)
      ((Rect.unit (s := S16x128x256) ![b.val, 0, 0] S1x128x256.size inbp).emb z 2) := by
  subst hx hv
  obtain ⟨e, l, n, rfl⟩ : ∃ (e : Fin 1) (l : Fin 128) (n : Fin 256), z = ix3 e l n := ⟨z 0, z 1, z 2, eq_ix3 z⟩
  obtain rfl : e = 0 := Subsingleton.elim _ _
  rw [val_piece]
  congr 1
  · exact Fin.ext (show l.val = 0 + 1 * l.val by omega)
  · exact Fin.ext (show n.val = 0 + 1 * n.val by omega)

variable (m : (ℓ : Loc nD τ sig) → Buf (Elt Ideal) ℓ)

set_option maxHeartbeats 4000000 in
theorem first_keys (c : Dev nD) (t : Fin cfg0.N) (h0 : t.val % 8 = 0) (h1 : ¬t.val % 2 = 1) (h2 : t.val % 2 = 0) (b : Fin 16) (d n : Fin 256) :
    (outsAt0 (F := Ideal) m c t.val t.isLt).2.1 (ix3 b d n) = keysOf (iblk m c 2 t) b d n := by
  rw [outsAt0_A m c t h0 h1 h2]
  dsimp only
  refine (View.read_writes_apply_of_pieces VS0_0 _ (fun y : S16x256x256.Idx => (keysOf (iblk m c 2 t) (y 0) (y 1) (y 2) : EReal)) _ ?_ (ix3 b d n)
    (scover0_A_0 c _ _ _ _ _ _ _ _ _ _ _ _ _ _ _ _ _ _ _ _ _ _ _ _ _ _ _)).trans rfl
  unfold kernelRun0_A
  dsimp only
  unfold kernelRun0_A.sl.HS0_16
  refine List.forall_mem_cons.mpr ⟨fun z => key_piece_at _ _ _ ((hs0_2 t).read_unread _) 15 (by decide) rfl (by decide) z, ?_⟩
  refine List.forall_mem_cons.mpr ⟨fun z => key_piece_at _ _ _ ((hs0_2 t).read_unread _) 14 (by decide) rfl (by decide) z, ?_⟩
  refine List.forall_mem_cons.mpr ⟨fun z => key_piece_at _ _ _ ((hs0_2 t).read_unread _) 13 (by decide) rfl (by decide) z, ?_⟩
  refine List.forall_mem_cons.mpr ⟨fun z => key_piece_at _ _ _ ((hs0_2 t).read_unread _) 12 (by decide) rfl (by decide) z, ?_⟩
  refine List.forall_mem_cons.mpr ⟨fun z => key_piece_at _ _ _ ((hs0_2 t).read_unread _) 11 (by decide) rfl (by decide) z, ?_⟩
  refine List.forall_mem_cons.mpr ⟨fun z => key_piece_at _ _ _ ((hs0_2 t).read_unread _) 10 (by decide) rfl (by decide) z, ?_⟩
  refine List.forall_mem_cons.mpr ⟨fun z => key_piece_at _ _ _ ((hs0_2 t).read_unread _) 9 (by decide) rfl (by decide) z, ?_⟩
  refine List.forall_mem_cons.mpr ⟨fun z => key_piece_at _ _ _ ((hs0_2 t).read_unread _) 8 (by decide) rfl (by decide) z, ?_⟩
  refine List.forall_mem_cons.mpr ⟨fun z => key_piece_at _ _ _ ((hs0_2 t).read_unread _) 7 (by decide) rfl (by decide) z, ?_⟩
  refine List.forall_mem_cons.mpr ⟨fun z => key_piece_at _ _ _ ((hs0_2 t).read_unread _) 6 (by decide) rfl (by decide) z, ?_⟩
  refine List.forall_mem_cons.mpr ⟨fun z => key_piece_at _ _ _ ((hs0_2 t).read_unread _) 5 (by decide) rfl (by decide) z, ?_⟩
  refine List.forall_mem_cons.mpr ⟨fun z => key_piece_at _ _ _ ((hs0_2 t).read_unread _) 4 (by decide) rfl (by decide) z, ?_⟩
  refine List.forall_mem_cons.mpr ⟨fun z => key_piece_at _ _ _ ((hs0_2 t).read_unread _) 3 (by decide) rfl (by decide) z, ?_⟩
  refine List.forall_mem_cons.mpr ⟨fun z => key_piece_at _ _ _ ((hs0_2 t).read_unread _) 2 (by decide) rfl (by decide) z, ?_⟩
  refine List.forall_mem_cons.mpr ⟨fun z => key_piece_at _ _ _ ((hs0_2 t).read_unread _) 1 (by decide) rfl (by decide) z, ?_⟩
  refine List.forall_mem_cons.mpr ⟨fun z => key_piece_at _ _ _ ((hs0_2 t).read_unread _) 0 (by decide) rfl (by decide) z, ?_⟩
  exact fun p hp => absurd hp List.not_mem_nil

set_option maxHeartbeats 4000000 in
theorem first_vals (c : Dev nD) (t : Fin cfg0.N) (h0 : t.val % 8 = 0) (h1 : ¬t.val % 2 = 1) (h2 : t.val % 2 = 0) (b : Fin 16) (l : Fin 128) (n : Fin 256) :
    (outsAt0 (F := Ideal) m c t.val t.isLt).2.2 (ix3 b l n) = valsOf (iblk m c 3 t) b l n := by
  rw [outsAt0_A m c t h0 h1 h2]
  dsimp only
  refine (View.read_writes_apply_of_pieces VS0_1 _ (fun y : S16x128x256.Idx => (valsOf (iblk m c 3 t) (y 0) (y 1) (y 2) : EReal)) _ ?_ (ix3 b l n)
    (scover0_A_1 c _ _ _ _ _ _ _ _ _ _ _ _ _ _ _ _ _ _ _ _ _ _ _ _ _ _ _)).trans rfl
  unfold kernelRun0_A
  dsimp only
  unfold kernelRun0_A.sl.HS1_16
  refine List.forall_mem_cons.mpr ⟨fun z => val_piece_at _ _ _ ((hs0_3 t).read_unread _) 15 (by decide) rfl (by decide) z, ?_⟩
  refine List.forall_mem_cons.mpr ⟨fun z => val_piece_at _ _ _ ((hs0_3 t).read_unread _) 14 (by decide) rfl (by decide) z, ?_⟩
  refine List.forall_mem_cons.mpr ⟨fun z => val_piece_at _ _ _ ((hs0_3 t).read_unread _) 13 (by decide) rfl (by decide) z, ?_⟩
  refine List.forall_mem_cons.mpr ⟨fun z => val_piece_at _ _ _ ((hs0_3 t).read_unread _) 12 (by decide) rfl (by decide) z, ?_⟩
  refine List.forall_mem_cons.mpr ⟨fun z => val_piece_at _ _ _ ((hs0_3 t).read_unread _) 11 (by decide) rfl (by decide) z, ?_⟩
  refine List.forall_mem_cons.mpr ⟨fun z => val_piece_at _ _ _ ((hs0_3 t).read_unread _) 10 (by decide) rfl (by decide) z, ?_⟩
  refine List.forall_mem_cons.mpr ⟨fun z => val_piece_at _ _ _ ((hs0_3 t).read_unread _) 9 (by decide) rfl (by decide) z, ?_⟩
  refine List.forall_mem_cons.mpr ⟨fun z => val_piece_at _ _ _ ((hs0_3 t).read_unread _) 8 (by decide) rfl (by decide) z, ?_⟩
  refine List.forall_mem_cons.mpr ⟨fun z => val_piece_at _ _ _ ((hs0_3 t).read_unread _) 7 (by decide) rfl (by decide) z, ?_⟩
  refine List.forall_mem_cons.mpr ⟨fun z => val_piece_at _ _ _ ((hs0_3 t).read_unread _) 6 (by decide) rfl (by decide) z, ?_⟩
  refine List.forall_mem_cons.mpr ⟨fun z => val_piece_at _ _ _ ((hs0_3 t).read_unread _) 5 (by decide) rfl (by decide) z, ?_⟩
  refine List.forall_mem_cons.mpr ⟨fun z => val_piece_at _ _ _ ((hs0_3 t).read_unread _) 4 (by decide) rfl (by decide) z, ?_⟩
  refine List.forall_mem_cons.mpr ⟨fun z => val_piece_at _ _ _ ((hs0_3 t).read_unread _) 3 (by decide) rfl (by decide) z, ?_⟩
  refine List.forall_mem_cons.mpr ⟨fun z => val_piece_at _ _ _ ((hs0_3 t).read_unread _) 2 (by decide) rfl (by decide) z, ?_⟩
  refine List.forall_mem_cons.mpr ⟨fun z => val_piece_at _ _ _ ((hs0_3 t).read_unread _) 1 (by decide) rfl (by decide) z, ?_⟩
  refine List.forall_mem_cons.mpr ⟨fun z => val_piece_at _ _ _ ((hs0_3 t).read_unread _) 0 (by decide) rfl (by decide) z, ?_⟩
  exact fun p hp => absurd hp List.not_mem_nil

/-- Where each window's block lies at a grid point. -/
theorem idx : ∀ t : Fin cfg0.N, win0_0.index t = ![0] ∧ win0_1.index t = ![8 * (t.val / 32) + t.val % 8, t.val / 8 % 4]
    ∧ win0_2.index t = ![0, t.val / 32, t.val / 8 % 4, 0] ∧ win0_3.index t = ![0, t.val / 32, t.val / 8 % 4, 0]
    ∧ win0_4.index t = ![8 * (t.val / 32) + t.val % 8, t.val / 8 % 4] :=
  (by decide +kernel : ∀ t : Fin grid0.N, _)

theorem grid_at : ∀ t : Fin cfg0.N, (grid0.coords t 1).val = t.val / 8 % 4 ∧ (grid0.coords t 2).val = t.val % 8 :=
  (by decide +kernel : ∀ t : Fin grid0.N, _)

/-- Point `t`'s batch. -/
def batch (t : Fin cfg0.N) : Fin 4 := ⟨t.val / 32, by have h := lt_of_lt_of_eq t.isLt N_0; omega⟩

/-- Lane `l` of point `t`'s pair of heads. -/
def lane (t : Fin cfg0.N) (l : Fin 128) : Fin 512 := ⟨128 * (t.val / 8 % 4) + l.val, by omega⟩

/-- Row `r` of point `t`'s tile of queries. -/
def token (t : Fin cfg0.N) (r : Fin 512) : Fin 16384 :=
  ⟨512 * (8 * (t.val / 32) + t.val % 8) + r.val, by have h := lt_of_lt_of_eq t.isLt N_0; omega⟩

theorem read2 (c : Dev nD) (t : Fin cfg0.N) (l : Fin 128) (k : Fin 4096) :
    iblk m c 2 t (ix4 0 0 l k) = m ((c : Thread nD τ).loc main_arg1) (ix4 0 (batch t) (lane t l) k) := by
  unfold batch lane
  blk_ext [iblk, V, idx t]

theorem read3 (c : Dev nD) (t : Fin cfg0.N) (l : Fin 128) (k : Fin 4096) :
    iblk m c 3 t (ix4 0 0 l k) = m ((c : Thread nD τ).loc main_arg2) (ix4 0 (batch t) (lane t l) k) := by
  unfold batch lane
  blk_ext [iblk, V, idx t]

theorem read0 (c : Dev nD) (t : Fin cfg0.N) (h : Fin 8) :
    iblk m c 0 t (ix1 h) = m ((c : Thread nD τ).loc main_arg3) (ix1 h) := by
  blk_ext [iblk, V, idx t]

/-- The host's scaled queries. -/
theorem entry6 (c : Dev nD) (r : Fin 16384) (l : Fin 512) :
    V m c main_v6 (ix2 r l) = Cert.InMath.scaled (m ((c : Thread nD τ).loc main_arg0) (ix2 r l)) := by
  simp only [V, hostOps0, List.flatten_cons, List.flatten_nil,
    List.append_nil, List.cons_append, List.nil_append]
  entry_read
  pointwise []
  rfl

theorem read1 (c : Dev nD) (t : Fin cfg0.N) (r : Fin 512) (l : Fin 128) :
    iblk m c 1 t (ix2 r l) = Cert.InMath.scaled (m ((c : Thread nD τ).loc main_arg0) (ix2 (token t r) (lane t l))) := by
  have h : ((cfg0.win 1).blk t).view.emb (ix2 r l) = ix2 (token t r) (lane t l) := by
    unfold token lane
    blk_ext [idx t]
  show V m c main_v6 (((cfg0.win 1).blk t).view.emb (ix2 r l)) = _
  rw [h, entry6]

/-- The staged keys at every tile are those of the tile's own block. -/
theorem staged (c : Dev nD) : ∀ (n : ℕ) (hn : n < cfg0.N),
    (∀ (b : Fin 16) (d e : Fin 256), (outsAt0 (F := Ideal) m c n hn).2.1 (ix3 b d e) = keysOf (iblk m c 2 ⟨n, hn⟩) b d e)
    ∧ ∀ (b : Fin 16) (l : Fin 128) (e : Fin 256), (outsAt0 (F := Ideal) m c n hn).2.2 (ix3 b l e) = valsOf (iblk m c 3 ⟨n, hn⟩) b l e
  | n, hn => by
    have hN : n < 128 := lt_of_lt_of_eq hn N_0
    by_cases h0 : n % 8 = 0
    · exact ⟨first_keys m c ⟨n, hn⟩ h0 (by dsimp only; omega) (by dsimp only; omega), first_vals m c ⟨n, hn⟩ h0 (by dsimp only; omega) (by dsimp only; omega)⟩
    · obtain ⟨k, rfl⟩ : ∃ k, n = k + 1 := ⟨n - 1, by omega⟩
      have ih := staged c k (by omega)
      have hb : batch ⟨k + 1, hn⟩ = batch ⟨k, by omega⟩ := Fin.ext (by unfold batch; dsimp only; omega)
      have hl : ∀ l, lane ⟨k + 1, hn⟩ l = lane ⟨k, by omega⟩ l := fun l => Fin.ext (by unfold lane; dsimp only; omega)
      have e2 : iblk m c 2 ⟨k + 1, hn⟩ = iblk m c 2 ⟨k, by omega⟩ := by
        funext y
        obtain ⟨a, a', l, j, rfl⟩ : ∃ (a a' : Fin 1) (l : Fin 128) (j : Fin 4096), y = ix4 a a' l j := ⟨y 0, y 1, y 2, y 3, eq_ix4 y⟩
        obtain rfl : a = 0 := Subsingleton.elim _ _
        obtain rfl : a' = 0 := Subsingleton.elim _ _
        rw [read2, read2, hb, hl]
      have e3 : iblk m c 3 ⟨k + 1, hn⟩ = iblk m c 3 ⟨k, by omega⟩ := by
        funext y
        obtain ⟨a, a', l, j, rfl⟩ : ∃ (a a' : Fin 1) (l : Fin 128) (j : Fin 4096), y = ix4 a a' l j := ⟨y 0, y 1, y 2, y 3, eq_ix4 y⟩
        obtain rfl : a = 0 := Subsingleton.elim _ _
        obtain rfl : a' = 0 := Subsingleton.elim _ _
        rw [read3, read3, hb, hl]
      rw [e2, e3]
      by_cases h1 : (k + 1) % 2 = 1
      · rw [outsAt0_B m c ⟨k + 1, hn⟩ h0 h1 (by dsimp only; omega)]
        exact ih
      · rw [outsAt0_C m c ⟨k + 1, hn⟩ h0 h1 (by dsimp only; omega)]
        exact ih

end Cert.Kernel6Ideal.Rows

end
-- ==== Proof.AttnTile.lean ====
/- What a grid point stores: for its tile of queries and its pair of heads, the weighted values of all the keys before each query. -/
module

public import proofs.«01_k».proof.Proof.AttnTrip
public import proofs.«01_k».proof.Proof.AttnScore
public import proofs.«01_k».proof.Proof.AttnStage

@[expose] public section

set_option maxRecDepth 16384

noncomputable section

namespace Cert.Kernel6Ideal.Rows

open Cert.Kernel6Ideal Cert.Kernel6Ideal.Gen Idealize.ShloMosaic Idealize.ShloMosaic.TcCoe Idealize.SL.Sem

/-! ### Where the blocks of the diagonal lie -/

theorem off8_eq : ∀ i : grid0.Coords, (i 2).val % 2 = 0 → k0_off8 i = ![2 * (i 2).val + 1, 0, 0] := by decide +kernel
theorem off9_eq : ∀ i : grid0.Coords, (i 2).val % 2 = 0 → k0_off9 i = ![2 * (i 2).val + 1, 0, 0] := by decide +kernel
theorem off10_eq : ∀ i : grid0.Coords, (i 2).val % 2 = 0 → k0_off10 i = ![2 * (i 2).val, 0, 0] := by decide +kernel
theorem off11_eq : ∀ i : grid0.Coords, (i 2).val % 2 = 0 → k0_off11 i = ![2 * (i 2).val, 0, 0] := by decide +kernel
theorem off2_eq : ∀ i : grid0.Coords, (i 2).val % 2 = 1 → k0_off2 i = ![2 * (i 2).val + 1, 0, 0] := by decide +kernel
theorem off3_eq : ∀ i : grid0.Coords, (i 2).val % 2 = 1 → k0_off3 i = ![2 * (i 2).val + 1, 0, 0] := by decide +kernel
theorem off4_eq : ∀ i : grid0.Coords, (i 2).val % 2 = 1 → k0_off4 i = ![2 * (i 2).val, 0, 0] := by decide +kernel
theorem off5_eq : ∀ i : grid0.Coords, (i 2).val % 2 = 1 → k0_off5 i = ![2 * (i 2).val, 0, 0] := by decide +kernel
theorem off6_eq : ∀ (i : grid0.Coords) (r : Fin 2), (i 2).val % 2 = 1 →
    k0_off6 i (BitVec.ofNat 32 r.val) = ![2 * (i 2).val - 2 + 1 - r.val, 0, 0] := by decide +kernel
theorem off7_eq : ∀ (i : grid0.Coords) (r : Fin 2), (i 2).val % 2 = 1 →
    k0_off7 i (BitVec.ofNat 32 r.val) = ![2 * (i 2).val - 2 + 1 - r.val, 0, 0] := by decide +kernel

/-! ### The scores and values of a tile -/

/-- A row's score with key `k` times minus log₂ e. -/
def tileNz (q : Vec Ideal S512x128 .bf16) (b0 b1 : EReal) (x : Vec Ideal S1x1x128x4096 .f32) (R : Fin 1024) (k : ℕ) : EReal :=
  if h : k < 4096 then nzOf q b0 b1 R (fun d => x (ix4 0 0 d ⟨k, h⟩)) else 0

def tileVal (x : Vec Ideal S1x1x128x4096 .f32) (l : Fin 128) (k : ℕ) : EReal :=
  if h : k < 4096 then x (ix4 0 0 l ⟨k, h⟩) else 0

section Tile
variable (q : Vec Ideal S512x128 .bf16) (b0 b1 : EReal) (hb0 : b0 ≠ ⊤ ∧ b0 ≠ ⊥) (hb1 : b1 ≠ ⊤ ∧ b1 ≠ ⊥)
  (x y : Vec Ideal S1x1x128x4096 .f32)

/-- The tile's rows against the keys. -/
abbrev rowsOf : FVec Ideal S1024x256 .bf16 := k0_pay135 (F := Ideal) lanes (k0_pay133 (F := Ideal) q) (k0_pay134 (F := Ideal) b0) b1

include hb0 hb1 in
theorem key_ok (s : Vec Ideal S16x256x256 .bf16) (hs : ∀ (b : Fin 16) (d n : Fin 256), s (ix3 b d n) = keysOf x b d n) (b : ℕ)
    (off : Fin 3 → ℕ) (inb : ∀ a, off a + S1x256x256.size a ≤ S16x256x256.size a) (ho : off = ![b, 0, 0]) :
    KeyOk (tileNz q b0 b1 x) b (rowsOf q b0 b1) (View.ld s (Rect.unit (s := S16x256x256) off S1x256x256.size inb)) := by
  subst ho
  have hb : b < 16 := by
    have h := inb 0
    show b + 1 ≤ 16
    exact h
  intro R n
  have hl : ∀ d : Fin 256, View.ld s (Rect.unit (s := S16x256x256) ![b, 0, 0] S1x256x256.size inb) (ix3 0 d n) = keysOf x ⟨b, hb⟩ d n := by
    intro d
    rw [← hs]
    pointwise []
  simp only [hl]
  unfold tileNz
  rw [dif_pos (by omega)]
  refine rows_sum q b0 b1 hb0 hb1 R _ (fun d => keysOf x ⟨b, hb⟩ d n) (fun d => ?_) fun d => ?_
  · unfold keysOf
    rw [dif_pos d.isLt]
  · unfold keysOf
    dsimp only
    rw [dif_neg (by omega)]
    by_cases h : d.val < 2
    · rw [if_pos h, if_pos (by omega)]
    · rw [if_neg h, if_neg (by omega)]

theorem val_ok (s : Vec Ideal S16x128x256 .bf16) (hs : ∀ (b : Fin 16) (l : Fin 128) (n : Fin 256), s (ix3 b l n) = valsOf y b l n) (b : ℕ)
    (off : Fin 3 → ℕ) (inb : ∀ a, off a + S1x128x256.size a ≤ S16x128x256.size a) (ho : off = ![b, 0, 0]) :
    ValOk (tileVal y) b (View.ld s (Rect.unit (s := S16x128x256) off S1x128x256.size inb)) := by
  subst ho
  have hb : b < 16 := by
    have h := inb 0
    show b + 1 ≤ 16
    exact h
  intro l n
  have hl : View.ld s (Rect.unit (s := S16x128x256) ![b, 0, 0] S1x128x256.size inb) (ix3 0 l n) = valsOf y ⟨b, hb⟩ l n := by
    rw [← hs]
    pointwise []
  rw [hl]
  unfold valsOf tileVal
  rw [dif_pos (by omega)]

theorem early_ok (nzf : Fin 1024 → ℕ → EReal) (b : ℕ) (kb : Vec Ideal S1x256x256 .bf16) (h : KeyOk nzf b (rowsOf q b0 b1) kb) :
    HKeyOk nzf 0 b (k0_pay138 (F := Ideal) lanes (k0_pay133 (F := Ideal) q) (k0_pay134 (F := Ideal) b0) b1) kb := fun r n => by
  simp only [early_at]
  exact h (half 0 r) n

theorem late_ok (nzf : Fin 1024 → ℕ → EReal) (b : ℕ) (kb : Vec Ideal S1x256x256 .bf16) (h : KeyOk nzf b (rowsOf q b0 b1) kb) :
    HKeyOk nzf 1 b (k0_pay1 (F := Ideal) (rowsOf q b0 b1) (k0_pay139 (F := Ideal) lanes (k0_pay133 (F := Ideal) q) (k0_pay134 (F := Ideal) b0) b1)) kb :=
  fun r n => by
  simp only [late_at]
  exact h (half 1 r) n

end Tile

theorem stored_at (x : FVec Ideal S512x128 .f32) (r : Fin 512) (l : Fin 128) : k0_pay15 (F := Ideal) x (ix2 r l) = x (ix2 r l) := by
  pointwise [k0_pay15]

end Cert.Kernel6Ideal.Rows

end
-- ==== Proof.AttnPoint.lean ====
/- What a grid point stores: for its tile of queries and its pair of heads, the weighted values of all the keys before each query. -/
module

public import proofs.«01_k».proof.Proof.AttnTile

@[expose] public section

set_option maxRecDepth 16384

noncomputable section

namespace Cert.Kernel6Ideal.Rows

open Cert.Kernel6Ideal Cert.Kernel6Ideal.Gen Idealize.ShloMosaic Idealize.ShloMosaic.TcCoe Idealize.SL.Sem

/-! ### The diagonal in the odd tiles, which go on with two blocks more -/

section Odd
variable (nzf : Fin 1024 → ℕ → EReal) (v : Fin 128 → ℕ → EReal) (qi : ℕ) (hqi : qi < 8)
  (qE qL : FVec Ideal S512x256 .bf16) (kT kN : Vec Ideal S1x256x256 .bf16) (vT vN : Vec Ideal S1x128x256 .bf16)

def oddCar : FVec Ideal S1024x1 .f32 :=
  k0_pay67 (F := Ideal) tri k0_pay137 (k0_pay2 (F := Ideal)) (k0_pay60 (F := Ideal) tri (k0_pay55 (F := Ideal) tri k0_pay137 qL (k0_pay2 (F := Ideal)) kT)
    (k0_pay57 (F := Ideal) qL kN)) (k0_pay63 (F := Ideal) qE kN) (k0_pay64 (F := Ideal) qE kN)

def oddAcc : FVec Ideal S512x128 .f32 :=
  k0_pay68 (F := Ideal) k0_pay132 tri k0_pay137 (k0_pay2 (F := Ideal))
    (k0_pay56 (F := Ideal) k0_pay132 tri k0_pay137 qL (k0_pay2 (F := Ideal)) kT vT)
    (k0_pay61 (F := Ideal) k0_pay132 tri (k0_pay55 (F := Ideal) tri k0_pay137 qL (k0_pay2 (F := Ideal)) kT)
      (k0_pay57 (F := Ideal) qL kN) vN)
    (k0_pay62 (F := Ideal) qE kN) (k0_pay63 (F := Ideal) qE kN) (k0_pay64 (F := Ideal) qE kN) vN

variable (hT : HKeyOk nzf 1 (2 * qi + 1) qL kT) (hN : HKeyOk nzf 1 (2 * qi) qL kN) (hE : HKeyOk nzf 0 (2 * qi) qE kN)
  (hvT : ValOk v (2 * qi + 1) vT) (hvN : ValOk v (2 * qi) vN)

include hqi hT hN hE in
theorem odd_car : CarOk nzf qi (2 * qi) (oddCar qE qL kT kN) := fun R => by
  have e : diagCar qE qL kT kN = shapeCast S1024x1 (oddCar qE qL kT kN) shapeCasts_S1024x1_S1024x1 := rfl
  rw [← diag_car nzf qi hqi qE qL kT kN hT hN hE R, e]
  generalize oddCar qE qL kT kN = x
  pointwise []

include hqi hT hN hE hvT hvN in
theorem odd_acc : AccOk nzf v qi (2 * qi) (oddAcc qE qL kT kN vT vN) := fun r l => by
  have e : diagAcc qE qL kT kN vT vN = shapeCast S512x128 (oddAcc qE qL kT kN vT vN) shapeCasts_S512x128_S512x128 := rfl
  rw [← diag_acc nzf v qi hqi qE qL kT kN vT vN hT hN hE hvT hvN r l, e]
  generalize oddAcc qE qL kT kN vT vN = x
  pointwise []

end Odd

variable (m : (ℓ : Loc nD τ sig) → Buf (Elt Ideal) ℓ)

/-- The biases of the tile's two heads. -/
abbrev bias0 (c : Dev nD) (t : Fin cfg0.N) : EReal :=
  View.ld (iblk m c 0 t) (Rect.unit (s := S8) (k0_off1 (grid0.coords t) 0#32) S1.size (k0_off1_inb (grid0.coords t) 0)) (Shape.Idx.first (s := S1) (by decide))

abbrev bias1 (c : Dev nD) (t : Fin cfg0.N) : EReal :=
  View.ld (iblk m c 0 t) (Rect.unit (s := S8) (k0_off1 (grid0.coords t) 1#32) S1.size (k0_off1_inb (grid0.coords t) 1)) (Shape.Idx.first (s := S1) (by decide))

theorem bias_at0 (c : Dev nD) (t : Fin cfg0.N) : bias0 m c t = m ((c : Thread nD τ).loc main_arg3) (ix1 ⟨2 * (t.val / 8 % 4), by omega⟩) := by
  refine Eq.trans ?_ (read0 m c t _)
  refine congrArg (iblk m c 0 t) (?_ : (_ : S8.Idx) = _)
  funext (a : Fin 1)
  obtain rfl : a = 0 := Subsingleton.elim _ _
  refine Fin.ext ?_
  show k0_off1 (grid0.coords t) (BitVec.ofNat 32 (0 : Fin 2).val) 0 + 1 * 0 = 2 * (t.val / 8 % 4)
  rw [k0_off1_eq, ← (grid_at t).1]
  rfl

theorem bias_at1 (c : Dev nD) (t : Fin cfg0.N) : bias1 m c t = m ((c : Thread nD τ).loc main_arg3) (ix1 ⟨2 * (t.val / 8 % 4) + 1, by omega⟩) := by
  refine Eq.trans ?_ (read0 m c t _)
  refine congrArg (iblk m c 0 t) (?_ : (_ : S8.Idx) = _)
  funext (a : Fin 1)
  obtain rfl : a = 0 := Subsingleton.elim _ _
  refine Fin.ext ?_
  show k0_off1 (grid0.coords t) (BitVec.ofNat 32 (1 : Fin 2).val) 0 + 1 * 0 = 2 * (t.val / 8 % 4) + 1
  rw [k0_off1_eq, ← (grid_at t).1]
  rfl

variable (c : Dev nD) (t : Fin cfg0.N)

abbrev nzAt : Fin 1024 → ℕ → EReal := tileNz (iblk m c 1 t) (bias0 m c t) (bias1 m c t) (iblk m c 2 t)
abbrev valAt : Fin 128 → ℕ → EReal := tileVal (iblk m c 3 t)
abbrev qRows : FVec Ideal S1024x256 .bf16 := rowsOf (iblk m c 1 t) (bias0 m c t) (bias1 m c t)
abbrev qEarly : FVec Ideal S512x256 .bf16 :=
  k0_pay138 (F := Ideal) lanes (k0_pay133 (F := Ideal) (iblk m c 1 t)) (k0_pay134 (F := Ideal) (bias0 m c t)) (bias1 m c t)
abbrev qLate : FVec Ideal S512x256 .bf16 :=
  k0_pay1 (F := Ideal) (qRows m c t) (k0_pay139 (F := Ideal) lanes (k0_pay133 (F := Ideal) (iblk m c 1 t)) (k0_pay134 (F := Ideal) (bias0 m c t)) (bias1 m c t))

variable (hb0 : bias0 m c t ≠ ⊤ ∧ bias0 m c t ≠ ⊥) (hb1 : bias1 m c t ≠ ⊤ ∧ bias1 m c t ≠ ⊥)

include hb0 hb1 in
theorem point_A (h0 : t.val % 8 = 0) (h1 : ¬t.val % 2 = 1) (h2 : t.val % 2 = 0) (r : Fin 512) (l : Fin 128) :
    (outsAt0 (F := Ideal) m c t.val t.isLt).1 (ix2 r l) = part (nzAt m c t) (valAt m c t) (grid0.coords t 2).val r l (256 * 0) 4096 := by
  have hN : t.val < 128 := lt_of_lt_of_eq t.isLt N_0
  have hs := staged m c t.val t.isLt
  rw [outsAt0_A m c t h0 h1 h2] at hs ⊢
  dsimp only at hs ⊢
  have hq : (grid0.coords t 2).val % 2 = 0 := by rw [(grid_at t).2]; omega
  have hq8 : (grid0.coords t 2).val < 8 := (grid0.coords t 2).isLt
  have e4 : 4 * ((grid0.coords t 2).val / 2) = 2 * (grid0.coords t 2).val := by omega
  unfold out0_A_4 kernelRun0_A
  dsimp only
  refine (congrFun (View.read_writes_full VO0_4 _ _ _ _) _).trans ?_
  unfold kernelRun0_A.sl.v107
  rw [stored_at]
  unfold kernelRun0_A.sl.HS2_1 kernelRun0_A.sl.HS3_1
  have e5 : kernelRun0_A.sl.r_5 c (grid0.coords t) (ms0_0 t) (hs0_0 t) (ms0_1 t) (hs0_1 t) (iblk m c 0 t) (iblk m c 1 t) = qRows m c t := by
    unfold kernelRun0_A.sl.r_5
    frame_out
  have e6 : kernelRun0_A.sl.r_6 c (grid0.coords t) (ms0_0 t) (hs0_0 t) (ms0_1 t) (hs0_1 t) (iblk m c 0 t) (iblk m c 1 t) = qEarly m c t := by
    unfold kernelRun0_A.sl.r_6
    frame_out
  have e7 : k0_pay1 (F := Ideal) (qRows m c t) (kernelRun0_A.sl.r_7 c (grid0.coords t) (ms0_0 t) (hs0_0 t) (ms0_1 t) (hs0_1 t) (iblk m c 0 t) (iblk m c 1 t)) = qLate m c t := by
    unfold kernelRun0_A.sl.r_7
    frame_out
  simp only [kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, e5, e6, e7]
  have hs0 : ∀ b d n, View.read (Elt Ideal) scM0_0.view (scM0_0.view.writes (Elt Ideal) scM0_0.view.junk (kernelRun0_A.sl.HS0_16 c (ms0_2 t) (hs0_2 t) (iblk m c 2 t))) (ix3 b d n) = keysOf (iblk m c 2 t) b d n := hs.1
  have hs1 : ∀ b d n, View.read (Elt Ideal) scM0_1.view (scM0_1.view.writes (Elt Ideal) scM0_1.view.junk (kernelRun0_A.sl.HS1_16 c (ms0_3 t) (hs0_3 t) (iblk m c 3 t))) (ix3 b d n) = valsOf (iblk m c 3 t) b d n := hs.2
  clear hs
  have hK := fun b off inb ho => key_ok (iblk m c 1 t) (bias0 m c t) (bias1 m c t) hb0 hb1 (iblk m c 2 t) _ hs0 b off inb ho
  have hV := fun b off inb ho => val_ok (iblk m c 3 t) _ hs1 b off inb ho
  have hT := hK _ (k0_off8 (grid0.coords t)) (k0_off8_inb (grid0.coords t) ((hcond0_2 t).mpr h2)) (off8_eq _ hq)
  have hN' := hK _ (k0_off10 (grid0.coords t)) (k0_off10_inb (grid0.coords t) ((hcond0_2 t).mpr h2)) (off10_eq _ hq)
  have hvT := hV _ (k0_off9 (grid0.coords t)) (k0_off9_inb (grid0.coords t) ((hcond0_2 t).mpr h2)) (off9_eq _ hq)
  have hvN := hV _ (k0_off11 (grid0.coords t)) (k0_off11_inb (grid0.coords t) ((hcond0_2 t).mpr h2)) (off11_eq _ hq)
  have dA := diag_acc (nzAt m c t) (valAt m c t) _ hq8 _ _ _ _ _ _ (late_ok _ _ _ _ _ _ hT) (late_ok _ _ _ _ _ _ hN') (early_ok _ _ _ _ _ _ hN') hvT hvN
  have dC := diag_car (nzAt m c t) _ hq8 _ _ _ _ (late_ok _ _ _ _ _ _ hT) (late_ok _ _ _ _ _ _ hN') (early_ok _ _ _ _ _ _ hN')
  rw [← e4] at dA dC
  unfold diagAcc at dA
  unfold diagCar at dC
  have key := fun v76 v92 v104 init init' G10 G11 => loops_end c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _)
    (qRows m c t) v76 v92 (scM0_0.view.writes (Elt Ideal) scM0_0.view.junk (kernelRun0_A.sl.HS0_16 c (ms0_2 t) (hs0_2 t) (iblk m c 2 t)))
    (scM0_1.view.writes (Elt Ideal) scM0_1.view.junk (kernelRun0_A.sl.HS1_16 c (ms0_3 t) (hs0_3 t) (iblk m c 3 t)))
    (nzAt m c t) (valAt m c t) hK hV _ _ dA dC v104 init init' G10 G11
  exact key _ _ _ _ _ _ _ r l

include hb0 hb1 in
theorem point_C (h0 : ¬t.val % 8 = 0) (h1 : ¬t.val % 2 = 1) (h2 : t.val % 2 = 0) (r : Fin 512) (l : Fin 128) :
    (outsAt0 (F := Ideal) m c t.val t.isLt).1 (ix2 r l) = part (nzAt m c t) (valAt m c t) (grid0.coords t 2).val r l (256 * 0) 4096 := by
  have hN : t.val < 128 := lt_of_lt_of_eq t.isLt N_0
  have hs := staged m c t.val t.isLt
  rw [outsAt0_C m c t h0 h1 h2] at hs ⊢
  dsimp only at hs ⊢
  have hq : (grid0.coords t 2).val % 2 = 0 := by rw [(grid_at t).2]; omega
  have hq8 : (grid0.coords t 2).val < 8 := (grid0.coords t 2).isLt
  have e4 : 4 * ((grid0.coords t 2).val / 2) = 2 * (grid0.coords t 2).val := by omega
  unfold sout0_C_0 sout0_C_1 at hs
  frame_out
  rw [stored_at]
  have hs0 : ∀ b d n, View.read (Elt Ideal) (View.whole cc0_scratch0) ((Memref.isWhole_whole cc0_scratch0).unread (outsAt0 (F := Ideal) m c (t.val - 1) (Nat.lt_of_le_of_lt (Nat.sub_le _ _) t.isLt)).2.1) (ix3 b d n) = keysOf (iblk m c 2 t) b d n := by
    rw [show View.read (Elt Ideal) (View.whole cc0_scratch0) _ = _ from Memref.IsWhole.read_unread (Memref.isWhole_whole cc0_scratch0) _]
    exact hs.1
  have hs1 : ∀ b d n, View.read (Elt Ideal) (View.whole cc0_scratch1) ((Memref.isWhole_whole cc0_scratch1).unread (outsAt0 (F := Ideal) m c (t.val - 1) (Nat.lt_of_le_of_lt (Nat.sub_le _ _) t.isLt)).2.2) (ix3 b d n) = valsOf (iblk m c 3 t) b d n := by
    rw [show View.read (Elt Ideal) (View.whole cc0_scratch1) _ = _ from Memref.IsWhole.read_unread (Memref.isWhole_whole cc0_scratch1) _]
    exact hs.2
  clear hs
  have hK := fun b off inb ho => key_ok (iblk m c 1 t) (bias0 m c t) (bias1 m c t) hb0 hb1 (iblk m c 2 t) _ hs0 b off inb ho
  have hV := fun b off inb ho => val_ok (iblk m c 3 t) _ hs1 b off inb ho
  have hT := hK _ (k0_off8 (grid0.coords t)) (k0_off8_inb (grid0.coords t) ((hcond0_2 t).mpr h2)) (off8_eq _ hq)
  have hN' := hK _ (k0_off10 (grid0.coords t)) (k0_off10_inb (grid0.coords t) ((hcond0_2 t).mpr h2)) (off10_eq _ hq)
  have hvT := hV _ (k0_off9 (grid0.coords t)) (k0_off9_inb (grid0.coords t) ((hcond0_2 t).mpr h2)) (off9_eq _ hq)
  have hvN := hV _ (k0_off11 (grid0.coords t)) (k0_off11_inb (grid0.coords t) ((hcond0_2 t).mpr h2)) (off11_eq _ hq)
  have dA := diag_acc (nzAt m c t) (valAt m c t) _ hq8 _ _ _ _ _ _ (late_ok _ _ _ _ _ _ hT) (late_ok _ _ _ _ _ _ hN') (early_ok _ _ _ _ _ _ hN') hvT hvN
  have dC := diag_car (nzAt m c t) _ hq8 _ _ _ _ (late_ok _ _ _ _ _ _ hT) (late_ok _ _ _ _ _ _ hN') (early_ok _ _ _ _ _ _ hN')
  rw [← e4] at dA dC
  unfold diagAcc at dA
  unfold diagCar at dC
  have key := fun v76 v92 v104 init init' G10 G11 => loops_end c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _)
    (qRows m c t) v76 v92 ((Memref.isWhole_whole cc0_scratch0).unread (outsAt0 (F := Ideal) m c (t.val - 1) (Nat.lt_of_le_of_lt (Nat.sub_le _ _) t.isLt)).2.1)
    ((Memref.isWhole_whole cc0_scratch1).unread (outsAt0 (F := Ideal) m c (t.val - 1) (Nat.lt_of_le_of_lt (Nat.sub_le _ _) t.isLt)).2.2)
    (nzAt m c t) (valAt m c t) hK hV _ _ dA dC v104 init init' G10 G11
  exact key _ _ _ _ _ _ _ r l

include hb0 hb1 in
theorem point_B (h0 : ¬t.val % 8 = 0) (h1 : t.val % 2 = 1) (h2 : ¬t.val % 2 = 0) (r : Fin 512) (l : Fin 128) :
    (outsAt0 (F := Ideal) m c t.val t.isLt).1 (ix2 r l) = part (nzAt m c t) (valAt m c t) (grid0.coords t 2).val r l (256 * 0) 4096 := by
  have hN : t.val < 128 := lt_of_lt_of_eq t.isLt N_0
  have hs := staged m c t.val t.isLt
  rw [outsAt0_B m c t h0 h1 h2] at hs ⊢
  dsimp only at hs ⊢
  have hq : (grid0.coords t 2).val % 2 = 1 := by rw [(grid_at t).2]; omega
  have hq8 : (grid0.coords t 2).val < 8 := (grid0.coords t 2).isLt
  have e4 : 4 * ((grid0.coords t 2).val / 2) = 2 * (grid0.coords t 2).val - 2 := by omega
  unfold sout0_B_0 sout0_B_1 at hs
  frame_out
  rw [stored_at]
  have hs0 : ∀ b d n, View.read (Elt Ideal) (View.whole cc0_scratch0) ((Memref.isWhole_whole cc0_scratch0).unread (outsAt0 (F := Ideal) m c (t.val - 1) (Nat.lt_of_le_of_lt (Nat.sub_le _ _) t.isLt)).2.1) (ix3 b d n) = keysOf (iblk m c 2 t) b d n := by
    rw [show View.read (Elt Ideal) (View.whole cc0_scratch0) _ = _ from Memref.IsWhole.read_unread (Memref.isWhole_whole cc0_scratch0) _]
    exact hs.1
  have hs1 : ∀ b d n, View.read (Elt Ideal) (View.whole cc0_scratch1) ((Memref.isWhole_whole cc0_scratch1).unread (outsAt0 (F := Ideal) m c (t.val - 1) (Nat.lt_of_le_of_lt (Nat.sub_le _ _) t.isLt)).2.2) (ix3 b d n) = valsOf (iblk m c 3 t) b d n := by
    rw [show View.read (Elt Ideal) (View.whole cc0_scratch1) _ = _ from Memref.IsWhole.read_unread (Memref.isWhole_whole cc0_scratch1) _]
    exact hs.2
  clear hs
  have hK := fun b off inb ho => key_ok (iblk m c 1 t) (bias0 m c t) (bias1 m c t) hb0 hb1 (iblk m c 2 t) _ hs0 b off inb ho
  have hV := fun b off inb ho => val_ok (iblk m c 3 t) _ hs1 b off inb ho
  have hT := hK _ (k0_off2 (grid0.coords t)) (k0_off2_inb (grid0.coords t) ((hcond0_1 t).mpr h1)) (off2_eq _ hq)
  have hN' := hK _ (k0_off4 (grid0.coords t)) (k0_off4_inb (grid0.coords t) ((hcond0_1 t).mpr h1)) (off4_eq _ hq)
  have hvT := hV _ (k0_off3 (grid0.coords t)) (k0_off3_inb (grid0.coords t) ((hcond0_1 t).mpr h1)) (off3_eq _ hq)
  have hvN := hV _ (k0_off5 (grid0.coords t)) (k0_off5_inb (grid0.coords t) ((hcond0_1 t).mpr h1)) (off5_eq _ hq)
  have hA := hK _ (k0_off6 (grid0.coords t) 0#32) (k0_off6_inb (grid0.coords t) ((hcond0_1 t).mpr h1) 0) (off6_eq _ 0 hq)
  have hB := hK _ (k0_off6 (grid0.coords t) 1#32) (k0_off6_inb (grid0.coords t) ((hcond0_1 t).mpr h1) 1) (off6_eq _ 1 hq)
  have hvA := hV _ (k0_off7 (grid0.coords t) 0#32) (k0_off7_inb (grid0.coords t) ((hcond0_1 t).mpr h1) 0) (off7_eq _ 0 hq)
  have hvB := hV _ (k0_off7 (grid0.coords t) 1#32) (k0_off7_inb (grid0.coords t) ((hcond0_1 t).mpr h1) 1) (off7_eq _ 1 hq)
  have dA := odd_acc (nzAt m c t) (valAt m c t) _ hq8 _ _ _ _ _ _ (late_ok _ _ _ _ _ _ hT) (late_ok _ _ _ _ _ _ hN') (early_ok _ _ _ _ _ _ hN') hvT hvN
  have dC := odd_car (nzAt m c t) _ hq8 _ _ _ _ (late_ok _ _ _ _ _ _ hT) (late_ok _ _ _ _ _ _ hN') (early_ok _ _ _ _ _ _ hN')
  have e2 : 2 * (grid0.coords t 2).val = 2 * (grid0.coords t 2).val - 2 + 2 := by omega
  rw [e2] at dA dC
  have two := two_blocks (nzAt m c t) (valAt m c t) _ (2 * (grid0.coords t 2).val - 2) hq8 (by omega) (qRows m c t) _ _ _ _ _ _ hA hB hvA hvB dC dA
  obtain ⟨dC, dA⟩ := two
  rw [← e4] at dA dC
  unfold twoAcc oddAcc oddCar at dA
  unfold twoCar oddCar at dC
  have key := fun v76 v92 v104 init init' G10 G11 => loops_end c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _)
    (qRows m c t) v76 v92 ((Memref.isWhole_whole cc0_scratch0).unread (outsAt0 (F := Ideal) m c (t.val - 1) (Nat.lt_of_le_of_lt (Nat.sub_le _ _) t.isLt)).2.1)
    ((Memref.isWhole_whole cc0_scratch1).unread (outsAt0 (F := Ideal) m c (t.val - 1) (Nat.lt_of_le_of_lt (Nat.sub_le _ _) t.isLt)).2.2)
    (nzAt m c t) (valAt m c t) hK hV _ _ dA dC v104 init init' G10 G11
  exact key _ _ _ _ _ _ _ r l

/-- At each point the output's block holds each row's weighted values over all the keys. -/
theorem point (hb0 : bias0 m c t ≠ ⊤ ∧ bias0 m c t ≠ ⊥) (hb1 : bias1 m c t ≠ ⊤ ∧ bias1 m c t ≠ ⊥) (r : Fin 512) (l : Fin 128) :
    (outsAt0 (F := Ideal) m c t.val t.isLt).1 (ix2 r l) = part (nzAt m c t) (valAt m c t) (grid0.coords t 2).val r l (256 * 0) 4096 := by
  by_cases h1 : t.val % 2 = 1
  · exact point_B m c t hb0 hb1 (by omega) h1 (by omega) r l
  · by_cases h0 : t.val % 8 = 0
    · exact point_A m c t hb0 hb1 h0 h1 (by omega) r l
    · exact point_C m c t hb0 hb1 h0 h1 (by omega) r l

end Cert.Kernel6Ideal.Rows

end
-- ==== Proof.AttnValue.lean ====
/- The value of the prompt attention's run: its result array is the reference's attention of its argument arrays. -/
module

public import proofs.«01_k».proof.Proof.Gen.Kernel6Ideal.Value
public import Idealize.ShloMosaic.Lib.Pipeline.ValueKit
public import proofs.«01_k».proof.Proof.AttnPoint
public import proofs.«01_k».proof.Proof.AttnReference

@[expose] public section

set_option maxRecDepth 16384

noncomputable section

namespace Cert.Kernel6Ideal.Final

open Cert.Kernel6Ideal Cert.Kernel6Ideal.Gen Cert.Kernel6Ideal.Rows Idealize.ShloMosaic Idealize.ShloMosaic.TcCoe Idealize.SL.Sem
open Idealize.ShloMosaic.Pipeline (Dat)
open Cert.InMath
open Cert.SampleMath hiding pass pass2 weight weight2 pass_nonpos weight2_eq
open Cert.AttnMath

variable (m : (ℓ : Loc nD τ sig) → Buf (Elt Ideal) ℓ) (c : Dev nD)

/-- The arguments, at plain indices. -/
abbrev queries (T : Fin 16384) (L : Fin 512) : EReal := m ((c : Thread nD τ).loc main_arg0) (ix2 T L)
abbrev keysIn (b : Fin 4) (L : Fin 512) (k : Fin 4096) : EReal := m ((c : Thread nD τ).loc main_arg1) (ix4 0 b L k)
abbrev valsIn (b : Fin 4) (L : Fin 512) (k : Fin 4096) : EReal := m ((c : Thread nD τ).loc main_arg2) (ix4 0 b L k)
abbrev biases (h : Fin 8) : EReal := m ((c : Thread nD τ).loc main_arg3) (ix1 h)

variable (hq : ∀ T L, queries m c T L ≠ ⊤ ∧ queries m c T L ≠ ⊥) (hk : ∀ b L k, keysIn m c b L k ≠ ⊤ ∧ keysIn m c b L k ≠ ⊥)
  (hb : ∀ h, biases m c h ≠ ⊤ ∧ biases m c h ≠ ⊥)

/-- The values of a tile are the sequence's. -/
theorem val_at (t : Fin cfg0.N) (l : Fin 128) (k : ℕ) :
    valAt m c t l k = keyN (valsIn m c) (batch t) (lane t l) k := by
  unfold valAt tileVal keyN
  split
  · exact read3 m c t l _
  · rfl

/-- A bias of a row of the two heads. -/
theorem bias_row (t : Fin cfg0.N) (R : Fin 1024) :
    (if R.val < 512 then bias0 m c t else bias1 m c t) = biases m c ⟨2 * (t.val / 8 % 4) + R.val / 512, by omega⟩ := by
  have hR := R.isLt
  split
  · rw [bias_at0]
    exact congrArg (fun h => biases m c h) (Fin.ext (by show 2 * (t.val / 8 % 4) = 2 * (t.val / 8 % 4) + R.val / 512; omega))
  · rw [bias_at1]
    exact congrArg (fun h => biases m c h) (Fin.ext (by show 2 * (t.val / 8 % 4) + 1 = 2 * (t.val / 8 % 4) + R.val / 512; omega))

include hq hk in
/-- A tile's scores are the reference's, times minus log₂ e. -/
theorem nz_at (t : Fin cfg0.N) (R : Fin 1024) (r : Fin 512) (h : Fin 8) (hr : R.val % 512 = r.val)
    (hh : h.val = 2 * (t.val / 8 % 4) + R.val / 512) (k : ℕ) (hk4 : k < 4096) :
    nzAt m c t R k = ((-κe : ℝ) : EReal) * scoreAt (queries m c) (keysIn m c) (biases m c) (token t r) h k := by
  have hR := R.isLt
  have hN : t.val < 128 := lt_of_lt_of_eq t.isLt N_0
  have hT : (⟨(token t r).val / 4096, by omega⟩ : Fin 4) = batch t :=
    Fin.ext (by show (512 * (8 * (t.val / 32) + t.val % 8) + r.val) / 4096 = t.val / 32; omega)
  have hL : ∀ d : Fin 64, lane t ⟨R.val / 512 * 64 + d.val, by omega⟩ = ⟨h.val * 64 + d.val, by omega⟩ := fun d =>
    Fin.ext (by show 128 * (t.val / 8 % 4) + (R.val / 512 * 64 + d.val) = h.val * 64 + d.val; omega)
  have hh' : (⟨2 * (t.val / 8 % 4) + R.val / 512, by omega⟩ : Fin 8) = h := Fin.ext hh.symm
  have hr' : (⟨R.val % 512, by omega⟩ : Fin 512) = r := Fin.ext hr
  unfold nzAt tileNz
  rw [dif_pos hk4]
  unfold nzOf
  rw [bias_row, hh', hr']
  unfold scoreAt
  rw [hT, ← score_eq (fun d => queries m c (token t r) ⟨h.val * 64 + d.val, by omega⟩)
    (fun d => keyN (keysIn m c) (batch t) ⟨h.val * 64 + d.val, by omega⟩ k) _ (fun d => hq _ _)
    (fun d => by unfold keyN; rw [dif_pos hk4]; exact hk _ _ _)]
  refine congrArg₂ (· + ·) (Finset.sum_congr rfl fun d _ => ?_) rfl
  beta_reduce
  rw [read1, read2, hL d]
  unfold keyN
  rw [dif_pos hk4]

include hq hk hb in
/-- A point's block is the reference's attention of the tile's rows and lanes. -/
theorem point_value (t : Fin cfg0.N) (r : Fin 512) (l : Fin 128) :
    (outsAt0 (F := Ideal) m c t.val t.isLt).1 (ix2 r l)
      = attnAt (queries m c) (keysIn m c) (valsIn m c) (biases m c) (token t r) (lane t l) := by
  have hN : t.val < 128 := lt_of_lt_of_eq t.isLt N_0
  have hT : (⟨(token t r).val / 4096, by omega⟩ : Fin 4) = batch t :=
    Fin.ext (by show (512 * (8 * (t.val / 32) + t.val % 8) + r.val) / 4096 = t.val / 32; omega)
  have hM : 512 * (grid0.coords t 2).val + r.val = (token t r).val % 4096 := by
    rw [(grid_at t).2]
    show _ = (512 * (8 * (t.val / 32) + t.val % 8) + r.val) % 4096
    omega
  rw [point m c t (by rw [bias_at0]; exact hb _) (by rw [bias_at1]; exact hb _) r l]
  unfold part attnAt
  rw [hM, hT]
  refine Finset.sum_congr rfl fun k hk' => ?_
  have hk4 : k < 4096 := (Finset.mem_Ico.mp hk').2
  show weight2 _ _ k * _ = _
  rw [val_at]
  refine congrArg (· * _) (weight2_eq _ _ _ (by omega) (fun j hj => nz_at m c hq hk t _ r _ (row_mod r l) ?_ j (by omega)) k)
  show (128 * (t.val / 8 % 4) + l.val) / 64 = 2 * (t.val / 8 % 4) + (Rows.row r l).val / 512
  unfold Rows.row
  split <;> simp only [] <;> omega

include hq hk hb in
/-- The attention's array after the run. -/
theorem final : (dats m 0 c).arrAt 4 (cfgs 0).N
    = Cert.Reference6Ideal.Rows.outOf (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  obtain ⟨r, l, rfl⟩ : ∃ (r : Fin 512) (l : Fin 128), y = ix2 r l := ⟨y 0, y 1, eq_ix2 y⟩
  have hy : ((View.whole main_v7).slice (win0_4.rect t)).emb (ix2 r l) = ix2 (token t r) (lane t l) := by
    unfold token lane
    blk_ext [idx t]
  rw [hy, Cert.Reference6Ideal.Rows.outOf_at]
  exact point_value m c hq hk hb t r l

end Cert.Kernel6Ideal.Final

end
-- ==== Proof.AttnClaim.lean ====
/- The claims about the prompt attention: its reference's frame, its named constants, and that kernel and reference compute the same array. -/
module

public import proofs.«01_k».proof.Defs
public import proofs.«01_k».proof.Proof.Gen.Pre_prompt_ok
public import proofs.«01_k».proof.Proof.SamplePages
public import proofs.«01_k».proof.Proof.AttnValue

@[expose] public section

noncomputable section

namespace Cert.Proof.AttnClaim

open Idealize.ShloMosaic Idealize.SL.Sem

/-- The reference runs, leaving its arguments and every counter as they were. -/
theorem reference_frame : Cert.quiescent_Reference6Ideal (hReference6Ideal := Cert.Reference6Ideal.Gen.facts) := fun m g _ =>
  (θ_run Cert.Reference6Ideal.defs _ _).mono (fun r h => ⟨fun c => (h c).2,
      Idealize.ShloMosaic.sem_eq_zero_of_no_sems (by decide) r.2⟩)
    (Cert.Reference6Ideal.Rows.run m g)

/-- The same under the precondition. -/
theorem reference_frame_prompt : Cert.quiescent_Reference6Ideal_pre_prompt_ok (hReference6Ideal := Cert.Reference6Ideal.Gen.facts) (hPre_prompt_ok := Cert.Pre_prompt_ok.Gen.facts) := fun m g _ =>
  (θ_run Cert.Reference6Ideal.defs _ _).mono (fun r h => ⟨fun c => (h c).2,
      Idealize.ShloMosaic.sem_eq_zero_of_no_sems (by decide) r.2⟩)
    (Cert.Reference6Ideal.Rows.run m g)

/-- The idealized kernel is the kernel with two literals named. -/
theorem kept : Cert.preserves_Kernel6_Kernel6Ideal :=
  ⟨IdealRules.named_const.statement Cert.Kernel6Ideal.κ "neg_log2e" .f32 0xBFB8AA3B#32 _ rfl,
    IdealRules.named_const.statement Cert.Kernel6Ideal.κ "log2e" .f32 0x3FB8AA3B#32 _ rfl⟩

/-- The attention's array, under the precondition. -/
theorem final (m : (ℓ : Loc Cert.Kernel6Ideal.nD Cert.Kernel6Ideal.τ Cert.Kernel6Ideal.sig) → Buf (Elt Ideal) ℓ)
    (h : Cert.Pre_Kernel6Ideal_prompt_ok (hPre_prompt_ok := Cert.Pre_prompt_ok.Gen.facts) m) (c : Dev Cert.Kernel6Ideal.nD) :
    (Cert.Kernel6Ideal.Gen.dats m 0 c).arrAt 4 (Cert.Kernel6Ideal.cfgs 0).N
    = Cert.Reference6Ideal.Rows.outOf (m ((c.tc : Thread Cert.Kernel6Ideal.nD Cert.Kernel6Ideal.τ).loc Cert.Kernel6Ideal.main_arg0))
        (m ((c.tc : Thread Cert.Kernel6Ideal.nD Cert.Kernel6Ideal.τ).loc Cert.Kernel6Ideal.main_arg1))
        (m ((c.tc : Thread Cert.Kernel6Ideal.nD Cert.Kernel6Ideal.τ).loc Cert.Kernel6Ideal.main_arg2))
        (m ((c.tc : Thread Cert.Kernel6Ideal.nD Cert.Kernel6Ideal.τ).loc Cert.Kernel6Ideal.main_arg3)) :=
  Cert.Kernel6Ideal.Final.final m c (fun _ _ => SamplePages.finite_of (congrFun (h c).1 _))
    (fun _ _ _ => SamplePages.finite_of (congrFun (h c).2.1 _)) (fun _ => SamplePages.finite_of (congrFun (h c).2.2 _))

/-- Kernel and reference end with the same attention. -/
theorem equal : Cert.algebraic_Kernel6Ideal_Reference6Ideal_pre_prompt_ok (hKernel6Ideal := Cert.Kernel6Ideal.Gen.facts)
    (hReference6Ideal := Cert.Reference6Ideal.Gen.facts) (hPre_prompt_ok := Cert.Pre_prompt_ok.Gen.facts) := by
  intro m g m' g' hpre hargs
  refine ⟨fun c => Cert.Reference6Ideal.Rows.outOf (m ((c.tc : Thread Cert.Kernel6Ideal.nD Cert.Kernel6Ideal.τ).loc Cert.Kernel6Ideal.main_arg0))
            (m ((c.tc : Thread Cert.Kernel6Ideal.nD Cert.Kernel6Ideal.τ).loc Cert.Kernel6Ideal.main_arg1))
            (m ((c.tc : Thread Cert.Kernel6Ideal.nD Cert.Kernel6Ideal.τ).loc Cert.Kernel6Ideal.main_arg2))
            (m ((c.tc : Thread Cert.Kernel6Ideal.nD Cert.Kernel6Ideal.τ).loc Cert.Kernel6Ideal.main_arg3)), ?_, ?_⟩
  · exact (θ_run _ _ _).mono (fun r hr c => ⟨(hr c).1.trans (final m hpre c), (hr c).2⟩) (Cert.Kernel6Ideal.Value.run_blocks m g)
  · refine (θ_run _ _ _).mono (fun r hr c => ⟨(hr c).1.trans ?_, (hr c).2⟩) (Cert.Reference6Ideal.Rows.run m' g')
    obtain ⟨e0, e1, e2, e3⟩ := hargs c
    rw [e0, e1, e2, e3]

end Cert.Proof.AttnClaim

end
-- ==== Proof.lean ====
/- The certificate's theorem, from the five calls' claims. -/
module

public import proofs.«01_k».proof.Defs
public import proofs.«01_k».proof.Proof.Gen.Kernel2
public import proofs.«01_k».proof.Proof.Gen.Kernel2.Frame
public import proofs.«01_k».proof.Proof.Gen.Kernel2Ideal.Value
public import proofs.«01_k».proof.Proof.Gen.Kernel3
public import proofs.«01_k».proof.Proof.Gen.Kernel3.Frame
public import proofs.«01_k».proof.Proof.Gen.Kernel3Ideal.Value
public import proofs.«01_k».proof.Proof.Gen.Kernel4
public import proofs.«01_k».proof.Proof.Gen.Kernel4.Frame
public import proofs.«01_k».proof.Proof.Gen.Kernel4Ideal.Value
public import proofs.«01_k».proof.Proof.Gen.Kernel5
public import proofs.«01_k».proof.Proof.Gen.Kernel5.Frame
public import proofs.«01_k».proof.Proof.Gen.Kernel5Ideal.Value
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal
public import proofs.«01_k».proof.Proof.Gen.Pre_prompt_ok
public import proofs.«01_k».proof.Proof.Gen.Pre_pages_ok
public import proofs.«01_k».proof.Proof.Gen.Pre_inputs_ok
public import proofs.«01_k».proof.Proof.Gen.ReferenceIdeal
public import proofs.«01_k».proof.Proof.SampleFrame
public import proofs.«01_k».proof.Proof.SampleIdealFrame
public import proofs.«01_k».proof.Proof.SampleClaim
public import proofs.«01_k».proof.Proof.PostClaim
public import proofs.«01_k».proof.Proof.InClaim
public import proofs.«01_k».proof.Proof.PromptClaim
public import proofs.«01_k».proof.Proof.PostSampleClaim
public import proofs.«01_k».proof.Proof.AttnClaim

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_pages_ok.Gen.facts, Cert.Pre_inputs_ok.Gen.facts, Cert.Pre_prompt_ok.Gen.facts,
  fun m ρ h => Cert.Kernel.Gen.frame m ρ (SamplePages.ok_of_pre m h),
  fun m ρ h => Cert.KernelIdeal.Gen.frame m ρ (SamplePages.ok_of_pre_ideal m h),
  fun m ρ h => Cert.KernelIdeal.Gen.frame m ρ (SamplePages.ok_of_pre_ideal m (SamplePages.pages_of_inputs m h)),
  SampleClaim.reference_frame, SampleClaim.reference_frame_inputs,
  fun m ρ _ => Cert.Kernel2.Gen.frame m ρ, fun m ρ _ => Cert.Kernel2Ideal.Gen.frame m ρ, PostClaim.reference_frame,
  fun m ρ _ => Cert.Kernel3.Gen.frame m ρ, fun m ρ _ => Cert.Kernel3Ideal.Gen.frame m ρ, InClaim.reference_frame,
  fun m ρ _ => Cert.Kernel4.Gen.frame m ρ, fun m ρ _ => Cert.Kernel4Ideal.Gen.frame m ρ, PromptClaim.reference_frame,
  fun m ρ _ => Cert.Kernel5.Gen.frame m ρ, fun m ρ _ => Cert.Kernel5Ideal.Gen.frame m ρ, PostSampleClaim.reference_frame,
  fun m ρ _ => Cert.Kernel6.Gen.frame m ρ, fun m ρ _ => Cert.Kernel6Ideal.Gen.frame m ρ, fun m ρ _ => Cert.Kernel6Ideal.Gen.frame m ρ,
  AttnClaim.reference_frame, AttnClaim.reference_frame_prompt,
  SampleClaim.kept, SampleClaim.equal, trivial, PostClaim.equal, InClaim.kept, InClaim.equal,
  PromptClaim.kept, PromptClaim.equal, trivial, PostSampleClaim.equal, AttnClaim.kept, AttnClaim.equal⟩

end Cert.Proof

end
